-- ==== Defs.lean ====
def Pre_GlaDecode (m : (ℓ : Loc Cert.GlaDecode.nD Cert.GlaDecode.τ Cert.GlaDecode.sig) → Buf (Elt Bits) ℓ) : Prop :=
  True

def Pre_GlaDecodeIdeal (m : (ℓ : Loc Cert.GlaDecodeIdeal.nD Cert.GlaDecodeIdeal.τ Cert.GlaDecodeIdeal.sig) → Buf (Elt Ideal) ℓ) : Prop :=
  True

def Pre_GlaDecodeIdeal_finite_qkg [hPre_finite_qkg : Cert.Pre_finite_qkg.Facts] (m : (ℓ : Loc Cert.GlaDecodeIdeal.nD Cert.GlaDecodeIdeal.τ Cert.GlaDecodeIdeal.sig) → Buf (Elt Ideal) ℓ) : Prop :=
  ∀ c : Dev Cert.GlaDecodeIdeal.nD,
    (Cert.Pre_finite_qkg.fn (F := Ideal) (m ((c.tc : Thread Cert.GlaDecodeIdeal.nD Cert.GlaDecodeIdeal.τ).loc Cert.GlaDecodeIdeal.main_arg0)) (m ((c.tc : Thread Cert.GlaDecodeIdeal.nD Cert.GlaDecodeIdeal.τ).loc Cert.GlaDecodeIdeal.main_arg1)) (m ((c.tc : Thread Cert.GlaDecodeIdeal.nD Cert.GlaDecodeIdeal.τ).loc Cert.GlaDecodeIdeal.main_arg2)) (m ((c.tc : Thread Cert.GlaDecodeIdeal.nD Cert.GlaDecodeIdeal.τ).loc Cert.GlaDecodeIdeal.main_arg3)) (m ((c.tc : Thread Cert.GlaDecodeIdeal.nD Cert.GlaDecodeIdeal.τ).loc Cert.GlaDecodeIdeal.main_arg4)) (m ((c.tc : Thread Cert.GlaDecodeIdeal.nD Cert.GlaDecodeIdeal.τ).loc Cert.GlaDecodeIdeal.main_arg5)) (m ((c.tc : Thread Cert.GlaDecodeIdeal.nD Cert.GlaDecodeIdeal.τ).loc Cert.GlaDecodeIdeal.main_arg6))) = (fun _ => 1#1)

def Pre_GlaDecodeReferenceIdeal (m : (ℓ : Loc Cert.GlaDecodeReferenceIdeal.nD Cert.GlaDecodeReferenceIdeal.τ Cert.GlaDecodeReferenceIdeal.sig) → Buf (Elt Ideal) ℓ) : Prop :=
  True

def Pre_GlaDecodeReferenceIdeal_finite_qkg [hPre_finite_qkg : Cert.Pre_finite_qkg.Facts] (m : (ℓ : Loc Cert.GlaDecodeReferenceIdeal.nD Cert.GlaDecodeReferenceIdeal.τ Cert.GlaDecodeReferenceIdeal.sig) → Buf (Elt Ideal) ℓ) : Prop :=
  ∀ c : Dev Cert.GlaDecodeReferenceIdeal.nD,
    (Cert.Pre_finite_qkg.fn (F := Ideal) (m ((c.tc : Thread Cert.GlaDecodeReferenceIdeal.nD Cert.GlaDecodeReferenceIdeal.τ).loc Cert.GlaDecodeReferenceIdeal.main_arg0)) (m ((c.tc : Thread Cert.GlaDecodeReferenceIdeal.nD Cert.GlaDecodeReferenceIdeal.τ).loc Cert.GlaDecodeReferenceIdeal.main_arg1)) (m ((c.tc : Thread Cert.GlaDecodeReferenceIdeal.nD Cert.GlaDecodeReferenceIdeal.τ).loc Cert.GlaDecodeReferenceIdeal.main_arg2)) (m ((c.tc : Thread Cert.GlaDecodeReferenceIdeal.nD Cert.GlaDecodeReferenceIdeal.τ).loc Cert.GlaDecodeReferenceIdeal.main_arg3)) (m ((c.tc : Thread Cert.GlaDecodeReferenceIdeal.nD Cert.GlaDecodeReferenceIdeal.τ).loc Cert.GlaDecodeReferenceIdeal.main_arg4)) (m ((c.tc : Thread Cert.GlaDecodeReferenceIdeal.nD Cert.GlaDecodeReferenceIdeal.τ).loc Cert.GlaDecodeReferenceIdeal.main_arg5)) (m ((c.tc : Thread Cert.GlaDecodeReferenceIdeal.nD Cert.GlaDecodeReferenceIdeal.τ).loc Cert.GlaDecodeReferenceIdeal.main_arg6))) = (fun _ => 1#1)

def Pre_OutFfn (m : (ℓ : Loc Cert.OutFfn.nD Cert.OutFfn.τ Cert.OutFfn.sig) → Buf (Elt Bits) ℓ) : Prop :=
  True

def Pre_OutFfnIdeal (m : (ℓ : Loc Cert.OutFfnIdeal.nD Cert.OutFfnIdeal.τ Cert.OutFfnIdeal.sig) → Buf (Elt Ideal) ℓ) : Prop :=
  True

def Pre_OutFfnReferenceIdeal (m : (ℓ : Loc Cert.OutFfnReferenceIdeal.nD Cert.OutFfnReferenceIdeal.τ Cert.OutFfnReferenceIdeal.sig) → Buf (Elt Ideal) ℓ) : Prop :=
  True

def Pre_OutFfnSample (m : (ℓ : Loc Cert.OutFfnSample.nD Cert.OutFfnSample.τ Cert.OutFfnSample.sig) → Buf (Elt Bits) ℓ) : Prop :=
  True

def Pre_OutFfnSampleIdeal (m : (ℓ : Loc Cert.OutFfnSampleIdeal.nD Cert.OutFfnSampleIdeal.τ Cert.OutFfnSampleIdeal.sig) → Buf (Elt Ideal) ℓ) : Prop :=
  True

def Pre_OutFfnSampleReferenceIdeal (m : (ℓ : Loc Cert.OutFfnSampleReferenceIdeal.nD Cert.OutFfnSampleReferenceIdeal.τ Cert.OutFfnSampleReferenceIdeal.sig) → Buf (Elt Ideal) ℓ) : Prop :=
  True

def Pre_GlaProj (m : (ℓ : Loc Cert.GlaProj.nD Cert.GlaProj.τ Cert.GlaProj.sig) → Buf (Elt Bits) ℓ) : Prop :=
  True

def Pre_GlaProjIdeal (m : (ℓ : Loc Cert.GlaProjIdeal.nD Cert.GlaProjIdeal.τ Cert.GlaProjIdeal.sig) → Buf (Elt Ideal) ℓ) : Prop :=
  True

def Pre_GlaProjReferenceIdeal (m : (ℓ : Loc Cert.GlaProjReferenceIdeal.nD Cert.GlaProjReferenceIdeal.τ Cert.GlaProjReferenceIdeal.sig) → Buf (Elt Ideal) ℓ) : Prop :=
  True

def Pre_FoxProj (m : (ℓ : Loc Cert.FoxProj.nD Cert.FoxProj.τ Cert.FoxProj.sig) → Buf (Elt Bits) ℓ) : Prop :=
  True

def Pre_FoxProjIdeal (m : (ℓ : Loc Cert.FoxProjIdeal.nD Cert.FoxProjIdeal.τ Cert.FoxProjIdeal.sig) → Buf (Elt Ideal) ℓ) : Prop :=
  True

def Pre_FoxProjReferenceIdeal (m : (ℓ : Loc Cert.FoxProjReferenceIdeal.nD Cert.FoxProjReferenceIdeal.τ Cert.FoxProjReferenceIdeal.sig) → Buf (Elt Ideal) ℓ) : Prop :=
  True

def Pre_FoxProjSample (m : (ℓ : Loc Cert.FoxProjSample.nD Cert.FoxProjSample.τ Cert.FoxProjSample.sig) → Buf (Elt Bits) ℓ) : Prop :=
  True

def Pre_FoxProjSampleIdeal (m : (ℓ : Loc Cert.FoxProjSampleIdeal.nD Cert.FoxProjSampleIdeal.τ Cert.FoxProjSampleIdeal.sig) → Buf (Elt Ideal) ℓ) : Prop :=
  True

def Pre_FoxProjSampleReferenceIdeal (m : (ℓ : Loc Cert.FoxProjSampleReferenceIdeal.nD Cert.FoxProjSampleReferenceIdeal.τ Cert.FoxProjSampleReferenceIdeal.sig) → Buf (Elt Ideal) ℓ) : Prop :=
  True

def Pre_PoolFfn (m : (ℓ : Loc Cert.PoolFfn.nD Cert.PoolFfn.τ Cert.PoolFfn.sig) → Buf (Elt Bits) ℓ) : Prop :=
  True

def Pre_PoolFfnIdeal (m : (ℓ : Loc Cert.PoolFfnIdeal.nD Cert.PoolFfnIdeal.τ Cert.PoolFfnIdeal.sig) → Buf (Elt Ideal) ℓ) : Prop :=
  True

def Pre_PoolFfnIdeal_finite_gains [hPre_finite_gains : Cert.Pre_finite_gains.Facts] (m : (ℓ : Loc Cert.PoolFfnIdeal.nD Cert.PoolFfnIdeal.τ Cert.PoolFfnIdeal.sig) → Buf (Elt Ideal) ℓ) : Prop :=
  ∀ c : Dev Cert.PoolFfnIdeal.nD,
    (Cert.Pre_finite_gains.fn (F := Ideal) (m ((c.tc : Thread Cert.PoolFfnIdeal.nD Cert.PoolFfnIdeal.τ).loc Cert.PoolFfnIdeal.main_arg0)) (m ((c.tc : Thread Cert.PoolFfnIdeal.nD Cert.PoolFfnIdeal.τ).loc Cert.PoolFfnIdeal.main_arg1)) (m ((c.tc : Thread Cert.PoolFfnIdeal.nD Cert.PoolFfnIdeal.τ).loc Cert.PoolFfnIdeal.main_arg2)) (m ((c.tc : Thread Cert.PoolFfnIdeal.nD Cert.PoolFfnIdeal.τ).loc Cert.PoolFfnIdeal.main_arg3)) (m ((c.tc : Thread Cert.PoolFfnIdeal.nD Cert.PoolFfnIdeal.τ).loc Cert.PoolFfnIdeal.main_arg4)) (m ((c.tc : Thread Cert.PoolFfnIdeal.nD Cert.PoolFfnIdeal.τ).loc Cert.PoolFfnIdeal.main_arg5)) (m ((c.tc : Thread Cert.PoolFfnIdeal.nD Cert.PoolFfnIdeal.τ).loc Cert.PoolFfnIdeal.main_arg6)) (m ((c.tc : Thread Cert.PoolFfnIdeal.nD Cert.PoolFfnIdeal.τ).loc Cert.PoolFfnIdeal.main_arg7)) (m ((c.tc : Thread Cert.PoolFfnIdeal.nD Cert.PoolFfnIdeal.τ).loc Cert.PoolFfnIdeal.main_arg8))) = (fun _ => 1#1)

def Pre_PoolFfnReferenceIdeal (m : (ℓ : Loc Cert.PoolFfnReferenceIdeal.nD Cert.PoolFfnReferenceIdeal.τ Cert.PoolFfnReferenceIdeal.sig) → Buf (Elt Ideal) ℓ) : Prop :=
  True

def Pre_PoolFfnReferenceIdeal_finite_gains [hPre_finite_gains : Cert.Pre_finite_gains.Facts] (m : (ℓ : Loc Cert.PoolFfnReferenceIdeal.nD Cert.PoolFfnReferenceIdeal.τ Cert.PoolFfnReferenceIdeal.sig) → Buf (Elt Ideal) ℓ) : Prop :=
  ∀ c : Dev Cert.PoolFfnReferenceIdeal.nD,
    (Cert.Pre_finite_gains.fn (F := Ideal) (m ((c.tc : Thread Cert.PoolFfnReferenceIdeal.nD Cert.PoolFfnReferenceIdeal.τ).loc Cert.PoolFfnReferenceIdeal.main_arg0)) (m ((c.tc : Thread Cert.PoolFfnReferenceIdeal.nD Cert.PoolFfnReferenceIdeal.τ).loc Cert.PoolFfnReferenceIdeal.main_arg1)) (m ((c.tc : Thread Cert.PoolFfnReferenceIdeal.nD Cert.PoolFfnReferenceIdeal.τ).loc Cert.PoolFfnReferenceIdeal.main_arg2)) (m ((c.tc : Thread Cert.PoolFfnReferenceIdeal.nD Cert.PoolFfnReferenceIdeal.τ).loc Cert.PoolFfnReferenceIdeal.main_arg3)) (m ((c.tc : Thread Cert.PoolFfnReferenceIdeal.nD Cert.PoolFfnReferenceIdeal.τ).loc Cert.PoolFfnReferenceIdeal.main_arg4)) (m ((c.tc : Thread Cert.PoolFfnReferenceIdeal.nD Cert.PoolFfnReferenceIdeal.τ).loc Cert.PoolFfnReferenceIdeal.main_arg5)) (m ((c.tc : Thread Cert.PoolFfnReferenceIdeal.nD Cert.PoolFfnReferenceIdeal.τ).loc Cert.PoolFfnReferenceIdeal.main_arg6)) (m ((c.tc : Thread Cert.PoolFfnReferenceIdeal.nD Cert.PoolFfnReferenceIdeal.τ).loc Cert.PoolFfnReferenceIdeal.main_arg7)) (m ((c.tc : Thread Cert.PoolFfnReferenceIdeal.nD Cert.PoolFfnReferenceIdeal.τ).loc Cert.PoolFfnReferenceIdeal.main_arg8))) = (fun _ => 1#1)

def Pre_PoolSample (m : (ℓ : Loc Cert.PoolSample.nD Cert.PoolSample.τ Cert.PoolSample.sig) → Buf (Elt Bits) ℓ) : Prop :=
  True

def Pre_PoolSampleIdeal (m : (ℓ : Loc Cert.PoolSampleIdeal.nD Cert.PoolSampleIdeal.τ Cert.PoolSampleIdeal.sig) → Buf (Elt Ideal) ℓ) : Prop :=
  True

def Pre_PoolSampleReferenceIdeal (m : (ℓ : Loc Cert.PoolSampleReferenceIdeal.nD Cert.PoolSampleReferenceIdeal.τ Cert.PoolSampleReferenceIdeal.sig) → Buf (Elt Ideal) ℓ) : Prop :=
  True

def quiescent_GlaDecode [hGlaDecode : Cert.GlaDecode.Facts] : Prop :=
  ∀ (m : (ℓ : Loc Cert.GlaDecode.nD Cert.GlaDecode.τ Cert.GlaDecode.sig) → Buf (Elt Bits) ℓ) (g : Dev Cert.GlaDecode.nD → PrngReg), Pre_GlaDecode m →
    θ_run (Cert.GlaDecode.defs (F := Bits)) (onTc (τ := Cert.GlaDecode.τ) (Cert.GlaDecode.main (F := Bits))) ⟨m, fun _ => 0, g⟩ (fun r => (∀ c : Dev Cert.GlaDecode.nD,
      r.2.mem ((c.tc : Thread Cert.GlaDecode.nD Cert.GlaDecode.τ).loc Cert.GlaDecode.main_arg0) = m ((c.tc : Thread Cert.GlaDecode.nD Cert.GlaDecode.τ).loc Cert.GlaDecode.main_arg0)
      ∧ r.2.mem ((c.tc : Thread Cert.GlaDecode.nD Cert.GlaDecode.τ).loc Cert.GlaDecode.main_arg1) = m ((c.tc : Thread Cert.GlaDecode.nD Cert.GlaDecode.τ).loc Cert.GlaDecode.main_arg1)
      ∧ r.2.mem ((c.tc : Thread Cert.GlaDecode.nD Cert.GlaDecode.τ).loc Cert.GlaDecode.main_arg2) = m ((c.tc : Thread Cert.GlaDecode.nD Cert.GlaDecode.τ).loc Cert.GlaDecode.main_arg2)
      ∧ r.2.mem ((c.tc : Thread Cert.GlaDecode.nD Cert.GlaDecode.τ).loc Cert.GlaDecode.main_arg3) = m ((c.tc : Thread Cert.GlaDecode.nD Cert.GlaDecode.τ).loc Cert.GlaDecode.main_arg3)
      ∧ r.2.mem ((c.tc : Thread Cert.GlaDecode.nD Cert.GlaDecode.τ).loc Cert.GlaDecode.main_arg4) = m ((c.tc : Thread Cert.GlaDecode.nD Cert.GlaDecode.τ).loc Cert.GlaDecode.main_arg4)
      ∧ r.2.mem ((c.tc : Thread Cert.GlaDecode.nD Cert.GlaDecode.τ).loc Cert.GlaDecode.main_arg5) = m ((c.tc : Thread Cert.GlaDecode.nD Cert.GlaDecode.τ).loc Cert.GlaDecode.main_arg5)
      ∧ r.2.mem ((c.tc : Thread Cert.GlaDecode.nD Cert.GlaDecode.τ).loc Cert.GlaDecode.main_arg6) = m ((c.tc : Thread Cert.GlaDecode.nD Cert.GlaDecode.τ).loc Cert.GlaDecode.main_arg6))
      ∧ r.2.sem = fun _ => 0)

def quiescent_GlaDecodeIdeal [hGlaDecodeIdeal : Cert.GlaDecodeIdeal.Facts] : Prop :=
  ∀ (m : (ℓ : Loc Cert.GlaDecodeIdeal.nD Cert.GlaDecodeIdeal.τ Cert.GlaDecodeIdeal.sig) → Buf (Elt Ideal) ℓ) (g : Dev Cert.GlaDecodeIdeal.nD → PrngReg), Pre_GlaDecodeIdeal m →
    θ_run (Cert.GlaDecodeIdeal.defs (F := Ideal)) (onTc (τ := Cert.GlaDecodeIdeal.τ) (Cert.GlaDecodeIdeal.main (F := Ideal))) ⟨m, fun _ => 0, g⟩ (fun r => (∀ c : Dev Cert.GlaDecodeIdeal.nD,
      r.2.mem ((c.tc : Thread Cert.GlaDecodeIdeal.nD Cert.GlaDecodeIdeal.τ).loc Cert.GlaDecodeIdeal.main_arg0) = m ((c.tc : Thread Cert.GlaDecodeIdeal.nD Cert.GlaDecodeIdeal.τ).loc Cert.GlaDecodeIdeal.main_arg0)
      ∧ r.2.mem ((c.tc : Thread Cert.GlaDecodeIdeal.nD Cert.GlaDecodeIdeal.τ).loc Cert.GlaDecodeIdeal.main_arg1) = m ((c.tc : Thread Cert.GlaDecodeIdeal.nD Cert.GlaDecodeIdeal.τ).loc Cert.GlaDecodeIdeal.main_arg1)
      ∧ r.2.mem ((c.tc : Thread Cert.GlaDecodeIdeal.nD Cert.GlaDecodeIdeal.τ).loc Cert.GlaDecodeIdeal.main_arg2) = m ((c.tc : Thread Cert.GlaDecodeIdeal.nD Cert.GlaDecodeIdeal.τ).loc Cert.GlaDecodeIdeal.main_arg2)
      ∧ r.2.mem ((c.tc : Thread Cert.GlaDecodeIdeal.nD Cert.GlaDecodeIdeal.τ).loc Cert.GlaDecodeIdeal.main_arg3) = m ((c.tc : Thread Cert.GlaDecodeIdeal.nD Cert.GlaDecodeIdeal.τ).loc Cert.GlaDecodeIdeal.main_arg3)
      ∧ r.2.mem ((c.tc : Thread Cert.GlaDecodeIdeal.nD Cert.GlaDecodeIdeal.τ).loc Cert.GlaDecodeIdeal.main_arg4) = m ((c.tc : Thread Cert.GlaDecodeIdeal.nD Cert.GlaDecodeIdeal.τ).loc Cert.GlaDecodeIdeal.main_arg4)
      ∧ r.2.mem ((c.tc : Thread Cert.GlaDecodeIdeal.nD Cert.GlaDecodeIdeal.τ).loc Cert.GlaDecodeIdeal.main_arg5) = m ((c.tc : Thread Cert.GlaDecodeIdeal.nD Cert.GlaDecodeIdeal.τ).loc Cert.GlaDecodeIdeal.main_arg5)
      ∧ r.2.mem ((c.tc : Thread Cert.GlaDecodeIdeal.nD Cert.GlaDecodeIdeal.τ).loc Cert.GlaDecodeIdeal.main_arg6) = m ((c.tc : Thread Cert.GlaDecodeIdeal.nD Cert.GlaDecodeIdeal.τ).loc Cert.GlaDecodeIdeal.main_arg6))
      ∧ r.2.sem = fun _ => 0)

def quiescent_GlaDecodeIdeal_pre_finite_qkg [hGlaDecodeIdeal : Cert.GlaDecodeIdeal.Facts] [hPre_finite_qkg : Cert.Pre_finite_qkg.Facts] : Prop :=
  ∀ (m : (ℓ : Loc Cert.GlaDecodeIdeal.nD Cert.GlaDecodeIdeal.τ Cert.GlaDecodeIdeal.sig) → Buf (Elt Ideal) ℓ) (g : Dev Cert.GlaDecodeIdeal.nD → PrngReg), Pre_GlaDecodeIdeal_finite_qkg m →
    θ_run (Cert.GlaDecodeIdeal.defs (F := Ideal)) (onTc (τ := Cert.GlaDecodeIdeal.τ) (Cert.GlaDecodeIdeal.main (F := Ideal))) ⟨m, fun _ => 0, g⟩ (fun r => (∀ c : Dev Cert.GlaDecodeIdeal.nD,
      r.2.mem ((c.tc : Thread Cert.GlaDecodeIdeal.nD Cert.GlaDecodeIdeal.τ).loc Cert.GlaDecodeIdeal.main_arg0) = m ((c.tc : Thread Cert.GlaDecodeIdeal.nD Cert.GlaDecodeIdeal.τ).loc Cert.GlaDecodeIdeal.main_arg0)
      ∧ r.2.mem ((c.tc : Thread Cert.GlaDecodeIdeal.nD Cert.GlaDecodeIdeal.τ).loc Cert.GlaDecodeIdeal.main_arg1) = m ((c.tc : Thread Cert.GlaDecodeIdeal.nD Cert.GlaDecodeIdeal.τ).loc Cert.GlaDecodeIdeal.main_arg1)
      ∧ r.2.mem ((c.tc : Thread Cert.GlaDecodeIdeal.nD Cert.GlaDecodeIdeal.τ).loc Cert.GlaDecodeIdeal.main_arg2) = m ((c.tc : Thread Cert.GlaDecodeIdeal.nD Cert.GlaDecodeIdeal.τ).loc Cert.GlaDecodeIdeal.main_arg2)
      ∧ r.2.mem ((c.tc : Thread Cert.GlaDecodeIdeal.nD Cert.GlaDecodeIdeal.τ).loc Cert.GlaDecodeIdeal.main_arg3) = m ((c.tc : Thread Cert.GlaDecodeIdeal.nD Cert.GlaDecodeIdeal.τ).loc Cert.GlaDecodeIdeal.main_arg3)
      ∧ r.2.mem ((c.tc : Thread Cert.GlaDecodeIdeal.nD Cert.GlaDecodeIdeal.τ).loc Cert.GlaDecodeIdeal.main_arg4) = m ((c.tc : Thread Cert.GlaDecodeIdeal.nD Cert.GlaDecodeIdeal.τ).loc Cert.GlaDecodeIdeal.main_arg4)
      ∧ r.2.mem ((c.tc : Thread Cert.GlaDecodeIdeal.nD Cert.GlaDecodeIdeal.τ).loc Cert.GlaDecodeIdeal.main_arg5) = m ((c.tc : Thread Cert.GlaDecodeIdeal.nD Cert.GlaDecodeIdeal.τ).loc Cert.GlaDecodeIdeal.main_arg5)
      ∧ r.2.mem ((c.tc : Thread Cert.GlaDecodeIdeal.nD Cert.GlaDecodeIdeal.τ).loc Cert.GlaDecodeIdeal.main_arg6) = m ((c.tc : Thread Cert.GlaDecodeIdeal.nD Cert.GlaDecodeIdeal.τ).loc Cert.GlaDecodeIdeal.main_arg6))
      ∧ r.2.sem = fun _ => 0)

def quiescent_GlaDecodeReferenceIdeal [hGlaDecodeReferenceIdeal : Cert.GlaDecodeReferenceIdeal.Facts] : Prop :=
  ∀ (m : (ℓ : Loc Cert.GlaDecodeReferenceIdeal.nD Cert.GlaDecodeReferenceIdeal.τ Cert.GlaDecodeReferenceIdeal.sig) → Buf (Elt Ideal) ℓ) (g : Dev Cert.GlaDecodeReferenceIdeal.nD → PrngReg), Pre_GlaDecodeReferenceIdeal m →
    θ_run (Cert.GlaDecodeReferenceIdeal.defs (F := Ideal)) (onTc (τ := Cert.GlaDecodeReferenceIdeal.τ) (Cert.GlaDecodeReferenceIdeal.main (F := Ideal))) ⟨m, fun _ => 0, g⟩ (fun r => (∀ c : Dev Cert.GlaDecodeReferenceIdeal.nD,
      r.2.mem ((c.tc : Thread Cert.GlaDecodeReferenceIdeal.nD Cert.GlaDecodeReferenceIdeal.τ).loc Cert.GlaDecodeReferenceIdeal.main_arg0) = m ((c.tc : Thread Cert.GlaDecodeReferenceIdeal.nD Cert.GlaDecodeReferenceIdeal.τ).loc Cert.GlaDecodeReferenceIdeal.main_arg0)
      ∧ r.2.mem ((c.tc : Thread Cert.GlaDecodeReferenceIdeal.nD Cert.GlaDecodeReferenceIdeal.τ).loc Cert.GlaDecodeReferenceIdeal.main_arg1) = m ((c.tc : Thread Cert.GlaDecodeReferenceIdeal.nD Cert.GlaDecodeReferenceIdeal.τ).loc Cert.GlaDecodeReferenceIdeal.main_arg1)
      ∧ r.2.mem ((c.tc : Thread Cert.GlaDecodeReferenceIdeal.nD Cert.GlaDecodeReferenceIdeal.τ).loc Cert.GlaDecodeReferenceIdeal.main_arg2) = m ((c.tc : Thread Cert.GlaDecodeReferenceIdeal.nD Cert.GlaDecodeReferenceIdeal.τ).loc Cert.GlaDecodeReferenceIdeal.main_arg2)
      ∧ r.2.mem ((c.tc : Thread Cert.GlaDecodeReferenceIdeal.nD Cert.GlaDecodeReferenceIdeal.τ).loc Cert.GlaDecodeReferenceIdeal.main_arg3) = m ((c.tc : Thread Cert.GlaDecodeReferenceIdeal.nD Cert.GlaDecodeReferenceIdeal.τ).loc Cert.GlaDecodeReferenceIdeal.main_arg3)
      ∧ r.2.mem ((c.tc : Thread Cert.GlaDecodeReferenceIdeal.nD Cert.GlaDecodeReferenceIdeal.τ).loc Cert.GlaDecodeReferenceIdeal.main_arg4) = m ((c.tc : Thread Cert.GlaDecodeReferenceIdeal.nD Cert.GlaDecodeReferenceIdeal.τ).loc Cert.GlaDecodeReferenceIdeal.main_arg4)
      ∧ r.2.mem ((c.tc : Thread Cert.GlaDecodeReferenceIdeal.nD Cert.GlaDecodeReferenceIdeal.τ).loc Cert.GlaDecodeReferenceIdeal.main_arg5) = m ((c.tc : Thread Cert.GlaDecodeReferenceIdeal.nD Cert.GlaDecodeReferenceIdeal.τ).loc Cert.GlaDecodeReferenceIdeal.main_arg5)
      ∧ r.2.mem ((c.tc : Thread Cert.GlaDecodeReferenceIdeal.nD Cert.GlaDecodeReferenceIdeal.τ).loc Cert.GlaDecodeReferenceIdeal.main_arg6) = m ((c.tc : Thread Cert.GlaDecodeReferenceIdeal.nD Cert.GlaDecodeReferenceIdeal.τ).loc Cert.GlaDecodeReferenceIdeal.main_arg6))
      ∧ r.2.sem = fun _ => 0)

def quiescent_GlaDecodeReferenceIdeal_pre_finite_qkg [hGlaDecodeReferenceIdeal : Cert.GlaDecodeReferenceIdeal.Facts] [hPre_finite_qkg : Cert.Pre_finite_qkg.Facts] : Prop :=
  ∀ (m : (ℓ : Loc Cert.GlaDecodeReferenceIdeal.nD Cert.GlaDecodeReferenceIdeal.τ Cert.GlaDecodeReferenceIdeal.sig) → Buf (Elt Ideal) ℓ) (g : Dev Cert.GlaDecodeReferenceIdeal.nD → PrngReg), Pre_GlaDecodeReferenceIdeal_finite_qkg m →
    θ_run (Cert.GlaDecodeReferenceIdeal.defs (F := Ideal)) (onTc (τ := Cert.GlaDecodeReferenceIdeal.τ) (Cert.GlaDecodeReferenceIdeal.main (F := Ideal))) ⟨m, fun _ => 0, g⟩ (fun r => (∀ c : Dev Cert.GlaDecodeReferenceIdeal.nD,
      r.2.mem ((c.tc : Thread Cert.GlaDecodeReferenceIdeal.nD Cert.GlaDecodeReferenceIdeal.τ).loc Cert.GlaDecodeReferenceIdeal.main_arg0) = m ((c.tc : Thread Cert.GlaDecodeReferenceIdeal.nD Cert.GlaDecodeReferenceIdeal.τ).loc Cert.GlaDecodeReferenceIdeal.main_arg0)
      ∧ r.2.mem ((c.tc : Thread Cert.GlaDecodeReferenceIdeal.nD Cert.GlaDecodeReferenceIdeal.τ).loc Cert.GlaDecodeReferenceIdeal.main_arg1) = m ((c.tc : Thread Cert.GlaDecodeReferenceIdeal.nD Cert.GlaDecodeReferenceIdeal.τ).loc Cert.GlaDecodeReferenceIdeal.main_arg1)
      ∧ r.2.mem ((c.tc : Thread Cert.GlaDecodeReferenceIdeal.nD Cert.GlaDecodeReferenceIdeal.τ).loc Cert.GlaDecodeReferenceIdeal.main_arg2) = m ((c.tc : Thread Cert.GlaDecodeReferenceIdeal.nD Cert.GlaDecodeReferenceIdeal.τ).loc Cert.GlaDecodeReferenceIdeal.main_arg2)
      ∧ r.2.mem ((c.tc : Thread Cert.GlaDecodeReferenceIdeal.nD Cert.GlaDecodeReferenceIdeal.τ).loc Cert.GlaDecodeReferenceIdeal.main_arg3) = m ((c.tc : Thread Cert.GlaDecodeReferenceIdeal.nD Cert.GlaDecodeReferenceIdeal.τ).loc Cert.GlaDecodeReferenceIdeal.main_arg3)
      ∧ r.2.mem ((c.tc : Thread Cert.GlaDecodeReferenceIdeal.nD Cert.GlaDecodeReferenceIdeal.τ).loc Cert.GlaDecodeReferenceIdeal.main_arg4) = m ((c.tc : Thread Cert.GlaDecodeReferenceIdeal.nD Cert.GlaDecodeReferenceIdeal.τ).loc Cert.GlaDecodeReferenceIdeal.main_arg4)
      ∧ r.2.mem ((c.tc : Thread Cert.GlaDecodeReferenceIdeal.nD Cert.GlaDecodeReferenceIdeal.τ).loc Cert.GlaDecodeReferenceIdeal.main_arg5) = m ((c.tc : Thread Cert.GlaDecodeReferenceIdeal.nD Cert.GlaDecodeReferenceIdeal.τ).loc Cert.GlaDecodeReferenceIdeal.main_arg5)
      ∧ r.2.mem ((c.tc : Thread Cert.GlaDecodeReferenceIdeal.nD Cert.GlaDecodeReferenceIdeal.τ).loc Cert.GlaDecodeReferenceIdeal.main_arg6) = m ((c.tc : Thread Cert.GlaDecodeReferenceIdeal.nD Cert.GlaDecodeReferenceIdeal.τ).loc Cert.GlaDecodeReferenceIdeal.main_arg6))
      ∧ r.2.sem = fun _ => 0)

def quiescent_OutFfn [hOutFfn : Cert.OutFfn.Facts] : Prop :=
  ∀ (m : (ℓ : Loc Cert.OutFfn.nD Cert.OutFfn.τ Cert.OutFfn.sig) → Buf (Elt Bits) ℓ) (g : Dev Cert.OutFfn.nD → PrngReg), Pre_OutFfn m →
    θ_run (Cert.OutFfn.defs (F := Bits)) (onTc (τ := Cert.OutFfn.τ) (Cert.OutFfn.main (F := Bits))) ⟨m, fun _ => 0, g⟩ (fun r => (∀ c : Dev Cert.OutFfn.nD,
      r.2.mem ((c.tc : Thread Cert.OutFfn.nD Cert.OutFfn.τ).loc Cert.OutFfn.main_arg0) = m ((c.tc : Thread Cert.OutFfn.nD Cert.OutFfn.τ).loc Cert.OutFfn.main_arg0)
      ∧ r.2.mem ((c.tc : Thread Cert.OutFfn.nD Cert.OutFfn.τ).loc Cert.OutFfn.main_arg1) = m ((c.tc : Thread Cert.OutFfn.nD Cert.OutFfn.τ).loc Cert.OutFfn.main_arg1)
      ∧ r.2.mem ((c.tc : Thread Cert.OutFfn.nD Cert.OutFfn.τ).loc Cert.OutFfn.main_arg2) = m ((c.tc : Thread Cert.OutFfn.nD Cert.OutFfn.τ).loc Cert.OutFfn.main_arg2)
      ∧ r.2.mem ((c.tc : Thread Cert.OutFfn.nD Cert.OutFfn.τ).loc Cert.OutFfn.main_arg3) = m ((c.tc : Thread Cert.OutFfn.nD Cert.OutFfn.τ).loc Cert.OutFfn.main_arg3)
      ∧ r.2.mem ((c.tc : Thread Cert.OutFfn.nD Cert.OutFfn.τ).loc Cert.OutFfn.main_arg4) = m ((c.tc : Thread Cert.OutFfn.nD Cert.OutFfn.τ).loc Cert.OutFfn.main_arg4)
      ∧ r.2.mem ((c.tc : Thread Cert.OutFfn.nD Cert.OutFfn.τ).loc Cert.OutFfn.main_arg5) = m ((c.tc : Thread Cert.OutFfn.nD Cert.OutFfn.τ).loc Cert.OutFfn.main_arg5)
      ∧ r.2.mem ((c.tc : Thread Cert.OutFfn.nD Cert.OutFfn.τ).loc Cert.OutFfn.main_arg6) = m ((c.tc : Thread Cert.OutFfn.nD Cert.OutFfn.τ).loc Cert.OutFfn.main_arg6)
      ∧ r.2.mem ((c.tc : Thread Cert.OutFfn.nD Cert.OutFfn.τ).loc Cert.OutFfn.main_arg7) = m ((c.tc : Thread Cert.OutFfn.nD Cert.OutFfn.τ).loc Cert.OutFfn.main_arg7))
      ∧ r.2.sem = fun _ => 0)

def quiescent_OutFfnIdeal [hOutFfnIdeal : Cert.OutFfnIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg), Pre_OutFfnIdeal m →
    θ_run (Cert.OutFfnIdeal.defs (F := Ideal)) (onTc (τ := Cert.OutFfnIdeal.τ) (Cert.OutFfnIdeal.main (F := Ideal))) ⟨m, fun _ => 0, g⟩ (fun r => (∀ c : Dev Cert.OutFfnIdeal.nD,
      r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
      ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
      ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
      ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
      ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
      ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
      ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
      ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7))
      ∧ r.2.sem = fun _ => 0)

def quiescent_OutFfnReferenceIdeal [hOutFfnReferenceIdeal : Cert.OutFfnReferenceIdeal.Facts] : Prop :=
  ∀ (m : (ℓ : Loc Cert.OutFfnReferenceIdeal.nD Cert.OutFfnReferenceIdeal.τ Cert.OutFfnReferenceIdeal.sig) → Buf (Elt Ideal) ℓ) (g : Dev Cert.OutFfnReferenceIdeal.nD → PrngReg), Pre_OutFfnReferenceIdeal m →
    θ_run (Cert.OutFfnReferenceIdeal.defs (F := Ideal)) (onTc (τ := Cert.OutFfnReferenceIdeal.τ) (Cert.OutFfnReferenceIdeal.main (F := Ideal))) ⟨m, fun _ => 0, g⟩ (fun r => (∀ c : Dev Cert.OutFfnReferenceIdeal.nD,
      r.2.mem ((c.tc : Thread Cert.OutFfnReferenceIdeal.nD Cert.OutFfnReferenceIdeal.τ).loc Cert.OutFfnReferenceIdeal.main_arg0) = m ((c.tc : Thread Cert.OutFfnReferenceIdeal.nD Cert.OutFfnReferenceIdeal.τ).loc Cert.OutFfnReferenceIdeal.main_arg0)
      ∧ r.2.mem ((c.tc : Thread Cert.OutFfnReferenceIdeal.nD Cert.OutFfnReferenceIdeal.τ).loc Cert.OutFfnReferenceIdeal.main_arg1) = m ((c.tc : Thread Cert.OutFfnReferenceIdeal.nD Cert.OutFfnReferenceIdeal.τ).loc Cert.OutFfnReferenceIdeal.main_arg1)
      ∧ r.2.mem ((c.tc : Thread Cert.OutFfnReferenceIdeal.nD Cert.OutFfnReferenceIdeal.τ).loc Cert.OutFfnReferenceIdeal.main_arg2) = m ((c.tc : Thread Cert.OutFfnReferenceIdeal.nD Cert.OutFfnReferenceIdeal.τ).loc Cert.OutFfnReferenceIdeal.main_arg2)
      ∧ r.2.mem ((c.tc : Thread Cert.OutFfnReferenceIdeal.nD Cert.OutFfnReferenceIdeal.τ).loc Cert.OutFfnReferenceIdeal.main_arg3) = m ((c.tc : Thread Cert.OutFfnReferenceIdeal.nD Cert.OutFfnReferenceIdeal.τ).loc Cert.OutFfnReferenceIdeal.main_arg3)
      ∧ r.2.mem ((c.tc : Thread Cert.OutFfnReferenceIdeal.nD Cert.OutFfnReferenceIdeal.τ).loc Cert.OutFfnReferenceIdeal.main_arg4) = m ((c.tc : Thread Cert.OutFfnReferenceIdeal.nD Cert.OutFfnReferenceIdeal.τ).loc Cert.OutFfnReferenceIdeal.main_arg4)
      ∧ r.2.mem ((c.tc : Thread Cert.OutFfnReferenceIdeal.nD Cert.OutFfnReferenceIdeal.τ).loc Cert.OutFfnReferenceIdeal.main_arg5) = m ((c.tc : Thread Cert.OutFfnReferenceIdeal.nD Cert.OutFfnReferenceIdeal.τ).loc Cert.OutFfnReferenceIdeal.main_arg5)
      ∧ r.2.mem ((c.tc : Thread Cert.OutFfnReferenceIdeal.nD Cert.OutFfnReferenceIdeal.τ).loc Cert.OutFfnReferenceIdeal.main_arg6) = m ((c.tc : Thread Cert.OutFfnReferenceIdeal.nD Cert.OutFfnReferenceIdeal.τ).loc Cert.OutFfnReferenceIdeal.main_arg6)
      ∧ r.2.mem ((c.tc : Thread Cert.OutFfnReferenceIdeal.nD Cert.OutFfnReferenceIdeal.τ).loc Cert.OutFfnReferenceIdeal.main_arg7) = m ((c.tc : Thread Cert.OutFfnReferenceIdeal.nD Cert.OutFfnReferenceIdeal.τ).loc Cert.OutFfnReferenceIdeal.main_arg7))
      ∧ r.2.sem = fun _ => 0)

def quiescent_OutFfnSample [hOutFfnSample : Cert.OutFfnSample.Facts] : Prop :=
  ∀ (m : (ℓ : Loc Cert.OutFfnSample.nD Cert.OutFfnSample.τ Cert.OutFfnSample.sig) → Buf (Elt Bits) ℓ) (g : Dev Cert.OutFfnSample.nD → PrngReg), Pre_OutFfnSample m →
    θ_run (Cert.OutFfnSample.defs (F := Bits)) (onTc (τ := Cert.OutFfnSample.τ) (Cert.OutFfnSample.main (F := Bits))) ⟨m, fun _ => 0, g⟩ (fun r => (∀ c : Dev Cert.OutFfnSample.nD,
      r.2.mem ((c.tc : Thread Cert.OutFfnSample.nD Cert.OutFfnSample.τ).loc Cert.OutFfnSample.main_arg0) = m ((c.tc : Thread Cert.OutFfnSample.nD Cert.OutFfnSample.τ).loc Cert.OutFfnSample.main_arg0)
      ∧ r.2.mem ((c.tc : Thread Cert.OutFfnSample.nD Cert.OutFfnSample.τ).loc Cert.OutFfnSample.main_arg1) = m ((c.tc : Thread Cert.OutFfnSample.nD Cert.OutFfnSample.τ).loc Cert.OutFfnSample.main_arg1)
      ∧ r.2.mem ((c.tc : Thread Cert.OutFfnSample.nD Cert.OutFfnSample.τ).loc Cert.OutFfnSample.main_arg2) = m ((c.tc : Thread Cert.OutFfnSample.nD Cert.OutFfnSample.τ).loc Cert.OutFfnSample.main_arg2)
      ∧ r.2.mem ((c.tc : Thread Cert.OutFfnSample.nD Cert.OutFfnSample.τ).loc Cert.OutFfnSample.main_arg3) = m ((c.tc : Thread Cert.OutFfnSample.nD Cert.OutFfnSample.τ).loc Cert.OutFfnSample.main_arg3)
      ∧ r.2.mem ((c.tc : Thread Cert.OutFfnSample.nD Cert.OutFfnSample.τ).loc Cert.OutFfnSample.main_arg4) = m ((c.tc : Thread Cert.OutFfnSample.nD Cert.OutFfnSample.τ).loc Cert.OutFfnSample.main_arg4)
      ∧ r.2.mem ((c.tc : Thread Cert.OutFfnSample.nD Cert.OutFfnSample.τ).loc Cert.OutFfnSample.main_arg5) = m ((c.tc : Thread Cert.OutFfnSample.nD Cert.OutFfnSample.τ).loc Cert.OutFfnSample.main_arg5)
      ∧ r.2.mem ((c.tc : Thread Cert.OutFfnSample.nD Cert.OutFfnSample.τ).loc Cert.OutFfnSample.main_arg6) = m ((c.tc : Thread Cert.OutFfnSample.nD Cert.OutFfnSample.τ).loc Cert.OutFfnSample.main_arg6)
      ∧ r.2.mem ((c.tc : Thread Cert.OutFfnSample.nD Cert.OutFfnSample.τ).loc Cert.OutFfnSample.main_arg7) = m ((c.tc : Thread Cert.OutFfnSample.nD Cert.OutFfnSample.τ).loc Cert.OutFfnSample.main_arg7))
      ∧ r.2.sem = fun _ => 0)

def quiescent_OutFfnSampleIdeal [hOutFfnSampleIdeal : Cert.OutFfnSampleIdeal.Facts] : Prop :=
  ∀ (m : (ℓ : Loc Cert.OutFfnSampleIdeal.nD Cert.OutFfnSampleIdeal.τ Cert.OutFfnSampleIdeal.sig) → Buf (Elt Ideal) ℓ) (g : Dev Cert.OutFfnSampleIdeal.nD → PrngReg), Pre_OutFfnSampleIdeal m →
    θ_run (Cert.OutFfnSampleIdeal.defs (F := Ideal)) (onTc (τ := Cert.OutFfnSampleIdeal.τ) (Cert.OutFfnSampleIdeal.main (F := Ideal))) ⟨m, fun _ => 0, g⟩ (fun r => (∀ c : Dev Cert.OutFfnSampleIdeal.nD,
      r.2.mem ((c.tc : Thread Cert.OutFfnSampleIdeal.nD Cert.OutFfnSampleIdeal.τ).loc Cert.OutFfnSampleIdeal.main_arg0) = m ((c.tc : Thread Cert.OutFfnSampleIdeal.nD Cert.OutFfnSampleIdeal.τ).loc Cert.OutFfnSampleIdeal.main_arg0)
      ∧ r.2.mem ((c.tc : Thread Cert.OutFfnSampleIdeal.nD Cert.OutFfnSampleIdeal.τ).loc Cert.OutFfnSampleIdeal.main_arg1) = m ((c.tc : Thread Cert.OutFfnSampleIdeal.nD Cert.OutFfnSampleIdeal.τ).loc Cert.OutFfnSampleIdeal.main_arg1)
      ∧ r.2.mem ((c.tc : Thread Cert.OutFfnSampleIdeal.nD Cert.OutFfnSampleIdeal.τ).loc Cert.OutFfnSampleIdeal.main_arg2) = m ((c.tc : Thread Cert.OutFfnSampleIdeal.nD Cert.OutFfnSampleIdeal.τ).loc Cert.OutFfnSampleIdeal.main_arg2)
      ∧ r.2.mem ((c.tc : Thread Cert.OutFfnSampleIdeal.nD Cert.OutFfnSampleIdeal.τ).loc Cert.OutFfnSampleIdeal.main_arg3) = m ((c.tc : Thread Cert.OutFfnSampleIdeal.nD Cert.OutFfnSampleIdeal.τ).loc Cert.OutFfnSampleIdeal.main_arg3)
      ∧ r.2.mem ((c.tc : Thread Cert.OutFfnSampleIdeal.nD Cert.OutFfnSampleIdeal.τ).loc Cert.OutFfnSampleIdeal.main_arg4) = m ((c.tc : Thread Cert.OutFfnSampleIdeal.nD Cert.OutFfnSampleIdeal.τ).loc Cert.OutFfnSampleIdeal.main_arg4)
      ∧ r.2.mem ((c.tc : Thread Cert.OutFfnSampleIdeal.nD Cert.OutFfnSampleIdeal.τ).loc Cert.OutFfnSampleIdeal.main_arg5) = m ((c.tc : Thread Cert.OutFfnSampleIdeal.nD Cert.OutFfnSampleIdeal.τ).loc Cert.OutFfnSampleIdeal.main_arg5)
      ∧ r.2.mem ((c.tc : Thread Cert.OutFfnSampleIdeal.nD Cert.OutFfnSampleIdeal.τ).loc Cert.OutFfnSampleIdeal.main_arg6) = m ((c.tc : Thread Cert.OutFfnSampleIdeal.nD Cert.OutFfnSampleIdeal.τ).loc Cert.OutFfnSampleIdeal.main_arg6)
      ∧ r.2.mem ((c.tc : Thread Cert.OutFfnSampleIdeal.nD Cert.OutFfnSampleIdeal.τ).loc Cert.OutFfnSampleIdeal.main_arg7) = m ((c.tc : Thread Cert.OutFfnSampleIdeal.nD Cert.OutFfnSampleIdeal.τ).loc Cert.OutFfnSampleIdeal.main_arg7))
      ∧ r.2.sem = fun _ => 0)

def quiescent_OutFfnSampleReferenceIdeal [hOutFfnSampleReferenceIdeal : Cert.OutFfnSampleReferenceIdeal.Facts] : Prop :=
  ∀ (m : (ℓ : Loc Cert.OutFfnSampleReferenceIdeal.nD Cert.OutFfnSampleReferenceIdeal.τ Cert.OutFfnSampleReferenceIdeal.sig) → Buf (Elt Ideal) ℓ) (g : Dev Cert.OutFfnSampleReferenceIdeal.nD → PrngReg), Pre_OutFfnSampleReferenceIdeal m →
    θ_run (Cert.OutFfnSampleReferenceIdeal.defs (F := Ideal)) (onTc (τ := Cert.OutFfnSampleReferenceIdeal.τ) (Cert.OutFfnSampleReferenceIdeal.main (F := Ideal))) ⟨m, fun _ => 0, g⟩ (fun r => (∀ c : Dev Cert.OutFfnSampleReferenceIdeal.nD,
      r.2.mem ((c.tc : Thread Cert.OutFfnSampleReferenceIdeal.nD Cert.OutFfnSampleReferenceIdeal.τ).loc Cert.OutFfnSampleReferenceIdeal.main_arg0) = m ((c.tc : Thread Cert.OutFfnSampleReferenceIdeal.nD Cert.OutFfnSampleReferenceIdeal.τ).loc Cert.OutFfnSampleReferenceIdeal.main_arg0)
      ∧ r.2.mem ((c.tc : Thread Cert.OutFfnSampleReferenceIdeal.nD Cert.OutFfnSampleReferenceIdeal.τ).loc Cert.OutFfnSampleReferenceIdeal.main_arg1) = m ((c.tc : Thread Cert.OutFfnSampleReferenceIdeal.nD Cert.OutFfnSampleReferenceIdeal.τ).loc Cert.OutFfnSampleReferenceIdeal.main_arg1)
      ∧ r.2.mem ((c.tc : Thread Cert.OutFfnSampleReferenceIdeal.nD Cert.OutFfnSampleReferenceIdeal.τ).loc Cert.OutFfnSampleReferenceIdeal.main_arg2) = m ((c.tc : Thread Cert.OutFfnSampleReferenceIdeal.nD Cert.OutFfnSampleReferenceIdeal.τ).loc Cert.OutFfnSampleReferenceIdeal.main_arg2)
      ∧ r.2.mem ((c.tc : Thread Cert.OutFfnSampleReferenceIdeal.nD Cert.OutFfnSampleReferenceIdeal.τ).loc Cert.OutFfnSampleReferenceIdeal.main_arg3) = m ((c.tc : Thread Cert.OutFfnSampleReferenceIdeal.nD Cert.OutFfnSampleReferenceIdeal.τ).loc Cert.OutFfnSampleReferenceIdeal.main_arg3)
      ∧ r.2.mem ((c.tc : Thread Cert.OutFfnSampleReferenceIdeal.nD Cert.OutFfnSampleReferenceIdeal.τ).loc Cert.OutFfnSampleReferenceIdeal.main_arg4) = m ((c.tc : Thread Cert.OutFfnSampleReferenceIdeal.nD Cert.OutFfnSampleReferenceIdeal.τ).loc Cert.OutFfnSampleReferenceIdeal.main_arg4)
      ∧ r.2.mem ((c.tc : Thread Cert.OutFfnSampleReferenceIdeal.nD Cert.OutFfnSampleReferenceIdeal.τ).loc Cert.OutFfnSampleReferenceIdeal.main_arg5) = m ((c.tc : Thread Cert.OutFfnSampleReferenceIdeal.nD Cert.OutFfnSampleReferenceIdeal.τ).loc Cert.OutFfnSampleReferenceIdeal.main_arg5)
      ∧ r.2.mem ((c.tc : Thread Cert.OutFfnSampleReferenceIdeal.nD Cert.OutFfnSampleReferenceIdeal.τ).loc Cert.OutFfnSampleReferenceIdeal.main_arg6) = m ((c.tc : Thread Cert.OutFfnSampleReferenceIdeal.nD Cert.OutFfnSampleReferenceIdeal.τ).loc Cert.OutFfnSampleReferenceIdeal.main_arg6)
      ∧ r.2.mem ((c.tc : Thread Cert.OutFfnSampleReferenceIdeal.nD Cert.OutFfnSampleReferenceIdeal.τ).loc Cert.OutFfnSampleReferenceIdeal.main_arg7) = m ((c.tc : Thread Cert.OutFfnSampleReferenceIdeal.nD Cert.OutFfnSampleReferenceIdeal.τ).loc Cert.OutFfnSampleReferenceIdeal.main_arg7))
      ∧ r.2.sem = fun _ => 0)

def quiescent_GlaProj [hGlaProj : Cert.GlaProj.Facts] : Prop :=
  ∀ (m : (ℓ : Loc Cert.GlaProj.nD Cert.GlaProj.τ Cert.GlaProj.sig) → Buf (Elt Bits) ℓ) (g : Dev Cert.GlaProj.nD → PrngReg), Pre_GlaProj m →
    θ_run (Cert.GlaProj.defs (F := Bits)) (onTc (τ := Cert.GlaProj.τ) (Cert.GlaProj.main (F := Bits))) ⟨m, fun _ => 0, g⟩ (fun r => (∀ c : Dev Cert.GlaProj.nD,
      r.2.mem ((c.tc : Thread Cert.GlaProj.nD Cert.GlaProj.τ).loc Cert.GlaProj.main_arg0) = m ((c.tc : Thread Cert.GlaProj.nD Cert.GlaProj.τ).loc Cert.GlaProj.main_arg0)
      ∧ r.2.mem ((c.tc : Thread Cert.GlaProj.nD Cert.GlaProj.τ).loc Cert.GlaProj.main_arg1) = m ((c.tc : Thread Cert.GlaProj.nD Cert.GlaProj.τ).loc Cert.GlaProj.main_arg1)
      ∧ r.2.mem ((c.tc : Thread Cert.GlaProj.nD Cert.GlaProj.τ).loc Cert.GlaProj.main_arg2) = m ((c.tc : Thread Cert.GlaProj.nD Cert.GlaProj.τ).loc Cert.GlaProj.main_arg2)
      ∧ r.2.mem ((c.tc : Thread Cert.GlaProj.nD Cert.GlaProj.τ).loc Cert.GlaProj.main_arg3) = m ((c.tc : Thread Cert.GlaProj.nD Cert.GlaProj.τ).loc Cert.GlaProj.main_arg3)
      ∧ r.2.mem ((c.tc : Thread Cert.GlaProj.nD Cert.GlaProj.τ).loc Cert.GlaProj.main_arg4) = m ((c.tc : Thread Cert.GlaProj.nD Cert.GlaProj.τ).loc Cert.GlaProj.main_arg4)
      ∧ r.2.mem ((c.tc : Thread Cert.GlaProj.nD Cert.GlaProj.τ).loc Cert.GlaProj.main_arg5) = m ((c.tc : Thread Cert.GlaProj.nD Cert.GlaProj.τ).loc Cert.GlaProj.main_arg5)
      ∧ r.2.mem ((c.tc : Thread Cert.GlaProj.nD Cert.GlaProj.τ).loc Cert.GlaProj.main_arg6) = m ((c.tc : Thread Cert.GlaProj.nD Cert.GlaProj.τ).loc Cert.GlaProj.main_arg6)
      ∧ r.2.mem ((c.tc : Thread Cert.GlaProj.nD Cert.GlaProj.τ).loc Cert.GlaProj.main_arg7) = m ((c.tc : Thread Cert.GlaProj.nD Cert.GlaProj.τ).loc Cert.GlaProj.main_arg7)
      ∧ r.2.mem ((c.tc : Thread Cert.GlaProj.nD Cert.GlaProj.τ).loc Cert.GlaProj.main_arg8) = m ((c.tc : Thread Cert.GlaProj.nD Cert.GlaProj.τ).loc Cert.GlaProj.main_arg8)
      ∧ r.2.mem ((c.tc : Thread Cert.GlaProj.nD Cert.GlaProj.τ).loc Cert.GlaProj.main_arg9) = m ((c.tc : Thread Cert.GlaProj.nD Cert.GlaProj.τ).loc Cert.GlaProj.main_arg9))
      ∧ r.2.sem = fun _ => 0)

def quiescent_GlaProjIdeal [hGlaProjIdeal : Cert.GlaProjIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg), Pre_GlaProjIdeal m →
    θ_run (Cert.GlaProjIdeal.defs (F := Ideal)) (onTc (τ := Cert.GlaProjIdeal.τ) (Cert.GlaProjIdeal.main (F := Ideal))) ⟨m, fun _ => 0, g⟩ (fun r => (∀ c : Dev Cert.GlaProjIdeal.nD,
      r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
      ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1)
      ∧ r.2.mem ((c.tc : Thread Cert.GlaProjIdeal.nD Cert.GlaProjIdeal.τ).loc Cert.GlaProjIdeal.main_arg2) = m ((c.tc : Thread Cert.GlaProjIdeal.nD Cert.GlaProjIdeal.τ).loc Cert.GlaProjIdeal.main_arg2)
      ∧ r.2.mem ((c.tc : Thread Cert.GlaProjIdeal.nD Cert.GlaProjIdeal.τ).loc Cert.GlaProjIdeal.main_arg3) = m ((c.tc : Thread Cert.GlaProjIdeal.nD Cert.GlaProjIdeal.τ).loc Cert.GlaProjIdeal.main_arg3)
      ∧ r.2.mem ((c.tc : Thread Cert.GlaProjIdeal.nD Cert.GlaProjIdeal.τ).loc Cert.GlaProjIdeal.main_arg4) = m ((c.tc : Thread Cert.GlaProjIdeal.nD Cert.GlaProjIdeal.τ).loc Cert.GlaProjIdeal.main_arg4)
      ∧ r.2.mem ((c.tc : Thread Cert.GlaProjIdeal.nD Cert.GlaProjIdeal.τ).loc Cert.GlaProjIdeal.main_arg5) = m ((c.tc : Thread Cert.GlaProjIdeal.nD Cert.GlaProjIdeal.τ).loc Cert.GlaProjIdeal.main_arg5)
      ∧ r.2.mem ((c.tc : Thread Cert.GlaProjIdeal.nD Cert.GlaProjIdeal.τ).loc Cert.GlaProjIdeal.main_arg6) = m ((c.tc : Thread Cert.GlaProjIdeal.nD Cert.GlaProjIdeal.τ).loc Cert.GlaProjIdeal.main_arg6)
      ∧ r.2.mem ((c.tc : Thread Cert.GlaProjIdeal.nD Cert.GlaProjIdeal.τ).loc Cert.GlaProjIdeal.main_arg7) = m ((c.tc : Thread Cert.GlaProjIdeal.nD Cert.GlaProjIdeal.τ).loc Cert.GlaProjIdeal.main_arg7)
      ∧ r.2.mem ((c.tc : Thread Cert.GlaProjIdeal.nD Cert.GlaProjIdeal.τ).loc Cert.GlaProjIdeal.main_arg8) = m ((c.tc : Thread Cert.GlaProjIdeal.nD Cert.GlaProjIdeal.τ).loc Cert.GlaProjIdeal.main_arg8)
      ∧ r.2.mem ((c.tc : Thread Cert.GlaProjIdeal.nD Cert.GlaProjIdeal.τ).loc Cert.GlaProjIdeal.main_arg9) = m ((c.tc : Thread Cert.GlaProjIdeal.nD Cert.GlaProjIdeal.τ).loc Cert.GlaProjIdeal.main_arg9))
      ∧ r.2.sem = fun _ => 0)

def quiescent_GlaProjReferenceIdeal [hGlaProjReferenceIdeal : Cert.GlaProjReferenceIdeal.Facts] : Prop :=
  ∀ (m : (ℓ : Loc Cert.GlaProjReferenceIdeal.nD Cert.GlaProjReferenceIdeal.τ Cert.GlaProjReferenceIdeal.sig) → Buf (Elt Ideal) ℓ) (g : Dev Cert.GlaProjReferenceIdeal.nD → PrngReg), Pre_GlaProjReferenceIdeal m →
    θ_run (Cert.GlaProjReferenceIdeal.defs (F := Ideal)) (onTc (τ := Cert.GlaProjReferenceIdeal.τ) (Cert.GlaProjReferenceIdeal.main (F := Ideal))) ⟨m, fun _ => 0, g⟩ (fun r => (∀ c : Dev Cert.GlaProjReferenceIdeal.nD,
      r.2.mem ((c.tc : Thread Cert.GlaProjReferenceIdeal.nD Cert.GlaProjReferenceIdeal.τ).loc Cert.GlaProjReferenceIdeal.main_arg0) = m ((c.tc : Thread Cert.GlaProjReferenceIdeal.nD Cert.GlaProjReferenceIdeal.τ).loc Cert.GlaProjReferenceIdeal.main_arg0)
      ∧ r.2.mem ((c.tc : Thread Cert.GlaProjReferenceIdeal.nD Cert.GlaProjReferenceIdeal.τ).loc Cert.GlaProjReferenceIdeal.main_arg1) = m ((c.tc : Thread Cert.GlaProjReferenceIdeal.nD Cert.GlaProjReferenceIdeal.τ).loc Cert.GlaProjReferenceIdeal.main_arg1)
      ∧ r.2.mem ((c.tc : Thread Cert.GlaProjReferenceIdeal.nD Cert.GlaProjReferenceIdeal.τ).loc Cert.GlaProjReferenceIdeal.main_arg2) = m ((c.tc : Thread Cert.GlaProjReferenceIdeal.nD Cert.GlaProjReferenceIdeal.τ).loc Cert.GlaProjReferenceIdeal.main_arg2)
      ∧ r.2.mem ((c.tc : Thread Cert.GlaProjReferenceIdeal.nD Cert.GlaProjReferenceIdeal.τ).loc Cert.GlaProjReferenceIdeal.main_arg3) = m ((c.tc : Thread Cert.GlaProjReferenceIdeal.nD Cert.GlaProjReferenceIdeal.τ).loc Cert.GlaProjReferenceIdeal.main_arg3)
      ∧ r.2.mem ((c.tc : Thread Cert.GlaProjReferenceIdeal.nD Cert.GlaProjReferenceIdeal.τ).loc Cert.GlaProjReferenceIdeal.main_arg4) = m ((c.tc : Thread Cert.GlaProjReferenceIdeal.nD Cert.GlaProjReferenceIdeal.τ).loc Cert.GlaProjReferenceIdeal.main_arg4)
      ∧ r.2.mem ((c.tc : Thread Cert.GlaProjReferenceIdeal.nD Cert.GlaProjReferenceIdeal.τ).loc Cert.GlaProjReferenceIdeal.main_arg5) = m ((c.tc : Thread Cert.GlaProjReferenceIdeal.nD Cert.GlaProjReferenceIdeal.τ).loc Cert.GlaProjReferenceIdeal.main_arg5)
      ∧ r.2.mem ((c.tc : Thread Cert.GlaProjReferenceIdeal.nD Cert.GlaProjReferenceIdeal.τ).loc Cert.GlaProjReferenceIdeal.main_arg6) = m ((c.tc : Thread Cert.GlaProjReferenceIdeal.nD Cert.GlaProjReferenceIdeal.τ).loc Cert.GlaProjReferenceIdeal.main_arg6)
      ∧ r.2.mem ((c.tc : Thread Cert.GlaProjReferenceIdeal.nD Cert.GlaProjReferenceIdeal.τ).loc Cert.GlaProjReferenceIdeal.main_arg7) = m ((c.tc : Thread Cert.GlaProjReferenceIdeal.nD Cert.GlaProjReferenceIdeal.τ).loc Cert.GlaProjReferenceIdeal.main_arg7)
      ∧ r.2.mem ((c.tc : Thread Cert.GlaProjReferenceIdeal.nD Cert.GlaProjReferenceIdeal.τ).loc Cert.GlaProjReferenceIdeal.main_arg8) = m ((c.tc : Thread Cert.GlaProjReferenceIdeal.nD Cert.GlaProjReferenceIdeal.τ).loc Cert.GlaProjReferenceIdeal.main_arg8)
      ∧ r.2.mem ((c.tc : Thread Cert.GlaProjReferenceIdeal.nD Cert.GlaProjReferenceIdeal.τ).loc Cert.GlaProjReferenceIdeal.main_arg9) = m ((c.tc : Thread Cert.GlaProjReferenceIdeal.nD Cert.GlaProjReferenceIdeal.τ).loc Cert.GlaProjReferenceIdeal.main_arg9))
      ∧ r.2.sem = fun _ => 0)

def quiescent_FoxProj [hFoxProj : Cert.FoxProj.Facts] : Prop :=
  ∀ (m : (ℓ : Loc Cert.FoxProj.nD Cert.FoxProj.τ Cert.FoxProj.sig) → Buf (Elt Bits) ℓ) (g : Dev Cert.FoxProj.nD → PrngReg), Pre_FoxProj m →
    θ_run (Cert.FoxProj.defs (F := Bits)) (onTc (τ := Cert.FoxProj.τ) (Cert.FoxProj.main (F := Bits))) ⟨m, fun _ => 0, g⟩ (fun r => (∀ c : Dev Cert.FoxProj.nD,
      r.2.mem ((c.tc : Thread Cert.FoxProj.nD Cert.FoxProj.τ).loc Cert.FoxProj.main_arg0) = m ((c.tc : Thread Cert.FoxProj.nD Cert.FoxProj.τ).loc Cert.FoxProj.main_arg0)
      ∧ r.2.mem ((c.tc : Thread Cert.FoxProj.nD Cert.FoxProj.τ).loc Cert.FoxProj.main_arg1) = m ((c.tc : Thread Cert.FoxProj.nD Cert.FoxProj.τ).loc Cert.FoxProj.main_arg1)
      ∧ r.2.mem ((c.tc : Thread Cert.FoxProj.nD Cert.FoxProj.τ).loc Cert.FoxProj.main_arg2) = m ((c.tc : Thread Cert.FoxProj.nD Cert.FoxProj.τ).loc Cert.FoxProj.main_arg2)
      ∧ r.2.mem ((c.tc : Thread Cert.FoxProj.nD Cert.FoxProj.τ).loc Cert.FoxProj.main_arg3) = m ((c.tc : Thread Cert.FoxProj.nD Cert.FoxProj.τ).loc Cert.FoxProj.main_arg3)
      ∧ r.2.mem ((c.tc : Thread Cert.FoxProj.nD Cert.FoxProj.τ).loc Cert.FoxProj.main_arg4) = m ((c.tc : Thread Cert.FoxProj.nD Cert.FoxProj.τ).loc Cert.FoxProj.main_arg4)
      ∧ r.2.mem ((c.tc : Thread Cert.FoxProj.nD Cert.FoxProj.τ).loc Cert.FoxProj.main_arg5) = m ((c.tc : Thread Cert.FoxProj.nD Cert.FoxProj.τ).loc Cert.FoxProj.main_arg5)
      ∧ r.2.mem ((c.tc : Thread Cert.FoxProj.nD Cert.FoxProj.τ).loc Cert.FoxProj.main_arg6) = m ((c.tc : Thread Cert.FoxProj.nD Cert.FoxProj.τ).loc Cert.FoxProj.main_arg6)
      ∧ r.2.mem ((c.tc : Thread Cert.FoxProj.nD Cert.FoxProj.τ).loc Cert.FoxProj.main_arg7) = m ((c.tc : Thread Cert.FoxProj.nD Cert.FoxProj.τ).loc Cert.FoxProj.main_arg7)
      ∧ r.2.mem ((c.tc : Thread Cert.FoxProj.nD Cert.FoxProj.τ).loc Cert.FoxProj.main_arg8) = m ((c.tc : Thread Cert.FoxProj.nD Cert.FoxProj.τ).loc Cert.FoxProj.main_arg8)
      ∧ r.2.mem ((c.tc : Thread Cert.FoxProj.nD Cert.FoxProj.τ).loc Cert.FoxProj.main_arg9) = m ((c.tc : Thread Cert.FoxProj.nD Cert.FoxProj.τ).loc Cert.FoxProj.main_arg9))
      ∧ r.2.sem = fun _ => 0)

def quiescent_FoxProjIdeal [hFoxProjIdeal : Cert.FoxProjIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg), Pre_FoxProjIdeal m →
    θ_run (Cert.FoxProjIdeal.defs (F := Ideal)) (onTc (τ := Cert.FoxProjIdeal.τ) (Cert.FoxProjIdeal.main (F := Ideal))) ⟨m, fun _ => 0, g⟩ (fun r => (∀ c : Dev Cert.FoxProjIdeal.nD,
      r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
      ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1)
      ∧ r.2.mem ((c.tc : Thread Cert.FoxProjIdeal.nD Cert.FoxProjIdeal.τ).loc Cert.FoxProjIdeal.main_arg2) = m ((c.tc : Thread Cert.FoxProjIdeal.nD Cert.FoxProjIdeal.τ).loc Cert.FoxProjIdeal.main_arg2)
      ∧ r.2.mem ((c.tc : Thread Cert.FoxProjIdeal.nD Cert.FoxProjIdeal.τ).loc Cert.FoxProjIdeal.main_arg3) = m ((c.tc : Thread Cert.FoxProjIdeal.nD Cert.FoxProjIdeal.τ).loc Cert.FoxProjIdeal.main_arg3)
      ∧ r.2.mem ((c.tc : Thread Cert.FoxProjIdeal.nD Cert.FoxProjIdeal.τ).loc Cert.FoxProjIdeal.main_arg4) = m ((c.tc : Thread Cert.FoxProjIdeal.nD Cert.FoxProjIdeal.τ).loc Cert.FoxProjIdeal.main_arg4)
      ∧ r.2.mem ((c.tc : Thread Cert.FoxProjIdeal.nD Cert.FoxProjIdeal.τ).loc Cert.FoxProjIdeal.main_arg5) = m ((c.tc : Thread Cert.FoxProjIdeal.nD Cert.FoxProjIdeal.τ).loc Cert.FoxProjIdeal.main_arg5)
      ∧ r.2.mem ((c.tc : Thread Cert.FoxProjIdeal.nD Cert.FoxProjIdeal.τ).loc Cert.FoxProjIdeal.main_arg6) = m ((c.tc : Thread Cert.FoxProjIdeal.nD Cert.FoxProjIdeal.τ).loc Cert.FoxProjIdeal.main_arg6)
      ∧ r.2.mem ((c.tc : Thread Cert.FoxProjIdeal.nD Cert.FoxProjIdeal.τ).loc Cert.FoxProjIdeal.main_arg7) = m ((c.tc : Thread Cert.FoxProjIdeal.nD Cert.FoxProjIdeal.τ).loc Cert.FoxProjIdeal.main_arg7)
      ∧ r.2.mem ((c.tc : Thread Cert.FoxProjIdeal.nD Cert.FoxProjIdeal.τ).loc Cert.FoxProjIdeal.main_arg8) = m ((c.tc : Thread Cert.FoxProjIdeal.nD Cert.FoxProjIdeal.τ).loc Cert.FoxProjIdeal.main_arg8)
      ∧ r.2.mem ((c.tc : Thread Cert.FoxProjIdeal.nD Cert.FoxProjIdeal.τ).loc Cert.FoxProjIdeal.main_arg9) = m ((c.tc : Thread Cert.FoxProjIdeal.nD Cert.FoxProjIdeal.τ).loc Cert.FoxProjIdeal.main_arg9))
      ∧ r.2.sem = fun _ => 0)

def quiescent_FoxProjReferenceIdeal [hFoxProjReferenceIdeal : Cert.FoxProjReferenceIdeal.Facts] : Prop :=
  ∀ (m : (ℓ : Loc Cert.FoxProjReferenceIdeal.nD Cert.FoxProjReferenceIdeal.τ Cert.FoxProjReferenceIdeal.sig) → Buf (Elt Ideal) ℓ) (g : Dev Cert.FoxProjReferenceIdeal.nD → PrngReg), Pre_FoxProjReferenceIdeal m →
    θ_run (Cert.FoxProjReferenceIdeal.defs (F := Ideal)) (onTc (τ := Cert.FoxProjReferenceIdeal.τ) (Cert.FoxProjReferenceIdeal.main (F := Ideal))) ⟨m, fun _ => 0, g⟩ (fun r => (∀ c : Dev Cert.FoxProjReferenceIdeal.nD,
      r.2.mem ((c.tc : Thread Cert.FoxProjReferenceIdeal.nD Cert.FoxProjReferenceIdeal.τ).loc Cert.FoxProjReferenceIdeal.main_arg0) = m ((c.tc : Thread Cert.FoxProjReferenceIdeal.nD Cert.FoxProjReferenceIdeal.τ).loc Cert.FoxProjReferenceIdeal.main_arg0)
      ∧ r.2.mem ((c.tc : Thread Cert.FoxProjReferenceIdeal.nD Cert.FoxProjReferenceIdeal.τ).loc Cert.FoxProjReferenceIdeal.main_arg1) = m ((c.tc : Thread Cert.FoxProjReferenceIdeal.nD Cert.FoxProjReferenceIdeal.τ).loc Cert.FoxProjReferenceIdeal.main_arg1)
      ∧ r.2.mem ((c.tc : Thread Cert.FoxProjReferenceIdeal.nD Cert.FoxProjReferenceIdeal.τ).loc Cert.FoxProjReferenceIdeal.main_arg2) = m ((c.tc : Thread Cert.FoxProjReferenceIdeal.nD Cert.FoxProjReferenceIdeal.τ).loc Cert.FoxProjReferenceIdeal.main_arg2)
      ∧ r.2.mem ((c.tc : Thread Cert.FoxProjReferenceIdeal.nD Cert.FoxProjReferenceIdeal.τ).loc Cert.FoxProjReferenceIdeal.main_arg3) = m ((c.tc : Thread Cert.FoxProjReferenceIdeal.nD Cert.FoxProjReferenceIdeal.τ).loc Cert.FoxProjReferenceIdeal.main_arg3)
      ∧ r.2.mem ((c.tc : Thread Cert.FoxProjReferenceIdeal.nD Cert.FoxProjReferenceIdeal.τ).loc Cert.FoxProjReferenceIdeal.main_arg4) = m ((c.tc : Thread Cert.FoxProjReferenceIdeal.nD Cert.FoxProjReferenceIdeal.τ).loc Cert.FoxProjReferenceIdeal.main_arg4)
      ∧ r.2.mem ((c.tc : Thread Cert.FoxProjReferenceIdeal.nD Cert.FoxProjReferenceIdeal.τ).loc Cert.FoxProjReferenceIdeal.main_arg5) = m ((c.tc : Thread Cert.FoxProjReferenceIdeal.nD Cert.FoxProjReferenceIdeal.τ).loc Cert.FoxProjReferenceIdeal.main_arg5)
      ∧ r.2.mem ((c.tc : Thread Cert.FoxProjReferenceIdeal.nD Cert.FoxProjReferenceIdeal.τ).loc Cert.FoxProjReferenceIdeal.main_arg6) = m ((c.tc : Thread Cert.FoxProjReferenceIdeal.nD Cert.FoxProjReferenceIdeal.τ).loc Cert.FoxProjReferenceIdeal.main_arg6)
      ∧ r.2.mem ((c.tc : Thread Cert.FoxProjReferenceIdeal.nD Cert.FoxProjReferenceIdeal.τ).loc Cert.FoxProjReferenceIdeal.main_arg7) = m ((c.tc : Thread Cert.FoxProjReferenceIdeal.nD Cert.FoxProjReferenceIdeal.τ).loc Cert.FoxProjReferenceIdeal.main_arg7)
      ∧ r.2.mem ((c.tc : Thread Cert.FoxProjReferenceIdeal.nD Cert.FoxProjReferenceIdeal.τ).loc Cert.FoxProjReferenceIdeal.main_arg8) = m ((c.tc : Thread Cert.FoxProjReferenceIdeal.nD Cert.FoxProjReferenceIdeal.τ).loc Cert.FoxProjReferenceIdeal.main_arg8)
      ∧ r.2.mem ((c.tc : Thread Cert.FoxProjReferenceIdeal.nD Cert.FoxProjReferenceIdeal.τ).loc Cert.FoxProjReferenceIdeal.main_arg9) = m ((c.tc : Thread Cert.FoxProjReferenceIdeal.nD Cert.FoxProjReferenceIdeal.τ).loc Cert.FoxProjReferenceIdeal.main_arg9))
      ∧ r.2.sem = fun _ => 0)

def quiescent_FoxProjSample [hFoxProjSample : Cert.FoxProjSample.Facts] : Prop :=
  ∀ (m : (ℓ : Loc Cert.FoxProjSample.nD Cert.FoxProjSample.τ Cert.FoxProjSample.sig) → Buf (Elt Bits) ℓ) (g : Dev Cert.FoxProjSample.nD → PrngReg), Pre_FoxProjSample m →
    θ_run (Cert.FoxProjSample.defs (F := Bits)) (onTc (τ := Cert.FoxProjSample.τ) (Cert.FoxProjSample.main (F := Bits))) ⟨m, fun _ => 0, g⟩ (fun r => (∀ c : Dev Cert.FoxProjSample.nD,
      r.2.mem ((c.tc : Thread Cert.FoxProjSample.nD Cert.FoxProjSample.τ).loc Cert.FoxProjSample.main_arg0) = m ((c.tc : Thread Cert.FoxProjSample.nD Cert.FoxProjSample.τ).loc Cert.FoxProjSample.main_arg0)
      ∧ r.2.mem ((c.tc : Thread Cert.FoxProjSample.nD Cert.FoxProjSample.τ).loc Cert.FoxProjSample.main_arg1) = m ((c.tc : Thread Cert.FoxProjSample.nD Cert.FoxProjSample.τ).loc Cert.FoxProjSample.main_arg1)
      ∧ r.2.mem ((c.tc : Thread Cert.FoxProjSample.nD Cert.FoxProjSample.τ).loc Cert.FoxProjSample.main_arg2) = m ((c.tc : Thread Cert.FoxProjSample.nD Cert.FoxProjSample.τ).loc Cert.FoxProjSample.main_arg2)
      ∧ r.2.mem ((c.tc : Thread Cert.FoxProjSample.nD Cert.FoxProjSample.τ).loc Cert.FoxProjSample.main_arg3) = m ((c.tc : Thread Cert.FoxProjSample.nD Cert.FoxProjSample.τ).loc Cert.FoxProjSample.main_arg3)
      ∧ r.2.mem ((c.tc : Thread Cert.FoxProjSample.nD Cert.FoxProjSample.τ).loc Cert.FoxProjSample.main_arg4) = m ((c.tc : Thread Cert.FoxProjSample.nD Cert.FoxProjSample.τ).loc Cert.FoxProjSample.main_arg4)
      ∧ r.2.mem ((c.tc : Thread Cert.FoxProjSample.nD Cert.FoxProjSample.τ).loc Cert.FoxProjSample.main_arg5) = m ((c.tc : Thread Cert.FoxProjSample.nD Cert.FoxProjSample.τ).loc Cert.FoxProjSample.main_arg5)
      ∧ r.2.mem ((c.tc : Thread Cert.FoxProjSample.nD Cert.FoxProjSample.τ).loc Cert.FoxProjSample.main_arg6) = m ((c.tc : Thread Cert.FoxProjSample.nD Cert.FoxProjSample.τ).loc Cert.FoxProjSample.main_arg6)
      ∧ r.2.mem ((c.tc : Thread Cert.FoxProjSample.nD Cert.FoxProjSample.τ).loc Cert.FoxProjSample.main_arg7) = m ((c.tc : Thread Cert.FoxProjSample.nD Cert.FoxProjSample.τ).loc Cert.FoxProjSample.main_arg7)
      ∧ r.2.mem ((c.tc : Thread Cert.FoxProjSample.nD Cert.FoxProjSample.τ).loc Cert.FoxProjSample.main_arg8) = m ((c.tc : Thread Cert.FoxProjSample.nD Cert.FoxProjSample.τ).loc Cert.FoxProjSample.main_arg8)
      ∧ r.2.mem ((c.tc : Thread Cert.FoxProjSample.nD Cert.FoxProjSample.τ).loc Cert.FoxProjSample.main_arg9) = m ((c.tc : Thread Cert.FoxProjSample.nD Cert.FoxProjSample.τ).loc Cert.FoxProjSample.main_arg9))
      ∧ r.2.sem = fun _ => 0)

def quiescent_FoxProjSampleIdeal [hFoxProjSampleIdeal : Cert.FoxProjSampleIdeal.Facts] : Prop :=
  ∀ (m : (ℓ : Loc Cert.FoxProjSampleIdeal.nD Cert.FoxProjSampleIdeal.τ Cert.FoxProjSampleIdeal.sig) → Buf (Elt Ideal) ℓ) (g : Dev Cert.FoxProjSampleIdeal.nD → PrngReg), Pre_FoxProjSampleIdeal m →
    θ_run (Cert.FoxProjSampleIdeal.defs (F := Ideal)) (onTc (τ := Cert.FoxProjSampleIdeal.τ) (Cert.FoxProjSampleIdeal.main (F := Ideal))) ⟨m, fun _ => 0, g⟩ (fun r => (∀ c : Dev Cert.FoxProjSampleIdeal.nD,
      r.2.mem ((c.tc : Thread Cert.FoxProjSampleIdeal.nD Cert.FoxProjSampleIdeal.τ).loc Cert.FoxProjSampleIdeal.main_arg0) = m ((c.tc : Thread Cert.FoxProjSampleIdeal.nD Cert.FoxProjSampleIdeal.τ).loc Cert.FoxProjSampleIdeal.main_arg0)
      ∧ r.2.mem ((c.tc : Thread Cert.FoxProjSampleIdeal.nD Cert.FoxProjSampleIdeal.τ).loc Cert.FoxProjSampleIdeal.main_arg1) = m ((c.tc : Thread Cert.FoxProjSampleIdeal.nD Cert.FoxProjSampleIdeal.τ).loc Cert.FoxProjSampleIdeal.main_arg1)
      ∧ r.2.mem ((c.tc : Thread Cert.FoxProjSampleIdeal.nD Cert.FoxProjSampleIdeal.τ).loc Cert.FoxProjSampleIdeal.main_arg2) = m ((c.tc : Thread Cert.FoxProjSampleIdeal.nD Cert.FoxProjSampleIdeal.τ).loc Cert.FoxProjSampleIdeal.main_arg2)
      ∧ r.2.mem ((c.tc : Thread Cert.FoxProjSampleIdeal.nD Cert.FoxProjSampleIdeal.τ).loc Cert.FoxProjSampleIdeal.main_arg3) = m ((c.tc : Thread Cert.FoxProjSampleIdeal.nD Cert.FoxProjSampleIdeal.τ).loc Cert.FoxProjSampleIdeal.main_arg3)
      ∧ r.2.mem ((c.tc : Thread Cert.FoxProjSampleIdeal.nD Cert.FoxProjSampleIdeal.τ).loc Cert.FoxProjSampleIdeal.main_arg4) = m ((c.tc : Thread Cert.FoxProjSampleIdeal.nD Cert.FoxProjSampleIdeal.τ).loc Cert.FoxProjSampleIdeal.main_arg4)
      ∧ r.2.mem ((c.tc : Thread Cert.FoxProjSampleIdeal.nD Cert.FoxProjSampleIdeal.τ).loc Cert.FoxProjSampleIdeal.main_arg5) = m ((c.tc : Thread Cert.FoxProjSampleIdeal.nD Cert.FoxProjSampleIdeal.τ).loc Cert.FoxProjSampleIdeal.main_arg5)
      ∧ r.2.mem ((c.tc : Thread Cert.FoxProjSampleIdeal.nD Cert.FoxProjSampleIdeal.τ).loc Cert.FoxProjSampleIdeal.main_arg6) = m ((c.tc : Thread Cert.FoxProjSampleIdeal.nD Cert.FoxProjSampleIdeal.τ).loc Cert.FoxProjSampleIdeal.main_arg6)
      ∧ r.2.mem ((c.tc : Thread Cert.FoxProjSampleIdeal.nD Cert.FoxProjSampleIdeal.τ).loc Cert.FoxProjSampleIdeal.main_arg7) = m ((c.tc : Thread Cert.FoxProjSampleIdeal.nD Cert.FoxProjSampleIdeal.τ).loc Cert.FoxProjSampleIdeal.main_arg7)
      ∧ r.2.mem ((c.tc : Thread Cert.FoxProjSampleIdeal.nD Cert.FoxProjSampleIdeal.τ).loc Cert.FoxProjSampleIdeal.main_arg8) = m ((c.tc : Thread Cert.FoxProjSampleIdeal.nD Cert.FoxProjSampleIdeal.τ).loc Cert.FoxProjSampleIdeal.main_arg8)
      ∧ r.2.mem ((c.tc : Thread Cert.FoxProjSampleIdeal.nD Cert.FoxProjSampleIdeal.τ).loc Cert.FoxProjSampleIdeal.main_arg9) = m ((c.tc : Thread Cert.FoxProjSampleIdeal.nD Cert.FoxProjSampleIdeal.τ).loc Cert.FoxProjSampleIdeal.main_arg9))
      ∧ r.2.sem = fun _ => 0)

def quiescent_FoxProjSampleReferenceIdeal [hFoxProjSampleReferenceIdeal : Cert.FoxProjSampleReferenceIdeal.Facts] : Prop :=
  ∀ (m : (ℓ : Loc Cert.FoxProjSampleReferenceIdeal.nD Cert.FoxProjSampleReferenceIdeal.τ Cert.FoxProjSampleReferenceIdeal.sig) → Buf (Elt Ideal) ℓ) (g : Dev Cert.FoxProjSampleReferenceIdeal.nD → PrngReg), Pre_FoxProjSampleReferenceIdeal m →
    θ_run (Cert.FoxProjSampleReferenceIdeal.defs (F := Ideal)) (onTc (τ := Cert.FoxProjSampleReferenceIdeal.τ) (Cert.FoxProjSampleReferenceIdeal.main (F := Ideal))) ⟨m, fun _ => 0, g⟩ (fun r => (∀ c : Dev Cert.FoxProjSampleReferenceIdeal.nD,
      r.2.mem ((c.tc : Thread Cert.FoxProjSampleReferenceIdeal.nD Cert.FoxProjSampleReferenceIdeal.τ).loc Cert.FoxProjSampleReferenceIdeal.main_arg0) = m ((c.tc : Thread Cert.FoxProjSampleReferenceIdeal.nD Cert.FoxProjSampleReferenceIdeal.τ).loc Cert.FoxProjSampleReferenceIdeal.main_arg0)
      ∧ r.2.mem ((c.tc : Thread Cert.FoxProjSampleReferenceIdeal.nD Cert.FoxProjSampleReferenceIdeal.τ).loc Cert.FoxProjSampleReferenceIdeal.main_arg1) = m ((c.tc : Thread Cert.FoxProjSampleReferenceIdeal.nD Cert.FoxProjSampleReferenceIdeal.τ).loc Cert.FoxProjSampleReferenceIdeal.main_arg1)
      ∧ r.2.mem ((c.tc : Thread Cert.FoxProjSampleReferenceIdeal.nD Cert.FoxProjSampleReferenceIdeal.τ).loc Cert.FoxProjSampleReferenceIdeal.main_arg2) = m ((c.tc : Thread Cert.FoxProjSampleReferenceIdeal.nD Cert.FoxProjSampleReferenceIdeal.τ).loc Cert.FoxProjSampleReferenceIdeal.main_arg2)
      ∧ r.2.mem ((c.tc : Thread Cert.FoxProjSampleReferenceIdeal.nD Cert.FoxProjSampleReferenceIdeal.τ).loc Cert.FoxProjSampleReferenceIdeal.main_arg3) = m ((c.tc : Thread Cert.FoxProjSampleReferenceIdeal.nD Cert.FoxProjSampleReferenceIdeal.τ).loc Cert.FoxProjSampleReferenceIdeal.main_arg3)
      ∧ r.2.mem ((c.tc : Thread Cert.FoxProjSampleReferenceIdeal.nD Cert.FoxProjSampleReferenceIdeal.τ).loc Cert.FoxProjSampleReferenceIdeal.main_arg4) = m ((c.tc : Thread Cert.FoxProjSampleReferenceIdeal.nD Cert.FoxProjSampleReferenceIdeal.τ).loc Cert.FoxProjSampleReferenceIdeal.main_arg4)
      ∧ r.2.mem ((c.tc : Thread Cert.FoxProjSampleReferenceIdeal.nD Cert.FoxProjSampleReferenceIdeal.τ).loc Cert.FoxProjSampleReferenceIdeal.main_arg5) = m ((c.tc : Thread Cert.FoxProjSampleReferenceIdeal.nD Cert.FoxProjSampleReferenceIdeal.τ).loc Cert.FoxProjSampleReferenceIdeal.main_arg5)
      ∧ r.2.mem ((c.tc : Thread Cert.FoxProjSampleReferenceIdeal.nD Cert.FoxProjSampleReferenceIdeal.τ).loc Cert.FoxProjSampleReferenceIdeal.main_arg6) = m ((c.tc : Thread Cert.FoxProjSampleReferenceIdeal.nD Cert.FoxProjSampleReferenceIdeal.τ).loc Cert.FoxProjSampleReferenceIdeal.main_arg6)
      ∧ r.2.mem ((c.tc : Thread Cert.FoxProjSampleReferenceIdeal.nD Cert.FoxProjSampleReferenceIdeal.τ).loc Cert.FoxProjSampleReferenceIdeal.main_arg7) = m ((c.tc : Thread Cert.FoxProjSampleReferenceIdeal.nD Cert.FoxProjSampleReferenceIdeal.τ).loc Cert.FoxProjSampleReferenceIdeal.main_arg7)
      ∧ r.2.mem ((c.tc : Thread Cert.FoxProjSampleReferenceIdeal.nD Cert.FoxProjSampleReferenceIdeal.τ).loc Cert.FoxProjSampleReferenceIdeal.main_arg8) = m ((c.tc : Thread Cert.FoxProjSampleReferenceIdeal.nD Cert.FoxProjSampleReferenceIdeal.τ).loc Cert.FoxProjSampleReferenceIdeal.main_arg8)
      ∧ r.2.mem ((c.tc : Thread Cert.FoxProjSampleReferenceIdeal.nD Cert.FoxProjSampleReferenceIdeal.τ).loc Cert.FoxProjSampleReferenceIdeal.main_arg9) = m ((c.tc : Thread Cert.FoxProjSampleReferenceIdeal.nD Cert.FoxProjSampleReferenceIdeal.τ).loc Cert.FoxProjSampleReferenceIdeal.main_arg9))
      ∧ r.2.sem = fun _ => 0)

def quiescent_PoolFfn [hPoolFfn : Cert.PoolFfn.Facts] : Prop :=
  ∀ (m : (ℓ : Loc Cert.PoolFfn.nD Cert.PoolFfn.τ Cert.PoolFfn.sig) → Buf (Elt Bits) ℓ) (g : Dev Cert.PoolFfn.nD → PrngReg), Pre_PoolFfn m →
    θ_run (Cert.PoolFfn.defs (F := Bits)) (onTc (τ := Cert.PoolFfn.τ) (Cert.PoolFfn.main (F := Bits))) ⟨m, fun _ => 0, g⟩ (fun r => (∀ c : Dev Cert.PoolFfn.nD,
      r.2.mem ((c.tc : Thread Cert.PoolFfn.nD Cert.PoolFfn.τ).loc Cert.PoolFfn.main_arg0) = m ((c.tc : Thread Cert.PoolFfn.nD Cert.PoolFfn.τ).loc Cert.PoolFfn.main_arg0)
      ∧ r.2.mem ((c.tc : Thread Cert.PoolFfn.nD Cert.PoolFfn.τ).loc Cert.PoolFfn.main_arg1) = m ((c.tc : Thread Cert.PoolFfn.nD Cert.PoolFfn.τ).loc Cert.PoolFfn.main_arg1)
      ∧ r.2.mem ((c.tc : Thread Cert.PoolFfn.nD Cert.PoolFfn.τ).loc Cert.PoolFfn.main_arg2) = m ((c.tc : Thread Cert.PoolFfn.nD Cert.PoolFfn.τ).loc Cert.PoolFfn.main_arg2)
      ∧ r.2.mem ((c.tc : Thread Cert.PoolFfn.nD Cert.PoolFfn.τ).loc Cert.PoolFfn.main_arg3) = m ((c.tc : Thread Cert.PoolFfn.nD Cert.PoolFfn.τ).loc Cert.PoolFfn.main_arg3)
      ∧ r.2.mem ((c.tc : Thread Cert.PoolFfn.nD Cert.PoolFfn.τ).loc Cert.PoolFfn.main_arg4) = m ((c.tc : Thread Cert.PoolFfn.nD Cert.PoolFfn.τ).loc Cert.PoolFfn.main_arg4)
      ∧ r.2.mem ((c.tc : Thread Cert.PoolFfn.nD Cert.PoolFfn.τ).loc Cert.PoolFfn.main_arg5) = m ((c.tc : Thread Cert.PoolFfn.nD Cert.PoolFfn.τ).loc Cert.PoolFfn.main_arg5)
      ∧ r.2.mem ((c.tc : Thread Cert.PoolFfn.nD Cert.PoolFfn.τ).loc Cert.PoolFfn.main_arg6) = m ((c.tc : Thread Cert.PoolFfn.nD Cert.PoolFfn.τ).loc Cert.PoolFfn.main_arg6)
      ∧ r.2.mem ((c.tc : Thread Cert.PoolFfn.nD Cert.PoolFfn.τ).loc Cert.PoolFfn.main_arg7) = m ((c.tc : Thread Cert.PoolFfn.nD Cert.PoolFfn.τ).loc Cert.PoolFfn.main_arg7)
      ∧ r.2.mem ((c.tc : Thread Cert.PoolFfn.nD Cert.PoolFfn.τ).loc Cert.PoolFfn.main_arg8) = m ((c.tc : Thread Cert.PoolFfn.nD Cert.PoolFfn.τ).loc Cert.PoolFfn.main_arg8))
      ∧ r.2.sem = fun _ => 0)

def quiescent_PoolFfnIdeal [hPoolFfnIdeal : Cert.PoolFfnIdeal.Facts] : Prop :=
  ∀ (m : (ℓ : Loc Cert.PoolFfnIdeal.nD Cert.PoolFfnIdeal.τ Cert.PoolFfnIdeal.sig) → Buf (Elt Ideal) ℓ) (g : Dev Cert.PoolFfnIdeal.nD → PrngReg), Pre_PoolFfnIdeal m →
    θ_run (Cert.PoolFfnIdeal.defs (F := Ideal)) (onTc (τ := Cert.PoolFfnIdeal.τ) (Cert.PoolFfnIdeal.main (F := Ideal))) ⟨m, fun _ => 0, g⟩ (fun r => (∀ c : Dev Cert.PoolFfnIdeal.nD,
      r.2.mem ((c.tc : Thread Cert.PoolFfnIdeal.nD Cert.PoolFfnIdeal.τ).loc Cert.PoolFfnIdeal.main_arg0) = m ((c.tc : Thread Cert.PoolFfnIdeal.nD Cert.PoolFfnIdeal.τ).loc Cert.PoolFfnIdeal.main_arg0)
      ∧ r.2.mem ((c.tc : Thread Cert.PoolFfnIdeal.nD Cert.PoolFfnIdeal.τ).loc Cert.PoolFfnIdeal.main_arg1) = m ((c.tc : Thread Cert.PoolFfnIdeal.nD Cert.PoolFfnIdeal.τ).loc Cert.PoolFfnIdeal.main_arg1)
      ∧ r.2.mem ((c.tc : Thread Cert.PoolFfnIdeal.nD Cert.PoolFfnIdeal.τ).loc Cert.PoolFfnIdeal.main_arg2) = m ((c.tc : Thread Cert.PoolFfnIdeal.nD Cert.PoolFfnIdeal.τ).loc Cert.PoolFfnIdeal.main_arg2)
      ∧ r.2.mem ((c.tc : Thread Cert.PoolFfnIdeal.nD Cert.PoolFfnIdeal.τ).loc Cert.PoolFfnIdeal.main_arg3) = m ((c.tc : Thread Cert.PoolFfnIdeal.nD Cert.PoolFfnIdeal.τ).loc Cert.PoolFfnIdeal.main_arg3)
      ∧ r.2.mem ((c.tc : Thread Cert.PoolFfnIdeal.nD Cert.PoolFfnIdeal.τ).loc Cert.PoolFfnIdeal.main_arg4) = m ((c.tc : Thread Cert.PoolFfnIdeal.nD Cert.PoolFfnIdeal.τ).loc Cert.PoolFfnIdeal.main_arg4)
      ∧ r.2.mem ((c.tc : Thread Cert.PoolFfnIdeal.nD Cert.PoolFfnIdeal.τ).loc Cert.PoolFfnIdeal.main_arg5) = m ((c.tc : Thread Cert.PoolFfnIdeal.nD Cert.PoolFfnIdeal.τ).loc Cert.PoolFfnIdeal.main_arg5)
      ∧ r.2.mem ((c.tc : Thread Cert.PoolFfnIdeal.nD Cert.PoolFfnIdeal.τ).loc Cert.PoolFfnIdeal.main_arg6) = m ((c.tc : Thread Cert.PoolFfnIdeal.nD Cert.PoolFfnIdeal.τ).loc Cert.PoolFfnIdeal.main_arg6)
      ∧ r.2.mem ((c.tc : Thread Cert.PoolFfnIdeal.nD Cert.PoolFfnIdeal.τ).loc Cert.PoolFfnIdeal.main_arg7) = m ((c.tc : Thread Cert.PoolFfnIdeal.nD Cert.PoolFfnIdeal.τ).loc Cert.PoolFfnIdeal.main_arg7)
      ∧ r.2.mem ((c.tc : Thread Cert.PoolFfnIdeal.nD Cert.PoolFfnIdeal.τ).loc Cert.PoolFfnIdeal.main_arg8) = m ((c.tc : Thread Cert.PoolFfnIdeal.nD Cert.PoolFfnIdeal.τ).loc Cert.PoolFfnIdeal.main_arg8))
      ∧ r.2.sem = fun _ => 0)

def quiescent_PoolFfnIdeal_pre_finite_gains [hPoolFfnIdeal : Cert.PoolFfnIdeal.Facts] [hPre_finite_gains : Cert.Pre_finite_gains.Facts] : Prop :=
  ∀ (m : (ℓ : Loc Cert.PoolFfnIdeal.nD Cert.PoolFfnIdeal.τ Cert.PoolFfnIdeal.sig) → Buf (Elt Ideal) ℓ) (g : Dev Cert.PoolFfnIdeal.nD → PrngReg), Pre_PoolFfnIdeal_finite_gains m →
    θ_run (Cert.PoolFfnIdeal.defs (F := Ideal)) (onTc (τ := Cert.PoolFfnIdeal.τ) (Cert.PoolFfnIdeal.main (F := Ideal))) ⟨m, fun _ => 0, g⟩ (fun r => (∀ c : Dev Cert.PoolFfnIdeal.nD,
      r.2.mem ((c.tc : Thread Cert.PoolFfnIdeal.nD Cert.PoolFfnIdeal.τ).loc Cert.PoolFfnIdeal.main_arg0) = m ((c.tc : Thread Cert.PoolFfnIdeal.nD Cert.PoolFfnIdeal.τ).loc Cert.PoolFfnIdeal.main_arg0)
      ∧ r.2.mem ((c.tc : Thread Cert.PoolFfnIdeal.nD Cert.PoolFfnIdeal.τ).loc Cert.PoolFfnIdeal.main_arg1) = m ((c.tc : Thread Cert.PoolFfnIdeal.nD Cert.PoolFfnIdeal.τ).loc Cert.PoolFfnIdeal.main_arg1)
      ∧ r.2.mem ((c.tc : Thread Cert.PoolFfnIdeal.nD Cert.PoolFfnIdeal.τ).loc Cert.PoolFfnIdeal.main_arg2) = m ((c.tc : Thread Cert.PoolFfnIdeal.nD Cert.PoolFfnIdeal.τ).loc Cert.PoolFfnIdeal.main_arg2)
      ∧ r.2.mem ((c.tc : Thread Cert.PoolFfnIdeal.nD Cert.PoolFfnIdeal.τ).loc Cert.PoolFfnIdeal.main_arg3) = m ((c.tc : Thread Cert.PoolFfnIdeal.nD Cert.PoolFfnIdeal.τ).loc Cert.PoolFfnIdeal.main_arg3)
      ∧ r.2.mem ((c.tc : Thread Cert.PoolFfnIdeal.nD Cert.PoolFfnIdeal.τ).loc Cert.PoolFfnIdeal.main_arg4) = m ((c.tc : Thread Cert.PoolFfnIdeal.nD Cert.PoolFfnIdeal.τ).loc Cert.PoolFfnIdeal.main_arg4)
      ∧ r.2.mem ((c.tc : Thread Cert.PoolFfnIdeal.nD Cert.PoolFfnIdeal.τ).loc Cert.PoolFfnIdeal.main_arg5) = m ((c.tc : Thread Cert.PoolFfnIdeal.nD Cert.PoolFfnIdeal.τ).loc Cert.PoolFfnIdeal.main_arg5)
      ∧ r.2.mem ((c.tc : Thread Cert.PoolFfnIdeal.nD Cert.PoolFfnIdeal.τ).loc Cert.PoolFfnIdeal.main_arg6) = m ((c.tc : Thread Cert.PoolFfnIdeal.nD Cert.PoolFfnIdeal.τ).loc Cert.PoolFfnIdeal.main_arg6)
      ∧ r.2.mem ((c.tc : Thread Cert.PoolFfnIdeal.nD Cert.PoolFfnIdeal.τ).loc Cert.PoolFfnIdeal.main_arg7) = m ((c.tc : Thread Cert.PoolFfnIdeal.nD Cert.PoolFfnIdeal.τ).loc Cert.PoolFfnIdeal.main_arg7)
      ∧ r.2.mem ((c.tc : Thread Cert.PoolFfnIdeal.nD Cert.PoolFfnIdeal.τ).loc Cert.PoolFfnIdeal.main_arg8) = m ((c.tc : Thread Cert.PoolFfnIdeal.nD Cert.PoolFfnIdeal.τ).loc Cert.PoolFfnIdeal.main_arg8))
      ∧ r.2.sem = fun _ => 0)

def quiescent_PoolFfnReferenceIdeal [hPoolFfnReferenceIdeal : Cert.PoolFfnReferenceIdeal.Facts] : Prop :=
  ∀ (m : (ℓ : Loc Cert.PoolFfnReferenceIdeal.nD Cert.PoolFfnReferenceIdeal.τ Cert.PoolFfnReferenceIdeal.sig) → Buf (Elt Ideal) ℓ) (g : Dev Cert.PoolFfnReferenceIdeal.nD → PrngReg), Pre_PoolFfnReferenceIdeal m →
    θ_run (Cert.PoolFfnReferenceIdeal.defs (F := Ideal)) (onTc (τ := Cert.PoolFfnReferenceIdeal.τ) (Cert.PoolFfnReferenceIdeal.main (F := Ideal))) ⟨m, fun _ => 0, g⟩ (fun r => (∀ c : Dev Cert.PoolFfnReferenceIdeal.nD,
      r.2.mem ((c.tc : Thread Cert.PoolFfnReferenceIdeal.nD Cert.PoolFfnReferenceIdeal.τ).loc Cert.PoolFfnReferenceIdeal.main_arg0) = m ((c.tc : Thread Cert.PoolFfnReferenceIdeal.nD Cert.PoolFfnReferenceIdeal.τ).loc Cert.PoolFfnReferenceIdeal.main_arg0)
      ∧ r.2.mem ((c.tc : Thread Cert.PoolFfnReferenceIdeal.nD Cert.PoolFfnReferenceIdeal.τ).loc Cert.PoolFfnReferenceIdeal.main_arg1) = m ((c.tc : Thread Cert.PoolFfnReferenceIdeal.nD Cert.PoolFfnReferenceIdeal.τ).loc Cert.PoolFfnReferenceIdeal.main_arg1)
      ∧ r.2.mem ((c.tc : Thread Cert.PoolFfnReferenceIdeal.nD Cert.PoolFfnReferenceIdeal.τ).loc Cert.PoolFfnReferenceIdeal.main_arg2) = m ((c.tc : Thread Cert.PoolFfnReferenceIdeal.nD Cert.PoolFfnReferenceIdeal.τ).loc Cert.PoolFfnReferenceIdeal.main_arg2)
      ∧ r.2.mem ((c.tc : Thread Cert.PoolFfnReferenceIdeal.nD Cert.PoolFfnReferenceIdeal.τ).loc Cert.PoolFfnReferenceIdeal.main_arg3) = m ((c.tc : Thread Cert.PoolFfnReferenceIdeal.nD Cert.PoolFfnReferenceIdeal.τ).loc Cert.PoolFfnReferenceIdeal.main_arg3)
      ∧ r.2.mem ((c.tc : Thread Cert.PoolFfnReferenceIdeal.nD Cert.PoolFfnReferenceIdeal.τ).loc Cert.PoolFfnReferenceIdeal.main_arg4) = m ((c.tc : Thread Cert.PoolFfnReferenceIdeal.nD Cert.PoolFfnReferenceIdeal.τ).loc Cert.PoolFfnReferenceIdeal.main_arg4)
      ∧ r.2.mem ((c.tc : Thread Cert.PoolFfnReferenceIdeal.nD Cert.PoolFfnReferenceIdeal.τ).loc Cert.PoolFfnReferenceIdeal.main_arg5) = m ((c.tc : Thread Cert.PoolFfnReferenceIdeal.nD Cert.PoolFfnReferenceIdeal.τ).loc Cert.PoolFfnReferenceIdeal.main_arg5)
      ∧ r.2.mem ((c.tc : Thread Cert.PoolFfnReferenceIdeal.nD Cert.PoolFfnReferenceIdeal.τ).loc Cert.PoolFfnReferenceIdeal.main_arg6) = m ((c.tc : Thread Cert.PoolFfnReferenceIdeal.nD Cert.PoolFfnReferenceIdeal.τ).loc Cert.PoolFfnReferenceIdeal.main_arg6)
      ∧ r.2.mem ((c.tc : Thread Cert.PoolFfnReferenceIdeal.nD Cert.PoolFfnReferenceIdeal.τ).loc Cert.PoolFfnReferenceIdeal.main_arg7) = m ((c.tc : Thread Cert.PoolFfnReferenceIdeal.nD Cert.PoolFfnReferenceIdeal.τ).loc Cert.PoolFfnReferenceIdeal.main_arg7)
      ∧ r.2.mem ((c.tc : Thread Cert.PoolFfnReferenceIdeal.nD Cert.PoolFfnReferenceIdeal.τ).loc Cert.PoolFfnReferenceIdeal.main_arg8) = m ((c.tc : Thread Cert.PoolFfnReferenceIdeal.nD Cert.PoolFfnReferenceIdeal.τ).loc Cert.PoolFfnReferenceIdeal.main_arg8))
      ∧ r.2.sem = fun _ => 0)

def quiescent_PoolFfnReferenceIdeal_pre_finite_gains [hPoolFfnReferenceIdeal : Cert.PoolFfnReferenceIdeal.Facts] [hPre_finite_gains : Cert.Pre_finite_gains.Facts] : Prop :=
  ∀ (m : (ℓ : Loc Cert.PoolFfnReferenceIdeal.nD Cert.PoolFfnReferenceIdeal.τ Cert.PoolFfnReferenceIdeal.sig) → Buf (Elt Ideal) ℓ) (g : Dev Cert.PoolFfnReferenceIdeal.nD → PrngReg), Pre_PoolFfnReferenceIdeal_finite_gains m →
    θ_run (Cert.PoolFfnReferenceIdeal.defs (F := Ideal)) (onTc (τ := Cert.PoolFfnReferenceIdeal.τ) (Cert.PoolFfnReferenceIdeal.main (F := Ideal))) ⟨m, fun _ => 0, g⟩ (fun r => (∀ c : Dev Cert.PoolFfnReferenceIdeal.nD,
      r.2.mem ((c.tc : Thread Cert.PoolFfnReferenceIdeal.nD Cert.PoolFfnReferenceIdeal.τ).loc Cert.PoolFfnReferenceIdeal.main_arg0) = m ((c.tc : Thread Cert.PoolFfnReferenceIdeal.nD Cert.PoolFfnReferenceIdeal.τ).loc Cert.PoolFfnReferenceIdeal.main_arg0)
      ∧ r.2.mem ((c.tc : Thread Cert.PoolFfnReferenceIdeal.nD Cert.PoolFfnReferenceIdeal.τ).loc Cert.PoolFfnReferenceIdeal.main_arg1) = m ((c.tc : Thread Cert.PoolFfnReferenceIdeal.nD Cert.PoolFfnReferenceIdeal.τ).loc Cert.PoolFfnReferenceIdeal.main_arg1)
      ∧ r.2.mem ((c.tc : Thread Cert.PoolFfnReferenceIdeal.nD Cert.PoolFfnReferenceIdeal.τ).loc Cert.PoolFfnReferenceIdeal.main_arg2) = m ((c.tc : Thread Cert.PoolFfnReferenceIdeal.nD Cert.PoolFfnReferenceIdeal.τ).loc Cert.PoolFfnReferenceIdeal.main_arg2)
      ∧ r.2.mem ((c.tc : Thread Cert.PoolFfnReferenceIdeal.nD Cert.PoolFfnReferenceIdeal.τ).loc Cert.PoolFfnReferenceIdeal.main_arg3) = m ((c.tc : Thread Cert.PoolFfnReferenceIdeal.nD Cert.PoolFfnReferenceIdeal.τ).loc Cert.PoolFfnReferenceIdeal.main_arg3)
      ∧ r.2.mem ((c.tc : Thread Cert.PoolFfnReferenceIdeal.nD Cert.PoolFfnReferenceIdeal.τ).loc Cert.PoolFfnReferenceIdeal.main_arg4) = m ((c.tc : Thread Cert.PoolFfnReferenceIdeal.nD Cert.PoolFfnReferenceIdeal.τ).loc Cert.PoolFfnReferenceIdeal.main_arg4)
      ∧ r.2.mem ((c.tc : Thread Cert.PoolFfnReferenceIdeal.nD Cert.PoolFfnReferenceIdeal.τ).loc Cert.PoolFfnReferenceIdeal.main_arg5) = m ((c.tc : Thread Cert.PoolFfnReferenceIdeal.nD Cert.PoolFfnReferenceIdeal.τ).loc Cert.PoolFfnReferenceIdeal.main_arg5)
      ∧ r.2.mem ((c.tc : Thread Cert.PoolFfnReferenceIdeal.nD Cert.PoolFfnReferenceIdeal.τ).loc Cert.PoolFfnReferenceIdeal.main_arg6) = m ((c.tc : Thread Cert.PoolFfnReferenceIdeal.nD Cert.PoolFfnReferenceIdeal.τ).loc Cert.PoolFfnReferenceIdeal.main_arg6)
      ∧ r.2.mem ((c.tc : Thread Cert.PoolFfnReferenceIdeal.nD Cert.PoolFfnReferenceIdeal.τ).loc Cert.PoolFfnReferenceIdeal.main_arg7) = m ((c.tc : Thread Cert.PoolFfnReferenceIdeal.nD Cert.PoolFfnReferenceIdeal.τ).loc Cert.PoolFfnReferenceIdeal.main_arg7)
      ∧ r.2.mem ((c.tc : Thread Cert.PoolFfnReferenceIdeal.nD Cert.PoolFfnReferenceIdeal.τ).loc Cert.PoolFfnReferenceIdeal.main_arg8) = m ((c.tc : Thread Cert.PoolFfnReferenceIdeal.nD Cert.PoolFfnReferenceIdeal.τ).loc Cert.PoolFfnReferenceIdeal.main_arg8))
      ∧ r.2.sem = fun _ => 0)

def quiescent_PoolSample [hPoolSample : Cert.PoolSample.Facts] : Prop :=
  ∀ (m : (ℓ : Loc Cert.PoolSample.nD Cert.PoolSample.τ Cert.PoolSample.sig) → Buf (Elt Bits) ℓ) (g : Dev Cert.PoolSample.nD → PrngReg), Pre_PoolSample m →
    θ_run (Cert.PoolSample.defs (F := Bits)) (onTc (τ := Cert.PoolSample.τ) (Cert.PoolSample.main (F := Bits))) ⟨m, fun _ => 0, g⟩ (fun r => (∀ c : Dev Cert.PoolSample.nD,
      r.2.mem ((c.tc : Thread Cert.PoolSample.nD Cert.PoolSample.τ).loc Cert.PoolSample.main_arg0) = m ((c.tc : Thread Cert.PoolSample.nD Cert.PoolSample.τ).loc Cert.PoolSample.main_arg0)
      ∧ r.2.mem ((c.tc : Thread Cert.PoolSample.nD Cert.PoolSample.τ).loc Cert.PoolSample.main_arg1) = m ((c.tc : Thread Cert.PoolSample.nD Cert.PoolSample.τ).loc Cert.PoolSample.main_arg1)
      ∧ r.2.mem ((c.tc : Thread Cert.PoolSample.nD Cert.PoolSample.τ).loc Cert.PoolSample.main_arg2) = m ((c.tc : Thread Cert.PoolSample.nD Cert.PoolSample.τ).loc Cert.PoolSample.main_arg2)
      ∧ r.2.mem ((c.tc : Thread Cert.PoolSample.nD Cert.PoolSample.τ).loc Cert.PoolSample.main_arg3) = m ((c.tc : Thread Cert.PoolSample.nD Cert.PoolSample.τ).loc Cert.PoolSample.main_arg3)
      ∧ r.2.mem ((c.tc : Thread Cert.PoolSample.nD Cert.PoolSample.τ).loc Cert.PoolSample.main_arg4) = m ((c.tc : Thread Cert.PoolSample.nD Cert.PoolSample.τ).loc Cert.PoolSample.main_arg4)
      ∧ r.2.mem ((c.tc : Thread Cert.PoolSample.nD Cert.PoolSample.τ).loc Cert.PoolSample.main_arg5) = m ((c.tc : Thread Cert.PoolSample.nD Cert.PoolSample.τ).loc Cert.PoolSample.main_arg5)
      ∧ r.2.mem ((c.tc : Thread Cert.PoolSample.nD Cert.PoolSample.τ).loc Cert.PoolSample.main_arg6) = m ((c.tc : Thread Cert.PoolSample.nD Cert.PoolSample.τ).loc Cert.PoolSample.main_arg6)
      ∧ r.2.mem ((c.tc : Thread Cert.PoolSample.nD Cert.PoolSample.τ).loc Cert.PoolSample.main_arg7) = m ((c.tc : Thread Cert.PoolSample.nD Cert.PoolSample.τ).loc Cert.PoolSample.main_arg7)
      ∧ r.2.mem ((c.tc : Thread Cert.PoolSample.nD Cert.PoolSample.τ).loc Cert.PoolSample.main_arg8) = m ((c.tc : Thread Cert.PoolSample.nD Cert.PoolSample.τ).loc Cert.PoolSample.main_arg8)
      ∧ r.2.mem ((c.tc : Thread Cert.PoolSample.nD Cert.PoolSample.τ).loc Cert.PoolSample.main_arg9) = m ((c.tc : Thread Cert.PoolSample.nD Cert.PoolSample.τ).loc Cert.PoolSample.main_arg9))
      ∧ r.2.sem = fun _ => 0)

def quiescent_PoolSampleIdeal [hPoolSampleIdeal : Cert.PoolSampleIdeal.Facts] : Prop :=
  ∀ (m : (ℓ : Loc Cert.PoolSampleIdeal.nD Cert.PoolSampleIdeal.τ Cert.PoolSampleIdeal.sig) → Buf (Elt Ideal) ℓ) (g : Dev Cert.PoolSampleIdeal.nD → PrngReg), Pre_PoolSampleIdeal m →
    θ_run (Cert.PoolSampleIdeal.defs (F := Ideal)) (onTc (τ := Cert.PoolSampleIdeal.τ) (Cert.PoolSampleIdeal.main (F := Ideal))) ⟨m, fun _ => 0, g⟩ (fun r => (∀ c : Dev Cert.PoolSampleIdeal.nD,
      r.2.mem ((c.tc : Thread Cert.PoolSampleIdeal.nD Cert.PoolSampleIdeal.τ).loc Cert.PoolSampleIdeal.main_arg0) = m ((c.tc : Thread Cert.PoolSampleIdeal.nD Cert.PoolSampleIdeal.τ).loc Cert.PoolSampleIdeal.main_arg0)
      ∧ r.2.mem ((c.tc : Thread Cert.PoolSampleIdeal.nD Cert.PoolSampleIdeal.τ).loc Cert.PoolSampleIdeal.main_arg1) = m ((c.tc : Thread Cert.PoolSampleIdeal.nD Cert.PoolSampleIdeal.τ).loc Cert.PoolSampleIdeal.main_arg1)
      ∧ r.2.mem ((c.tc : Thread Cert.PoolSampleIdeal.nD Cert.PoolSampleIdeal.τ).loc Cert.PoolSampleIdeal.main_arg2) = m ((c.tc : Thread Cert.PoolSampleIdeal.nD Cert.PoolSampleIdeal.τ).loc Cert.PoolSampleIdeal.main_arg2)
      ∧ r.2.mem ((c.tc : Thread Cert.PoolSampleIdeal.nD Cert.PoolSampleIdeal.τ).loc Cert.PoolSampleIdeal.main_arg3) = m ((c.tc : Thread Cert.PoolSampleIdeal.nD Cert.PoolSampleIdeal.τ).loc Cert.PoolSampleIdeal.main_arg3)
      ∧ r.2.mem ((c.tc : Thread Cert.PoolSampleIdeal.nD Cert.PoolSampleIdeal.τ).loc Cert.PoolSampleIdeal.main_arg4) = m ((c.tc : Thread Cert.PoolSampleIdeal.nD Cert.PoolSampleIdeal.τ).loc Cert.PoolSampleIdeal.main_arg4)
      ∧ r.2.mem ((c.tc : Thread Cert.PoolSampleIdeal.nD Cert.PoolSampleIdeal.τ).loc Cert.PoolSampleIdeal.main_arg5) = m ((c.tc : Thread Cert.PoolSampleIdeal.nD Cert.PoolSampleIdeal.τ).loc Cert.PoolSampleIdeal.main_arg5)
      ∧ r.2.mem ((c.tc : Thread Cert.PoolSampleIdeal.nD Cert.PoolSampleIdeal.τ).loc Cert.PoolSampleIdeal.main_arg6) = m ((c.tc : Thread Cert.PoolSampleIdeal.nD Cert.PoolSampleIdeal.τ).loc Cert.PoolSampleIdeal.main_arg6)
      ∧ r.2.mem ((c.tc : Thread Cert.PoolSampleIdeal.nD Cert.PoolSampleIdeal.τ).loc Cert.PoolSampleIdeal.main_arg7) = m ((c.tc : Thread Cert.PoolSampleIdeal.nD Cert.PoolSampleIdeal.τ).loc Cert.PoolSampleIdeal.main_arg7)
      ∧ r.2.mem ((c.tc : Thread Cert.PoolSampleIdeal.nD Cert.PoolSampleIdeal.τ).loc Cert.PoolSampleIdeal.main_arg8) = m ((c.tc : Thread Cert.PoolSampleIdeal.nD Cert.PoolSampleIdeal.τ).loc Cert.PoolSampleIdeal.main_arg8)
      ∧ r.2.mem ((c.tc : Thread Cert.PoolSampleIdeal.nD Cert.PoolSampleIdeal.τ).loc Cert.PoolSampleIdeal.main_arg9) = m ((c.tc : Thread Cert.PoolSampleIdeal.nD Cert.PoolSampleIdeal.τ).loc Cert.PoolSampleIdeal.main_arg9))
      ∧ r.2.sem = fun _ => 0)

def quiescent_PoolSampleReferenceIdeal [hPoolSampleReferenceIdeal : Cert.PoolSampleReferenceIdeal.Facts] : Prop :=
  ∀ (m : (ℓ : Loc Cert.PoolSampleReferenceIdeal.nD Cert.PoolSampleReferenceIdeal.τ Cert.PoolSampleReferenceIdeal.sig) → Buf (Elt Ideal) ℓ) (g : Dev Cert.PoolSampleReferenceIdeal.nD → PrngReg), Pre_PoolSampleReferenceIdeal m →
    θ_run (Cert.PoolSampleReferenceIdeal.defs (F := Ideal)) (onTc (τ := Cert.PoolSampleReferenceIdeal.τ) (Cert.PoolSampleReferenceIdeal.main (F := Ideal))) ⟨m, fun _ => 0, g⟩ (fun r => (∀ c : Dev Cert.PoolSampleReferenceIdeal.nD,
      r.2.mem ((c.tc : Thread Cert.PoolSampleReferenceIdeal.nD Cert.PoolSampleReferenceIdeal.τ).loc Cert.PoolSampleReferenceIdeal.main_arg0) = m ((c.tc : Thread Cert.PoolSampleReferenceIdeal.nD Cert.PoolSampleReferenceIdeal.τ).loc Cert.PoolSampleReferenceIdeal.main_arg0)
      ∧ r.2.mem ((c.tc : Thread Cert.PoolSampleReferenceIdeal.nD Cert.PoolSampleReferenceIdeal.τ).loc Cert.PoolSampleReferenceIdeal.main_arg1) = m ((c.tc : Thread Cert.PoolSampleReferenceIdeal.nD Cert.PoolSampleReferenceIdeal.τ).loc Cert.PoolSampleReferenceIdeal.main_arg1)
      ∧ r.2.mem ((c.tc : Thread Cert.PoolSampleReferenceIdeal.nD Cert.PoolSampleReferenceIdeal.τ).loc Cert.PoolSampleReferenceIdeal.main_arg2) = m ((c.tc : Thread Cert.PoolSampleReferenceIdeal.nD Cert.PoolSampleReferenceIdeal.τ).loc Cert.PoolSampleReferenceIdeal.main_arg2)
      ∧ r.2.mem ((c.tc : Thread Cert.PoolSampleReferenceIdeal.nD Cert.PoolSampleReferenceIdeal.τ).loc Cert.PoolSampleReferenceIdeal.main_arg3) = m ((c.tc : Thread Cert.PoolSampleReferenceIdeal.nD Cert.PoolSampleReferenceIdeal.τ).loc Cert.PoolSampleReferenceIdeal.main_arg3)
      ∧ r.2.mem ((c.tc : Thread Cert.PoolSampleReferenceIdeal.nD Cert.PoolSampleReferenceIdeal.τ).loc Cert.PoolSampleReferenceIdeal.main_arg4) = m ((c.tc : Thread Cert.PoolSampleReferenceIdeal.nD Cert.PoolSampleReferenceIdeal.τ).loc Cert.PoolSampleReferenceIdeal.main_arg4)
      ∧ r.2.mem ((c.tc : Thread Cert.PoolSampleReferenceIdeal.nD Cert.PoolSampleReferenceIdeal.τ).loc Cert.PoolSampleReferenceIdeal.main_arg5) = m ((c.tc : Thread Cert.PoolSampleReferenceIdeal.nD Cert.PoolSampleReferenceIdeal.τ).loc Cert.PoolSampleReferenceIdeal.main_arg5)
      ∧ r.2.mem ((c.tc : Thread Cert.PoolSampleReferenceIdeal.nD Cert.PoolSampleReferenceIdeal.τ).loc Cert.PoolSampleReferenceIdeal.main_arg6) = m ((c.tc : Thread Cert.PoolSampleReferenceIdeal.nD Cert.PoolSampleReferenceIdeal.τ).loc Cert.PoolSampleReferenceIdeal.main_arg6)
      ∧ r.2.mem ((c.tc : Thread Cert.PoolSampleReferenceIdeal.nD Cert.PoolSampleReferenceIdeal.τ).loc Cert.PoolSampleReferenceIdeal.main_arg7) = m ((c.tc : Thread Cert.PoolSampleReferenceIdeal.nD Cert.PoolSampleReferenceIdeal.τ).loc Cert.PoolSampleReferenceIdeal.main_arg7)
      ∧ r.2.mem ((c.tc : Thread Cert.PoolSampleReferenceIdeal.nD Cert.PoolSampleReferenceIdeal.τ).loc Cert.PoolSampleReferenceIdeal.main_arg8) = m ((c.tc : Thread Cert.PoolSampleReferenceIdeal.nD Cert.PoolSampleReferenceIdeal.τ).loc Cert.PoolSampleReferenceIdeal.main_arg8)
      ∧ r.2.mem ((c.tc : Thread Cert.PoolSampleReferenceIdeal.nD Cert.PoolSampleReferenceIdeal.τ).loc Cert.PoolSampleReferenceIdeal.main_arg9) = m ((c.tc : Thread Cert.PoolSampleReferenceIdeal.nD Cert.PoolSampleReferenceIdeal.τ).loc Cert.PoolSampleReferenceIdeal.main_arg9))
      ∧ r.2.sem = fun _ => 0)

def preserves_GlaDecode_GlaDecodeIdeal : Prop :=
  True

def algebraic_GlaDecodeIdeal_GlaDecodeReferenceIdeal_pre_finite_qkg [hGlaDecodeIdeal : Cert.GlaDecodeIdeal.Facts] [hGlaDecodeReferenceIdeal : Cert.GlaDecodeReferenceIdeal.Facts] [hPre_finite_qkg : Cert.Pre_finite_qkg.Facts] : Prop :=
  ∀ (m : (ℓ : Loc Cert.GlaDecodeIdeal.nD Cert.GlaDecodeIdeal.τ Cert.GlaDecodeIdeal.sig) → Buf (Elt Ideal) ℓ) (g : Dev Cert.GlaDecodeIdeal.nD → PrngReg)
    (m' : (ℓ : Loc Cert.GlaDecodeReferenceIdeal.nD Cert.GlaDecodeReferenceIdeal.τ Cert.GlaDecodeReferenceIdeal.sig) → Buf (Elt Ideal) ℓ) (g' : Dev Cert.GlaDecodeReferenceIdeal.nD → PrngReg), Pre_GlaDecodeIdeal_finite_qkg m →
    (∀ c : Dev Cert.GlaDecodeIdeal.nD,
      m' ((c.tc : Thread Cert.GlaDecodeReferenceIdeal.nD Cert.GlaDecodeReferenceIdeal.τ).loc Cert.GlaDecodeReferenceIdeal.main_arg0) = m ((c.tc : Thread Cert.GlaDecodeIdeal.nD Cert.GlaDecodeIdeal.τ).loc Cert.GlaDecodeIdeal.main_arg0)
      ∧ m' ((c.tc : Thread Cert.GlaDecodeReferenceIdeal.nD Cert.GlaDecodeReferenceIdeal.τ).loc Cert.GlaDecodeReferenceIdeal.main_arg1) = m ((c.tc : Thread Cert.GlaDecodeIdeal.nD Cert.GlaDecodeIdeal.τ).loc Cert.GlaDecodeIdeal.main_arg1)
      ∧ m' ((c.tc : Thread Cert.GlaDecodeReferenceIdeal.nD Cert.GlaDecodeReferenceIdeal.τ).loc Cert.GlaDecodeReferenceIdeal.main_arg2) = m ((c.tc : Thread Cert.GlaDecodeIdeal.nD Cert.GlaDecodeIdeal.τ).loc Cert.GlaDecodeIdeal.main_arg2)
      ∧ m' ((c.tc : Thread Cert.GlaDecodeReferenceIdeal.nD Cert.GlaDecodeReferenceIdeal.τ).loc Cert.GlaDecodeReferenceIdeal.main_arg3) = m ((c.tc : Thread Cert.GlaDecodeIdeal.nD Cert.GlaDecodeIdeal.τ).loc Cert.GlaDecodeIdeal.main_arg3)
      ∧ m' ((c.tc : Thread Cert.GlaDecodeReferenceIdeal.nD Cert.GlaDecodeReferenceIdeal.τ).loc Cert.GlaDecodeReferenceIdeal.main_arg4) = m ((c.tc : Thread Cert.GlaDecodeIdeal.nD Cert.GlaDecodeIdeal.τ).loc Cert.GlaDecodeIdeal.main_arg4)
      ∧ m' ((c.tc : Thread Cert.GlaDecodeReferenceIdeal.nD Cert.GlaDecodeReferenceIdeal.τ).loc Cert.GlaDecodeReferenceIdeal.main_arg5) = m ((c.tc : Thread Cert.GlaDecodeIdeal.nD Cert.GlaDecodeIdeal.τ).loc Cert.GlaDecodeIdeal.main_arg5)
      ∧ m' ((c.tc : Thread Cert.GlaDecodeReferenceIdeal.nD Cert.GlaDecodeReferenceIdeal.τ).loc Cert.GlaDecodeReferenceIdeal.main_arg6) = m ((c.tc : Thread Cert.GlaDecodeIdeal.nD Cert.GlaDecodeIdeal.τ).loc Cert.GlaDecodeIdeal.main_arg6)) →
    ∃ (v0 : (c : Dev Cert.GlaDecodeIdeal.nD) → Buf (Elt Ideal) ((c.tc : Thread Cert.GlaDecodeIdeal.nD Cert.GlaDecodeIdeal.τ).loc Cert.GlaDecodeIdeal.main_v0_0)) (v1 : (c : Dev Cert.GlaDecodeIdeal.nD) → Buf (Elt Ideal) ((c.tc : Thread Cert.GlaDecodeIdeal.nD Cert.GlaDecodeIdeal.τ).loc Cert.GlaDecodeIdeal.main_v0_1)),
      θ_run (Cert.GlaDecodeIdeal.defs (F := Ideal)) (onTc (τ := Cert.GlaDecodeIdeal.τ) (Cert.GlaDecodeIdeal.main (F := Ideal))) ⟨m, fun _ => 0, g⟩ (fun r => ∀ c : Dev Cert.GlaDecodeIdeal.nD,
          r.2.mem ((c.tc : Thread Cert.GlaDecodeIdeal.nD Cert.GlaDecodeIdeal.τ).loc Cert.GlaDecodeIdeal.main_v0_0) = v0 c
          ∧ r.2.mem ((c.tc : Thread Cert.GlaDecodeIdeal.nD Cert.GlaDecodeIdeal.τ).loc Cert.GlaDecodeIdeal.main_v0_1) = v1 c
          ∧ r.2.mem ((c.tc : Thread Cert.GlaDecodeIdeal.nD Cert.GlaDecodeIdeal.τ).loc Cert.GlaDecodeIdeal.main_arg0) = m ((c.tc : Thread Cert.GlaDecodeIdeal.nD Cert.GlaDecodeIdeal.τ).loc Cert.GlaDecodeIdeal.main_arg0)
          ∧ r.2.mem ((c.tc : Thread Cert.GlaDecodeIdeal.nD Cert.GlaDecodeIdeal.τ).loc Cert.GlaDecodeIdeal.main_arg1) = m ((c.tc : Thread Cert.GlaDecodeIdeal.nD Cert.GlaDecodeIdeal.τ).loc Cert.GlaDecodeIdeal.main_arg1)
          ∧ r.2.mem ((c.tc : Thread Cert.GlaDecodeIdeal.nD Cert.GlaDecodeIdeal.τ).loc Cert.GlaDecodeIdeal.main_arg2) = m ((c.tc : Thread Cert.GlaDecodeIdeal.nD Cert.GlaDecodeIdeal.τ).loc Cert.GlaDecodeIdeal.main_arg2)
          ∧ r.2.mem ((c.tc : Thread Cert.GlaDecodeIdeal.nD Cert.GlaDecodeIdeal.τ).loc Cert.GlaDecodeIdeal.main_arg3) = m ((c.tc : Thread Cert.GlaDecodeIdeal.nD Cert.GlaDecodeIdeal.τ).loc Cert.GlaDecodeIdeal.main_arg3)
          ∧ r.2.mem ((c.tc : Thread Cert.GlaDecodeIdeal.nD Cert.GlaDecodeIdeal.τ).loc Cert.GlaDecodeIdeal.main_arg4) = m ((c.tc : Thread Cert.GlaDecodeIdeal.nD Cert.GlaDecodeIdeal.τ).loc Cert.GlaDecodeIdeal.main_arg4)
          ∧ r.2.mem ((c.tc : Thread Cert.GlaDecodeIdeal.nD Cert.GlaDecodeIdeal.τ).loc Cert.GlaDecodeIdeal.main_arg5) = m ((c.tc : Thread Cert.GlaDecodeIdeal.nD Cert.GlaDecodeIdeal.τ).loc Cert.GlaDecodeIdeal.main_arg5)
          ∧ r.2.mem ((c.tc : Thread Cert.GlaDecodeIdeal.nD Cert.GlaDecodeIdeal.τ).loc Cert.GlaDecodeIdeal.main_arg6) = m ((c.tc : Thread Cert.GlaDecodeIdeal.nD Cert.GlaDecodeIdeal.τ).loc Cert.GlaDecodeIdeal.main_arg6))
      ∧ θ_run (Cert.GlaDecodeReferenceIdeal.defs (F := Ideal)) (onTc (τ := Cert.GlaDecodeReferenceIdeal.τ) (Cert.GlaDecodeReferenceIdeal.main (F := Ideal))) ⟨m', fun _ => 0, g'⟩ (fun r => ∀ c : Dev Cert.GlaDecodeReferenceIdeal.nD,
          r.2.mem ((c.tc : Thread Cert.GlaDecodeReferenceIdeal.nD Cert.GlaDecodeReferenceIdeal.τ).loc Cert.GlaDecodeReferenceIdeal.main_v34) = v0 c
          ∧ r.2.mem ((c.tc : Thread Cert.GlaDecodeReferenceIdeal.nD Cert.GlaDecodeReferenceIdeal.τ).loc Cert.GlaDecodeReferenceIdeal.main_v16) = v1 c
          ∧ r.2.mem ((c.tc : Thread Cert.GlaDecodeReferenceIdeal.nD Cert.GlaDecodeReferenceIdeal.τ).loc Cert.GlaDecodeReferenceIdeal.main_arg0) = m' ((c.tc : Thread Cert.GlaDecodeReferenceIdeal.nD Cert.GlaDecodeReferenceIdeal.τ).loc Cert.GlaDecodeReferenceIdeal.main_arg0)
          ∧ r.2.mem ((c.tc : Thread Cert.GlaDecodeReferenceIdeal.nD Cert.GlaDecodeReferenceIdeal.τ).loc Cert.GlaDecodeReferenceIdeal.main_arg1) = m' ((c.tc : Thread Cert.GlaDecodeReferenceIdeal.nD Cert.GlaDecodeReferenceIdeal.τ).loc Cert.GlaDecodeReferenceIdeal.main_arg1)
          ∧ r.2.mem ((c.tc : Thread Cert.GlaDecodeReferenceIdeal.nD Cert.GlaDecodeReferenceIdeal.τ).loc Cert.GlaDecodeReferenceIdeal.main_arg2) = m' ((c.tc : Thread Cert.GlaDecodeReferenceIdeal.nD Cert.GlaDecodeReferenceIdeal.τ).loc Cert.GlaDecodeReferenceIdeal.main_arg2)
          ∧ r.2.mem ((c.tc : Thread Cert.GlaDecodeReferenceIdeal.nD Cert.GlaDecodeReferenceIdeal.τ).loc Cert.GlaDecodeReferenceIdeal.main_arg3) = m' ((c.tc : Thread Cert.GlaDecodeReferenceIdeal.nD Cert.GlaDecodeReferenceIdeal.τ).loc Cert.GlaDecodeReferenceIdeal.main_arg3)
          ∧ r.2.mem ((c.tc : Thread Cert.GlaDecodeReferenceIdeal.nD Cert.GlaDecodeReferenceIdeal.τ).loc Cert.GlaDecodeReferenceIdeal.main_arg4) = m' ((c.tc : Thread Cert.GlaDecodeReferenceIdeal.nD Cert.GlaDecodeReferenceIdeal.τ).loc Cert.GlaDecodeReferenceIdeal.main_arg4)
          ∧ r.2.mem ((c.tc : Thread Cert.GlaDecodeReferenceIdeal.nD Cert.GlaDecodeReferenceIdeal.τ).loc Cert.GlaDecodeReferenceIdeal.main_arg5) = m' ((c.tc : Thread Cert.GlaDecodeReferenceIdeal.nD Cert.GlaDecodeReferenceIdeal.τ).loc Cert.GlaDecodeReferenceIdeal.main_arg5)
          ∧ r.2.mem ((c.tc : Thread Cert.GlaDecodeReferenceIdeal.nD Cert.GlaDecodeReferenceIdeal.τ).loc Cert.GlaDecodeReferenceIdeal.main_arg6) = m' ((c.tc : Thread Cert.GlaDecodeReferenceIdeal.nD Cert.GlaDecodeReferenceIdeal.τ).loc Cert.GlaDecodeReferenceIdeal.main_arg6))

def preserves_OutFfn_OutFfnIdeal : Prop :=
  True

def algebraic_OutFfnIdeal_OutFfnReferenceIdeal [hOutFfnIdeal : Cert.OutFfnIdeal.Facts] [hOutFfnReferenceIdeal : Cert.OutFfnReferenceIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg)
    (m' : (ℓ : Loc Cert.OutFfnReferenceIdeal.nD Cert.OutFfnReferenceIdeal.τ Cert.OutFfnReferenceIdeal.sig) → Buf (Elt Ideal) ℓ) (g' : Dev Cert.OutFfnReferenceIdeal.nD → PrngReg), Pre_OutFfnIdeal m →
    (∀ c : Dev Cert.OutFfnIdeal.nD,
      m' ((c.tc : Thread Cert.OutFfnReferenceIdeal.nD Cert.OutFfnReferenceIdeal.τ).loc Cert.OutFfnReferenceIdeal.main_arg0) = m ((c.tc : Thread Cert.OutFfnIdeal.nD Cert.OutFfnIdeal.τ).loc Cert.OutFfnIdeal.main_arg0)
      ∧ m' ((c.tc : Thread Cert.OutFfnReferenceIdeal.nD Cert.OutFfnReferenceIdeal.τ).loc Cert.OutFfnReferenceIdeal.main_arg1) = m ((c.tc : Thread Cert.OutFfnIdeal.nD Cert.OutFfnIdeal.τ).loc Cert.OutFfnIdeal.main_arg1)
      ∧ m' ((c.tc : Thread Cert.OutFfnReferenceIdeal.nD Cert.OutFfnReferenceIdeal.τ).loc Cert.OutFfnReferenceIdeal.main_arg2) = m ((c.tc : Thread Cert.OutFfnIdeal.nD Cert.OutFfnIdeal.τ).loc Cert.OutFfnIdeal.main_arg2)
      ∧ m' ((c.tc : Thread Cert.OutFfnReferenceIdeal.nD Cert.OutFfnReferenceIdeal.τ).loc Cert.OutFfnReferenceIdeal.main_arg3) = m ((c.tc : Thread Cert.OutFfnIdeal.nD Cert.OutFfnIdeal.τ).loc Cert.OutFfnIdeal.main_arg3)
      ∧ m' ((c.tc : Thread Cert.OutFfnReferenceIdeal.nD Cert.OutFfnReferenceIdeal.τ).loc Cert.OutFfnReferenceIdeal.main_arg4) = m ((c.tc : Thread Cert.OutFfnIdeal.nD Cert.OutFfnIdeal.τ).loc Cert.OutFfnIdeal.main_arg4)
      ∧ m' ((c.tc : Thread Cert.OutFfnReferenceIdeal.nD Cert.OutFfnReferenceIdeal.τ).loc Cert.OutFfnReferenceIdeal.main_arg5) = m ((c.tc : Thread Cert.OutFfnIdeal.nD Cert.OutFfnIdeal.τ).loc Cert.OutFfnIdeal.main_arg5)
      ∧ m' ((c.tc : Thread Cert.OutFfnReferenceIdeal.nD Cert.OutFfnReferenceIdeal.τ).loc Cert.OutFfnReferenceIdeal.main_arg6) = m ((c.tc : Thread Cert.OutFfnIdeal.nD Cert.OutFfnIdeal.τ).loc Cert.OutFfnIdeal.main_arg6)
      ∧ m' ((c.tc : Thread Cert.OutFfnReferenceIdeal.nD Cert.OutFfnReferenceIdeal.τ).loc Cert.OutFfnReferenceIdeal.main_arg7) = m ((c.tc : Thread Cert.OutFfnIdeal.nD Cert.OutFfnIdeal.τ).loc Cert.OutFfnIdeal.main_arg7)) →
    ∃ (v0 : (c : Dev Cert.OutFfnIdeal.nD) → Buf (Elt Ideal) ((c.tc : Thread Cert.OutFfnIdeal.nD Cert.OutFfnIdeal.τ).loc Cert.OutFfnIdeal.main_v1)),
      θ_run (Cert.OutFfnIdeal.defs (F := Ideal)) (onTc (τ := Cert.OutFfnIdeal.τ) (Cert.OutFfnIdeal.main (F := Ideal))) ⟨m, fun _ => 0, g⟩ (fun r => ∀ c : Dev Cert.OutFfnIdeal.nD,
          r.2.mem ((c.tc : Thread Cert.OutFfnIdeal.nD Cert.OutFfnIdeal.τ).loc Cert.OutFfnIdeal.main_v1) = v0 c
          ∧ r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
          ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
          ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
          ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
          ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
          ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
          ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
          ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7))
      ∧ θ_run (Cert.OutFfnReferenceIdeal.defs (F := Ideal)) (onTc (τ := Cert.OutFfnReferenceIdeal.τ) (Cert.OutFfnReferenceIdeal.main (F := Ideal))) ⟨m', fun _ => 0, g'⟩ (fun r => ∀ c : Dev Cert.OutFfnReferenceIdeal.nD,
          r.2.mem ((c.tc : Thread Cert.OutFfnReferenceIdeal.nD Cert.OutFfnReferenceIdeal.τ).loc Cert.OutFfnReferenceIdeal.main_v46) = v0 c
          ∧ r.2.mem ((c.tc : Thread Cert.OutFfnReferenceIdeal.nD Cert.OutFfnReferenceIdeal.τ).loc Cert.OutFfnReferenceIdeal.main_arg0) = m' ((c.tc : Thread Cert.OutFfnReferenceIdeal.nD Cert.OutFfnReferenceIdeal.τ).loc Cert.OutFfnReferenceIdeal.main_arg0)
          ∧ r.2.mem ((c.tc : Thread Cert.OutFfnReferenceIdeal.nD Cert.OutFfnReferenceIdeal.τ).loc Cert.OutFfnReferenceIdeal.main_arg1) = m' ((c.tc : Thread Cert.OutFfnReferenceIdeal.nD Cert.OutFfnReferenceIdeal.τ).loc Cert.OutFfnReferenceIdeal.main_arg1)
          ∧ r.2.mem ((c.tc : Thread Cert.OutFfnReferenceIdeal.nD Cert.OutFfnReferenceIdeal.τ).loc Cert.OutFfnReferenceIdeal.main_arg2) = m' ((c.tc : Thread Cert.OutFfnReferenceIdeal.nD Cert.OutFfnReferenceIdeal.τ).loc Cert.OutFfnReferenceIdeal.main_arg2)
          ∧ r.2.mem ((c.tc : Thread Cert.OutFfnReferenceIdeal.nD Cert.OutFfnReferenceIdeal.τ).loc Cert.OutFfnReferenceIdeal.main_arg3) = m' ((c.tc : Thread Cert.OutFfnReferenceIdeal.nD Cert.OutFfnReferenceIdeal.τ).loc Cert.OutFfnReferenceIdeal.main_arg3)
          ∧ r.2.mem ((c.tc : Thread Cert.OutFfnReferenceIdeal.nD Cert.OutFfnReferenceIdeal.τ).loc Cert.OutFfnReferenceIdeal.main_arg4) = m' ((c.tc : Thread Cert.OutFfnReferenceIdeal.nD Cert.OutFfnReferenceIdeal.τ).loc Cert.OutFfnReferenceIdeal.main_arg4)
          ∧ r.2.mem ((c.tc : Thread Cert.OutFfnReferenceIdeal.nD Cert.OutFfnReferenceIdeal.τ).loc Cert.OutFfnReferenceIdeal.main_arg5) = m' ((c.tc : Thread Cert.OutFfnReferenceIdeal.nD Cert.OutFfnReferenceIdeal.τ).loc Cert.OutFfnReferenceIdeal.main_arg5)
          ∧ r.2.mem ((c.tc : Thread Cert.OutFfnReferenceIdeal.nD Cert.OutFfnReferenceIdeal.τ).loc Cert.OutFfnReferenceIdeal.main_arg6) = m' ((c.tc : Thread Cert.OutFfnReferenceIdeal.nD Cert.OutFfnReferenceIdeal.τ).loc Cert.OutFfnReferenceIdeal.main_arg6)
          ∧ r.2.mem ((c.tc : Thread Cert.OutFfnReferenceIdeal.nD Cert.OutFfnReferenceIdeal.τ).loc Cert.OutFfnReferenceIdeal.main_arg7) = m' ((c.tc : Thread Cert.OutFfnReferenceIdeal.nD Cert.OutFfnReferenceIdeal.τ).loc Cert.OutFfnReferenceIdeal.main_arg7))

def preserves_OutFfnSample_OutFfnSampleIdeal : Prop :=
  True

def algebraic_OutFfnSampleIdeal_OutFfnSampleReferenceIdeal [hOutFfnSampleIdeal : Cert.OutFfnSampleIdeal.Facts] [hOutFfnSampleReferenceIdeal : Cert.OutFfnSampleReferenceIdeal.Facts] : Prop :=
  ∀ (m : (ℓ : Loc Cert.OutFfnSampleIdeal.nD Cert.OutFfnSampleIdeal.τ Cert.OutFfnSampleIdeal.sig) → Buf (Elt Ideal) ℓ) (g : Dev Cert.OutFfnSampleIdeal.nD → PrngReg)
    (m' : (ℓ : Loc Cert.OutFfnSampleReferenceIdeal.nD Cert.OutFfnSampleReferenceIdeal.τ Cert.OutFfnSampleReferenceIdeal.sig) → Buf (Elt Ideal) ℓ) (g' : Dev Cert.OutFfnSampleReferenceIdeal.nD → PrngReg), Pre_OutFfnSampleIdeal m →
    (∀ c : Dev Cert.OutFfnSampleIdeal.nD,
      m' ((c.tc : Thread Cert.OutFfnSampleReferenceIdeal.nD Cert.OutFfnSampleReferenceIdeal.τ).loc Cert.OutFfnSampleReferenceIdeal.main_arg0) = m ((c.tc : Thread Cert.OutFfnSampleIdeal.nD Cert.OutFfnSampleIdeal.τ).loc Cert.OutFfnSampleIdeal.main_arg0)
      ∧ m' ((c.tc : Thread Cert.OutFfnSampleReferenceIdeal.nD Cert.OutFfnSampleReferenceIdeal.τ).loc Cert.OutFfnSampleReferenceIdeal.main_arg1) = m ((c.tc : Thread Cert.OutFfnSampleIdeal.nD Cert.OutFfnSampleIdeal.τ).loc Cert.OutFfnSampleIdeal.main_arg1)
      ∧ m' ((c.tc : Thread Cert.OutFfnSampleReferenceIdeal.nD Cert.OutFfnSampleReferenceIdeal.τ).loc Cert.OutFfnSampleReferenceIdeal.main_arg2) = m ((c.tc : Thread Cert.OutFfnSampleIdeal.nD Cert.OutFfnSampleIdeal.τ).loc Cert.OutFfnSampleIdeal.main_arg2)
      ∧ m' ((c.tc : Thread Cert.OutFfnSampleReferenceIdeal.nD Cert.OutFfnSampleReferenceIdeal.τ).loc Cert.OutFfnSampleReferenceIdeal.main_arg3) = m ((c.tc : Thread Cert.OutFfnSampleIdeal.nD Cert.OutFfnSampleIdeal.τ).loc Cert.OutFfnSampleIdeal.main_arg3)
      ∧ m' ((c.tc : Thread Cert.OutFfnSampleReferenceIdeal.nD Cert.OutFfnSampleReferenceIdeal.τ).loc Cert.OutFfnSampleReferenceIdeal.main_arg4) = m ((c.tc : Thread Cert.OutFfnSampleIdeal.nD Cert.OutFfnSampleIdeal.τ).loc Cert.OutFfnSampleIdeal.main_arg4)
      ∧ m' ((c.tc : Thread Cert.OutFfnSampleReferenceIdeal.nD Cert.OutFfnSampleReferenceIdeal.τ).loc Cert.OutFfnSampleReferenceIdeal.main_arg5) = m ((c.tc : Thread Cert.OutFfnSampleIdeal.nD Cert.OutFfnSampleIdeal.τ).loc Cert.OutFfnSampleIdeal.main_arg5)
      ∧ m' ((c.tc : Thread Cert.OutFfnSampleReferenceIdeal.nD Cert.OutFfnSampleReferenceIdeal.τ).loc Cert.OutFfnSampleReferenceIdeal.main_arg6) = m ((c.tc : Thread Cert.OutFfnSampleIdeal.nD Cert.OutFfnSampleIdeal.τ).loc Cert.OutFfnSampleIdeal.main_arg6)
      ∧ m' ((c.tc : Thread Cert.OutFfnSampleReferenceIdeal.nD Cert.OutFfnSampleReferenceIdeal.τ).loc Cert.OutFfnSampleReferenceIdeal.main_arg7) = m ((c.tc : Thread Cert.OutFfnSampleIdeal.nD Cert.OutFfnSampleIdeal.τ).loc Cert.OutFfnSampleIdeal.main_arg7)) →
    ∃ (v0 : (c : Dev Cert.OutFfnSampleIdeal.nD) → Buf (Elt Ideal) ((c.tc : Thread Cert.OutFfnSampleIdeal.nD Cert.OutFfnSampleIdeal.τ).loc Cert.OutFfnSampleIdeal.main_v0)),
      θ_run (Cert.OutFfnSampleIdeal.defs (F := Ideal)) (onTc (τ := Cert.OutFfnSampleIdeal.τ) (Cert.OutFfnSampleIdeal.main (F := Ideal))) ⟨m, fun _ => 0, g⟩ (fun r => ∀ c : Dev Cert.OutFfnSampleIdeal.nD,
          r.2.mem ((c.tc : Thread Cert.OutFfnSampleIdeal.nD Cert.OutFfnSampleIdeal.τ).loc Cert.OutFfnSampleIdeal.main_v0) = v0 c
          ∧ r.2.mem ((c.tc : Thread Cert.OutFfnSampleIdeal.nD Cert.OutFfnSampleIdeal.τ).loc Cert.OutFfnSampleIdeal.main_arg0) = m ((c.tc : Thread Cert.OutFfnSampleIdeal.nD Cert.OutFfnSampleIdeal.τ).loc Cert.OutFfnSampleIdeal.main_arg0)
          ∧ r.2.mem ((c.tc : Thread Cert.OutFfnSampleIdeal.nD Cert.OutFfnSampleIdeal.τ).loc Cert.OutFfnSampleIdeal.main_arg1) = m ((c.tc : Thread Cert.OutFfnSampleIdeal.nD Cert.OutFfnSampleIdeal.τ).loc Cert.OutFfnSampleIdeal.main_arg1)
          ∧ r.2.mem ((c.tc : Thread Cert.OutFfnSampleIdeal.nD Cert.OutFfnSampleIdeal.τ).loc Cert.OutFfnSampleIdeal.main_arg2) = m ((c.tc : Thread Cert.OutFfnSampleIdeal.nD Cert.OutFfnSampleIdeal.τ).loc Cert.OutFfnSampleIdeal.main_arg2)
          ∧ r.2.mem ((c.tc : Thread Cert.OutFfnSampleIdeal.nD Cert.OutFfnSampleIdeal.τ).loc Cert.OutFfnSampleIdeal.main_arg3) = m ((c.tc : Thread Cert.OutFfnSampleIdeal.nD Cert.OutFfnSampleIdeal.τ).loc Cert.OutFfnSampleIdeal.main_arg3)
          ∧ r.2.mem ((c.tc : Thread Cert.OutFfnSampleIdeal.nD Cert.OutFfnSampleIdeal.τ).loc Cert.OutFfnSampleIdeal.main_arg4) = m ((c.tc : Thread Cert.OutFfnSampleIdeal.nD Cert.OutFfnSampleIdeal.τ).loc Cert.OutFfnSampleIdeal.main_arg4)
          ∧ r.2.mem ((c.tc : Thread Cert.OutFfnSampleIdeal.nD Cert.OutFfnSampleIdeal.τ).loc Cert.OutFfnSampleIdeal.main_arg5) = m ((c.tc : Thread Cert.OutFfnSampleIdeal.nD Cert.OutFfnSampleIdeal.τ).loc Cert.OutFfnSampleIdeal.main_arg5)
          ∧ r.2.mem ((c.tc : Thread Cert.OutFfnSampleIdeal.nD Cert.OutFfnSampleIdeal.τ).loc Cert.OutFfnSampleIdeal.main_arg6) = m ((c.tc : Thread Cert.OutFfnSampleIdeal.nD Cert.OutFfnSampleIdeal.τ).loc Cert.OutFfnSampleIdeal.main_arg6)
          ∧ r.2.mem ((c.tc : Thread Cert.OutFfnSampleIdeal.nD Cert.OutFfnSampleIdeal.τ).loc Cert.OutFfnSampleIdeal.main_arg7) = m ((c.tc : Thread Cert.OutFfnSampleIdeal.nD Cert.OutFfnSampleIdeal.τ).loc Cert.OutFfnSampleIdeal.main_arg7))
      ∧ θ_run (Cert.OutFfnSampleReferenceIdeal.defs (F := Ideal)) (onTc (τ := Cert.OutFfnSampleReferenceIdeal.τ) (Cert.OutFfnSampleReferenceIdeal.main (F := Ideal))) ⟨m', fun _ => 0, g'⟩ (fun r => ∀ c : Dev Cert.OutFfnSampleReferenceIdeal.nD,
          r.2.mem ((c.tc : Thread Cert.OutFfnSampleReferenceIdeal.nD Cert.OutFfnSampleReferenceIdeal.τ).loc Cert.OutFfnSampleReferenceIdeal.main_v41) = v0 c
          ∧ r.2.mem ((c.tc : Thread Cert.OutFfnSampleReferenceIdeal.nD Cert.OutFfnSampleReferenceIdeal.τ).loc Cert.OutFfnSampleReferenceIdeal.main_arg0) = m' ((c.tc : Thread Cert.OutFfnSampleReferenceIdeal.nD Cert.OutFfnSampleReferenceIdeal.τ).loc Cert.OutFfnSampleReferenceIdeal.main_arg0)
          ∧ r.2.mem ((c.tc : Thread Cert.OutFfnSampleReferenceIdeal.nD Cert.OutFfnSampleReferenceIdeal.τ).loc Cert.OutFfnSampleReferenceIdeal.main_arg1) = m' ((c.tc : Thread Cert.OutFfnSampleReferenceIdeal.nD Cert.OutFfnSampleReferenceIdeal.τ).loc Cert.OutFfnSampleReferenceIdeal.main_arg1)
          ∧ r.2.mem ((c.tc : Thread Cert.OutFfnSampleReferenceIdeal.nD Cert.OutFfnSampleReferenceIdeal.τ).loc Cert.OutFfnSampleReferenceIdeal.main_arg2) = m' ((c.tc : Thread Cert.OutFfnSampleReferenceIdeal.nD Cert.OutFfnSampleReferenceIdeal.τ).loc Cert.OutFfnSampleReferenceIdeal.main_arg2)
          ∧ r.2.mem ((c.tc : Thread Cert.OutFfnSampleReferenceIdeal.nD Cert.OutFfnSampleReferenceIdeal.τ).loc Cert.OutFfnSampleReferenceIdeal.main_arg3) = m' ((c.tc : Thread Cert.OutFfnSampleReferenceIdeal.nD Cert.OutFfnSampleReferenceIdeal.τ).loc Cert.OutFfnSampleReferenceIdeal.main_arg3)
          ∧ r.2.mem ((c.tc : Thread Cert.OutFfnSampleReferenceIdeal.nD Cert.OutFfnSampleReferenceIdeal.τ).loc Cert.OutFfnSampleReferenceIdeal.main_arg4) = m' ((c.tc : Thread Cert.OutFfnSampleReferenceIdeal.nD Cert.OutFfnSampleReferenceIdeal.τ).loc Cert.OutFfnSampleReferenceIdeal.main_arg4)
          ∧ r.2.mem ((c.tc : Thread Cert.OutFfnSampleReferenceIdeal.nD Cert.OutFfnSampleReferenceIdeal.τ).loc Cert.OutFfnSampleReferenceIdeal.main_arg5) = m' ((c.tc : Thread Cert.OutFfnSampleReferenceIdeal.nD Cert.OutFfnSampleReferenceIdeal.τ).loc Cert.OutFfnSampleReferenceIdeal.main_arg5)
          ∧ r.2.mem ((c.tc : Thread Cert.OutFfnSampleReferenceIdeal.nD Cert.OutFfnSampleReferenceIdeal.τ).loc Cert.OutFfnSampleReferenceIdeal.main_arg6) = m' ((c.tc : Thread Cert.OutFfnSampleReferenceIdeal.nD Cert.OutFfnSampleReferenceIdeal.τ).loc Cert.OutFfnSampleReferenceIdeal.main_arg6)
          ∧ r.2.mem ((c.tc : Thread Cert.OutFfnSampleReferenceIdeal.nD Cert.OutFfnSampleReferenceIdeal.τ).loc Cert.OutFfnSampleReferenceIdeal.main_arg7) = m' ((c.tc : Thread Cert.OutFfnSampleReferenceIdeal.nD Cert.OutFfnSampleReferenceIdeal.τ).loc Cert.OutFfnSampleReferenceIdeal.main_arg7))

def preserves_GlaProj_GlaProjIdeal : Prop :=
  True

def algebraic_GlaProjIdeal_GlaProjReferenceIdeal [hGlaProjIdeal : Cert.GlaProjIdeal.Facts] [hGlaProjReferenceIdeal : Cert.GlaProjReferenceIdeal.Facts] : Prop :=
  ∀ (m : (ℓ : Loc Cert.GlaProjIdeal.nD Cert.GlaProjIdeal.τ Cert.GlaProjIdeal.sig) → Buf (Elt Ideal) ℓ) (g : Dev Cert.GlaProjIdeal.nD → PrngReg)
    (m' : (ℓ : Loc Cert.GlaProjReferenceIdeal.nD Cert.GlaProjReferenceIdeal.τ Cert.GlaProjReferenceIdeal.sig) → Buf (Elt Ideal) ℓ) (g' : Dev Cert.GlaProjReferenceIdeal.nD → PrngReg), Pre_GlaProjIdeal m →
    (∀ c : Dev Cert.GlaProjIdeal.nD,
      m' ((c.tc : Thread Cert.GlaProjReferenceIdeal.nD Cert.GlaProjReferenceIdeal.τ).loc Cert.GlaProjReferenceIdeal.main_arg0) = m ((c.tc : Thread Cert.GlaProjIdeal.nD Cert.GlaProjIdeal.τ).loc Cert.GlaProjIdeal.main_arg0)
      ∧ m' ((c.tc : Thread Cert.GlaProjReferenceIdeal.nD Cert.GlaProjReferenceIdeal.τ).loc Cert.GlaProjReferenceIdeal.main_arg1) = m ((c.tc : Thread Cert.GlaProjIdeal.nD Cert.GlaProjIdeal.τ).loc Cert.GlaProjIdeal.main_arg1)
      ∧ m' ((c.tc : Thread Cert.GlaProjReferenceIdeal.nD Cert.GlaProjReferenceIdeal.τ).loc Cert.GlaProjReferenceIdeal.main_arg2) = m ((c.tc : Thread Cert.GlaProjIdeal.nD Cert.GlaProjIdeal.τ).loc Cert.GlaProjIdeal.main_arg2)
      ∧ m' ((c.tc : Thread Cert.GlaProjReferenceIdeal.nD Cert.GlaProjReferenceIdeal.τ).loc Cert.GlaProjReferenceIdeal.main_arg3) = m ((c.tc : Thread Cert.GlaProjIdeal.nD Cert.GlaProjIdeal.τ).loc Cert.GlaProjIdeal.main_arg3)
      ∧ m' ((c.tc : Thread Cert.GlaProjReferenceIdeal.nD Cert.GlaProjReferenceIdeal.τ).loc Cert.GlaProjReferenceIdeal.main_arg4) = m ((c.tc : Thread Cert.GlaProjIdeal.nD Cert.GlaProjIdeal.τ).loc Cert.GlaProjIdeal.main_arg4)
      ∧ m' ((c.tc : Thread Cert.GlaProjReferenceIdeal.nD Cert.GlaProjReferenceIdeal.τ).loc Cert.GlaProjReferenceIdeal.main_arg5) = m ((c.tc : Thread Cert.GlaProjIdeal.nD Cert.GlaProjIdeal.τ).loc Cert.GlaProjIdeal.main_arg5)
      ∧ m' ((c.tc : Thread Cert.GlaProjReferenceIdeal.nD Cert.GlaProjReferenceIdeal.τ).loc Cert.GlaProjReferenceIdeal.main_arg6) = m ((c.tc : Thread Cert.GlaProjIdeal.nD Cert.GlaProjIdeal.τ).loc Cert.GlaProjIdeal.main_arg6)
      ∧ m' ((c.tc : Thread Cert.GlaProjReferenceIdeal.nD Cert.GlaProjReferenceIdeal.τ).loc Cert.GlaProjReferenceIdeal.main_arg7) = m ((c.tc : Thread Cert.GlaProjIdeal.nD Cert.GlaProjIdeal.τ).loc Cert.GlaProjIdeal.main_arg7)
      ∧ m' ((c.tc : Thread Cert.GlaProjReferenceIdeal.nD Cert.GlaProjReferenceIdeal.τ).loc Cert.GlaProjReferenceIdeal.main_arg8) = m ((c.tc : Thread Cert.GlaProjIdeal.nD Cert.GlaProjIdeal.τ).loc Cert.GlaProjIdeal.main_arg8)
      ∧ m' ((c.tc : Thread Cert.GlaProjReferenceIdeal.nD Cert.GlaProjReferenceIdeal.τ).loc Cert.GlaProjReferenceIdeal.main_arg9) = m ((c.tc : Thread Cert.GlaProjIdeal.nD Cert.GlaProjIdeal.τ).loc Cert.GlaProjIdeal.main_arg9)) →
    ∃ (v0 : (c : Dev Cert.GlaProjIdeal.nD) → Buf (Elt Ideal) ((c.tc : Thread Cert.GlaProjIdeal.nD Cert.GlaProjIdeal.τ).loc Cert.GlaProjIdeal.main_v1_0)) (v1 : (c : Dev Cert.GlaProjIdeal.nD) → Buf (Elt Ideal) ((c.tc : Thread Cert.GlaProjIdeal.nD Cert.GlaProjIdeal.τ).loc Cert.GlaProjIdeal.main_v1_1)) (v2 : (c : Dev Cert.GlaProjIdeal.nD) → Buf (Elt Ideal) ((c.tc : Thread Cert.GlaProjIdeal.nD Cert.GlaProjIdeal.τ).loc Cert.GlaProjIdeal.main_v1_2)) (v3 : (c : Dev Cert.GlaProjIdeal.nD) → Buf (Elt Ideal) ((c.tc : Thread Cert.GlaProjIdeal.nD Cert.GlaProjIdeal.τ).loc Cert.GlaProjIdeal.main_v1_3)) (v4 : (c : Dev Cert.GlaProjIdeal.nD) → Buf (Elt Ideal) ((c.tc : Thread Cert.GlaProjIdeal.nD Cert.GlaProjIdeal.τ).loc Cert.GlaProjIdeal.main_v1_4)),
      θ_run (Cert.GlaProjIdeal.defs (F := Ideal)) (onTc (τ := Cert.GlaProjIdeal.τ) (Cert.GlaProjIdeal.main (F := Ideal))) ⟨m, fun _ => 0, g⟩ (fun r => ∀ c : Dev Cert.GlaProjIdeal.nD,
          r.2.mem ((c.tc : Thread Cert.GlaProjIdeal.nD Cert.GlaProjIdeal.τ).loc Cert.GlaProjIdeal.main_v1_0) = v0 c
          ∧ r.2.mem ((c.tc : Thread Cert.GlaProjIdeal.nD Cert.GlaProjIdeal.τ).loc Cert.GlaProjIdeal.main_v1_1) = v1 c
          ∧ r.2.mem ((c.tc : Thread Cert.GlaProjIdeal.nD Cert.GlaProjIdeal.τ).loc Cert.GlaProjIdeal.main_v1_2) = v2 c
          ∧ r.2.mem ((c.tc : Thread Cert.GlaProjIdeal.nD Cert.GlaProjIdeal.τ).loc Cert.GlaProjIdeal.main_v1_3) = v3 c
          ∧ r.2.mem ((c.tc : Thread Cert.GlaProjIdeal.nD Cert.GlaProjIdeal.τ).loc Cert.GlaProjIdeal.main_v1_4) = v4 c
          ∧ r.2.mem ((c.tc : Thread Cert.GlaProjIdeal.nD Cert.GlaProjIdeal.τ).loc Cert.GlaProjIdeal.main_arg0) = m ((c.tc : Thread Cert.GlaProjIdeal.nD Cert.GlaProjIdeal.τ).loc Cert.GlaProjIdeal.main_arg0)
          ∧ r.2.mem ((c.tc : Thread Cert.GlaProjIdeal.nD Cert.GlaProjIdeal.τ).loc Cert.GlaProjIdeal.main_arg1) = m ((c.tc : Thread Cert.GlaProjIdeal.nD Cert.GlaProjIdeal.τ).loc Cert.GlaProjIdeal.main_arg1)
          ∧ r.2.mem ((c.tc : Thread Cert.GlaProjIdeal.nD Cert.GlaProjIdeal.τ).loc Cert.GlaProjIdeal.main_arg2) = m ((c.tc : Thread Cert.GlaProjIdeal.nD Cert.GlaProjIdeal.τ).loc Cert.GlaProjIdeal.main_arg2)
          ∧ r.2.mem ((c.tc : Thread Cert.GlaProjIdeal.nD Cert.GlaProjIdeal.τ).loc Cert.GlaProjIdeal.main_arg3) = m ((c.tc : Thread Cert.GlaProjIdeal.nD Cert.GlaProjIdeal.τ).loc Cert.GlaProjIdeal.main_arg3)
          ∧ r.2.mem ((c.tc : Thread Cert.GlaProjIdeal.nD Cert.GlaProjIdeal.τ).loc Cert.GlaProjIdeal.main_arg4) = m ((c.tc : Thread Cert.GlaProjIdeal.nD Cert.GlaProjIdeal.τ).loc Cert.GlaProjIdeal.main_arg4)
          ∧ r.2.mem ((c.tc : Thread Cert.GlaProjIdeal.nD Cert.GlaProjIdeal.τ).loc Cert.GlaProjIdeal.main_arg5) = m ((c.tc : Thread Cert.GlaProjIdeal.nD Cert.GlaProjIdeal.τ).loc Cert.GlaProjIdeal.main_arg5)
          ∧ r.2.mem ((c.tc : Thread Cert.GlaProjIdeal.nD Cert.GlaProjIdeal.τ).loc Cert.GlaProjIdeal.main_arg6) = m ((c.tc : Thread Cert.GlaProjIdeal.nD Cert.GlaProjIdeal.τ).loc Cert.GlaProjIdeal.main_arg6)
          ∧ r.2.mem ((c.tc : Thread Cert.GlaProjIdeal.nD Cert.GlaProjIdeal.τ).loc Cert.GlaProjIdeal.main_arg7) = m ((c.tc : Thread Cert.GlaProjIdeal.nD Cert.GlaProjIdeal.τ).loc Cert.GlaProjIdeal.main_arg7)
          ∧ r.2.mem ((c.tc : Thread Cert.GlaProjIdeal.nD Cert.GlaProjIdeal.τ).loc Cert.GlaProjIdeal.main_arg8) = m ((c.tc : Thread Cert.GlaProjIdeal.nD Cert.GlaProjIdeal.τ).loc Cert.GlaProjIdeal.main_arg8)
          ∧ r.2.mem ((c.tc : Thread Cert.GlaProjIdeal.nD Cert.GlaProjIdeal.τ).loc Cert.GlaProjIdeal.main_arg9) = m ((c.tc : Thread Cert.GlaProjIdeal.nD Cert.GlaProjIdeal.τ).loc Cert.GlaProjIdeal.main_arg9))
      ∧ θ_run (Cert.GlaProjReferenceIdeal.defs (F := Ideal)) (onTc (τ := Cert.GlaProjReferenceIdeal.τ) (Cert.GlaProjReferenceIdeal.main (F := Ideal))) ⟨m', fun _ => 0, g'⟩ (fun r => ∀ c : Dev Cert.GlaProjReferenceIdeal.nD,
          r.2.mem ((c.tc : Thread Cert.GlaProjReferenceIdeal.nD Cert.GlaProjReferenceIdeal.τ).loc Cert.GlaProjReferenceIdeal.main_v31) = v0 c
          ∧ r.2.mem ((c.tc : Thread Cert.GlaProjReferenceIdeal.nD Cert.GlaProjReferenceIdeal.τ).loc Cert.GlaProjReferenceIdeal.main_v33) = v1 c
          ∧ r.2.mem ((c.tc : Thread Cert.GlaProjReferenceIdeal.nD Cert.GlaProjReferenceIdeal.τ).loc Cert.GlaProjReferenceIdeal.main_v36) = v2 c
          ∧ r.2.mem ((c.tc : Thread Cert.GlaProjReferenceIdeal.nD Cert.GlaProjReferenceIdeal.τ).loc Cert.GlaProjReferenceIdeal.main_v47) = v3 c
          ∧ r.2.mem ((c.tc : Thread Cert.GlaProjReferenceIdeal.nD Cert.GlaProjReferenceIdeal.τ).loc Cert.GlaProjReferenceIdeal.main_v50) = v4 c
          ∧ r.2.mem ((c.tc : Thread Cert.GlaProjReferenceIdeal.nD Cert.GlaProjReferenceIdeal.τ).loc Cert.GlaProjReferenceIdeal.main_arg0) = m' ((c.tc : Thread Cert.GlaProjReferenceIdeal.nD Cert.GlaProjReferenceIdeal.τ).loc Cert.GlaProjReferenceIdeal.main_arg0)
          ∧ r.2.mem ((c.tc : Thread Cert.GlaProjReferenceIdeal.nD Cert.GlaProjReferenceIdeal.τ).loc Cert.GlaProjReferenceIdeal.main_arg1) = m' ((c.tc : Thread Cert.GlaProjReferenceIdeal.nD Cert.GlaProjReferenceIdeal.τ).loc Cert.GlaProjReferenceIdeal.main_arg1)
          ∧ r.2.mem ((c.tc : Thread Cert.GlaProjReferenceIdeal.nD Cert.GlaProjReferenceIdeal.τ).loc Cert.GlaProjReferenceIdeal.main_arg2) = m' ((c.tc : Thread Cert.GlaProjReferenceIdeal.nD Cert.GlaProjReferenceIdeal.τ).loc Cert.GlaProjReferenceIdeal.main_arg2)
          ∧ r.2.mem ((c.tc : Thread Cert.GlaProjReferenceIdeal.nD Cert.GlaProjReferenceIdeal.τ).loc Cert.GlaProjReferenceIdeal.main_arg3) = m' ((c.tc : Thread Cert.GlaProjReferenceIdeal.nD Cert.GlaProjReferenceIdeal.τ).loc Cert.GlaProjReferenceIdeal.main_arg3)
          ∧ r.2.mem ((c.tc : Thread Cert.GlaProjReferenceIdeal.nD Cert.GlaProjReferenceIdeal.τ).loc Cert.GlaProjReferenceIdeal.main_arg4) = m' ((c.tc : Thread Cert.GlaProjReferenceIdeal.nD Cert.GlaProjReferenceIdeal.τ).loc Cert.GlaProjReferenceIdeal.main_arg4)
          ∧ r.2.mem ((c.tc : Thread Cert.GlaProjReferenceIdeal.nD Cert.GlaProjReferenceIdeal.τ).loc Cert.GlaProjReferenceIdeal.main_arg5) = m' ((c.tc : Thread Cert.GlaProjReferenceIdeal.nD Cert.GlaProjReferenceIdeal.τ).loc Cert.GlaProjReferenceIdeal.main_arg5)
          ∧ r.2.mem ((c.tc : Thread Cert.GlaProjReferenceIdeal.nD Cert.GlaProjReferenceIdeal.τ).loc Cert.GlaProjReferenceIdeal.main_arg6) = m' ((c.tc : Thread Cert.GlaProjReferenceIdeal.nD Cert.GlaProjReferenceIdeal.τ).loc Cert.GlaProjReferenceIdeal.main_arg6)
          ∧ r.2.mem ((c.tc : Thread Cert.GlaProjReferenceIdeal.nD Cert.GlaProjReferenceIdeal.τ).loc Cert.GlaProjReferenceIdeal.main_arg7) = m' ((c.tc : Thread Cert.GlaProjReferenceIdeal.nD Cert.GlaProjReferenceIdeal.τ).loc Cert.GlaProjReferenceIdeal.main_arg7)
          ∧ r.2.mem ((c.tc : Thread Cert.GlaProjReferenceIdeal.nD Cert.GlaProjReferenceIdeal.τ).loc Cert.GlaProjReferenceIdeal.main_arg8) = m' ((c.tc : Thread Cert.GlaProjReferenceIdeal.nD Cert.GlaProjReferenceIdeal.τ).loc Cert.GlaProjReferenceIdeal.main_arg8)
          ∧ r.2.mem ((c.tc : Thread Cert.GlaProjReferenceIdeal.nD Cert.GlaProjReferenceIdeal.τ).loc Cert.GlaProjReferenceIdeal.main_arg9) = m' ((c.tc : Thread Cert.GlaProjReferenceIdeal.nD Cert.GlaProjReferenceIdeal.τ).loc Cert.GlaProjReferenceIdeal.main_arg9))

def preserves_FoxProj_FoxProjIdeal : Prop :=
  True

def algebraic_FoxProjIdeal_FoxProjReferenceIdeal [hFoxProjIdeal : Cert.FoxProjIdeal.Facts] [hFoxProjReferenceIdeal : Cert.FoxProjReferenceIdeal.Facts] : Prop :=
  ∀ (m : (ℓ : Loc Cert.FoxProjIdeal.nD Cert.FoxProjIdeal.τ Cert.FoxProjIdeal.sig) → Buf (Elt Ideal) ℓ) (g : Dev Cert.FoxProjIdeal.nD → PrngReg)
    (m' : (ℓ : Loc Cert.FoxProjReferenceIdeal.nD Cert.FoxProjReferenceIdeal.τ Cert.FoxProjReferenceIdeal.sig) → Buf (Elt Ideal) ℓ) (g' : Dev Cert.FoxProjReferenceIdeal.nD → PrngReg), Pre_FoxProjIdeal m →
    (∀ c : Dev Cert.FoxProjIdeal.nD,
      m' ((c.tc : Thread Cert.FoxProjReferenceIdeal.nD Cert.FoxProjReferenceIdeal.τ).loc Cert.FoxProjReferenceIdeal.main_arg0) = m ((c.tc : Thread Cert.FoxProjIdeal.nD Cert.FoxProjIdeal.τ).loc Cert.FoxProjIdeal.main_arg0)
      ∧ m' ((c.tc : Thread Cert.FoxProjReferenceIdeal.nD Cert.FoxProjReferenceIdeal.τ).loc Cert.FoxProjReferenceIdeal.main_arg1) = m ((c.tc : Thread Cert.FoxProjIdeal.nD Cert.FoxProjIdeal.τ).loc Cert.FoxProjIdeal.main_arg1)
      ∧ m' ((c.tc : Thread Cert.FoxProjReferenceIdeal.nD Cert.FoxProjReferenceIdeal.τ).loc Cert.FoxProjReferenceIdeal.main_arg2) = m ((c.tc : Thread Cert.FoxProjIdeal.nD Cert.FoxProjIdeal.τ).loc Cert.FoxProjIdeal.main_arg2)
      ∧ m' ((c.tc : Thread Cert.FoxProjReferenceIdeal.nD Cert.FoxProjReferenceIdeal.τ).loc Cert.FoxProjReferenceIdeal.main_arg3) = m ((c.tc : Thread Cert.FoxProjIdeal.nD Cert.FoxProjIdeal.τ).loc Cert.FoxProjIdeal.main_arg3)
      ∧ m' ((c.tc : Thread Cert.FoxProjReferenceIdeal.nD Cert.FoxProjReferenceIdeal.τ).loc Cert.FoxProjReferenceIdeal.main_arg4) = m ((c.tc : Thread Cert.FoxProjIdeal.nD Cert.FoxProjIdeal.τ).loc Cert.FoxProjIdeal.main_arg4)
      ∧ m' ((c.tc : Thread Cert.FoxProjReferenceIdeal.nD Cert.FoxProjReferenceIdeal.τ).loc Cert.FoxProjReferenceIdeal.main_arg5) = m ((c.tc : Thread Cert.FoxProjIdeal.nD Cert.FoxProjIdeal.τ).loc Cert.FoxProjIdeal.main_arg5)
      ∧ m' ((c.tc : Thread Cert.FoxProjReferenceIdeal.nD Cert.FoxProjReferenceIdeal.τ).loc Cert.FoxProjReferenceIdeal.main_arg6) = m ((c.tc : Thread Cert.FoxProjIdeal.nD Cert.FoxProjIdeal.τ).loc Cert.FoxProjIdeal.main_arg6)
      ∧ m' ((c.tc : Thread Cert.FoxProjReferenceIdeal.nD Cert.FoxProjReferenceIdeal.τ).loc Cert.FoxProjReferenceIdeal.main_arg7) = m ((c.tc : Thread Cert.FoxProjIdeal.nD Cert.FoxProjIdeal.τ).loc Cert.FoxProjIdeal.main_arg7)
      ∧ m' ((c.tc : Thread Cert.FoxProjReferenceIdeal.nD Cert.FoxProjReferenceIdeal.τ).loc Cert.FoxProjReferenceIdeal.main_arg8) = m ((c.tc : Thread Cert.FoxProjIdeal.nD Cert.FoxProjIdeal.τ).loc Cert.FoxProjIdeal.main_arg8)
      ∧ m' ((c.tc : Thread Cert.FoxProjReferenceIdeal.nD Cert.FoxProjReferenceIdeal.τ).loc Cert.FoxProjReferenceIdeal.main_arg9) = m ((c.tc : Thread Cert.FoxProjIdeal.nD Cert.FoxProjIdeal.τ).loc Cert.FoxProjIdeal.main_arg9)) →
    ∃ (v0 : (c : Dev Cert.FoxProjIdeal.nD) → Buf (Elt Ideal) ((c.tc : Thread Cert.FoxProjIdeal.nD Cert.FoxProjIdeal.τ).loc Cert.FoxProjIdeal.main_v3_0)) (v1 : (c : Dev Cert.FoxProjIdeal.nD) → Buf (Elt Ideal) ((c.tc : Thread Cert.FoxProjIdeal.nD Cert.FoxProjIdeal.τ).loc Cert.FoxProjIdeal.main_v3_1)) (v2 : (c : Dev Cert.FoxProjIdeal.nD) → Buf (Elt Ideal) ((c.tc : Thread Cert.FoxProjIdeal.nD Cert.FoxProjIdeal.τ).loc Cert.FoxProjIdeal.main_v3_2)) (v3 : (c : Dev Cert.FoxProjIdeal.nD) → Buf (Elt Ideal) ((c.tc : Thread Cert.FoxProjIdeal.nD Cert.FoxProjIdeal.τ).loc Cert.FoxProjIdeal.main_v3_3)) (v4 : (c : Dev Cert.FoxProjIdeal.nD) → Buf (Elt Ideal) ((c.tc : Thread Cert.FoxProjIdeal.nD Cert.FoxProjIdeal.τ).loc Cert.FoxProjIdeal.main_v3_4)),
      θ_run (Cert.FoxProjIdeal.defs (F := Ideal)) (onTc (τ := Cert.FoxProjIdeal.τ) (Cert.FoxProjIdeal.main (F := Ideal))) ⟨m, fun _ => 0, g⟩ (fun r => ∀ c : Dev Cert.FoxProjIdeal.nD,
          r.2.mem ((c.tc : Thread Cert.FoxProjIdeal.nD Cert.FoxProjIdeal.τ).loc Cert.FoxProjIdeal.main_v3_0) = v0 c
          ∧ r.2.mem ((c.tc : Thread Cert.FoxProjIdeal.nD Cert.FoxProjIdeal.τ).loc Cert.FoxProjIdeal.main_v3_1) = v1 c
          ∧ r.2.mem ((c.tc : Thread Cert.FoxProjIdeal.nD Cert.FoxProjIdeal.τ).loc Cert.FoxProjIdeal.main_v3_2) = v2 c
          ∧ r.2.mem ((c.tc : Thread Cert.FoxProjIdeal.nD Cert.FoxProjIdeal.τ).loc Cert.FoxProjIdeal.main_v3_3) = v3 c
          ∧ r.2.mem ((c.tc : Thread Cert.FoxProjIdeal.nD Cert.FoxProjIdeal.τ).loc Cert.FoxProjIdeal.main_v3_4) = v4 c
          ∧ r.2.mem ((c.tc : Thread Cert.FoxProjIdeal.nD Cert.FoxProjIdeal.τ).loc Cert.FoxProjIdeal.main_arg0) = m ((c.tc : Thread Cert.FoxProjIdeal.nD Cert.FoxProjIdeal.τ).loc Cert.FoxProjIdeal.main_arg0)
          ∧ r.2.mem ((c.tc : Thread Cert.FoxProjIdeal.nD Cert.FoxProjIdeal.τ).loc Cert.FoxProjIdeal.main_arg1) = m ((c.tc : Thread Cert.FoxProjIdeal.nD Cert.FoxProjIdeal.τ).loc Cert.FoxProjIdeal.main_arg1)
          ∧ r.2.mem ((c.tc : Thread Cert.FoxProjIdeal.nD Cert.FoxProjIdeal.τ).loc Cert.FoxProjIdeal.main_arg2) = m ((c.tc : Thread Cert.FoxProjIdeal.nD Cert.FoxProjIdeal.τ).loc Cert.FoxProjIdeal.main_arg2)
          ∧ r.2.mem ((c.tc : Thread Cert.FoxProjIdeal.nD Cert.FoxProjIdeal.τ).loc Cert.FoxProjIdeal.main_arg3) = m ((c.tc : Thread Cert.FoxProjIdeal.nD Cert.FoxProjIdeal.τ).loc Cert.FoxProjIdeal.main_arg3)
          ∧ r.2.mem ((c.tc : Thread Cert.FoxProjIdeal.nD Cert.FoxProjIdeal.τ).loc Cert.FoxProjIdeal.main_arg4) = m ((c.tc : Thread Cert.FoxProjIdeal.nD Cert.FoxProjIdeal.τ).loc Cert.FoxProjIdeal.main_arg4)
          ∧ r.2.mem ((c.tc : Thread Cert.FoxProjIdeal.nD Cert.FoxProjIdeal.τ).loc Cert.FoxProjIdeal.main_arg5) = m ((c.tc : Thread Cert.FoxProjIdeal.nD Cert.FoxProjIdeal.τ).loc Cert.FoxProjIdeal.main_arg5)
          ∧ r.2.mem ((c.tc : Thread Cert.FoxProjIdeal.nD Cert.FoxProjIdeal.τ).loc Cert.FoxProjIdeal.main_arg6) = m ((c.tc : Thread Cert.FoxProjIdeal.nD Cert.FoxProjIdeal.τ).loc Cert.FoxProjIdeal.main_arg6)
          ∧ r.2.mem ((c.tc : Thread Cert.FoxProjIdeal.nD Cert.FoxProjIdeal.τ).loc Cert.FoxProjIdeal.main_arg7) = m ((c.tc : Thread Cert.FoxProjIdeal.nD Cert.FoxProjIdeal.τ).loc Cert.FoxProjIdeal.main_arg7)
          ∧ r.2.mem ((c.tc : Thread Cert.FoxProjIdeal.nD Cert.FoxProjIdeal.τ).loc Cert.FoxProjIdeal.main_arg8) = m ((c.tc : Thread Cert.FoxProjIdeal.nD Cert.FoxProjIdeal.τ).loc Cert.FoxProjIdeal.main_arg8)
          ∧ r.2.mem ((c.tc : Thread Cert.FoxProjIdeal.nD Cert.FoxProjIdeal.τ).loc Cert.FoxProjIdeal.main_arg9) = m ((c.tc : Thread Cert.FoxProjIdeal.nD Cert.FoxProjIdeal.τ).loc Cert.FoxProjIdeal.main_arg9))
      ∧ θ_run (Cert.FoxProjReferenceIdeal.defs (F := Ideal)) (onTc (τ := Cert.FoxProjReferenceIdeal.τ) (Cert.FoxProjReferenceIdeal.main (F := Ideal))) ⟨m', fun _ => 0, g'⟩ (fun r => ∀ c : Dev Cert.FoxProjReferenceIdeal.nD,
          r.2.mem ((c.tc : Thread Cert.FoxProjReferenceIdeal.nD Cert.FoxProjReferenceIdeal.τ).loc Cert.FoxProjReferenceIdeal.main_v99) = v0 c
          ∧ r.2.mem ((c.tc : Thread Cert.FoxProjReferenceIdeal.nD Cert.FoxProjReferenceIdeal.τ).loc Cert.FoxProjReferenceIdeal.main_v100) = v1 c
          ∧ r.2.mem ((c.tc : Thread Cert.FoxProjReferenceIdeal.nD Cert.FoxProjReferenceIdeal.τ).loc Cert.FoxProjReferenceIdeal.main_v101) = v2 c
          ∧ r.2.mem ((c.tc : Thread Cert.FoxProjReferenceIdeal.nD Cert.FoxProjReferenceIdeal.τ).loc Cert.FoxProjReferenceIdeal.main_v102) = v3 c
          ∧ r.2.mem ((c.tc : Thread Cert.FoxProjReferenceIdeal.nD Cert.FoxProjReferenceIdeal.τ).loc Cert.FoxProjReferenceIdeal.main_v103) = v4 c
          ∧ r.2.mem ((c.tc : Thread Cert.FoxProjReferenceIdeal.nD Cert.FoxProjReferenceIdeal.τ).loc Cert.FoxProjReferenceIdeal.main_arg0) = m' ((c.tc : Thread Cert.FoxProjReferenceIdeal.nD Cert.FoxProjReferenceIdeal.τ).loc Cert.FoxProjReferenceIdeal.main_arg0)
          ∧ r.2.mem ((c.tc : Thread Cert.FoxProjReferenceIdeal.nD Cert.FoxProjReferenceIdeal.τ).loc Cert.FoxProjReferenceIdeal.main_arg1) = m' ((c.tc : Thread Cert.FoxProjReferenceIdeal.nD Cert.FoxProjReferenceIdeal.τ).loc Cert.FoxProjReferenceIdeal.main_arg1)
          ∧ r.2.mem ((c.tc : Thread Cert.FoxProjReferenceIdeal.nD Cert.FoxProjReferenceIdeal.τ).loc Cert.FoxProjReferenceIdeal.main_arg2) = m' ((c.tc : Thread Cert.FoxProjReferenceIdeal.nD Cert.FoxProjReferenceIdeal.τ).loc Cert.FoxProjReferenceIdeal.main_arg2)
          ∧ r.2.mem ((c.tc : Thread Cert.FoxProjReferenceIdeal.nD Cert.FoxProjReferenceIdeal.τ).loc Cert.FoxProjReferenceIdeal.main_arg3) = m' ((c.tc : Thread Cert.FoxProjReferenceIdeal.nD Cert.FoxProjReferenceIdeal.τ).loc Cert.FoxProjReferenceIdeal.main_arg3)
          ∧ r.2.mem ((c.tc : Thread Cert.FoxProjReferenceIdeal.nD Cert.FoxProjReferenceIdeal.τ).loc Cert.FoxProjReferenceIdeal.main_arg4) = m' ((c.tc : Thread Cert.FoxProjReferenceIdeal.nD Cert.FoxProjReferenceIdeal.τ).loc Cert.FoxProjReferenceIdeal.main_arg4)
          ∧ r.2.mem ((c.tc : Thread Cert.FoxProjReferenceIdeal.nD Cert.FoxProjReferenceIdeal.τ).loc Cert.FoxProjReferenceIdeal.main_arg5) = m' ((c.tc : Thread Cert.FoxProjReferenceIdeal.nD Cert.FoxProjReferenceIdeal.τ).loc Cert.FoxProjReferenceIdeal.main_arg5)
          ∧ r.2.mem ((c.tc : Thread Cert.FoxProjReferenceIdeal.nD Cert.FoxProjReferenceIdeal.τ).loc Cert.FoxProjReferenceIdeal.main_arg6) = m' ((c.tc : Thread Cert.FoxProjReferenceIdeal.nD Cert.FoxProjReferenceIdeal.τ).loc Cert.FoxProjReferenceIdeal.main_arg6)
          ∧ r.2.mem ((c.tc : Thread Cert.FoxProjReferenceIdeal.nD Cert.FoxProjReferenceIdeal.τ).loc Cert.FoxProjReferenceIdeal.main_arg7) = m' ((c.tc : Thread Cert.FoxProjReferenceIdeal.nD Cert.FoxProjReferenceIdeal.τ).loc Cert.FoxProjReferenceIdeal.main_arg7)
          ∧ r.2.mem ((c.tc : Thread Cert.FoxProjReferenceIdeal.nD Cert.FoxProjReferenceIdeal.τ).loc Cert.FoxProjReferenceIdeal.main_arg8) = m' ((c.tc : Thread Cert.FoxProjReferenceIdeal.nD Cert.FoxProjReferenceIdeal.τ).loc Cert.FoxProjReferenceIdeal.main_arg8)
          ∧ r.2.mem ((c.tc : Thread Cert.FoxProjReferenceIdeal.nD Cert.FoxProjReferenceIdeal.τ).loc Cert.FoxProjReferenceIdeal.main_arg9) = m' ((c.tc : Thread Cert.FoxProjReferenceIdeal.nD Cert.FoxProjReferenceIdeal.τ).loc Cert.FoxProjReferenceIdeal.main_arg9))

def preserves_FoxProjSample_FoxProjSampleIdeal : Prop :=
  True

def algebraic_FoxProjSampleIdeal_FoxProjSampleReferenceIdeal [hFoxProjSampleIdeal : Cert.FoxProjSampleIdeal.Facts] [hFoxProjSampleReferenceIdeal : Cert.FoxProjSampleReferenceIdeal.Facts] : Prop :=
  ∀ (m : (ℓ : Loc Cert.FoxProjSampleIdeal.nD Cert.FoxProjSampleIdeal.τ Cert.FoxProjSampleIdeal.sig) → Buf (Elt Ideal) ℓ) (g : Dev Cert.FoxProjSampleIdeal.nD → PrngReg)
    (m' : (ℓ : Loc Cert.FoxProjSampleReferenceIdeal.nD Cert.FoxProjSampleReferenceIdeal.τ Cert.FoxProjSampleReferenceIdeal.sig) → Buf (Elt Ideal) ℓ) (g' : Dev Cert.FoxProjSampleReferenceIdeal.nD → PrngReg), Pre_FoxProjSampleIdeal m →
    (∀ c : Dev Cert.FoxProjSampleIdeal.nD,
      m' ((c.tc : Thread Cert.FoxProjSampleReferenceIdeal.nD Cert.FoxProjSampleReferenceIdeal.τ).loc Cert.FoxProjSampleReferenceIdeal.main_arg0) = m ((c.tc : Thread Cert.FoxProjSampleIdeal.nD Cert.FoxProjSampleIdeal.τ).loc Cert.FoxProjSampleIdeal.main_arg0)
      ∧ m' ((c.tc : Thread Cert.FoxProjSampleReferenceIdeal.nD Cert.FoxProjSampleReferenceIdeal.τ).loc Cert.FoxProjSampleReferenceIdeal.main_arg1) = m ((c.tc : Thread Cert.FoxProjSampleIdeal.nD Cert.FoxProjSampleIdeal.τ).loc Cert.FoxProjSampleIdeal.main_arg1)
      ∧ m' ((c.tc : Thread Cert.FoxProjSampleReferenceIdeal.nD Cert.FoxProjSampleReferenceIdeal.τ).loc Cert.FoxProjSampleReferenceIdeal.main_arg2) = m ((c.tc : Thread Cert.FoxProjSampleIdeal.nD Cert.FoxProjSampleIdeal.τ).loc Cert.FoxProjSampleIdeal.main_arg2)
      ∧ m' ((c.tc : Thread Cert.FoxProjSampleReferenceIdeal.nD Cert.FoxProjSampleReferenceIdeal.τ).loc Cert.FoxProjSampleReferenceIdeal.main_arg3) = m ((c.tc : Thread Cert.FoxProjSampleIdeal.nD Cert.FoxProjSampleIdeal.τ).loc Cert.FoxProjSampleIdeal.main_arg3)
      ∧ m' ((c.tc : Thread Cert.FoxProjSampleReferenceIdeal.nD Cert.FoxProjSampleReferenceIdeal.τ).loc Cert.FoxProjSampleReferenceIdeal.main_arg4) = m ((c.tc : Thread Cert.FoxProjSampleIdeal.nD Cert.FoxProjSampleIdeal.τ).loc Cert.FoxProjSampleIdeal.main_arg4)
      ∧ m' ((c.tc : Thread Cert.FoxProjSampleReferenceIdeal.nD Cert.FoxProjSampleReferenceIdeal.τ).loc Cert.FoxProjSampleReferenceIdeal.main_arg5) = m ((c.tc : Thread Cert.FoxProjSampleIdeal.nD Cert.FoxProjSampleIdeal.τ).loc Cert.FoxProjSampleIdeal.main_arg5)
      ∧ m' ((c.tc : Thread Cert.FoxProjSampleReferenceIdeal.nD Cert.FoxProjSampleReferenceIdeal.τ).loc Cert.FoxProjSampleReferenceIdeal.main_arg6) = m ((c.tc : Thread Cert.FoxProjSampleIdeal.nD Cert.FoxProjSampleIdeal.τ).loc Cert.FoxProjSampleIdeal.main_arg6)
      ∧ m' ((c.tc : Thread Cert.FoxProjSampleReferenceIdeal.nD Cert.FoxProjSampleReferenceIdeal.τ).loc Cert.FoxProjSampleReferenceIdeal.main_arg7) = m ((c.tc : Thread Cert.FoxProjSampleIdeal.nD Cert.FoxProjSampleIdeal.τ).loc Cert.FoxProjSampleIdeal.main_arg7)
      ∧ m' ((c.tc : Thread Cert.FoxProjSampleReferenceIdeal.nD Cert.FoxProjSampleReferenceIdeal.τ).loc Cert.FoxProjSampleReferenceIdeal.main_arg8) = m ((c.tc : Thread Cert.FoxProjSampleIdeal.nD Cert.FoxProjSampleIdeal.τ).loc Cert.FoxProjSampleIdeal.main_arg8)
      ∧ m' ((c.tc : Thread Cert.FoxProjSampleReferenceIdeal.nD Cert.FoxProjSampleReferenceIdeal.τ).loc Cert.FoxProjSampleReferenceIdeal.main_arg9) = m ((c.tc : Thread Cert.FoxProjSampleIdeal.nD Cert.FoxProjSampleIdeal.τ).loc Cert.FoxProjSampleIdeal.main_arg9)) →
    ∃ (v0 : (c : Dev Cert.FoxProjSampleIdeal.nD) → Buf (Elt Ideal) ((c.tc : Thread Cert.FoxProjSampleIdeal.nD Cert.FoxProjSampleIdeal.τ).loc Cert.FoxProjSampleIdeal.main_v2_0)) (v1 : (c : Dev Cert.FoxProjSampleIdeal.nD) → Buf (Elt Ideal) ((c.tc : Thread Cert.FoxProjSampleIdeal.nD Cert.FoxProjSampleIdeal.τ).loc Cert.FoxProjSampleIdeal.main_v2_1)) (v2 : (c : Dev Cert.FoxProjSampleIdeal.nD) → Buf (Elt Ideal) ((c.tc : Thread Cert.FoxProjSampleIdeal.nD Cert.FoxProjSampleIdeal.τ).loc Cert.FoxProjSampleIdeal.main_v2_2)) (v3 : (c : Dev Cert.FoxProjSampleIdeal.nD) → Buf (Elt Ideal) ((c.tc : Thread Cert.FoxProjSampleIdeal.nD Cert.FoxProjSampleIdeal.τ).loc Cert.FoxProjSampleIdeal.main_v2_3)),
      θ_run (Cert.FoxProjSampleIdeal.defs (F := Ideal)) (onTc (τ := Cert.FoxProjSampleIdeal.τ) (Cert.FoxProjSampleIdeal.main (F := Ideal))) ⟨m, fun _ => 0, g⟩ (fun r => ∀ c : Dev Cert.FoxProjSampleIdeal.nD,
          r.2.mem ((c.tc : Thread Cert.FoxProjSampleIdeal.nD Cert.FoxProjSampleIdeal.τ).loc Cert.FoxProjSampleIdeal.main_v2_0) = v0 c
          ∧ r.2.mem ((c.tc : Thread Cert.FoxProjSampleIdeal.nD Cert.FoxProjSampleIdeal.τ).loc Cert.FoxProjSampleIdeal.main_v2_1) = v1 c
          ∧ r.2.mem ((c.tc : Thread Cert.FoxProjSampleIdeal.nD Cert.FoxProjSampleIdeal.τ).loc Cert.FoxProjSampleIdeal.main_v2_2) = v2 c
          ∧ r.2.mem ((c.tc : Thread Cert.FoxProjSampleIdeal.nD Cert.FoxProjSampleIdeal.τ).loc Cert.FoxProjSampleIdeal.main_v2_3) = v3 c
          ∧ r.2.mem ((c.tc : Thread Cert.FoxProjSampleIdeal.nD Cert.FoxProjSampleIdeal.τ).loc Cert.FoxProjSampleIdeal.main_arg0) = m ((c.tc : Thread Cert.FoxProjSampleIdeal.nD Cert.FoxProjSampleIdeal.τ).loc Cert.FoxProjSampleIdeal.main_arg0)
          ∧ r.2.mem ((c.tc : Thread Cert.FoxProjSampleIdeal.nD Cert.FoxProjSampleIdeal.τ).loc Cert.FoxProjSampleIdeal.main_arg1) = m ((c.tc : Thread Cert.FoxProjSampleIdeal.nD Cert.FoxProjSampleIdeal.τ).loc Cert.FoxProjSampleIdeal.main_arg1)
          ∧ r.2.mem ((c.tc : Thread Cert.FoxProjSampleIdeal.nD Cert.FoxProjSampleIdeal.τ).loc Cert.FoxProjSampleIdeal.main_arg2) = m ((c.tc : Thread Cert.FoxProjSampleIdeal.nD Cert.FoxProjSampleIdeal.τ).loc Cert.FoxProjSampleIdeal.main_arg2)
          ∧ r.2.mem ((c.tc : Thread Cert.FoxProjSampleIdeal.nD Cert.FoxProjSampleIdeal.τ).loc Cert.FoxProjSampleIdeal.main_arg3) = m ((c.tc : Thread Cert.FoxProjSampleIdeal.nD Cert.FoxProjSampleIdeal.τ).loc Cert.FoxProjSampleIdeal.main_arg3)
          ∧ r.2.mem ((c.tc : Thread Cert.FoxProjSampleIdeal.nD Cert.FoxProjSampleIdeal.τ).loc Cert.FoxProjSampleIdeal.main_arg4) = m ((c.tc : Thread Cert.FoxProjSampleIdeal.nD Cert.FoxProjSampleIdeal.τ).loc Cert.FoxProjSampleIdeal.main_arg4)
          ∧ r.2.mem ((c.tc : Thread Cert.FoxProjSampleIdeal.nD Cert.FoxProjSampleIdeal.τ).loc Cert.FoxProjSampleIdeal.main_arg5) = m ((c.tc : Thread Cert.FoxProjSampleIdeal.nD Cert.FoxProjSampleIdeal.τ).loc Cert.FoxProjSampleIdeal.main_arg5)
          ∧ r.2.mem ((c.tc : Thread Cert.FoxProjSampleIdeal.nD Cert.FoxProjSampleIdeal.τ).loc Cert.FoxProjSampleIdeal.main_arg6) = m ((c.tc : Thread Cert.FoxProjSampleIdeal.nD Cert.FoxProjSampleIdeal.τ).loc Cert.FoxProjSampleIdeal.main_arg6)
          ∧ r.2.mem ((c.tc : Thread Cert.FoxProjSampleIdeal.nD Cert.FoxProjSampleIdeal.τ).loc Cert.FoxProjSampleIdeal.main_arg7) = m ((c.tc : Thread Cert.FoxProjSampleIdeal.nD Cert.FoxProjSampleIdeal.τ).loc Cert.FoxProjSampleIdeal.main_arg7)
          ∧ r.2.mem ((c.tc : Thread Cert.FoxProjSampleIdeal.nD Cert.FoxProjSampleIdeal.τ).loc Cert.FoxProjSampleIdeal.main_arg8) = m ((c.tc : Thread Cert.FoxProjSampleIdeal.nD Cert.FoxProjSampleIdeal.τ).loc Cert.FoxProjSampleIdeal.main_arg8)
          ∧ r.2.mem ((c.tc : Thread Cert.FoxProjSampleIdeal.nD Cert.FoxProjSampleIdeal.τ).loc Cert.FoxProjSampleIdeal.main_arg9) = m ((c.tc : Thread Cert.FoxProjSampleIdeal.nD Cert.FoxProjSampleIdeal.τ).loc Cert.FoxProjSampleIdeal.main_arg9))
      ∧ θ_run (Cert.FoxProjSampleReferenceIdeal.defs (F := Ideal)) (onTc (τ := Cert.FoxProjSampleReferenceIdeal.τ) (Cert.FoxProjSampleReferenceIdeal.main (F := Ideal))) ⟨m', fun _ => 0, g'⟩ (fun r => ∀ c : Dev Cert.FoxProjSampleReferenceIdeal.nD,
          r.2.mem ((c.tc : Thread Cert.FoxProjSampleReferenceIdeal.nD Cert.FoxProjSampleReferenceIdeal.τ).loc Cert.FoxProjSampleReferenceIdeal.main_v74) = v0 c
          ∧ r.2.mem ((c.tc : Thread Cert.FoxProjSampleReferenceIdeal.nD Cert.FoxProjSampleReferenceIdeal.τ).loc Cert.FoxProjSampleReferenceIdeal.main_v75) = v1 c
          ∧ r.2.mem ((c.tc : Thread Cert.FoxProjSampleReferenceIdeal.nD Cert.FoxProjSampleReferenceIdeal.τ).loc Cert.FoxProjSampleReferenceIdeal.main_v76) = v2 c
          ∧ r.2.mem ((c.tc : Thread Cert.FoxProjSampleReferenceIdeal.nD Cert.FoxProjSampleReferenceIdeal.τ).loc Cert.FoxProjSampleReferenceIdeal.main_v77) = v3 c
          ∧ r.2.mem ((c.tc : Thread Cert.FoxProjSampleReferenceIdeal.nD Cert.FoxProjSampleReferenceIdeal.τ).loc Cert.FoxProjSampleReferenceIdeal.main_arg0) = m' ((c.tc : Thread Cert.FoxProjSampleReferenceIdeal.nD Cert.FoxProjSampleReferenceIdeal.τ).loc Cert.FoxProjSampleReferenceIdeal.main_arg0)
          ∧ r.2.mem ((c.tc : Thread Cert.FoxProjSampleReferenceIdeal.nD Cert.FoxProjSampleReferenceIdeal.τ).loc Cert.FoxProjSampleReferenceIdeal.main_arg1) = m' ((c.tc : Thread Cert.FoxProjSampleReferenceIdeal.nD Cert.FoxProjSampleReferenceIdeal.τ).loc Cert.FoxProjSampleReferenceIdeal.main_arg1)
          ∧ r.2.mem ((c.tc : Thread Cert.FoxProjSampleReferenceIdeal.nD Cert.FoxProjSampleReferenceIdeal.τ).loc Cert.FoxProjSampleReferenceIdeal.main_arg2) = m' ((c.tc : Thread Cert.FoxProjSampleReferenceIdeal.nD Cert.FoxProjSampleReferenceIdeal.τ).loc Cert.FoxProjSampleReferenceIdeal.main_arg2)
          ∧ r.2.mem ((c.tc : Thread Cert.FoxProjSampleReferenceIdeal.nD Cert.FoxProjSampleReferenceIdeal.τ).loc Cert.FoxProjSampleReferenceIdeal.main_arg3) = m' ((c.tc : Thread Cert.FoxProjSampleReferenceIdeal.nD Cert.FoxProjSampleReferenceIdeal.τ).loc Cert.FoxProjSampleReferenceIdeal.main_arg3)
          ∧ r.2.mem ((c.tc : Thread Cert.FoxProjSampleReferenceIdeal.nD Cert.FoxProjSampleReferenceIdeal.τ).loc Cert.FoxProjSampleReferenceIdeal.main_arg4) = m' ((c.tc : Thread Cert.FoxProjSampleReferenceIdeal.nD Cert.FoxProjSampleReferenceIdeal.τ).loc Cert.FoxProjSampleReferenceIdeal.main_arg4)
          ∧ r.2.mem ((c.tc : Thread Cert.FoxProjSampleReferenceIdeal.nD Cert.FoxProjSampleReferenceIdeal.τ).loc Cert.FoxProjSampleReferenceIdeal.main_arg5) = m' ((c.tc : Thread Cert.FoxProjSampleReferenceIdeal.nD Cert.FoxProjSampleReferenceIdeal.τ).loc Cert.FoxProjSampleReferenceIdeal.main_arg5)
          ∧ r.2.mem ((c.tc : Thread Cert.FoxProjSampleReferenceIdeal.nD Cert.FoxProjSampleReferenceIdeal.τ).loc Cert.FoxProjSampleReferenceIdeal.main_arg6) = m' ((c.tc : Thread Cert.FoxProjSampleReferenceIdeal.nD Cert.FoxProjSampleReferenceIdeal.τ).loc Cert.FoxProjSampleReferenceIdeal.main_arg6)
          ∧ r.2.mem ((c.tc : Thread Cert.FoxProjSampleReferenceIdeal.nD Cert.FoxProjSampleReferenceIdeal.τ).loc Cert.FoxProjSampleReferenceIdeal.main_arg7) = m' ((c.tc : Thread Cert.FoxProjSampleReferenceIdeal.nD Cert.FoxProjSampleReferenceIdeal.τ).loc Cert.FoxProjSampleReferenceIdeal.main_arg7)
          ∧ r.2.mem ((c.tc : Thread Cert.FoxProjSampleReferenceIdeal.nD Cert.FoxProjSampleReferenceIdeal.τ).loc Cert.FoxProjSampleReferenceIdeal.main_arg8) = m' ((c.tc : Thread Cert.FoxProjSampleReferenceIdeal.nD Cert.FoxProjSampleReferenceIdeal.τ).loc Cert.FoxProjSampleReferenceIdeal.main_arg8)
          ∧ r.2.mem ((c.tc : Thread Cert.FoxProjSampleReferenceIdeal.nD Cert.FoxProjSampleReferenceIdeal.τ).loc Cert.FoxProjSampleReferenceIdeal.main_arg9) = m' ((c.tc : Thread Cert.FoxProjSampleReferenceIdeal.nD Cert.FoxProjSampleReferenceIdeal.τ).loc Cert.FoxProjSampleReferenceIdeal.main_arg9))

def preserves_PoolFfn_PoolFfnIdeal : Prop :=
  True

def algebraic_PoolFfnIdeal_PoolFfnReferenceIdeal_pre_finite_gains [hPoolFfnIdeal : Cert.PoolFfnIdeal.Facts] [hPoolFfnReferenceIdeal : Cert.PoolFfnReferenceIdeal.Facts] [hPre_finite_gains : Cert.Pre_finite_gains.Facts] : Prop :=
  ∀ (m : (ℓ : Loc Cert.PoolFfnIdeal.nD Cert.PoolFfnIdeal.τ Cert.PoolFfnIdeal.sig) → Buf (Elt Ideal) ℓ) (g : Dev Cert.PoolFfnIdeal.nD → PrngReg)
    (m' : (ℓ : Loc Cert.PoolFfnReferenceIdeal.nD Cert.PoolFfnReferenceIdeal.τ Cert.PoolFfnReferenceIdeal.sig) → Buf (Elt Ideal) ℓ) (g' : Dev Cert.PoolFfnReferenceIdeal.nD → PrngReg), Pre_PoolFfnIdeal_finite_gains m →
    (∀ c : Dev Cert.PoolFfnIdeal.nD,
      m' ((c.tc : Thread Cert.PoolFfnReferenceIdeal.nD Cert.PoolFfnReferenceIdeal.τ).loc Cert.PoolFfnReferenceIdeal.main_arg0) = m ((c.tc : Thread Cert.PoolFfnIdeal.nD Cert.PoolFfnIdeal.τ).loc Cert.PoolFfnIdeal.main_arg0)
      ∧ m' ((c.tc : Thread Cert.PoolFfnReferenceIdeal.nD Cert.PoolFfnReferenceIdeal.τ).loc Cert.PoolFfnReferenceIdeal.main_arg1) = m ((c.tc : Thread Cert.PoolFfnIdeal.nD Cert.PoolFfnIdeal.τ).loc Cert.PoolFfnIdeal.main_arg1)
      ∧ m' ((c.tc : Thread Cert.PoolFfnReferenceIdeal.nD Cert.PoolFfnReferenceIdeal.τ).loc Cert.PoolFfnReferenceIdeal.main_arg2) = m ((c.tc : Thread Cert.PoolFfnIdeal.nD Cert.PoolFfnIdeal.τ).loc Cert.PoolFfnIdeal.main_arg2)
      ∧ m' ((c.tc : Thread Cert.PoolFfnReferenceIdeal.nD Cert.PoolFfnReferenceIdeal.τ).loc Cert.PoolFfnReferenceIdeal.main_arg3) = m ((c.tc : Thread Cert.PoolFfnIdeal.nD Cert.PoolFfnIdeal.τ).loc Cert.PoolFfnIdeal.main_arg3)
      ∧ m' ((c.tc : Thread Cert.PoolFfnReferenceIdeal.nD Cert.PoolFfnReferenceIdeal.τ).loc Cert.PoolFfnReferenceIdeal.main_arg4) = m ((c.tc : Thread Cert.PoolFfnIdeal.nD Cert.PoolFfnIdeal.τ).loc Cert.PoolFfnIdeal.main_arg4)
      ∧ m' ((c.tc : Thread Cert.PoolFfnReferenceIdeal.nD Cert.PoolFfnReferenceIdeal.τ).loc Cert.PoolFfnReferenceIdeal.main_arg5) = m ((c.tc : Thread Cert.PoolFfnIdeal.nD Cert.PoolFfnIdeal.τ).loc Cert.PoolFfnIdeal.main_arg5)
      ∧ m' ((c.tc : Thread Cert.PoolFfnReferenceIdeal.nD Cert.PoolFfnReferenceIdeal.τ).loc Cert.PoolFfnReferenceIdeal.main_arg6) = m ((c.tc : Thread Cert.PoolFfnIdeal.nD Cert.PoolFfnIdeal.τ).loc Cert.PoolFfnIdeal.main_arg6)
      ∧ m' ((c.tc : Thread Cert.PoolFfnReferenceIdeal.nD Cert.PoolFfnReferenceIdeal.τ).loc Cert.PoolFfnReferenceIdeal.main_arg7) = m ((c.tc : Thread Cert.PoolFfnIdeal.nD Cert.PoolFfnIdeal.τ).loc Cert.PoolFfnIdeal.main_arg7)
      ∧ m' ((c.tc : Thread Cert.PoolFfnReferenceIdeal.nD Cert.PoolFfnReferenceIdeal.τ).loc Cert.PoolFfnReferenceIdeal.main_arg8) = m ((c.tc : Thread Cert.PoolFfnIdeal.nD Cert.PoolFfnIdeal.τ).loc Cert.PoolFfnIdeal.main_arg8)) →
    ∃ (v0 : (c : Dev Cert.PoolFfnIdeal.nD) → Buf (Elt Ideal) ((c.tc : Thread Cert.PoolFfnIdeal.nD Cert.PoolFfnIdeal.τ).loc Cert.PoolFfnIdeal.main_v1_0)) (v1 : (c : Dev Cert.PoolFfnIdeal.nD) → Buf (Elt Ideal) ((c.tc : Thread Cert.PoolFfnIdeal.nD Cert.PoolFfnIdeal.τ).loc Cert.PoolFfnIdeal.main_v1_1)),
      θ_run (Cert.PoolFfnIdeal.defs (F := Ideal)) (onTc (τ := Cert.PoolFfnIdeal.τ) (Cert.PoolFfnIdeal.main (F := Ideal))) ⟨m, fun _ => 0, g⟩ (fun r => ∀ c : Dev Cert.PoolFfnIdeal.nD,
          r.2.mem ((c.tc : Thread Cert.PoolFfnIdeal.nD Cert.PoolFfnIdeal.τ).loc Cert.PoolFfnIdeal.main_v1_0) = v0 c
          ∧ r.2.mem ((c.tc : Thread Cert.PoolFfnIdeal.nD Cert.PoolFfnIdeal.τ).loc Cert.PoolFfnIdeal.main_v1_1) = v1 c
          ∧ r.2.mem ((c.tc : Thread Cert.PoolFfnIdeal.nD Cert.PoolFfnIdeal.τ).loc Cert.PoolFfnIdeal.main_arg0) = m ((c.tc : Thread Cert.PoolFfnIdeal.nD Cert.PoolFfnIdeal.τ).loc Cert.PoolFfnIdeal.main_arg0)
          ∧ r.2.mem ((c.tc : Thread Cert.PoolFfnIdeal.nD Cert.PoolFfnIdeal.τ).loc Cert.PoolFfnIdeal.main_arg1) = m ((c.tc : Thread Cert.PoolFfnIdeal.nD Cert.PoolFfnIdeal.τ).loc Cert.PoolFfnIdeal.main_arg1)
          ∧ r.2.mem ((c.tc : Thread Cert.PoolFfnIdeal.nD Cert.PoolFfnIdeal.τ).loc Cert.PoolFfnIdeal.main_arg2) = m ((c.tc : Thread Cert.PoolFfnIdeal.nD Cert.PoolFfnIdeal.τ).loc Cert.PoolFfnIdeal.main_arg2)
          ∧ r.2.mem ((c.tc : Thread Cert.PoolFfnIdeal.nD Cert.PoolFfnIdeal.τ).loc Cert.PoolFfnIdeal.main_arg3) = m ((c.tc : Thread Cert.PoolFfnIdeal.nD Cert.PoolFfnIdeal.τ).loc Cert.PoolFfnIdeal.main_arg3)
          ∧ r.2.mem ((c.tc : Thread Cert.PoolFfnIdeal.nD Cert.PoolFfnIdeal.τ).loc Cert.PoolFfnIdeal.main_arg4) = m ((c.tc : Thread Cert.PoolFfnIdeal.nD Cert.PoolFfnIdeal.τ).loc Cert.PoolFfnIdeal.main_arg4)
          ∧ r.2.mem ((c.tc : Thread Cert.PoolFfnIdeal.nD Cert.PoolFfnIdeal.τ).loc Cert.PoolFfnIdeal.main_arg5) = m ((c.tc : Thread Cert.PoolFfnIdeal.nD Cert.PoolFfnIdeal.τ).loc Cert.PoolFfnIdeal.main_arg5)
          ∧ r.2.mem ((c.tc : Thread Cert.PoolFfnIdeal.nD Cert.PoolFfnIdeal.τ).loc Cert.PoolFfnIdeal.main_arg6) = m ((c.tc : Thread Cert.PoolFfnIdeal.nD Cert.PoolFfnIdeal.τ).loc Cert.PoolFfnIdeal.main_arg6)
          ∧ r.2.mem ((c.tc : Thread Cert.PoolFfnIdeal.nD Cert.PoolFfnIdeal.τ).loc Cert.PoolFfnIdeal.main_arg7) = m ((c.tc : Thread Cert.PoolFfnIdeal.nD Cert.PoolFfnIdeal.τ).loc Cert.PoolFfnIdeal.main_arg7)
          ∧ r.2.mem ((c.tc : Thread Cert.PoolFfnIdeal.nD Cert.PoolFfnIdeal.τ).loc Cert.PoolFfnIdeal.main_arg8) = m ((c.tc : Thread Cert.PoolFfnIdeal.nD Cert.PoolFfnIdeal.τ).loc Cert.PoolFfnIdeal.main_arg8))
      ∧ θ_run (Cert.PoolFfnReferenceIdeal.defs (F := Ideal)) (onTc (τ := Cert.PoolFfnReferenceIdeal.τ) (Cert.PoolFfnReferenceIdeal.main (F := Ideal))) ⟨m', fun _ => 0, g'⟩ (fun r => ∀ c : Dev Cert.PoolFfnReferenceIdeal.nD,
          r.2.mem ((c.tc : Thread Cert.PoolFfnReferenceIdeal.nD Cert.PoolFfnReferenceIdeal.τ).loc Cert.PoolFfnReferenceIdeal.main_v130) = v0 c
          ∧ r.2.mem ((c.tc : Thread Cert.PoolFfnReferenceIdeal.nD Cert.PoolFfnReferenceIdeal.τ).loc Cert.PoolFfnReferenceIdeal.main_v131) = v1 c
          ∧ r.2.mem ((c.tc : Thread Cert.PoolFfnReferenceIdeal.nD Cert.PoolFfnReferenceIdeal.τ).loc Cert.PoolFfnReferenceIdeal.main_arg0) = m' ((c.tc : Thread Cert.PoolFfnReferenceIdeal.nD Cert.PoolFfnReferenceIdeal.τ).loc Cert.PoolFfnReferenceIdeal.main_arg0)
          ∧ r.2.mem ((c.tc : Thread Cert.PoolFfnReferenceIdeal.nD Cert.PoolFfnReferenceIdeal.τ).loc Cert.PoolFfnReferenceIdeal.main_arg1) = m' ((c.tc : Thread Cert.PoolFfnReferenceIdeal.nD Cert.PoolFfnReferenceIdeal.τ).loc Cert.PoolFfnReferenceIdeal.main_arg1)
          ∧ r.2.mem ((c.tc : Thread Cert.PoolFfnReferenceIdeal.nD Cert.PoolFfnReferenceIdeal.τ).loc Cert.PoolFfnReferenceIdeal.main_arg2) = m' ((c.tc : Thread Cert.PoolFfnReferenceIdeal.nD Cert.PoolFfnReferenceIdeal.τ).loc Cert.PoolFfnReferenceIdeal.main_arg2)
          ∧ r.2.mem ((c.tc : Thread Cert.PoolFfnReferenceIdeal.nD Cert.PoolFfnReferenceIdeal.τ).loc Cert.PoolFfnReferenceIdeal.main_arg3) = m' ((c.tc : Thread Cert.PoolFfnReferenceIdeal.nD Cert.PoolFfnReferenceIdeal.τ).loc Cert.PoolFfnReferenceIdeal.main_arg3)
          ∧ r.2.mem ((c.tc : Thread Cert.PoolFfnReferenceIdeal.nD Cert.PoolFfnReferenceIdeal.τ).loc Cert.PoolFfnReferenceIdeal.main_arg4) = m' ((c.tc : Thread Cert.PoolFfnReferenceIdeal.nD Cert.PoolFfnReferenceIdeal.τ).loc Cert.PoolFfnReferenceIdeal.main_arg4)
          ∧ r.2.mem ((c.tc : Thread Cert.PoolFfnReferenceIdeal.nD Cert.PoolFfnReferenceIdeal.τ).loc Cert.PoolFfnReferenceIdeal.main_arg5) = m' ((c.tc : Thread Cert.PoolFfnReferenceIdeal.nD Cert.PoolFfnReferenceIdeal.τ).loc Cert.PoolFfnReferenceIdeal.main_arg5)
          ∧ r.2.mem ((c.tc : Thread Cert.PoolFfnReferenceIdeal.nD Cert.PoolFfnReferenceIdeal.τ).loc Cert.PoolFfnReferenceIdeal.main_arg6) = m' ((c.tc : Thread Cert.PoolFfnReferenceIdeal.nD Cert.PoolFfnReferenceIdeal.τ).loc Cert.PoolFfnReferenceIdeal.main_arg6)
          ∧ r.2.mem ((c.tc : Thread Cert.PoolFfnReferenceIdeal.nD Cert.PoolFfnReferenceIdeal.τ).loc Cert.PoolFfnReferenceIdeal.main_arg7) = m' ((c.tc : Thread Cert.PoolFfnReferenceIdeal.nD Cert.PoolFfnReferenceIdeal.τ).loc Cert.PoolFfnReferenceIdeal.main_arg7)
          ∧ r.2.mem ((c.tc : Thread Cert.PoolFfnReferenceIdeal.nD Cert.PoolFfnReferenceIdeal.τ).loc Cert.PoolFfnReferenceIdeal.main_arg8) = m' ((c.tc : Thread Cert.PoolFfnReferenceIdeal.nD Cert.PoolFfnReferenceIdeal.τ).loc Cert.PoolFfnReferenceIdeal.main_arg8))

def preserves_PoolSample_PoolSampleIdeal : Prop :=
  True

def algebraic_PoolSampleIdeal_PoolSampleReferenceIdeal [hPoolSampleIdeal : Cert.PoolSampleIdeal.Facts] [hPoolSampleReferenceIdeal : Cert.PoolSampleReferenceIdeal.Facts] : Prop :=
  ∀ (m : (ℓ : Loc Cert.PoolSampleIdeal.nD Cert.PoolSampleIdeal.τ Cert.PoolSampleIdeal.sig) → Buf (Elt Ideal) ℓ) (g : Dev Cert.PoolSampleIdeal.nD → PrngReg)
    (m' : (ℓ : Loc Cert.PoolSampleReferenceIdeal.nD Cert.PoolSampleReferenceIdeal.τ Cert.PoolSampleReferenceIdeal.sig) → Buf (Elt Ideal) ℓ) (g' : Dev Cert.PoolSampleReferenceIdeal.nD → PrngReg), Pre_PoolSampleIdeal m →
    (∀ c : Dev Cert.PoolSampleIdeal.nD,
      m' ((c.tc : Thread Cert.PoolSampleReferenceIdeal.nD Cert.PoolSampleReferenceIdeal.τ).loc Cert.PoolSampleReferenceIdeal.main_arg0) = m ((c.tc : Thread Cert.PoolSampleIdeal.nD Cert.PoolSampleIdeal.τ).loc Cert.PoolSampleIdeal.main_arg0)
      ∧ m' ((c.tc : Thread Cert.PoolSampleReferenceIdeal.nD Cert.PoolSampleReferenceIdeal.τ).loc Cert.PoolSampleReferenceIdeal.main_arg1) = m ((c.tc : Thread Cert.PoolSampleIdeal.nD Cert.PoolSampleIdeal.τ).loc Cert.PoolSampleIdeal.main_arg1)
      ∧ m' ((c.tc : Thread Cert.PoolSampleReferenceIdeal.nD Cert.PoolSampleReferenceIdeal.τ).loc Cert.PoolSampleReferenceIdeal.main_arg2) = m ((c.tc : Thread Cert.PoolSampleIdeal.nD Cert.PoolSampleIdeal.τ).loc Cert.PoolSampleIdeal.main_arg2)
      ∧ m' ((c.tc : Thread Cert.PoolSampleReferenceIdeal.nD Cert.PoolSampleReferenceIdeal.τ).loc Cert.PoolSampleReferenceIdeal.main_arg3) = m ((c.tc : Thread Cert.PoolSampleIdeal.nD Cert.PoolSampleIdeal.τ).loc Cert.PoolSampleIdeal.main_arg3)
      ∧ m' ((c.tc : Thread Cert.PoolSampleReferenceIdeal.nD Cert.PoolSampleReferenceIdeal.τ).loc Cert.PoolSampleReferenceIdeal.main_arg4) = m ((c.tc : Thread Cert.PoolSampleIdeal.nD Cert.PoolSampleIdeal.τ).loc Cert.PoolSampleIdeal.main_arg4)
      ∧ m' ((c.tc : Thread Cert.PoolSampleReferenceIdeal.nD Cert.PoolSampleReferenceIdeal.τ).loc Cert.PoolSampleReferenceIdeal.main_arg5) = m ((c.tc : Thread Cert.PoolSampleIdeal.nD Cert.PoolSampleIdeal.τ).loc Cert.PoolSampleIdeal.main_arg5)
      ∧ m' ((c.tc : Thread Cert.PoolSampleReferenceIdeal.nD Cert.PoolSampleReferenceIdeal.τ).loc Cert.PoolSampleReferenceIdeal.main_arg6) = m ((c.tc : Thread Cert.PoolSampleIdeal.nD Cert.PoolSampleIdeal.τ).loc Cert.PoolSampleIdeal.main_arg6)
      ∧ m' ((c.tc : Thread Cert.PoolSampleReferenceIdeal.nD Cert.PoolSampleReferenceIdeal.τ).loc Cert.PoolSampleReferenceIdeal.main_arg7) = m ((c.tc : Thread Cert.PoolSampleIdeal.nD Cert.PoolSampleIdeal.τ).loc Cert.PoolSampleIdeal.main_arg7)
      ∧ m' ((c.tc : Thread Cert.PoolSampleReferenceIdeal.nD Cert.PoolSampleReferenceIdeal.τ).loc Cert.PoolSampleReferenceIdeal.main_arg8) = m ((c.tc : Thread Cert.PoolSampleIdeal.nD Cert.PoolSampleIdeal.τ).loc Cert.PoolSampleIdeal.main_arg8)
      ∧ m' ((c.tc : Thread Cert.PoolSampleReferenceIdeal.nD Cert.PoolSampleReferenceIdeal.τ).loc Cert.PoolSampleReferenceIdeal.main_arg9) = m ((c.tc : Thread Cert.PoolSampleIdeal.nD Cert.PoolSampleIdeal.τ).loc Cert.PoolSampleIdeal.main_arg9)) →
    ∃ (v0 : (c : Dev Cert.PoolSampleIdeal.nD) → Buf (Elt Ideal) ((c.tc : Thread Cert.PoolSampleIdeal.nD Cert.PoolSampleIdeal.τ).loc Cert.PoolSampleIdeal.main_v0_0)) (v1 : (c : Dev Cert.PoolSampleIdeal.nD) → Buf (Elt Ideal) ((c.tc : Thread Cert.PoolSampleIdeal.nD Cert.PoolSampleIdeal.τ).loc Cert.PoolSampleIdeal.main_v0_1)),
      θ_run (Cert.PoolSampleIdeal.defs (F := Ideal)) (onTc (τ := Cert.PoolSampleIdeal.τ) (Cert.PoolSampleIdeal.main (F := Ideal))) ⟨m, fun _ => 0, g⟩ (fun r => ∀ c : Dev Cert.PoolSampleIdeal.nD,
          r.2.mem ((c.tc : Thread Cert.PoolSampleIdeal.nD Cert.PoolSampleIdeal.τ).loc Cert.PoolSampleIdeal.main_v0_0) = v0 c
          ∧ r.2.mem ((c.tc : Thread Cert.PoolSampleIdeal.nD Cert.PoolSampleIdeal.τ).loc Cert.PoolSampleIdeal.main_v0_1) = v1 c
          ∧ r.2.mem ((c.tc : Thread Cert.PoolSampleIdeal.nD Cert.PoolSampleIdeal.τ).loc Cert.PoolSampleIdeal.main_arg0) = m ((c.tc : Thread Cert.PoolSampleIdeal.nD Cert.PoolSampleIdeal.τ).loc Cert.PoolSampleIdeal.main_arg0)
          ∧ r.2.mem ((c.tc : Thread Cert.PoolSampleIdeal.nD Cert.PoolSampleIdeal.τ).loc Cert.PoolSampleIdeal.main_arg1) = m ((c.tc : Thread Cert.PoolSampleIdeal.nD Cert.PoolSampleIdeal.τ).loc Cert.PoolSampleIdeal.main_arg1)
          ∧ r.2.mem ((c.tc : Thread Cert.PoolSampleIdeal.nD Cert.PoolSampleIdeal.τ).loc Cert.PoolSampleIdeal.main_arg2) = m ((c.tc : Thread Cert.PoolSampleIdeal.nD Cert.PoolSampleIdeal.τ).loc Cert.PoolSampleIdeal.main_arg2)
          ∧ r.2.mem ((c.tc : Thread Cert.PoolSampleIdeal.nD Cert.PoolSampleIdeal.τ).loc Cert.PoolSampleIdeal.main_arg3) = m ((c.tc : Thread Cert.PoolSampleIdeal.nD Cert.PoolSampleIdeal.τ).loc Cert.PoolSampleIdeal.main_arg3)
          ∧ r.2.mem ((c.tc : Thread Cert.PoolSampleIdeal.nD Cert.PoolSampleIdeal.τ).loc Cert.PoolSampleIdeal.main_arg4) = m ((c.tc : Thread Cert.PoolSampleIdeal.nD Cert.PoolSampleIdeal.τ).loc Cert.PoolSampleIdeal.main_arg4)
          ∧ r.2.mem ((c.tc : Thread Cert.PoolSampleIdeal.nD Cert.PoolSampleIdeal.τ).loc Cert.PoolSampleIdeal.main_arg5) = m ((c.tc : Thread Cert.PoolSampleIdeal.nD Cert.PoolSampleIdeal.τ).loc Cert.PoolSampleIdeal.main_arg5)
          ∧ r.2.mem ((c.tc : Thread Cert.PoolSampleIdeal.nD Cert.PoolSampleIdeal.τ).loc Cert.PoolSampleIdeal.main_arg6) = m ((c.tc : Thread Cert.PoolSampleIdeal.nD Cert.PoolSampleIdeal.τ).loc Cert.PoolSampleIdeal.main_arg6)
          ∧ r.2.mem ((c.tc : Thread Cert.PoolSampleIdeal.nD Cert.PoolSampleIdeal.τ).loc Cert.PoolSampleIdeal.main_arg7) = m ((c.tc : Thread Cert.PoolSampleIdeal.nD Cert.PoolSampleIdeal.τ).loc Cert.PoolSampleIdeal.main_arg7)
          ∧ r.2.mem ((c.tc : Thread Cert.PoolSampleIdeal.nD Cert.PoolSampleIdeal.τ).loc Cert.PoolSampleIdeal.main_arg8) = m ((c.tc : Thread Cert.PoolSampleIdeal.nD Cert.PoolSampleIdeal.τ).loc Cert.PoolSampleIdeal.main_arg8)
          ∧ r.2.mem ((c.tc : Thread Cert.PoolSampleIdeal.nD Cert.PoolSampleIdeal.τ).loc Cert.PoolSampleIdeal.main_arg9) = m ((c.tc : Thread Cert.PoolSampleIdeal.nD Cert.PoolSampleIdeal.τ).loc Cert.PoolSampleIdeal.main_arg9))
      ∧ θ_run (Cert.PoolSampleReferenceIdeal.defs (F := Ideal)) (onTc (τ := Cert.PoolSampleReferenceIdeal.τ) (Cert.PoolSampleReferenceIdeal.main (F := Ideal))) ⟨m', fun _ => 0, g'⟩ (fun r => ∀ c : Dev Cert.PoolSampleReferenceIdeal.nD,
          r.2.mem ((c.tc : Thread Cert.PoolSampleReferenceIdeal.nD Cert.PoolSampleReferenceIdeal.τ).loc Cert.PoolSampleReferenceIdeal.main_v94) = v0 c
          ∧ r.2.mem ((c.tc : Thread Cert.PoolSampleReferenceIdeal.nD Cert.PoolSampleReferenceIdeal.τ).loc Cert.PoolSampleReferenceIdeal.main_v96) = v1 c
          ∧ r.2.mem ((c.tc : Thread Cert.PoolSampleReferenceIdeal.nD Cert.PoolSampleReferenceIdeal.τ).loc Cert.PoolSampleReferenceIdeal.main_arg0) = m' ((c.tc : Thread Cert.PoolSampleReferenceIdeal.nD Cert.PoolSampleReferenceIdeal.τ).loc Cert.PoolSampleReferenceIdeal.main_arg0)
          ∧ r.2.mem ((c.tc : Thread Cert.PoolSampleReferenceIdeal.nD Cert.PoolSampleReferenceIdeal.τ).loc Cert.PoolSampleReferenceIdeal.main_arg1) = m' ((c.tc : Thread Cert.PoolSampleReferenceIdeal.nD Cert.PoolSampleReferenceIdeal.τ).loc Cert.PoolSampleReferenceIdeal.main_arg1)
          ∧ r.2.mem ((c.tc : Thread Cert.PoolSampleReferenceIdeal.nD Cert.PoolSampleReferenceIdeal.τ).loc Cert.PoolSampleReferenceIdeal.main_arg2) = m' ((c.tc : Thread Cert.PoolSampleReferenceIdeal.nD Cert.PoolSampleReferenceIdeal.τ).loc Cert.PoolSampleReferenceIdeal.main_arg2)
          ∧ r.2.mem ((c.tc : Thread Cert.PoolSampleReferenceIdeal.nD Cert.PoolSampleReferenceIdeal.τ).loc Cert.PoolSampleReferenceIdeal.main_arg3) = m' ((c.tc : Thread Cert.PoolSampleReferenceIdeal.nD Cert.PoolSampleReferenceIdeal.τ).loc Cert.PoolSampleReferenceIdeal.main_arg3)
          ∧ r.2.mem ((c.tc : Thread Cert.PoolSampleReferenceIdeal.nD Cert.PoolSampleReferenceIdeal.τ).loc Cert.PoolSampleReferenceIdeal.main_arg4) = m' ((c.tc : Thread Cert.PoolSampleReferenceIdeal.nD Cert.PoolSampleReferenceIdeal.τ).loc Cert.PoolSampleReferenceIdeal.main_arg4)
          ∧ r.2.mem ((c.tc : Thread Cert.PoolSampleReferenceIdeal.nD Cert.PoolSampleReferenceIdeal.τ).loc Cert.PoolSampleReferenceIdeal.main_arg5) = m' ((c.tc : Thread Cert.PoolSampleReferenceIdeal.nD Cert.PoolSampleReferenceIdeal.τ).loc Cert.PoolSampleReferenceIdeal.main_arg5)
          ∧ r.2.mem ((c.tc : Thread Cert.PoolSampleReferenceIdeal.nD Cert.PoolSampleReferenceIdeal.τ).loc Cert.PoolSampleReferenceIdeal.main_arg6) = m' ((c.tc : Thread Cert.PoolSampleReferenceIdeal.nD Cert.PoolSampleReferenceIdeal.τ).loc Cert.PoolSampleReferenceIdeal.main_arg6)
          ∧ r.2.mem ((c.tc : Thread Cert.PoolSampleReferenceIdeal.nD Cert.PoolSampleReferenceIdeal.τ).loc Cert.PoolSampleReferenceIdeal.main_arg7) = m' ((c.tc : Thread Cert.PoolSampleReferenceIdeal.nD Cert.PoolSampleReferenceIdeal.τ).loc Cert.PoolSampleReferenceIdeal.main_arg7)
          ∧ r.2.mem ((c.tc : Thread Cert.PoolSampleReferenceIdeal.nD Cert.PoolSampleReferenceIdeal.τ).loc Cert.PoolSampleReferenceIdeal.main_arg8) = m' ((c.tc : Thread Cert.PoolSampleReferenceIdeal.nD Cert.PoolSampleReferenceIdeal.τ).loc Cert.PoolSampleReferenceIdeal.main_arg8)
          ∧ r.2.mem ((c.tc : Thread Cert.PoolSampleReferenceIdeal.nD Cert.PoolSampleReferenceIdeal.τ).loc Cert.PoolSampleReferenceIdeal.main_arg9) = m' ((c.tc : Thread Cert.PoolSampleReferenceIdeal.nD Cert.PoolSampleReferenceIdeal.τ).loc Cert.PoolSampleReferenceIdeal.main_arg9))

def Claim : Prop :=
  ∃ (hGlaDecode : Cert.GlaDecode.Facts) (hGlaDecodeIdeal : Cert.GlaDecodeIdeal.Facts) (hGlaDecodeReferenceIdeal : Cert.GlaDecodeReferenceIdeal.Facts) (hOutFfn : Cert.OutFfn.Facts) (hOutFfnIdeal : Cert.OutFfnIdeal.Facts) (hOutFfnReferenceIdeal : Cert.OutFfnReferenceIdeal.Facts) (hOutFfnSample : Cert.OutFfnSample.Facts) (hOutFfnSampleIdeal : Cert.OutFfnSampleIdeal.Facts) (hOutFfnSampleReferenceIdeal : Cert.OutFfnSampleReferenceIdeal.Facts) (hGlaProj : Cert.GlaProj.Facts) (hGlaProjIdeal : Cert.GlaProjIdeal.Facts) (hGlaProjReferenceIdeal : Cert.GlaProjReferenceIdeal.Facts) (hFoxProj : Cert.FoxProj.Facts) (hFoxProjIdeal : Cert.FoxProjIdeal.Facts) (hFoxProjReferenceIdeal : Cert.FoxProjReferenceIdeal.Facts) (hFoxProjSample : Cert.FoxProjSample.Facts) (hFoxProjSampleIdeal : Cert.FoxProjSampleIdeal.Facts) (hFoxProjSampleReferenceIdeal : Cert.FoxProjSampleReferenceIdeal.Facts) (hPoolFfn : Cert.PoolFfn.Facts) (hPoolFfnIdeal : Cert.PoolFfnIdeal.Facts) (hPoolFfnReferenceIdeal : Cert.PoolFfnReferenceIdeal.Facts) (hPoolSample : Cert.PoolSample.Facts) (hPoolSampleIdeal : Cert.PoolSampleIdeal.Facts) (hPoolSampleReferenceIdeal : Cert.PoolSampleReferenceIdeal.Facts) (hPre_finite_qkg : Cert.Pre_finite_qkg.Facts) (hPre_finite_gains : Cert.Pre_finite_gains.Facts),
    quiescent_GlaDecode (hGlaDecode := hGlaDecode)
    ∧ quiescent_GlaDecodeIdeal (hGlaDecodeIdeal := hGlaDecodeIdeal)
    ∧ quiescent_GlaDecodeIdeal_pre_finite_qkg (hGlaDecodeIdeal := hGlaDecodeIdeal) (hPre_finite_qkg := hPre_finite_qkg)
    ∧ quiescent_GlaDecodeReferenceIdeal (hGlaDecodeReferenceIdeal := hGlaDecodeReferenceIdeal)
    ∧ quiescent_GlaDecodeReferenceIdeal_pre_finite_qkg (hGlaDecodeReferenceIdeal := hGlaDecodeReferenceIdeal) (hPre_finite_qkg := hPre_finite_qkg)
    ∧ quiescent_OutFfn (hOutFfn := hOutFfn)
    ∧ quiescent_OutFfnIdeal (hOutFfnIdeal := hOutFfnIdeal)
    ∧ quiescent_OutFfnReferenceIdeal (hOutFfnReferenceIdeal := hOutFfnReferenceIdeal)
    ∧ quiescent_OutFfnSample (hOutFfnSample := hOutFfnSample)
    ∧ quiescent_OutFfnSampleIdeal (hOutFfnSampleIdeal := hOutFfnSampleIdeal)
    ∧ quiescent_OutFfnSampleReferenceIdeal (hOutFfnSampleReferenceIdeal := hOutFfnSampleReferenceIdeal)
    ∧ quiescent_GlaProj (hGlaProj := hGlaProj)
    ∧ quiescent_GlaProjIdeal (hGlaProjIdeal := hGlaProjIdeal)
    ∧ quiescent_GlaProjReferenceIdeal (hGlaProjReferenceIdeal := hGlaProjReferenceIdeal)
    ∧ quiescent_FoxProj (hFoxProj := hFoxProj)
    ∧ quiescent_FoxProjIdeal (hFoxProjIdeal := hFoxProjIdeal)
    ∧ quiescent_FoxProjReferenceIdeal (hFoxProjReferenceIdeal := hFoxProjReferenceIdeal)
    ∧ quiescent_FoxProjSample (hFoxProjSample := hFoxProjSample)
    ∧ quiescent_FoxProjSampleIdeal (hFoxProjSampleIdeal := hFoxProjSampleIdeal)
    ∧ quiescent_FoxProjSampleReferenceIdeal (hFoxProjSampleReferenceIdeal := hFoxProjSampleReferenceIdeal)
    ∧ quiescent_PoolFfn (hPoolFfn := hPoolFfn)
    ∧ quiescent_PoolFfnIdeal (hPoolFfnIdeal := hPoolFfnIdeal)
    ∧ quiescent_PoolFfnIdeal_pre_finite_gains (hPoolFfnIdeal := hPoolFfnIdeal) (hPre_finite_gains := hPre_finite_gains)
    ∧ quiescent_PoolFfnReferenceIdeal (hPoolFfnReferenceIdeal := hPoolFfnReferenceIdeal)
    ∧ quiescent_PoolFfnReferenceIdeal_pre_finite_gains (hPoolFfnReferenceIdeal := hPoolFfnReferenceIdeal) (hPre_finite_gains := hPre_finite_gains)
    ∧ quiescent_PoolSample (hPoolSample := hPoolSample)
    ∧ quiescent_PoolSampleIdeal (hPoolSampleIdeal := hPoolSampleIdeal)
    ∧ quiescent_PoolSampleReferenceIdeal (hPoolSampleReferenceIdeal := hPoolSampleReferenceIdeal)
    ∧ preserves_GlaDecode_GlaDecodeIdeal
    ∧ algebraic_GlaDecodeIdeal_GlaDecodeReferenceIdeal_pre_finite_qkg (hGlaDecodeIdeal := hGlaDecodeIdeal) (hGlaDecodeReferenceIdeal := hGlaDecodeReferenceIdeal) (hPre_finite_qkg := hPre_finite_qkg)
    ∧ preserves_OutFfn_OutFfnIdeal
    ∧ algebraic_OutFfnIdeal_OutFfnReferenceIdeal (hOutFfnIdeal := hOutFfnIdeal) (hOutFfnReferenceIdeal := hOutFfnReferenceIdeal)
    ∧ preserves_OutFfnSample_OutFfnSampleIdeal
    ∧ algebraic_OutFfnSampleIdeal_OutFfnSampleReferenceIdeal (hOutFfnSampleIdeal := hOutFfnSampleIdeal) (hOutFfnSampleReferenceIdeal := hOutFfnSampleReferenceIdeal)
    ∧ preserves_GlaProj_GlaProjIdeal
    ∧ algebraic_GlaProjIdeal_GlaProjReferenceIdeal (hGlaProjIdeal := hGlaProjIdeal) (hGlaProjReferenceIdeal := hGlaProjReferenceIdeal)
    ∧ preserves_FoxProj_FoxProjIdeal
    ∧ algebraic_FoxProjIdeal_FoxProjReferenceIdeal (hFoxProjIdeal := hFoxProjIdeal) (hFoxProjReferenceIdeal := hFoxProjReferenceIdeal)
    ∧ preserves_FoxProjSample_FoxProjSampleIdeal
    ∧ algebraic_FoxProjSampleIdeal_FoxProjSampleReferenceIdeal (hFoxProjSampleIdeal := hFoxProjSampleIdeal) (hFoxProjSampleReferenceIdeal := hFoxProjSampleReferenceIdeal)
    ∧ preserves_PoolFfn_PoolFfnIdeal
    ∧ algebraic_PoolFfnIdeal_PoolFfnReferenceIdeal_pre_finite_gains (hPoolFfnIdeal := hPoolFfnIdeal) (hPoolFfnReferenceIdeal := hPoolFfnReferenceIdeal) (hPre_finite_gains := hPre_finite_gains)
    ∧ preserves_PoolSample_PoolSampleIdeal
    ∧ algebraic_PoolSampleIdeal_PoolSampleReferenceIdeal (hPoolSampleIdeal := hPoolSampleIdeal) (hPoolSampleReferenceIdeal := hPoolSampleReferenceIdeal)
-- ==== Pre_finite_gains.lean ====
abbrev S4x4096x1024 : Shape := ⟨3, ![4, 4096, 1024]⟩
abbrev S1x1024 : Shape := ⟨2, ![1, 1024]⟩
abbrev S4x256x256 : Shape := ⟨3, ![4, 256, 256]⟩
abbrev S4x6144 : Shape := ⟨2, ![4, 6144]⟩
abbrev S1024x2816 : Shape := ⟨2, ![1024, 2816]⟩
abbrev S2816x1024 : Shape := ⟨2, ![2816, 1024]⟩
abbrev S_ : Shape := ⟨0, ![]⟩
abbrev S4x1024 : Shape := ⟨2, ![4, 1024]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  slices_S4x6144_S4x1024_0_1024 : S4x6144.Slices ![0, 1024] S4x1024
  bcast_S_S4x1024 : S_.BroadcastsInDim S4x1024 (![] : Fin 0 → Fin S4x1024.rank)
  reducesTo_S4x1024_S_d0_1 : S4x1024.ReducesTo [0, 1] S_

variable [Facts]

def fn {F : FTy → Type} [FloatOps F] (main_arg0 : FVec F S4x4096x1024 .f32) (main_arg1 : FVec F S1x1024 .f32) (main_arg2 : FVec F S4x256x256 .bf16) (main_arg3 : FVec F S1x1024 .f32) (main_arg4 : FVec F S1x1024 .f32) (main_arg5 : FVec F S4x6144 .f32) (main_arg6 : FVec F S1024x2816 .bf16) (main_arg7 : FVec F S1024x2816 .bf16) (main_arg8 : FVec F S2816x1024 .bf16) : IVec S_ 1 :=
  let main_cst : FVec F S_ .f32 := constant S_ .f32 0x7F800000#32
  let main_v0 : FVec F S1x1024 .f32 := broadcastInDim S1x1024 ![] bcast_S_S1x1024 main_cst
  let main_v1 : IVec S1x1024 1 := cmpf .olt main_arg1 main_v0
  let main_cst_0 : FVec F S_ .f32 := constant S_ .f32 0xFF800000#32
  let main_v2 : FVec F S1x1024 .f32 := broadcastInDim S1x1024 ![] bcast_S_S1x1024 main_cst_0
  let main_v3 : IVec S1x1024 1 := cmpf .ogt main_arg1 main_v2
  let main_v4 : IVec S1x1024 1 := andi main_v1 main_v3
  let main_c : IVec S_ 1 := constantI S_ 1 1#1
  let main_v5 : IVec S_ 1 := (fun x v => Host.reduce IntOp.andi x v reducesTo_S1x1024_S_d0_1 h_S_) main_v4 main_c
  let main_v6 : FVec F S4x1024 .f32 := (extractStridedSlice S4x1024 ![0, 1024] · slices_S4x6144_S4x1024_0_1024) main_arg5
  let main_cst_1 : FVec F S_ .f32 := constant S_ .f32 0x7F800000#32
  let main_v7 : FVec F S4x1024 .f32 := broadcastInDim S4x1024 ![] bcast_S_S4x1024 main_cst_1
  let main_v8 : IVec S4x1024 1 := cmpf .olt main_v6 main_v7
  let main_cst_2 : FVec F S_ .f32 := constant S_ .f32 0xFF800000#32
  let main_v9 : FVec F S4x1024 .f32 := broadcastInDim S4x1024 ![] bcast_S_S4x1024 main_cst_2
  let main_v10 : IVec S4x1024 1 := cmpf .ogt main_v6 main_v9
  let main_v11 : IVec S4x1024 1 := andi main_v8 main_v10
  let main_c_3 : IVec S_ 1 := constantI S_ 1 1#1
  let main_v12 : IVec S_ 1 := (fun x v => Host.reduce IntOp.andi x v reducesTo_S4x1024_S_d0_1 h_S_) main_v11 main_c_3
  let main_v13 : IVec S_ 1 := andi main_v5 main_v12
  main_v13
-- ==== Pre_finite_qkg.lean ====
abbrev S512x128 : Shape := ⟨2, ![512, 128]⟩
abbrev S128x1x1024 : Shape := ⟨3, ![128, 1, 1024]⟩
abbrev S1x256 : Shape := ⟨2, ![1, 256]⟩
abbrev S128x4x128x256 : Shape := ⟨4, ![128, 4, 128, 256]⟩
abbrev S_ : Shape := ⟨0, ![]⟩

class Facts : Prop where
  bcast_S_S512x128 : S_.BroadcastsInDim S512x128 (![] : Fin 0 → Fin S512x128.rank)
  reducesTo_S512x128_S_d0_1 : S512x128.ReducesTo [0, 1] S_
  h_S_ : 0 < S_.numel

variable [Facts]

def fn_part1 {F : FTy → Type} [FloatOps F] (main_arg2 : FVec F S512x128 .f32) (main_v12 : IVec S_ 1) (main_v14 : IVec S512x128 1) (main_v15 : FVec F S512x128 .f32) : IVec S_ 1 :=
  let main_v16 : IVec S512x128 1 := cmpf .ogt main_arg2 main_v15
  let main_v17 : IVec S512x128 1 := andi main_v14 main_v16
  let main_c_6 : IVec S_ 1 := constantI S_ 1 1#1
  let main_v18 : IVec S_ 1 := (fun x v => Host.reduce IntOp.andi x v reducesTo_S512x128_S_d0_1 h_S_) main_v17 main_c_6
  let main_v19 : IVec S_ 1 := andi main_v12 main_v18
  main_v19

def fn {F : FTy → Type} [FloatOps F] (main_arg0 : FVec F S512x128 .f32) (main_arg1 : FVec F S512x128 .f32) (main_arg2 : FVec F S512x128 .f32) (main_arg3 : FVec F S128x1x1024 .f32) (main_arg4 : FVec F S128x1x1024 .f32) (main_arg5 : FVec F S1x256 .f32) (main_arg6 : FVec F S128x4x128x256 .f32) : IVec S_ 1 :=
  let main_cst : FVec F S_ .f32 := constant S_ .f32 0x7F800000#32
  let main_v0 : FVec F S512x128 .f32 := broadcastInDim S512x128 ![] bcast_S_S512x128 main_cst
  let main_v1 : IVec S512x128 1 := cmpf .olt main_arg0 main_v0
  let main_cst_0 : FVec F S_ .f32 := constant S_ .f32 0xFF800000#32
  let main_v2 : FVec F S512x128 .f32 := broadcastInDim S512x128 ![] bcast_S_S512x128 main_cst_0
  let main_v3 : IVec S512x128 1 := cmpf .ogt main_arg0 main_v2
  let main_v4 : IVec S512x128 1 := andi main_v1 main_v3
  let main_c : IVec S_ 1 := constantI S_ 1 1#1
  let main_v5 : IVec S_ 1 := (fun x v => Host.reduce IntOp.andi x v reducesTo_S512x128_S_d0_1 h_S_) main_v4 main_c
  let main_cst_1 : FVec F S_ .f32 := constant S_ .f32 0x7F800000#32
  let main_v6 : FVec F S512x128 .f32 := broadcastInDim S512x128 ![] bcast_S_S512x128 main_cst_1
  let main_v7 : IVec S512x128 1 := cmpf .olt main_arg1 main_v6
  let main_cst_2 : FVec F S_ .f32 := constant S_ .f32 0xFF800000#32
  let main_v8 : FVec F S512x128 .f32 := broadcastInDim S512x128 ![] bcast_S_S512x128 main_cst_2
  let main_v9 : IVec S512x128 1 := cmpf .ogt main_arg1 main_v8
  let main_v10 : IVec S512x128 1 := andi main_v7 main_v9
  let main_c_3 : IVec S_ 1 := constantI S_ 1 1#1
  let main_v11 : IVec S_ 1 := (fun x v => Host.reduce IntOp.andi x v reducesTo_S512x128_S_d0_1 h_S_) main_v10 main_c_3
  let main_v12 : IVec S_ 1 := andi main_v5 main_v11
  let main_cst_4 : FVec F S_ .f32 := constant S_ .f32 0x7F800000#32
  let main_v13 : FVec F S512x128 .f32 := broadcastInDim S512x128 ![] bcast_S_S512x128 main_cst_4
  let main_v14 : IVec S512x128 1 := cmpf .olt main_arg2 main_v13
  let main_cst_5 : FVec F S_ .f32 := constant S_ .f32 0xFF800000#32
  let main_v15 : FVec F S512x128 .f32 := broadcastInDim S512x128 ![] bcast_S_S512x128 main_cst_5
  fn_part1 (F := F) main_arg2 main_v12 main_v14 main_v15
-- ==== GlaDecode.lean ====
abbrev S512x128 : Shape := ⟨2, ![512, 128]⟩
abbrev S128x1x1024 : Shape := ⟨3, ![128, 1, 1024]⟩
abbrev S1x256 : Shape := ⟨2, ![1, 256]⟩
abbrev S128x4x128x256 : Shape := ⟨4, ![128, 4, 128, 256]⟩
abbrev S1x1x1024 : Shape := ⟨3, ![1, 1, 1024]⟩
abbrev S1x4x128x256 : Shape := ⟨4, ![1, 4, 128, 256]⟩
abbrev S128x128 : Shape := ⟨2, ![128, 128]⟩
abbrev S512x256 : Shape := ⟨2, ![512, 256]⟩
abbrev S4x128x256 : Shape := ⟨3, ![4, 128, 256]⟩
abbrev S1x1x128x256 : Shape := ⟨4, ![1, 1, 128, 256]⟩
abbrev S128x256 : Shape := ⟨2, ![128, 256]⟩
abbrev S1x128x256 : Shape := ⟨3, ![1, 128, 256]⟩
abbrev S1x1x256 : Shape := ⟨3, ![1, 1, 256]⟩
abbrev S256 : Shape := ⟨1, ![256]⟩
abbrev S1 : Shape := ⟨1, ![1]⟩
abbrev S1x1 : Shape := ⟨2, ![1, 1]⟩

abbrev nBuf : Space → Nat
  | .hbm => 9
  | .vmem => 14
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S128x1x1024, .f32⟩
  | .hbm, ⟨4, _⟩ => ⟨S128x1x1024, .f32⟩
  | .hbm, ⟨5, _⟩ => ⟨S1x256, .f32⟩
  | .hbm, ⟨6, _⟩ => ⟨S128x4x128x256, .f32⟩
  | .hbm, ⟨7, _⟩ => ⟨S128x1x1024, .f32⟩
  | .hbm, ⟨8, _⟩ => ⟨S128x4x128x256, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x256, .f32⟩
  | .local _ .vmem, ⟨8, _⟩ => ⟨S1x4x128x256, .f32⟩
  | .local _ .vmem, ⟨9, _⟩ => ⟨S1x4x128x256, .f32⟩
  | .local _ .vmem, ⟨10, _⟩ => ⟨S1x1x1024, .f32⟩
  | .local _ .vmem, ⟨11, _⟩ => ⟨S1x1x1024, .f32⟩
  | .local _ .vmem, ⟨12, _⟩ => ⟨S1x4x128x256, .f32⟩
  | .local _ .vmem, ⟨13, _⟩ => ⟨S1x4x128x256, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GlaDecodeReferenceIdeal.lean ====
abbrev S512x128 : Shape := ⟨2, ![512, 128]⟩
abbrev S128x1x1024 : Shape := ⟨3, ![128, 1, 1024]⟩
abbrev S1x256 : Shape := ⟨2, ![1, 256]⟩
abbrev S128x4x128x256 : Shape := ⟨4, ![128, 4, 128, 256]⟩
abbrev S128x512 : Shape := ⟨2, ![128, 512]⟩
abbrev S128x4x128 : Shape := ⟨3, ![128, 4, 128]⟩
abbrev S128x4x256 : Shape := ⟨3, ![128, 4, 256]⟩
abbrev S128x4x128x1 : Shape := ⟨4, ![128, 4, 128, 1]⟩
abbrev S128x4x1x256 : Shape := ⟨4, ![128, 4, 1, 256]⟩
abbrev S256 : Shape := ⟨1, ![256]⟩
abbrev S_ : Shape := ⟨0, ![]⟩
abbrev S128x4 : Shape := ⟨2, ![128, 4]⟩
abbrev S128x4x1 : Shape := ⟨3, ![128, 4, 1]⟩
abbrev S1x1x256 : Shape := ⟨3, ![1, 1, 256]⟩

abbrev nBuf : Space → Nat
  | .hbm => 45
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S128x1x1024, .f32⟩
  | .hbm, ⟨4, _⟩ => ⟨S128x1x1024, .f32⟩
  | .hbm, ⟨5, _⟩ => ⟨S1x256, .f32⟩
  | .hbm, ⟨6, _⟩ => ⟨S128x4x128x256, .f32⟩
  | .hbm, ⟨7, _⟩ => ⟨S128x512, .f32⟩
  | .hbm, ⟨8, _⟩ => ⟨S128x4x128, .f32⟩
  | .hbm, ⟨9, _⟩ => ⟨S128x512, .f32⟩
  | .hbm, ⟨10, _⟩ => ⟨S128x4x128, .f32⟩
  | .hbm, ⟨11, _⟩ => ⟨S128x512, .f32⟩
  | .hbm, ⟨12, _⟩ => ⟨S128x4x128, .f32⟩
  | .hbm, ⟨13, _⟩ => ⟨S128x4x256, .f32⟩
  | .hbm, ⟨14, _⟩ => ⟨S128x4x128, .f32⟩
  | .hbm, ⟨15, _⟩ => ⟨S128x4x128x1, .f32⟩
  | .hbm, ⟨16, _⟩ => ⟨S128x4x128x256, .f32⟩
  | .hbm, ⟨17, _⟩ => ⟨S128x4x128x256, .f32⟩
  | .hbm, ⟨18, _⟩ => ⟨S128x4x128x1, .f32⟩
  | .hbm, ⟨19, _⟩ => ⟨S128x4x1x256, .f32⟩
  | .hbm, ⟨20, _⟩ => ⟨S128x4x128x256, .f32⟩
  | .hbm, ⟨21, _⟩ => ⟨S128x4x128x256, .f32⟩
  | .hbm, ⟨22, _⟩ => ⟨S128x4x128x256, .f32⟩
  | .hbm, ⟨23, _⟩ => ⟨S128x4x128x256, .f32⟩
  | .hbm, ⟨24, _⟩ => ⟨S128x4x256, .f32⟩
  | .hbm, ⟨25, _⟩ => ⟨S256, .f32⟩
  | .hbm, ⟨26, _⟩ => ⟨S128x4x256, .f32⟩
  | .hbm, ⟨27, _⟩ => ⟨S_, .f32⟩
  | .hbm, ⟨28, _⟩ => ⟨S128x4, .f32⟩
  | .hbm, ⟨29, _⟩ => ⟨S128x4x1, .f32⟩
  | .hbm, ⟨30, _⟩ => ⟨S_, .f32⟩
  | .hbm, ⟨31, _⟩ => ⟨S128x4x1, .f32⟩
  | .hbm, ⟨32, _⟩ => ⟨S128x4x1, .f32⟩
  | .hbm, ⟨33, _⟩ => ⟨S_, .f32⟩
  | .hbm, ⟨34, _⟩ => ⟨S128x4x1, .f32⟩
  | .hbm, ⟨35, _⟩ => ⟨S128x4x1, .f32⟩
  | .hbm, ⟨36, _⟩ => ⟨S128x4x1, .f32⟩
  | .hbm, ⟨37, _⟩ => ⟨S128x4x256, .f32⟩
  | .hbm, ⟨38, _⟩ => ⟨S128x4x256, .f32⟩
  | .hbm, ⟨39, _⟩ => ⟨S1x1x256, .f32⟩
  | .hbm, ⟨40, _⟩ => ⟨S128x4x256, .f32⟩
  | .hbm, ⟨41, _⟩ => ⟨S128x4x256, .f32⟩
  | .hbm, ⟨42, _⟩ => ⟨S128x4x256, .f32⟩
  | .hbm, ⟨43, _⟩ => ⟨S128x4x256, .f32⟩
  | .hbm, ⟨44, _⟩ => ⟨S128x1x1024, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== OutFfn.lean ====
abbrev S4x4096x1024 : Shape := ⟨3, ![4, 4096, 1024]⟩
abbrev S1024x1024 : Shape := ⟨2, ![1024, 1024]⟩
abbrev S1x1024 : Shape := ⟨2, ![1, 1024]⟩
abbrev S4x6144 : Shape := ⟨2, ![4, 6144]⟩
abbrev S1024x2816 : Shape := ⟨2, ![1024, 2816]⟩
abbrev S2816x1024 : Shape := ⟨2, ![2816, 1024]⟩
abbrev S4x6x1x1024 : Shape := ⟨4, ![4, 6, 1, 1024]⟩
abbrev S1x512x1024 : Shape := ⟨3, ![1, 512, 1024]⟩
abbrev S1x1x1x1024 : Shape := ⟨4, ![1, 1, 1, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 10
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S1024x1024, .bf16⟩
  | .hbm, ⟨3, _⟩ => ⟨S1x1024, .f32⟩
  | .hbm, ⟨4, _⟩ => ⟨S4x6144, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S4x6x1x1024, .f32⟩
  | .hbm, ⟨9, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x1x1x1024, .f32⟩
  | .local _ .vmem, ⟨6, _⟩ => ⟨S1x1x1x1024, .f32⟩
  | .local _ .vmem, ⟨7, _⟩ => ⟨S1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x512x1024, .f32⟩
  | .local _ .vmem, ⟨18, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg0.toNat, c5_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutFfnReferenceIdeal.lean ====
abbrev S4x4096x1024 : Shape := ⟨3, ![4, 4096, 1024]⟩
abbrev S1024x1024 : Shape := ⟨2, ![1024, 1024]⟩
abbrev S1x1024 : Shape := ⟨2, ![1, 1024]⟩
abbrev S4x6144 : Shape := ⟨2, ![4, 6144]⟩
abbrev S1024x2816 : Shape := ⟨2, ![1024, 2816]⟩
abbrev S2816x1024 : Shape := ⟨2, ![2816, 1024]⟩
abbrev S4x1024 : Shape := ⟨2, ![4, 1024]⟩
abbrev S4x1x1024 : Shape := ⟨3, ![4, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2816 : Shape := ⟨3, ![4, 4096, 2816]⟩

abbrev nBuf : Space → Nat
  | .hbm => 67
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S1024x1024, .bf16⟩
  | .hbm, ⟨3, _⟩ => ⟨S1x1024, .f32⟩
  | .hbm, ⟨4, _⟩ => ⟨S4x6144, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1x1024, .f32⟩
  | .hbm, ⟨15, _⟩ => ⟨S4x4096x1024, .f32⟩
  | .hbm, ⟨16, _⟩ => ⟨S1024x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S1024, .f32⟩
  | .hbm, ⟨22, _⟩ => ⟨S4x4096x1024, .f32⟩
  | .hbm, ⟨23, _⟩ => ⟨S_, .f32⟩
  | .hbm, ⟨24, _⟩ => ⟨S4x4096, .f32⟩
  | .hbm, ⟨25, _⟩ => ⟨S4x4096x1, .f32⟩
  | .hbm, ⟨26, _⟩ => ⟨S_, .f32⟩
  | .hbm, ⟨27, _⟩ => ⟨S4x4096x1, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S4x4096x1, .f32⟩
  | .hbm, ⟨33, _⟩ => ⟨S4x4096x1024, .f32⟩
  | .hbm, ⟨34, _⟩ => ⟨S4x4096x1024, .f32⟩
  | .hbm, ⟨35, _⟩ => ⟨S1x1x1024, .f32⟩
  | .hbm, ⟨36, _⟩ => ⟨S4x4096x1024, .f32⟩
  | .hbm, ⟨37, _⟩ => ⟨S4x4096x1024, .f32⟩
  | .hbm, ⟨38, _⟩ => ⟨S4x1x1024, .f32⟩
  | .hbm, ⟨39, _⟩ => ⟨S_, .f32⟩
  | .hbm, ⟨40, _⟩ => ⟨S4x1x1024, .f32⟩
  | .hbm, ⟨41, _⟩ => ⟨S4x1x1024, .f32⟩
  | .hbm, ⟨42, _⟩ => ⟨S4x4096x1024, .f32⟩
  | .hbm, ⟨43, _⟩ => ⟨S4x4096x1024, .f32⟩
  | .hbm, ⟨44, _⟩ => ⟨S4x1x1024, .f32⟩
  | .hbm, ⟨45, _⟩ => ⟨S4x4096x1024, .f32⟩
  | .hbm, ⟨46, _⟩ => ⟨S4x4096x1024, .f32⟩
  | .hbm, ⟨47, _⟩ => ⟨S4x1x1024, .f32⟩
  | .hbm, ⟨48, _⟩ => ⟨S1024x2816, .f32⟩
  | .hbm, ⟨49, _⟩ => ⟨S1024x2816, .f32⟩
  | .hbm, ⟨50, _⟩ => ⟨S2816x1024, .f32⟩
  | .hbm, ⟨51, _⟩ => ⟨S4x4096x2816, .f32⟩
  | .hbm, ⟨52, _⟩ => ⟨S4x4096x2816, .f32⟩
  | .hbm, ⟨53, _⟩ => ⟨S4x4096x2816, .f32⟩
  | .hbm, ⟨54, _⟩ => ⟨S_, .f32⟩
  | .hbm, ⟨55, _⟩ => ⟨S4x4096x2816, .f32⟩
  | .hbm, ⟨56, _⟩ => ⟨S4x4096x2816, .f32⟩
  | .hbm, ⟨57, _⟩ => ⟨S_, .f32⟩
  | .hbm, ⟨58, _⟩ => ⟨S4x4096x2816, .f32⟩
  | .hbm, ⟨59, _⟩ => ⟨S4x4096x2816, .f32⟩
  | .hbm, ⟨60, _⟩ => ⟨S4x4096x2816, .f32⟩
  | .hbm, ⟨61, _⟩ => ⟨S4x4096x2816, .f32⟩
  | .hbm, ⟨62, _⟩ => ⟨S4x4096x2816, .f32⟩
  | .hbm, ⟨63, _⟩ => ⟨S4x4096x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]
-- ==== OutFfnSample.lean ====
abbrev S1x128x1024 : Shape := ⟨3, ![1, 128, 1024]⟩
abbrev S1024x1024 : Shape := ⟨2, ![1024, 1024]⟩
abbrev S1x1024 : Shape := ⟨2, ![1, 1024]⟩
abbrev S128x6144 : Shape := ⟨2, ![128, 6144]⟩
abbrev S1024x2816 : Shape := ⟨2, ![1024, 2816]⟩
abbrev S2816x1024 : Shape := ⟨2, ![2816, 1024]⟩
abbrev S128x1024 : Shape := ⟨2, ![128, 1024]⟩
abbrev S128 : Shape := ⟨1, ![128]⟩
abbrev S128x1 : Shape := ⟨2, ![128, 1]⟩
abbrev S1024x1408 : Shape := ⟨2, ![1024, 1408]⟩
abbrev S128x1408 : Shape := ⟨2, ![128, 1408]⟩
abbrev S1408x1024 : Shape := ⟨2, ![1408, 1024]⟩

abbrev nBuf : Space → Nat
  | .hbm => 9
  | .vmem => 12
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .bf16⟩
  | .hbm, ⟨2, _⟩ => ⟨S1024x1024, .bf16⟩
  | .hbm, ⟨3, _⟩ => ⟨S1x1024, .f32⟩
  | .hbm, ⟨4, _⟩ => ⟨S128x6144, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x128x1024, .f32⟩
  | .local _ .vmem, ⟨0, _⟩ => ⟨S1x128x1024, .f32⟩
  | .local _ .vmem, ⟨1, _⟩ => ⟨S1x128x1024, .bf16⟩
  | .local _ .vmem, ⟨2, _⟩ => ⟨S1024x1024, .bf16⟩
  | .local _ .vmem, ⟨3, _⟩ => ⟨S128x1024, .f32⟩
  | .local _ .vmem, ⟨4, _⟩ => ⟨S1x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S1024x2816, .bf16⟩
  | .local _ .vmem, ⟨9, _⟩ => ⟨S1024x2816, .bf16⟩
  | .local _ .vmem, ⟨10, _⟩ => ⟨S2816x1024, .bf16⟩
  | .local _ .vmem, ⟨11, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, c4_i32.toNat]

def cc0_transform_7 (i : grid0.Coords) : Fin 2 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg1.toNat, c5_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]
-- ==== OutFfnSampleReferenceIdeal.lean ====
abbrev S1x128x1024 : Shape := ⟨3, ![1, 128, 1024]⟩
abbrev S1024x1024 : Shape := ⟨2, ![1024, 1024]⟩
abbrev S1x1024 : Shape := ⟨2, ![1, 1024]⟩
abbrev S128x6144 : Shape := ⟨2, ![128, 6144]⟩
abbrev S1024x2816 : Shape := ⟨2, ![1024, 2816]⟩
abbrev S2816x1024 : Shape := ⟨2, ![2816, 1024]⟩
abbrev S128x1024 : Shape := ⟨2, ![128, 1024]⟩
abbrev S1024 : Shape := ⟨1, ![1024]⟩
abbrev S_ : Shape := ⟨0, ![]⟩
abbrev S128 : Shape := ⟨1, ![128]⟩
abbrev S128x1 : Shape := ⟨2, ![128, 1]⟩
abbrev S128x2816 : Shape := ⟨2, ![128, 2816]⟩

abbrev nBuf : Space → Nat
  | .hbm => 62
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .bf16⟩
  | .hbm, ⟨2, _⟩ => ⟨S1024x1024, .bf16⟩
  | .hbm, ⟨3, _⟩ => ⟨S1x1024, .f32⟩
  | .hbm, ⟨4, _⟩ => ⟨S128x6144, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1024, .bf16⟩
  | .hbm, ⟨16, _⟩ => ⟨S128x1024, .f32⟩
  | .hbm, ⟨17, _⟩ => ⟨S1024x1024, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S1024, .f32⟩
  | .hbm, ⟨22, _⟩ => ⟨S128x1024, .f32⟩
  | .hbm, ⟨23, _⟩ => ⟨S_, .f32⟩
  | .hbm, ⟨24, _⟩ => ⟨S128, .f32⟩
  | .hbm, ⟨25, _⟩ => ⟨S128x1, .f32⟩
  | .hbm, ⟨26, _⟩ => ⟨S_, .f32⟩
  | .hbm, ⟨27, _⟩ => ⟨S128x1, .f32⟩
  | .hbm, ⟨28, _⟩ => ⟨S128x1, .f32⟩
  | .hbm, ⟨29, _⟩ => ⟨S_, .f32⟩
  | .hbm, ⟨30, _⟩ => ⟨S128x1, .f32⟩
  | .hbm, ⟨31, _⟩ => ⟨S128x1, .f32⟩
  | .hbm, ⟨32, _⟩ => ⟨S128x1, .f32⟩
  | .hbm, ⟨33, _⟩ => ⟨S128x1024, .f32⟩
  | .hbm, ⟨34, _⟩ => ⟨S128x1024, .f32⟩
  | .hbm, ⟨35, _⟩ => ⟨S1x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S1024x2816, .f32⟩
  | .hbm, ⟨44, _⟩ => ⟨S1024x2816, .f32⟩
  | .hbm, ⟨45, _⟩ => ⟨S2816x1024, .f32⟩
  | .hbm, ⟨46, _⟩ => ⟨S128x2816, .f32⟩
  | .hbm, ⟨47, _⟩ => ⟨S128x2816, .f32⟩
  | .hbm, ⟨48, _⟩ => ⟨S128x2816, .f32⟩
  | .hbm, ⟨49, _⟩ => ⟨S_, .f32⟩
  | .hbm, ⟨50, _⟩ => ⟨S128x2816, .f32⟩
  | .hbm, ⟨51, _⟩ => ⟨S128x2816, .f32⟩
  | .hbm, ⟨52, _⟩ => ⟨S_, .f32⟩
  | .hbm, ⟨53, _⟩ => ⟨S128x2816, .f32⟩
  | .hbm, ⟨54, _⟩ => ⟨S128x2816, .f32⟩
  | .hbm, ⟨55, _⟩ => ⟨S128x2816, .f32⟩
  | .hbm, ⟨56, _⟩ => ⟨S128x2816, .f32⟩
  | .hbm, ⟨57, _⟩ => ⟨S128x2816, .f32⟩
  | .hbm, ⟨58, _⟩ => ⟨S128x1024, .f32⟩
  | .hbm, ⟨59, _⟩ => ⟨S128x1024, .f32⟩
  | .hbm, ⟨60, _⟩ => ⟨S128x1024, .f32⟩
  | .hbm, ⟨61, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== GlaProj.lean ====
abbrev S4x4096x1024 : Shape := ⟨3, ![4, 4096, 1024]⟩
abbrev S1x1024 : Shape := ⟨2, ![1, 1024]⟩
abbrev S4x6144 : Shape := ⟨2, ![4, 6144]⟩
abbrev S1024x512 : Shape := ⟨2, ![1024, 512]⟩
abbrev S1024x1024 : Shape := ⟨2, ![1024, 1024]⟩
abbrev S1024x16 : Shape := ⟨2, ![1024, 16]⟩
abbrev S16x512 : Shape := ⟨2, ![16, 512]⟩
abbrev S1x512 : Shape := ⟨2, ![1, 512]⟩
abbrev S4x6x1x1024 : Shape := ⟨4, ![4, 6, 1, 1024]⟩
abbrev S4x4096x512 : Shape := ⟨3, ![4, 4096, 512]⟩
abbrev S1x512x1024 : Shape := ⟨3, ![1, 512, 1024]⟩
abbrev S1x1x1x1024 : Shape := ⟨4, ![1, 1, 1, 1024]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x16 : Shape := ⟨2, ![512, 16]⟩

abbrev nBuf : Space → Nat
  | .hbm => 16
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S4x6144, .f32⟩
  | .hbm, ⟨3, _⟩ => ⟨S1024x512, .bf16⟩
  | .hbm, ⟨4, _⟩ => ⟨S1024x512, .bf16⟩
  | .hbm, ⟨5, _⟩ => ⟨S1024x1024, .bf16⟩
  | .hbm, ⟨6, _⟩ => ⟨S1024x16, .bf16⟩
  | .hbm, ⟨7, _⟩ => ⟨S16x512, .bf16⟩
  | .hbm, ⟨8, _⟩ => ⟨S1x512, .f32⟩
  | .hbm, ⟨9, _⟩ => ⟨S1024x1024, .bf16⟩
  | .hbm, ⟨10, _⟩ => ⟨S4x6x1x1024, .f32⟩
  | .hbm, ⟨11, _⟩ => ⟨S4x4096x512, .f32⟩
  | .hbm, ⟨12, _⟩ => ⟨S4x4096x512, .f32⟩
  | .hbm, ⟨13, _⟩ => ⟨S4x4096x1024, .bf16⟩
  | .hbm, ⟨14, _⟩ => ⟨S4x4096x512, .f32⟩
  | .hbm, ⟨15, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1024x512, .bf16⟩
  | .local _ .vmem, ⟨8, _⟩ => ⟨S1024x512, .bf16⟩
  | .local _ .vmem, ⟨9, _⟩ => ⟨S1024x1024, .bf16⟩
  | .local _ .vmem, ⟨10, _⟩ => ⟨S1024x16, .bf16⟩
  | .local _ .vmem, ⟨11, _⟩ => ⟨S16x512, .bf16⟩
  | .local _ .vmem, ⟨12, _⟩ => ⟨S1x512, .f32⟩
  | .local _ .vmem, ⟨13, _⟩ => ⟨S1024x1024, .bf16⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x1024, .bf16⟩
  | .local _ .vmem, ⟨19, _⟩ => ⟨S1x512x1024, .bf16⟩
  | .local _ .vmem, ⟨20, _⟩ => ⟨S1x512x512, .f32⟩
  | .local _ .vmem, ⟨21, _⟩ => ⟨S1x512x512, .f32⟩
  | .local _ .vmem, ⟨22, _⟩ => ⟨S1x512x1024, .f32⟩
  | .local _ .vmem, ⟨23, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x16 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== GlaProjReferenceIdeal.lean ====
abbrev S4x4096x1024 : Shape := ⟨3, ![4, 4096, 1024]⟩
abbrev S1x1024 : Shape := ⟨2, ![1, 1024]⟩
abbrev S4x6144 : Shape := ⟨2, ![4, 6144]⟩
abbrev S1024x512 : Shape := ⟨2, ![1024, 512]⟩
abbrev S1024x1024 : Shape := ⟨2, ![1024, 1024]⟩
abbrev S1024x16 : Shape := ⟨2, ![1024, 16]⟩
abbrev S16x512 : Shape := ⟨2, ![16, 512]⟩
abbrev S1x512 : Shape := ⟨2, ![1, 512]⟩
abbrev S4x1024 : Shape := ⟨2, ![4, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x512 : Shape := ⟨3, ![4, 4096, 512]⟩
abbrev S4x4096x16 : Shape := ⟨3, ![4, 4096, 16]⟩
abbrev S512 : Shape := ⟨1, ![512]⟩
abbrev S1x1x512 : Shape := ⟨3, ![1, 1, 512]⟩

abbrev nBuf : Space → Nat
  | .hbm => 90
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S4x6144, .f32⟩
  | .hbm, ⟨3, _⟩ => ⟨S1024x512, .bf16⟩
  | .hbm, ⟨4, _⟩ => ⟨S1024x512, .bf16⟩
  | .hbm, ⟨5, _⟩ => ⟨S1024x1024, .bf16⟩
  | .hbm, ⟨6, _⟩ => ⟨S1024x16, .bf16⟩
  | .hbm, ⟨7, _⟩ => ⟨S16x512, .bf16⟩
  | .hbm, ⟨8, _⟩ => ⟨S1x512, .f32⟩
  | .hbm, ⟨9, _⟩ => ⟨S1024x1024, .bf16⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S4x1024, .f32⟩
  | .hbm, ⟨16, _⟩ => ⟨S1024, .f32⟩
  | .hbm, ⟨17, _⟩ => ⟨S4x4096x1024, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x1024, .f32⟩
  | .hbm, ⟨29, _⟩ => ⟨S4x4096x1024, .f32⟩
  | .hbm, ⟨30, _⟩ => ⟨S1x1x1024, .f32⟩
  | .hbm, ⟨31, _⟩ => ⟨S4x4096x1024, .f32⟩
  | .hbm, ⟨32, _⟩ => ⟨S4x4096x1024, .f32⟩
  | .hbm, ⟨33, _⟩ => ⟨S4x1x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x4096x1024, .f32⟩
  | .hbm, ⟨38, _⟩ => ⟨S4x4096x1024, .f32⟩
  | .hbm, ⟨39, _⟩ => ⟨S4x1x1024, .f32⟩
  | .hbm, ⟨40, _⟩ => ⟨S4x4096x1024, .f32⟩
  | .hbm, ⟨41, _⟩ => ⟨S4x4096x1024, .f32⟩
  | .hbm, ⟨42, _⟩ => ⟨S1024x512, .f32⟩
  | .hbm, ⟨43, _⟩ => ⟨S4x4096x512, .f32⟩
  | .hbm, ⟨44, _⟩ => ⟨S_, .f32⟩
  | .hbm, ⟨45, _⟩ => ⟨S4x4096x512, .f32⟩
  | .hbm, ⟨46, _⟩ => ⟨S4x4096x512, .f32⟩
  | .hbm, ⟨47, _⟩ => ⟨S1024x512, .f32⟩
  | .hbm, ⟨48, _⟩ => ⟨S4x4096x512, .f32⟩
  | .hbm, ⟨49, _⟩ => ⟨S1024x1024, .f32⟩
  | .hbm, ⟨50, _⟩ => ⟨S4x4096x1024, .f32⟩
  | .hbm, ⟨51, _⟩ => ⟨S4x4096x1024, .bf16⟩
  | .hbm, ⟨52, _⟩ => ⟨S1024x16, .f32⟩
  | .hbm, ⟨53, _⟩ => ⟨S4x4096x16, .f32⟩
  | .hbm, ⟨54, _⟩ => ⟨S16x512, .f32⟩
  | .hbm, ⟨55, _⟩ => ⟨S4x4096x512, .f32⟩
  | .hbm, ⟨56, _⟩ => ⟨S512, .f32⟩
  | .hbm, ⟨57, _⟩ => ⟨S1x1x512, .f32⟩
  | .hbm, ⟨58, _⟩ => ⟨S4x4096x512, .f32⟩
  | .hbm, ⟨59, _⟩ => ⟨S4x4096x512, .f32⟩
  | .hbm, ⟨60, _⟩ => ⟨S4x4096x512, .f32⟩
  | .hbm, ⟨61, _⟩ => ⟨S_, .f32⟩
  | .hbm, ⟨62, _⟩ => ⟨S4x4096x512, .f32⟩
  | .hbm, ⟨63, _⟩ => ⟨S4x4096x512, .f32⟩
  | .hbm, ⟨64, _⟩ => ⟨S4x4096x512, .f32⟩
  | .hbm, ⟨65, _⟩ => ⟨S4x4096x512, .f32⟩
  | .hbm, ⟨66, _⟩ => ⟨S4x4096x512, .i1⟩
  | .hbm, ⟨67, _⟩ => ⟨S4x4096x512, .f32⟩
  | .hbm, ⟨68, _⟩ => ⟨S4x4096x512, .f32⟩
  | .hbm, ⟨69, _⟩ => ⟨S4x4096x512, .f32⟩
  | .hbm, ⟨70, _⟩ => ⟨S4x4096x512, .f32⟩
  | .hbm, ⟨71, _⟩ => ⟨S4x4096x512, .f32⟩
  | .hbm, ⟨72, _⟩ => ⟨S4x4096x512, .f32⟩
  | .hbm, ⟨73, _⟩ => ⟨S4x4096x512, .f32⟩
  | .hbm, ⟨74, _⟩ => ⟨S4x4096x512, .f32⟩
  | .hbm, ⟨75, _⟩ => ⟨S4x4096x512, .f32⟩
  | .hbm, ⟨76, _⟩ => ⟨S_, .f32⟩
  | .hbm, ⟨77, _⟩ => ⟨S4x4096x512, .f32⟩
  | .hbm, ⟨78, _⟩ => ⟨S4x4096x512, .f32⟩
  | .hbm, ⟨79, _⟩ => ⟨S1024x1024, .f32⟩
  | .hbm, ⟨80, _⟩ => ⟨S4x4096x1024, .f32⟩
  | .hbm, ⟨81, _⟩ => ⟨S4x4096x1024, .f32⟩
  | .hbm, ⟨82, _⟩ => ⟨S4x4096x1024, .f32⟩
  | .hbm, ⟨83, _⟩ => ⟨S_, .f32⟩
  | .hbm, ⟨84, _⟩ => ⟨S4x4096x1024, .f32⟩
  | .hbm, ⟨85, _⟩ => ⟨S4x4096x1024, .f32⟩
  | .hbm, ⟨86, _⟩ => ⟨S_, .f32⟩
  | .hbm, ⟨87, _⟩ => ⟨S4x4096x1024, .f32⟩
  | .hbm, ⟨88, _⟩ => ⟨S4x4096x1024, .f32⟩
  | .hbm, ⟨89, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_v0 : Ref sig .tc := ⟨.hbm, 60, rfl⟩
abbrev main_call0_call0_cst : Ref sig .tc := ⟨.hbm, 61, rfl⟩
abbrev main_call0_call0_v0 : Ref sig .tc := ⟨.hbm, 62, rfl⟩
abbrev main_call0_call0_v1 : Ref sig .tc := ⟨.hbm, 63, rfl⟩
abbrev main_call0_call0_v2 : Ref sig .tc := ⟨.hbm, 64, rfl⟩
abbrev main_call0_call0_v3 : Ref sig .tc := ⟨.hbm, 65, rfl⟩
abbrev main_call0_call0_v4 : Ref sig .tc := ⟨.hbm, 66, rfl⟩
abbrev main_call0_call0_v5 : Ref sig .tc := ⟨.hbm, 67, rfl⟩
abbrev main_call0_call0_v6 : Ref sig .tc := ⟨.hbm, 68, rfl⟩
abbrev main_call0_call0_v7 : Ref sig .tc := ⟨.hbm, 69, rfl⟩
abbrev main_call0_call0_v8 : Ref sig .tc := ⟨.hbm, 70, rfl⟩
abbrev main_call0_call0_v9 : Ref sig .tc := ⟨.hbm, 71, rfl⟩
abbrev main_call0_call0_v10 : Ref sig .tc := ⟨.hbm, 72, rfl⟩
abbrev main_call0_call0_v11 : Ref sig .tc := ⟨.hbm, 73, rfl⟩
abbrev main_call0_v1 : Ref sig .tc := ⟨.hbm, 74, rfl⟩
abbrev main_v45 : Ref sig .tc := ⟨.hbm, 75, rfl⟩
abbrev main_cst_4 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_call1_v5 : Ref sig .tc := ⟨.hbm, 88, rfl⟩
abbrev main_v50 : Ref sig .tc := ⟨.hbm, 89, rfl⟩

abbrev nD : Nat := 1
abbrev τ : Topo := Topo.v7x

variable {F : FTy → Type} [FloatOps F]
-- ==== FoxProj.lean ====
abbrev S4x4096x1024 : Shape := ⟨3, ![4, 4096, 1024]⟩
abbrev S1x1024 : Shape := ⟨2, ![1, 1024]⟩
abbrev S4x6144 : Shape := ⟨2, ![4, 6144]⟩
abbrev S1024x1024 : Shape := ⟨2, ![1024, 1024]⟩
abbrev S16x1024 : Shape := ⟨2, ![16, 1024]⟩
abbrev S16x1 : Shape := ⟨2, ![16, 1]⟩
abbrev S64x1 : Shape := ⟨2, ![64, 1]⟩
abbrev S4x6x1x1024 : Shape := ⟨4, ![4, 6, 1, 1024]⟩
abbrev S_ : Shape := ⟨0, ![]⟩
abbrev S512x512 : Shape := ⟨2, ![512, 512]⟩
abbrev S4x16x128x4096 : Shape := ⟨4, ![4, 16, 128, 4096]⟩
abbrev S4x16x64x4096 : Shape := ⟨4, ![4, 16, 64, 4096]⟩
abbrev S4x16x4096 : Shape := ⟨3, ![4, 16, 4096]⟩
abbrev S1x512x1024 : Shape := ⟨3, ![1, 512, 1024]⟩
abbrev S1x1x1x1024 : Shape := ⟨4, ![1, 1, 1, 1024]⟩
abbrev S1x16x128x512 : Shape := ⟨4, ![1, 16, 128, 512]⟩
abbrev S1x16x64x512 : Shape := ⟨4, ![1, 16, 64, 512]⟩
abbrev S1x16x512 : Shape := ⟨3, ![1, 16, 512]⟩
abbrev S16x128 : Shape := ⟨2, ![16, 128]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S16x64x512 : Shape := ⟨3, ![16, 64, 512]⟩
abbrev S16x512 : Shape := ⟨2, ![16, 512]⟩
abbrev S16x1x512 : Shape := ⟨3, ![16, 1, 512]⟩
abbrev S1x64x1 : Shape := ⟨3, ![1, 64, 1]⟩
abbrev S16x16x512 : Shape := ⟨3, ![16, 16, 512]⟩
abbrev S16x48x512 : Shape := ⟨3, ![16, 48, 512]⟩
abbrev S1x16x16x512 : Shape := ⟨4, ![1, 16, 16, 512]⟩
abbrev S1x16x48x512 : Shape := ⟨4, ![1, 16, 48, 512]⟩

abbrev nBuf : Space → Nat
  | .hbm => 27
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S4x6144, .f32⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S16x1024, .bf16⟩
  | .hbm, ⟨7, _⟩ => ⟨S16x1, .f32⟩
  | .hbm, ⟨8, _⟩ => ⟨S64x1, .f32⟩
  | .hbm, ⟨9, _⟩ => ⟨S64x1, .f32⟩
  | .hbm, ⟨10, _⟩ => ⟨S4x6x1x1024, .f32⟩
  | .hbm, ⟨11, _⟩ => ⟨S_, .bf16⟩
  | .hbm, ⟨12, _⟩ => ⟨S512x512, .bf16⟩
  | .hbm, ⟨13, _⟩ => ⟨S512x512, .i32⟩
  | .hbm, ⟨14, _⟩ => ⟨S_, .i32⟩
  | .hbm, ⟨15, _⟩ => ⟨S512x512, .i32⟩
  | .hbm, ⟨16, _⟩ => ⟨S512x512, .i32⟩
  | .hbm, ⟨17, _⟩ => ⟨S512x512, .i32⟩
  | .hbm, ⟨18, _⟩ => ⟨S512x512, .i1⟩
  | .hbm, ⟨19, _⟩ => ⟨S_, .bf16⟩
  | .hbm, ⟨20, _⟩ => ⟨S512x512, .bf16⟩
  | .hbm, ⟨21, _⟩ => ⟨S512x512, .bf16⟩
  | .hbm, ⟨22, _⟩ => ⟨S4x16x128x4096, .bf16⟩
  | .hbm, ⟨23, _⟩ => ⟨S4x16x128x4096, .bf16⟩
  | .hbm, ⟨24, _⟩ => ⟨S4x16x64x4096, .f32⟩
  | .hbm, ⟨25, _⟩ => ⟨S4x16x64x4096, .f32⟩
  | .hbm, ⟨26, _⟩ => ⟨S4x16x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S16x1024, .bf16⟩
  | .local _ .vmem, ⟨11, _⟩ => ⟨S16x1, .f32⟩
  | .local _ .vmem, ⟨12, _⟩ => ⟨S64x1, .f32⟩
  | .local _ .vmem, ⟨13, _⟩ => ⟨S64x1, .f32⟩
  | .local _ .vmem, ⟨14, _⟩ => ⟨S512x512, .bf16⟩
  | .local _ .vmem, ⟨15, _⟩ => ⟨S1x16x128x512, .bf16⟩
  | .local _ .vmem, ⟨16, _⟩ => ⟨S1x16x128x512, .bf16⟩
  | .local _ .vmem, ⟨17, _⟩ => ⟨S1x16x128x512, .bf16⟩
  | .local _ .vmem, ⟨18, _⟩ => ⟨S1x16x128x512, .bf16⟩
  | .local _ .vmem, ⟨19, _⟩ => ⟨S1x16x64x512, .f32⟩
  | .local _ .vmem, ⟨20, _⟩ => ⟨S1x16x64x512, .f32⟩
  | .local _ .vmem, ⟨21, _⟩ => ⟨S1x16x64x512, .f32⟩
  | .local _ .vmem, ⟨22, _⟩ => ⟨S1x16x64x512, .f32⟩
  | .local _ .vmem, ⟨23, _⟩ => ⟨S1x16x512, .f32⟩
  | .local _ .vmem, ⟨24, _⟩ => ⟨S1x16x512, .f32⟩
  | .local _ .vmem, ⟨25, _⟩ => ⟨S16x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_cst : Ref sig .tc := ⟨.hbm, 19, rfl⟩
abbrev main_call0_v5 : Ref sig .tc := ⟨.hbm, 20, rfl⟩
abbrev main_v2 : Ref sig .tc := ⟨.hbm, 21, rfl⟩
abbrev main_v3_0 : Ref sig .tc := ⟨.hbm, 22, rfl⟩
abbrev main_v3_1 : Ref sig .tc := ⟨.hbm, 23, rfl⟩
abbrev main_v3_2 : Ref sig .tc := ⟨.hbm, 24, rfl⟩
abbrev main_v3_3 : Ref sig .tc := ⟨.hbm, 25, rfl⟩
abbrev main_v3_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x16x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x64x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x64x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== FoxProjReferenceIdeal.lean ====
abbrev S4x4096x1024 : Shape := ⟨3, ![4, 4096, 1024]⟩
abbrev S1x1024 : Shape := ⟨2, ![1, 1024]⟩
abbrev S4x6144 : Shape := ⟨2, ![4, 6144]⟩
abbrev S1024x1024 : Shape := ⟨2, ![1024, 1024]⟩
abbrev S16x1024 : Shape := ⟨2, ![16, 1024]⟩
abbrev S16x1 : Shape := ⟨2, ![16, 1]⟩
abbrev S64x1 : Shape := ⟨2, ![64, 1]⟩
abbrev S4x1024 : Shape := ⟨2, ![4, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x16x64 : Shape := ⟨4, ![4, 4096, 16, 64]⟩
abbrev S64 : Shape := ⟨1, ![64]⟩
abbrev S4x4096x16 : Shape := ⟨3, ![4, 4096, 16]⟩
abbrev S4x4096x16x1 : Shape := ⟨4, ![4, 4096, 16, 1]⟩
abbrev S1x1x1x64 : Shape := ⟨4, ![1, 1, 1, 64]⟩
abbrev S1024x16 : Shape := ⟨2, ![1024, 16]⟩
abbrev S16 : Shape := ⟨1, ![16]⟩
abbrev S1x1x16 : Shape := ⟨3, ![1, 1, 16]⟩
abbrev S4x4096x16x3 : Shape := ⟨4, ![4, 4096, 16, 3]⟩
abbrev S4x4096x16x58 : Shape := ⟨4, ![4, 4096, 16, 58]⟩
abbrev S4x4096x16x128 : Shape := ⟨4, ![4, 4096, 16, 128]⟩
abbrev S4x16x128x4096 : Shape := ⟨4, ![4, 16, 128, 4096]⟩
abbrev S4x16x64x4096 : Shape := ⟨4, ![4, 16, 64, 4096]⟩
abbrev S4x16x4096 : Shape := ⟨3, ![4, 16, 4096]⟩

abbrev nBuf : Space → Nat
  | .hbm => 144
  | .vmem => 0
  | .smem => 0
  | _ => 0

abbrev hbmTy0_0 (i : Nat) : BufTy := match i % 128 with
  | 0 => ⟨S4x4096x1024, .f32⟩
  | 1 => ⟨S1x1024, .f32⟩
  | 2 => ⟨S4x6144, .f32⟩
  | 3 => ⟨S1024x1024, .bf16⟩
  | 4 => ⟨S1024x1024, .bf16⟩
  | 5 => ⟨S1024x1024, .bf16⟩
  | 6 => ⟨S16x1024, .bf16⟩
  | 7 => ⟨S16x1, .f32⟩
  | 8 => ⟨S64x1, .f32⟩
  | 9 => ⟨S64x1, .f32⟩
  | 10 => ⟨S4x1024, .f32⟩
  | 11 => ⟨S4x1024, .f32⟩
  | 12 => ⟨S4x1024, .f32⟩
  | 13 => ⟨S4x1024, .f32⟩
  | 14 => ⟨S4x1024, .f32⟩
  | 15 => ⟨S4x1024, .f32⟩
  | 16 => ⟨S1024, .f32⟩
  | 17 => ⟨S4x4096x1024, .f32⟩
  | 18 => ⟨S_, .f32⟩
  | 19 => ⟨S4x4096, .f32⟩
  | 20 => ⟨S4x4096x1, .f32⟩
  | 21 => ⟨S_, .f32⟩
  | 22 => ⟨S4x4096x1, .f32⟩
  | 23 => ⟨S4x4096x1, .f32⟩
  | 24 => ⟨S_, .f32⟩
  | 25 => ⟨S4x4096x1, .f32⟩
  | 26 => ⟨S4x4096x1, .f32⟩
  | 27 => ⟨S4x4096x1, .f32⟩
  | 28 => ⟨S4x4096x1024, .f32⟩
  | 29 => ⟨S4x4096x1024, .f32⟩
  | 30 => ⟨S1x1x1024, .f32⟩
  | 31 => ⟨S4x4096x1024, .f32⟩
  | 32 => ⟨S4x4096x1024, .f32⟩
  | 33 => ⟨S4x1x1024, .f32⟩
  | 34 => ⟨S_, .f32⟩
  | 35 => ⟨S4x1x1024, .f32⟩
  | 36 => ⟨S4x1x1024, .f32⟩
  | 37 => ⟨S4x4096x1024, .f32⟩
  | 38 => ⟨S4x4096x1024, .f32⟩
  | 39 => ⟨S4x1x1024, .f32⟩
  | 40 => ⟨S4x4096x1024, .f32⟩
  | 41 => ⟨S4x4096x1024, .f32⟩
  | 42 => ⟨S1024x1024, .f32⟩
  | 43 => ⟨S1024x1024, .f32⟩
  | 44 => ⟨S4x4096x1024, .f32⟩
  | 45 => ⟨S4x4096x16x64, .f32⟩
  | 46 => ⟨S64, .f32⟩
  | 47 => ⟨S4x4096x16x64, .f32⟩
  | 48 => ⟨S_, .f32⟩
  | 49 => ⟨S4x4096x16, .f32⟩
  | 50 => ⟨S4x4096x16x1, .f32⟩
  | 51 => ⟨S_, .f32⟩
  | 52 => ⟨S4x4096x16x1, .f32⟩
  | 53 => ⟨S4x4096x16x1, .f32⟩
  | 54 => ⟨S_, .f32⟩
  | 55 => ⟨S4x4096x16x1, .f32⟩
  | 56 => ⟨S4x4096x16x1, .f32⟩
  | 57 => ⟨S4x4096x16x1, .f32⟩
  | 58 => ⟨S4x4096x16x64, .f32⟩
  | 59 => ⟨S4x4096x16x64, .f32⟩
  | 60 => ⟨S1x1x1x64, .f32⟩
  | 61 => ⟨S4x4096x16x64, .f32⟩
  | 62 => ⟨S4x4096x16x64, .f32⟩
  | 63 => ⟨S1024x1024, .f32⟩
  | 64 => ⟨S1024x1024, .f32⟩
  | 65 => ⟨S4x4096x1024, .f32⟩
  | 66 => ⟨S4x4096x16x64, .f32⟩
  | 67 => ⟨S64, .f32⟩
  | 68 => ⟨S4x4096x16x64, .f32⟩
  | 69 => ⟨S_, .f32⟩
  | 70 => ⟨S4x4096x16, .f32⟩
  | 71 => ⟨S4x4096x16x1, .f32⟩
  | 72 => ⟨S_, .f32⟩
  | 73 => ⟨S4x4096x16x1, .f32⟩
  | 74 => ⟨S4x4096x16x1, .f32⟩
  | 75 => ⟨S_, .f32⟩
  | 76 => ⟨S4x4096x16x1, .f32⟩
  | 77 => ⟨S4x4096x16x1, .f32⟩
  | 78 => ⟨S4x4096x16x1, .f32⟩
  | 79 => ⟨S4x4096x16x64, .f32⟩
  | 80 => ⟨S4x4096x16x64, .f32⟩
  | 81 => ⟨S1x1x1x64, .f32⟩
  | 82 => ⟨S4x4096x16x64, .f32⟩
  | 83 => ⟨S4x4096x16x64, .f32⟩
  | 84 => ⟨S1024x1024, .f32⟩
  | 85 => ⟨S1024x1024, .f32⟩
  | 86 => ⟨S4x4096x1024, .f32⟩
  | 87 => ⟨S4x4096x16x64, .f32⟩
  | 88 => ⟨S16x1024, .f32⟩
  | 89 => ⟨S1024x16, .f32⟩
  | 90 => ⟨S4x4096x16, .f32⟩
  | 91 => ⟨S16, .f32⟩
  | 92 => ⟨S1x1x16, .f32⟩
  | 93 => ⟨S4x4096x16, .f32⟩
  | 94 => ⟨S4x4096x16, .f32⟩
  | 95 => ⟨S4x4096x16, .f32⟩
  | 96 => ⟨S_, .f32⟩
  | 97 => ⟨S4x4096x16, .f32⟩
  | 98 => ⟨S4x4096x16, .f32⟩
  | 99 => ⟨S4x4096x16, .f32⟩
  | 100 => ⟨S4x4096x16, .f32⟩
  | 101 => ⟨S4x4096x16, .i1⟩
  | 102 => ⟨S4x4096x16, .f32⟩
  | 103 => ⟨S4x4096x16, .f32⟩
  | 104 => ⟨S4x4096x16, .f32⟩
  | 105 => ⟨S4x4096x16, .f32⟩
  | 106 => ⟨S4x4096x16, .f32⟩
  | 107 => ⟨S4x4096x16, .f32⟩
  | 108 => ⟨S4x4096x16, .f32⟩
  | 109 => ⟨S4x4096x16, .f32⟩
  | 110 => ⟨S4x4096x16, .f32⟩
  | 111 => ⟨S_, .f32⟩
  | 112 => ⟨S_, .f32⟩
  | 113 => ⟨S4x4096x16, .f32⟩
  | 114 => ⟨S4x4096x16, .bf16⟩
  | 115 => ⟨S4x4096x16, .f32⟩
  | 116 => ⟨S4x4096x16, .f32⟩
  | 117 => ⟨S4x4096x16, .bf16⟩
  | 118 => ⟨S4x4096x16, .f32⟩
  | 119 => ⟨S4x4096x16, .f32⟩
  | 120 => ⟨S4x4096x16, .f32⟩
  | 121 => ⟨S4x4096x16, .bf16⟩
  | 122 => ⟨S4x4096x16, .f32⟩
  | 123 => ⟨S4x4096x16x1, .f32⟩
  | 124 => ⟨S4x4096x16x1, .f32⟩
  | 125 => ⟨S4x4096x16x1, .f32⟩
  | 126 => ⟨S4x4096x16x3, .f32⟩
  | 127 => ⟨S_, .f32⟩
  | _ => ⟨S4x4096x1024, .f32⟩

abbrev hbmTy0_1 (i : Nat) : BufTy := match i % 128 with
  | 0 => ⟨S4x4096x16x3, .f32⟩
  | 1 => ⟨S_, .f32⟩
  | 2 => ⟨S4x4096x16x58, .f32⟩
  | 3 => ⟨S_, .f32⟩
  | 4 => ⟨S4x4096x16x64, .f32⟩
  | 5 => ⟨S4x4096x16x64, .f32⟩
  | 6 => ⟨S4x4096x16x128, .f32⟩
  | 7 => ⟨S4x4096x16x128, .bf16⟩
  | 8 => ⟨S4x4096x16x3, .f32⟩
  | 9 => ⟨S4x4096x16x128, .f32⟩
  | 10 => ⟨S4x4096x16x128, .bf16⟩
  | 11 => ⟨S4x16x128x4096, .bf16⟩
  | 12 => ⟨S4x16x128x4096, .bf16⟩
  | 13 => ⟨S4x16x64x4096, .f32⟩
  | 14 => ⟨S4x16x64x4096, .f32⟩
  | 15 => ⟨S4x16x4096, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_cst_8 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_call0_v0 : Ref sig .tc := ⟨.hbm, 95, rfl⟩
abbrev main_call0_call0_cst : Ref sig .tc := ⟨.hbm, 96, rfl⟩
abbrev main_call0_call0_v0 : Ref sig .tc := ⟨.hbm, 97, rfl⟩
abbrev main_call0_call0_v1 : Ref sig .tc := ⟨.hbm, 98, rfl⟩
abbrev main_call0_call0_v2 : Ref sig .tc := ⟨.hbm, 99, rfl⟩
abbrev main_call0_call0_v3 : Ref sig .tc := ⟨.hbm, 100, rfl⟩
abbrev main_call0_call0_v4 : Ref sig .tc := ⟨.hbm, 101, rfl⟩
abbrev main_call0_call0_v5 : Ref sig .tc := ⟨.hbm, 102, rfl⟩
abbrev main_call0_call0_v6 : Ref sig .tc := ⟨.hbm, 103, rfl⟩
abbrev main_call0_call0_v7 : Ref sig .tc := ⟨.hbm, 104, rfl⟩
abbrev main_call0_call0_v8 : Ref sig .tc := ⟨.hbm, 105, rfl⟩
abbrev main_call0_call0_v9 : Ref sig .tc := ⟨.hbm, 106, rfl⟩
abbrev main_call0_call0_v10 : Ref sig .tc := ⟨.hbm, 107, rfl⟩
abbrev main_call0_call0_v11 : Ref sig .tc := ⟨.hbm, 108, rfl⟩
abbrev main_call0_v1 : Ref sig .tc := ⟨.hbm, 109, rfl⟩
abbrev main_v75 : Ref sig .tc := ⟨.hbm, 110, rfl⟩
abbrev main_call1_call0_cst : Ref sig .tc := ⟨.hbm, 111, rfl⟩
abbrev main_call1_call0_v0 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_9 : Ref sig .tc := ⟨.hbm, 127, rfl⟩
abbrev main_v90 : Ref sig .tc := ⟨.hbm, 128, rfl⟩
abbrev main_cst_10 : Ref sig .tc := ⟨.hbm, 129, rfl⟩
abbrev main_v91 : Ref sig .tc := ⟨.hbm, 130, rfl⟩
abbrev main_cst_11 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩

abbrev nD : Nat := 1
abbrev τ : Topo := Topo.v7x

variable {F : FTy → Type} [FloatOps F]
-- ==== FoxProjSample.lean ====
abbrev S1x128x1024 : Shape := ⟨3, ![1, 128, 1024]⟩
abbrev S1x1024 : Shape := ⟨2, ![1, 1024]⟩
abbrev S128x6144 : Shape := ⟨2, ![128, 6144]⟩
abbrev S1024x1024 : Shape := ⟨2, ![1024, 1024]⟩
abbrev S16x1024 : Shape := ⟨2, ![16, 1024]⟩
abbrev S16x1 : Shape := ⟨2, ![16, 1]⟩
abbrev S64x1 : Shape := ⟨2, ![64, 1]⟩
abbrev S_ : Shape := ⟨0, ![]⟩
abbrev S128x128 : Shape := ⟨2, ![128, 128]⟩
abbrev S1x16x64x128 : Shape := ⟨4, ![1, 16, 64, 128]⟩
abbrev S1x16x128 : Shape := ⟨3, ![1, 16, 128]⟩
abbrev S128x1024 : Shape := ⟨2, ![128, 1024]⟩
abbrev S128 : Shape := ⟨1, ![128]⟩
abbrev S128x1 : Shape := ⟨2, ![128, 1]⟩
abbrev S1024x128 : Shape := ⟨2, ![1024, 128]⟩
abbrev S16x64x128 : Shape := ⟨3, ![16, 64, 128]⟩
abbrev S16x128 : Shape := ⟨2, ![16, 128]⟩
abbrev S16x1x128 : Shape := ⟨3, ![16, 1, 128]⟩
abbrev S1x64x1 : Shape := ⟨3, ![1, 64, 1]⟩

abbrev nBuf : Space → Nat
  | .hbm => 25
  | .vmem => 16
  | .smem => 0
  | _ => 0

abbrev bufTy : (tb : Table) → Fin (tcTables nBuf tb) → BufTy
  | .hbm, ⟨0, _⟩ => ⟨S1x128x1024, .f32⟩
  | .hbm, ⟨1, _⟩ => ⟨S1x1024, .f32⟩
  | .hbm, ⟨2, _⟩ => ⟨S128x6144, .f32⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S16x1024, .bf16⟩
  | .hbm, ⟨7, _⟩ => ⟨S16x1, .f32⟩
  | .hbm, ⟨8, _⟩ => ⟨S64x1, .f32⟩
  | .hbm, ⟨9, _⟩ => ⟨S64x1, .f32⟩
  | .hbm, ⟨10, _⟩ => ⟨S_, .bf16⟩
  | .hbm, ⟨11, _⟩ => ⟨S128x128, .bf16⟩
  | .hbm, ⟨12, _⟩ => ⟨S128x128, .i32⟩
  | .hbm, ⟨13, _⟩ => ⟨S_, .i32⟩
  | .hbm, ⟨14, _⟩ => ⟨S128x128, .i32⟩
  | .hbm, ⟨15, _⟩ => ⟨S128x128, .i32⟩
  | .hbm, ⟨16, _⟩ => ⟨S128x128, .i32⟩
  | .hbm, ⟨17, _⟩ => ⟨S128x128, .i1⟩
  | .hbm, ⟨18, _⟩ => ⟨S_, .bf16⟩
  | .hbm, ⟨19, _⟩ => ⟨S128x128, .bf16⟩
  | .hbm, ⟨20, _⟩ => ⟨S128x128, .bf16⟩
  | .hbm, ⟨21, _⟩ => ⟨S1x16x64x128, .f32⟩
  | .hbm, ⟨22, _⟩ => ⟨S1x16x64x128, .f32⟩
  | .hbm, ⟨23, _⟩ => ⟨S1x16x64x128, .f32⟩
  | .hbm, ⟨24, _⟩ => ⟨S1x16x128, .f32⟩
  | .local _ .vmem, ⟨0, _⟩ => ⟨S1x128x1024, .f32⟩
  | .local _ .vmem, ⟨1, _⟩ => ⟨S1x1024, .f32⟩
  | .local _ .vmem, ⟨2, _⟩ => ⟨S128x1024, .f32⟩
  | .local _ .vmem, ⟨3, _⟩ => ⟨S128x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S16x1024, .bf16⟩
  | .local _ .vmem, ⟨8, _⟩ => ⟨S16x1, .f32⟩
  | .local _ .vmem, ⟨9, _⟩ => ⟨S64x1, .f32⟩
  | .local _ .vmem, ⟨10, _⟩ => ⟨S64x1, .f32⟩
  | .local _ .vmem, ⟨11, _⟩ => ⟨S128x128, .bf16⟩
  | .local _ .vmem, ⟨12, _⟩ => ⟨S1x16x64x128, .f32⟩
  | .local _ .vmem, ⟨13, _⟩ => ⟨S1x16x64x128, .f32⟩
  | .local _ .vmem, ⟨14, _⟩ => ⟨S1x16x64x128, .f32⟩
  | .local _ .vmem, ⟨15, _⟩ => ⟨S1x16x128, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_cst : Ref sig .tc := ⟨.hbm, 18, rfl⟩
abbrev main_call0_v5 : Ref sig .tc := ⟨.hbm, 19, rfl⟩
abbrev main_v1 : Ref sig .tc := ⟨.hbm, 20, rfl⟩
abbrev main_v2_0 : Ref sig .tc := ⟨.hbm, 21, rfl⟩
abbrev main_v2_1 : Ref sig .tc := ⟨.hbm, 22, rfl⟩
abbrev main_v2_2 : Ref sig .tc := ⟨.hbm, 23, rfl⟩
abbrev main_v2_3 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x16x64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x16x64x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x16x64x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x16x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]
-- ==== FoxProjSampleReferenceIdeal.lean ====
abbrev S1x128x1024 : Shape := ⟨3, ![1, 128, 1024]⟩
abbrev S1x1024 : Shape := ⟨2, ![1, 1024]⟩
abbrev S128x6144 : Shape := ⟨2, ![128, 6144]⟩
abbrev S1024x1024 : Shape := ⟨2, ![1024, 1024]⟩
abbrev S16x1024 : Shape := ⟨2, ![16, 1024]⟩
abbrev S16x1 : Shape := ⟨2, ![16, 1]⟩
abbrev S64x1 : Shape := ⟨2, ![64, 1]⟩
abbrev S128x1024 : Shape := ⟨2, ![128, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x128x16x64 : Shape := ⟨4, ![1, 128, 16, 64]⟩
abbrev S64 : Shape := ⟨1, ![64]⟩
abbrev S1x128x16 : Shape := ⟨3, ![1, 128, 16]⟩
abbrev S1x128x16x1 : Shape := ⟨4, ![1, 128, 16, 1]⟩
abbrev S1x1x1x64 : Shape := ⟨4, ![1, 1, 1, 64]⟩
abbrev S1024x16 : Shape := ⟨2, ![1024, 16]⟩
abbrev S16 : Shape := ⟨1, ![16]⟩
abbrev S1x1x16 : Shape := ⟨3, ![1, 1, 16]⟩
abbrev S1x16x64x128 : Shape := ⟨4, ![1, 16, 64, 128]⟩
abbrev S1x16x128 : Shape := ⟨3, ![1, 16, 128]⟩

abbrev nBuf : Space → Nat
  | .hbm => 113
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x1024, .f32⟩
  | .hbm, ⟨2, _⟩ => ⟨S128x6144, .f32⟩
  | .hbm, ⟨3, _⟩ => ⟨S1024x1024, .bf16⟩
  | .hbm, ⟨4, _⟩ => ⟨S1024x1024, .bf16⟩
  | .hbm, ⟨5, _⟩ => ⟨S1024x1024, .bf16⟩
  | .hbm, ⟨6, _⟩ => ⟨S16x1024, .bf16⟩
  | .hbm, ⟨7, _⟩ => ⟨S16x1, .f32⟩
  | .hbm, ⟨8, _⟩ => ⟨S64x1, .f32⟩
  | .hbm, ⟨9, _⟩ => ⟨S64x1, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S1024, .f32⟩
  | .hbm, ⟨18, _⟩ => ⟨S128x1024, .f32⟩
  | .hbm, ⟨19, _⟩ => ⟨S_, .f32⟩
  | .hbm, ⟨20, _⟩ => ⟨S128, .f32⟩
  | .hbm, ⟨21, _⟩ => ⟨S128x1, .f32⟩
  | .hbm, ⟨22, _⟩ => ⟨S_, .f32⟩
  | .hbm, ⟨23, _⟩ => ⟨S128x1, .f32⟩
  | .hbm, ⟨24, _⟩ => ⟨S128x1, .f32⟩
  | .hbm, ⟨25, _⟩ => ⟨S_, .f32⟩
  | .hbm, ⟨26, _⟩ => ⟨S128x1, .f32⟩
  | .hbm, ⟨27, _⟩ => ⟨S128x1, .f32⟩
  | .hbm, ⟨28, _⟩ => ⟨S128x1, .f32⟩
  | .hbm, ⟨29, _⟩ => ⟨S128x1024, .f32⟩
  | .hbm, ⟨30, _⟩ => ⟨S128x1024, .f32⟩
  | .hbm, ⟨31, _⟩ => ⟨S1x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S1x128x1024, .f32⟩
  | .hbm, ⟨40, _⟩ => ⟨S1024x1024, .f32⟩
  | .hbm, ⟨41, _⟩ => ⟨S1024x1024, .f32⟩
  | .hbm, ⟨42, _⟩ => ⟨S1x128x1024, .f32⟩
  | .hbm, ⟨43, _⟩ => ⟨S1x128x16x64, .f32⟩
  | .hbm, ⟨44, _⟩ => ⟨S64, .f32⟩
  | .hbm, ⟨45, _⟩ => ⟨S1x128x16x64, .f32⟩
  | .hbm, ⟨46, _⟩ => ⟨S_, .f32⟩
  | .hbm, ⟨47, _⟩ => ⟨S1x128x16, .f32⟩
  | .hbm, ⟨48, _⟩ => ⟨S1x128x16x1, .f32⟩
  | .hbm, ⟨49, _⟩ => ⟨S_, .f32⟩
  | .hbm, ⟨50, _⟩ => ⟨S1x128x16x1, .f32⟩
  | .hbm, ⟨51, _⟩ => ⟨S1x128x16x1, .f32⟩
  | .hbm, ⟨52, _⟩ => ⟨S_, .f32⟩
  | .hbm, ⟨53, _⟩ => ⟨S1x128x16x1, .f32⟩
  | .hbm, ⟨54, _⟩ => ⟨S1x128x16x1, .f32⟩
  | .hbm, ⟨55, _⟩ => ⟨S1x128x16x1, .f32⟩
  | .hbm, ⟨56, _⟩ => ⟨S1x128x16x64, .f32⟩
  | .hbm, ⟨57, _⟩ => ⟨S1x128x16x64, .f32⟩
  | .hbm, ⟨58, _⟩ => ⟨S1x1x1x64, .f32⟩
  | .hbm, ⟨59, _⟩ => ⟨S1x128x16x64, .f32⟩
  | .hbm, ⟨60, _⟩ => ⟨S1x128x16x64, .f32⟩
  | .hbm, ⟨61, _⟩ => ⟨S1024x1024, .f32⟩
  | .hbm, ⟨62, _⟩ => ⟨S1024x1024, .f32⟩
  | .hbm, ⟨63, _⟩ => ⟨S1x128x1024, .f32⟩
  | .hbm, ⟨64, _⟩ => ⟨S1x128x16x64, .f32⟩
  | .hbm, ⟨65, _⟩ => ⟨S64, .f32⟩
  | .hbm, ⟨66, _⟩ => ⟨S1x128x16x64, .f32⟩
  | .hbm, ⟨67, _⟩ => ⟨S_, .f32⟩
  | .hbm, ⟨68, _⟩ => ⟨S1x128x16, .f32⟩
  | .hbm, ⟨69, _⟩ => ⟨S1x128x16x1, .f32⟩
  | .hbm, ⟨70, _⟩ => ⟨S_, .f32⟩
  | .hbm, ⟨71, _⟩ => ⟨S1x128x16x1, .f32⟩
  | .hbm, ⟨72, _⟩ => ⟨S1x128x16x1, .f32⟩
  | .hbm, ⟨73, _⟩ => ⟨S_, .f32⟩
  | .hbm, ⟨74, _⟩ => ⟨S1x128x16x1, .f32⟩
  | .hbm, ⟨75, _⟩ => ⟨S1x128x16x1, .f32⟩
  | .hbm, ⟨76, _⟩ => ⟨S1x128x16x1, .f32⟩
  | .hbm, ⟨77, _⟩ => ⟨S1x128x16x64, .f32⟩
  | .hbm, ⟨78, _⟩ => ⟨S1x128x16x64, .f32⟩
  | .hbm, ⟨79, _⟩ => ⟨S1x1x1x64, .f32⟩
  | .hbm, ⟨80, _⟩ => ⟨S1x128x16x64, .f32⟩
  | .hbm, ⟨81, _⟩ => ⟨S1x128x16x64, .f32⟩
  | .hbm, ⟨82, _⟩ => ⟨S1024x1024, .f32⟩
  | .hbm, ⟨83, _⟩ => ⟨S1024x1024, .f32⟩
  | .hbm, ⟨84, _⟩ => ⟨S1x128x1024, .f32⟩
  | .hbm, ⟨85, _⟩ => ⟨S1x128x16x64, .f32⟩
  | .hbm, ⟨86, _⟩ => ⟨S16x1024, .f32⟩
  | .hbm, ⟨87, _⟩ => ⟨S1024x16, .f32⟩
  | .hbm, ⟨88, _⟩ => ⟨S1x128x16, .f32⟩
  | .hbm, ⟨89, _⟩ => ⟨S16, .f32⟩
  | .hbm, ⟨90, _⟩ => ⟨S1x1x16, .f32⟩
  | .hbm, ⟨91, _⟩ => ⟨S1x128x16, .f32⟩
  | .hbm, ⟨92, _⟩ => ⟨S1x128x16, .f32⟩
  | .hbm, ⟨93, _⟩ => ⟨S1x128x16, .f32⟩
  | .hbm, ⟨94, _⟩ => ⟨S_, .f32⟩
  | .hbm, ⟨95, _⟩ => ⟨S1x128x16, .f32⟩
  | .hbm, ⟨96, _⟩ => ⟨S1x128x16, .f32⟩
  | .hbm, ⟨97, _⟩ => ⟨S1x128x16, .f32⟩
  | .hbm, ⟨98, _⟩ => ⟨S1x128x16, .f32⟩
  | .hbm, ⟨99, _⟩ => ⟨S1x128x16, .i1⟩
  | .hbm, ⟨100, _⟩ => ⟨S1x128x16, .f32⟩
  | .hbm, ⟨101, _⟩ => ⟨S1x128x16, .f32⟩
  | .hbm, ⟨102, _⟩ => ⟨S1x128x16, .f32⟩
  | .hbm, ⟨103, _⟩ => ⟨S1x128x16, .f32⟩
  | .hbm, ⟨104, _⟩ => ⟨S1x128x16, .f32⟩
  | .hbm, ⟨105, _⟩ => ⟨S1x128x16, .f32⟩
  | .hbm, ⟨106, _⟩ => ⟨S1x128x16, .f32⟩
  | .hbm, ⟨107, _⟩ => ⟨S1x128x16, .f32⟩
  | .hbm, ⟨108, _⟩ => ⟨S1x128x16, .f32⟩
  | .hbm, ⟨109, _⟩ => ⟨S1x16x64x128, .f32⟩
  | .hbm, ⟨110, _⟩ => ⟨S1x16x64x128, .f32⟩
  | .hbm, ⟨111, _⟩ => ⟨S1x16x64x128, .f32⟩
  | .hbm, ⟨112, _⟩ => ⟨S1x16x128, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_cst_7 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_call0_v0 : Ref sig .tc := ⟨.hbm, 93, rfl⟩
abbrev main_call0_call0_cst : Ref sig .tc := ⟨.hbm, 94, rfl⟩
abbrev main_call0_call0_v0 : Ref sig .tc := ⟨.hbm, 95, rfl⟩
abbrev main_call0_call0_v1 : Ref sig .tc := ⟨.hbm, 96, rfl⟩
abbrev main_call0_call0_v2 : Ref sig .tc := ⟨.hbm, 97, rfl⟩
abbrev main_call0_call0_v3 : Ref sig .tc := ⟨.hbm, 98, rfl⟩
abbrev main_call0_call0_v4 : Ref sig .tc := ⟨.hbm, 99, rfl⟩
abbrev main_call0_call0_v5 : Ref sig .tc := ⟨.hbm, 100, rfl⟩
abbrev main_call0_call0_v6 : Ref sig .tc := ⟨.hbm, 101, rfl⟩
abbrev main_call0_call0_v7 : Ref sig .tc := ⟨.hbm, 102, rfl⟩
abbrev main_call0_call0_v8 : Ref sig .tc := ⟨.hbm, 103, rfl⟩
abbrev main_call0_call0_v9 : Ref sig .tc := ⟨.hbm, 104, rfl⟩
abbrev main_call0_call0_v10 : Ref sig .tc := ⟨.hbm, 105, rfl⟩
abbrev main_call0_call0_v11 : Ref sig .tc := ⟨.hbm, 106, rfl⟩
abbrev main_call0_v1 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩

abbrev nD : Nat := 1
abbrev τ : Topo := Topo.v7x

variable {F : FTy → Type} [FloatOps F]
-- ==== PoolFfn.lean ====
abbrev S4x4096x1024 : Shape := ⟨3, ![4, 4096, 1024]⟩
abbrev S1x1024 : Shape := ⟨2, ![1, 1024]⟩
abbrev S4x256x256 : Shape := ⟨3, ![4, 256, 256]⟩
abbrev S4x6144 : Shape := ⟨2, ![4, 6144]⟩
abbrev S1024x2816 : Shape := ⟨2, ![1024, 2816]⟩
abbrev S2816x1024 : Shape := ⟨2, ![2816, 1024]⟩
abbrev S4x6x1x1024 : Shape := ⟨4, ![4, 6, 1, 1024]⟩
abbrev S4x16x1024 : Shape := ⟨3, ![4, 16, 1024]⟩
abbrev S1x256x1024 : Shape := ⟨3, ![1, 256, 1024]⟩
abbrev S1x1x1x1024 : Shape := ⟨4, ![1, 1, 1, 1024]⟩
abbrev S1x16x1024 : Shape := ⟨3, ![1, 16, 1024]⟩
abbrev S272x1024 : Shape := ⟨2, ![272, 1024]⟩
abbrev S256x1024 : Shape := ⟨2, ![256, 1024]⟩
abbrev S256 : Shape := ⟨1, ![256]⟩
abbrev S256x1 : Shape := ⟨2, ![256, 1]⟩
abbrev S16x1024 : Shape := ⟨2, ![16, 1024]⟩
abbrev S256x256 : Shape := ⟨2, ![256, 256]⟩
abbrev S256x768 : Shape := ⟨2, ![256, 768]⟩
abbrev S256x512 : Shape := ⟨2, ![256, 512]⟩
abbrev S1x256x256 : Shape := ⟨3, ![1, 256, 256]⟩
abbrev S1024x1408 : Shape := ⟨2, ![1024, 1408]⟩
abbrev S256x1408 : Shape := ⟨2, ![256, 1408]⟩
abbrev S1408x1024 : Shape := ⟨2, ![1408, 1024]⟩

abbrev nBuf : Space → Nat
  | .hbm => 12
  | .vmem => 26
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S4x256x256, .bf16⟩
  | .hbm, ⟨3, _⟩ => ⟨S1x1024, .f32⟩
  | .hbm, ⟨4, _⟩ => ⟨S1x1024, .f32⟩
  | .hbm, ⟨5, _⟩ => ⟨S4x6144, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S4x6x1x1024, .f32⟩
  | .hbm, ⟨10, _⟩ => ⟨S4x4096x1024, .f32⟩
  | .hbm, ⟨11, _⟩ => ⟨S4x16x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S4x256x256, .bf16⟩
  | .local _ .vmem, ⟨10, _⟩ => ⟨S1x1024, .f32⟩
  | .local _ .vmem, ⟨11, _⟩ => ⟨S1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1x1x1x1024, .f32⟩
  | .local _ .vmem, ⟨16, _⟩ => ⟨S1x1x1x1024, .f32⟩
  | .local _ .vmem, ⟨17, _⟩ => ⟨S1x1x1x1024, .f32⟩
  | .local _ .vmem, ⟨18, _⟩ => ⟨S1024x2816, .bf16⟩
  | .local _ .vmem, ⟨19, _⟩ => ⟨S1024x2816, .bf16⟩
  | .local _ .vmem, ⟨20, _⟩ => ⟨S2816x1024, .bf16⟩
  | .local _ .vmem, ⟨21, _⟩ => ⟨S1x256x1024, .f32⟩
  | .local _ .vmem, ⟨22, _⟩ => ⟨S1x256x1024, .f32⟩
  | .local _ .vmem, ⟨23, _⟩ => ⟨S1x16x1024, .f32⟩
  | .local _ .vmem, ⟨24, _⟩ => ⟨S1x16x1024, .f32⟩
  | .local _ .vmem, ⟨25, _⟩ => ⟨S272x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg0.toNat, c5_i32.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x16x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== PoolFfnReferenceIdeal.lean ====
abbrev S4x4096x1024 : Shape := ⟨3, ![4, 4096, 1024]⟩
abbrev S1x1024 : Shape := ⟨2, ![1, 1024]⟩
abbrev S4x256x256 : Shape := ⟨3, ![4, 256, 256]⟩
abbrev S4x6144 : Shape := ⟨2, ![4, 6144]⟩
abbrev S1024x2816 : Shape := ⟨2, ![1024, 2816]⟩
abbrev S2816x1024 : Shape := ⟨2, ![2816, 1024]⟩
abbrev S4x1024 : Shape := ⟨2, ![4, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4096 : Shape := ⟨1, ![4096]⟩
abbrev S4x2x256 : Shape := ⟨3, ![4, 2, 256]⟩
abbrev S4x4094x256 : Shape := ⟨3, ![4, 4094, 256]⟩
abbrev S4x4096x256 : Shape := ⟨3, ![4, 4096, 256]⟩
abbrev S1x4096x1 : Shape := ⟨3, ![1, 4096, 1]⟩
abbrev S4x4x256 : Shape := ⟨3, ![4, 4, 256]⟩
abbrev S4x4092x256 : Shape := ⟨3, ![4, 4092, 256]⟩
abbrev S4x8x256 : Shape := ⟨3, ![4, 8, 256]⟩
abbrev S4x4088x256 : Shape := ⟨3, ![4, 4088, 256]⟩
abbrev S4x16x256 : Shape := ⟨3, ![4, 16, 256]⟩
abbrev S4x4080x256 : Shape := ⟨3, ![4, 4080, 256]⟩
abbrev S4x4096x4x256 : Shape := ⟨4, ![4, 4096, 4, 256]⟩
abbrev S4x256x4x4096 : Shape := ⟨4, ![4, 256, 4, 4096]⟩
abbrev S4x4096x2816 : Shape := ⟨3, ![4, 4096, 2816]⟩
abbrev S4x16x1024 : Shape := ⟨3, ![4, 16, 1024]⟩

abbrev nBuf : Space → Nat
  | .hbm => 171
  | .vmem => 0
  | .smem => 0
  | _ => 0

abbrev hbmTy0_0 (i : Nat) : BufTy := match i % 128 with
  | 0 => ⟨S4x4096x1024, .f32⟩
  | 1 => ⟨S1x1024, .f32⟩
  | 2 => ⟨S4x256x256, .bf16⟩
  | 3 => ⟨S1x1024, .f32⟩
  | 4 => ⟨S1x1024, .f32⟩
  | 5 => ⟨S4x6144, .f32⟩
  | 6 => ⟨S1024x2816, .bf16⟩
  | 7 => ⟨S1024x2816, .bf16⟩
  | 8 => ⟨S2816x1024, .bf16⟩
  | 9 => ⟨S4x1024, .f32⟩
  | 10 => ⟨S4x1024, .f32⟩
  | 11 => ⟨S4x1024, .f32⟩
  | 12 => ⟨S4x1024, .f32⟩
  | 13 => ⟨S4x1024, .f32⟩
  | 14 => ⟨S4x1024, .f32⟩
  | 15 => ⟨S1024, .f32⟩
  | 16 => ⟨S4x4096x1024, .f32⟩
  | 17 => ⟨S_, .f32⟩
  | 18 => ⟨S4x4096, .f32⟩
  | 19 => ⟨S4x4096x1, .f32⟩
  | 20 => ⟨S_, .f32⟩
  | 21 => ⟨S4x4096x1, .f32⟩
  | 22 => ⟨S4x4096x1, .f32⟩
  | 23 => ⟨S_, .f32⟩
  | 24 => ⟨S4x4096x1, .f32⟩
  | 25 => ⟨S4x4096x1, .f32⟩
  | 26 => ⟨S4x4096x1, .f32⟩
  | 27 => ⟨S4x4096x1024, .f32⟩
  | 28 => ⟨S4x4096x1024, .f32⟩
  | 29 => ⟨S1x1x1024, .f32⟩
  | 30 => ⟨S4x4096x1024, .f32⟩
  | 31 => ⟨S4x4096x1024, .f32⟩
  | 32 => ⟨S4x1x1024, .f32⟩
  | 33 => ⟨S_, .f32⟩
  | 34 => ⟨S4x1x1024, .f32⟩
  | 35 => ⟨S4x1x1024, .f32⟩
  | 36 => ⟨S4x4096x1024, .f32⟩
  | 37 => ⟨S4x4096x1024, .f32⟩
  | 38 => ⟨S4x1x1024, .f32⟩
  | 39 => ⟨S4x4096x1024, .f32⟩
  | 40 => ⟨S4x4096x1024, .f32⟩
  | 41 => ⟨S_, .f32⟩
  | 42 => ⟨S_, .f32⟩
  | 43 => ⟨S4x4096x1024, .f32⟩
  | 44 => ⟨S4096, .i32⟩
  | 45 => ⟨S_, .f32⟩
  | 46 => ⟨S4x2x256, .f32⟩
  | 47 => ⟨S4x4094x256, .f32⟩
  | 48 => ⟨S4x4096x256, .f32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S4096, .f32⟩
  | 56 => ⟨S4x4096x256, .f32⟩
  | 57 => ⟨S4x4096x256, .f32⟩
  | 58 => ⟨S1x4096x1, .f32⟩
  | 59 => ⟨S4x4096x256, .f32⟩
  | 60 => ⟨S4x4096x256, .f32⟩
  | 61 => ⟨S_, .f32⟩
  | 62 => ⟨S4x4x256, .f32⟩
  | 63 => ⟨S4x4092x256, .f32⟩
  | 64 => ⟨S4x4096x256, .f32⟩
  | 65 => ⟨S_, .i32⟩
  | 66 => ⟨S4096, .i32⟩
  | 67 => ⟨S4096, .i32⟩
  | 68 => ⟨S_, .i32⟩
  | 69 => ⟨S4096, .i32⟩
  | 70 => ⟨S4096, .i32⟩
  | 71 => ⟨S4096, .f32⟩
  | 72 => ⟨S4x4096x256, .f32⟩
  | 73 => ⟨S4x4096x256, .f32⟩
  | 74 => ⟨S1x4096x1, .f32⟩
  | 75 => ⟨S4x4096x256, .f32⟩
  | 76 => ⟨S4x4096x256, .f32⟩
  | 77 => ⟨S_, .f32⟩
  | 78 => ⟨S4x8x256, .f32⟩
  | 79 => ⟨S4x4088x256, .f32⟩
  | 80 => ⟨S4x4096x256, .f32⟩
  | 81 => ⟨S_, .i32⟩
  | 82 => ⟨S4096, .i32⟩
  | 83 => ⟨S4096, .i32⟩
  | 84 => ⟨S_, .i32⟩
  | 85 => ⟨S4096, .i32⟩
  | 86 => ⟨S4096, .i32⟩
  | 87 => ⟨S4096, .f32⟩
  | 88 => ⟨S4x4096x256, .f32⟩
  | 89 => ⟨S4x4096x256, .f32⟩
  | 90 => ⟨S1x4096x1, .f32⟩
  | 91 => ⟨S4x4096x256, .f32⟩
  | 92 => ⟨S4x4096x256, .f32⟩
  | 93 => ⟨S_, .f32⟩
  | 94 => ⟨S4x16x256, .f32⟩
  | 95 => ⟨S4x4080x256, .f32⟩
  | 96 => ⟨S4x4096x256, .f32⟩
  | 97 => ⟨S_, .i32⟩
  | 98 => ⟨S4096, .i32⟩
  | 99 => ⟨S4096, .i32⟩
  | 100 => ⟨S_, .i32⟩
  | 101 => ⟨S4096, .i32⟩
  | 102 => ⟨S4096, .i32⟩
  | 103 => ⟨S4096, .f32⟩
  | 104 => ⟨S4x4096x256, .f32⟩
  | 105 => ⟨S4x4096x256, .f32⟩
  | 106 => ⟨S1x4096x1, .f32⟩
  | 107 => ⟨S4x4096x256, .f32⟩
  | 108 => ⟨S4x4096x256, .f32⟩
  | 109 => ⟨S4x4096x1024, .f32⟩
  | 110 => ⟨S4x4096x1024, .f32⟩
  | 111 => ⟨S4x4096x4x256, .f32⟩
  | 112 => ⟨S4x256x256, .f32⟩
  | 113 => ⟨S4x256x4x4096, .f32⟩
  | 114 => ⟨S4x4096x4x256, .f32⟩
  | 115 => ⟨S4x4096x1024, .f32⟩
  | 116 => ⟨S1024, .f32⟩
  | 117 => ⟨S1x1x1024, .f32⟩
  | 118 => ⟨S4x4096x1024, .f32⟩
  | 119 => ⟨S4x4096x1024, .f32⟩
  | 120 => ⟨S4x1x1024, .f32⟩
  | 121 => ⟨S4x4096x1024, .f32⟩
  | 122 => ⟨S4x4096x1024, .f32⟩
  | 123 => ⟨S4x4096x1024, .f32⟩
  | 124 => ⟨S1024, .f32⟩
  | 125 => ⟨S4x4096x1024, .f32⟩
  | 126 => ⟨S_, .f32⟩
  | 127 => ⟨S4x4096, .f32⟩
  | _ => ⟨S4x4096x1024, .f32⟩

abbrev hbmTy0_1 (i : Nat) : BufTy := match i % 128 with
  | 0 => ⟨S4x4096x1, .f32⟩
  | 1 => ⟨S_, .f32⟩
  | 2 => ⟨S4x4096x1, .f32⟩
  | 3 => ⟨S4x4096x1, .f32⟩
  | 4 => ⟨S_, .f32⟩
  | 5 => ⟨S4x4096x1, .f32⟩
  | 6 => ⟨S4x4096x1, .f32⟩
  | 7 => ⟨S4x4096x1, .f32⟩
  | 8 => ⟨S4x4096x1024, .f32⟩
  | 9 => ⟨S4x4096x1024, .f32⟩
  | 10 => ⟨S1x1x1024, .f32⟩
  | 11 => ⟨S4x4096x1024, .f32⟩
  | 12 => ⟨S4x4096x1024, .f32⟩
  | 13 => ⟨S4x1x1024, .f32⟩
  | 14 => ⟨S_, .f32⟩
  | 15 => ⟨S4x1x1024, .f32⟩
  | 16 => ⟨S4x1x1024, .f32⟩
  | 17 => ⟨S4x4096x1024, .f32⟩
  | 18 => ⟨S4x4096x1024, .f32⟩
  | 19 => ⟨S4x1x1024, .f32⟩
  | 20 => ⟨S4x4096x1024, .f32⟩
  | 21 => ⟨S4x4096x1024, .f32⟩
  | 22 => ⟨S4x1x1024, .f32⟩
  | 23 => ⟨S1024x2816, .f32⟩
  | 24 => ⟨S1024x2816, .f32⟩
  | 25 => ⟨S2816x1024, .f32⟩
  | 26 => ⟨S4x4096x2816, .f32⟩
  | 27 => ⟨S4x4096x2816, .f32⟩
  | 28 => ⟨S4x4096x2816, .f32⟩
  | 29 => ⟨S_, .f32⟩
  | 30 => ⟨S4x4096x2816, .f32⟩
  | 31 => ⟨S4x4096x2816, .f32⟩
  | 32 => ⟨S_, .f32⟩
  | 33 => ⟨S4x4096x2816, .f32⟩
  | 34 => ⟨S4x4096x2816, .f32⟩
  | 35 => ⟨S4x4096x2816, .f32⟩
  | 36 => ⟨S4x4096x2816, .f32⟩
  | 37 => ⟨S4x4096x2816, .f32⟩
  | 38 => ⟨S4x4096x1024, .f32⟩
  | 39 => ⟨S4x4096x1024, .f32⟩
  | 40 => ⟨S4x4096x1024, .f32⟩
  | 41 => ⟨S4x4096x1024, .f32⟩
  | 42 => ⟨S4x16x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_call0_cst : Ref sig .tc := ⟨.hbm, 41, rfl⟩
abbrev main_call0_call0_v0 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c : Ref sig .tc := ⟨.hbm, 49, rfl⟩
abbrev main_v33 : Ref sig .tc := ⟨.hbm, 50, rfl⟩
abbrev main_v34 : Ref sig .tc := ⟨.hbm, 51, rfl⟩
abbrev main_c_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_6 : Ref sig .tc := ⟨.hbm, 65, rfl⟩
abbrev main_v46 : Ref sig .tc := ⟨.hbm, 66, rfl⟩
abbrev main_v47 : Ref sig .tc := ⟨.hbm, 67, rfl⟩
abbrev main_c_7 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_9 : Ref sig .tc := ⟨.hbm, 81, rfl⟩
abbrev main_v59 : Ref sig .tc := ⟨.hbm, 82, rfl⟩
abbrev main_v60 : Ref sig .tc := ⟨.hbm, 83, rfl⟩
abbrev main_c_10 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_12 : Ref sig .tc := ⟨.hbm, 97, rfl⟩
abbrev main_v72 : Ref sig .tc := ⟨.hbm, 98, rfl⟩
abbrev main_v73 : Ref sig .tc := ⟨.hbm, 99, rfl⟩
abbrev main_c_13 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_14 : Ref sig .tc := ⟨.hbm, 126, rfl⟩
abbrev main_v99 : Ref sig .tc := ⟨.hbm, 127, rfl⟩
abbrev main_v100 : Ref sig .tc := ⟨.hbm, 128, rfl⟩
abbrev main_cst_15 : Ref sig .tc := ⟨.hbm, 129, rfl⟩
abbrev main_v101 : Ref sig .tc := ⟨.hbm, 130, rfl⟩
abbrev main_v102 : Ref sig .tc := ⟨.hbm, 131, rfl⟩
abbrev main_cst_16 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_17 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_call1_v0 : Ref sig .tc := ⟨.hbm, 155, rfl⟩
abbrev main_call1_v1 : Ref sig .tc := ⟨.hbm, 156, rfl⟩
abbrev main_call1_cst : Ref sig .tc := ⟨.hbm, 157, rfl⟩
abbrev main_call1_v2 : Ref sig .tc := ⟨.hbm, 158, rfl⟩
abbrev main_call1_v3 : Ref sig .tc := ⟨.hbm, 159, rfl⟩
abbrev main_call1_cst_0 : Ref sig .tc := ⟨.hbm, 160, rfl⟩
abbrev main_call1_v4 : Ref sig .tc := ⟨.hbm, 161, rfl⟩
abbrev main_call1_v5 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩

abbrev nD : Nat := 1
abbrev τ : Topo := Topo.v7x

variable {F : FTy → Type} [FloatOps F]
-- ==== PoolSample.lean ====
abbrev S128x1024 : Shape := ⟨2, ![128, 1024]⟩
abbrev S15x128x1024 : Shape := ⟨3, ![15, 128, 1024]⟩
abbrev S1x1024 : Shape := ⟨2, ![1, 1024]⟩
abbrev S4x256x256 : Shape := ⟨3, ![4, 256, 256]⟩
abbrev S128x6144 : Shape := ⟨2, ![128, 6144]⟩
abbrev S1024x2816 : Shape := ⟨2, ![1024, 2816]⟩
abbrev S2816x1024 : Shape := ⟨2, ![2816, 1024]⟩
abbrev S128 : Shape := ⟨1, ![128]⟩
abbrev S128x1 : Shape := ⟨2, ![128, 1]⟩
abbrev S1x128x1024 : Shape := ⟨3, ![1, 128, 1024]⟩
abbrev S128x256 : Shape := ⟨2, ![128, 256]⟩
abbrev S1x256x256 : Shape := ⟨3, ![1, 256, 256]⟩
abbrev S256x256 : Shape := ⟨2, ![256, 256]⟩
abbrev S1024x1408 : Shape := ⟨2, ![1024, 1408]⟩
abbrev S128x1408 : Shape := ⟨2, ![128, 1408]⟩
abbrev S1408x1024 : Shape := ⟨2, ![1408, 1024]⟩
abbrev S14x128x1024 : Shape := ⟨3, ![14, 128, 1024]⟩

abbrev nBuf : Space → Nat
  | .hbm => 12
  | .vmem => 17
  | .smem => 0
  | _ => 0

abbrev bufTy : (tb : Table) → Fin (tcTables nBuf tb) → BufTy
  | .hbm, ⟨0, _⟩ => ⟨S128x1024, .f32⟩
  | .hbm, ⟨1, _⟩ => ⟨S15x128x1024, .f32⟩
  | .hbm, ⟨2, _⟩ => ⟨S1x1024, .f32⟩
  | .hbm, ⟨3, _⟩ => ⟨S4x256x256, .bf16⟩
  | .hbm, ⟨4, _⟩ => ⟨S1x1024, .f32⟩
  | .hbm, ⟨5, _⟩ => ⟨S1x1024, .f32⟩
  | .hbm, ⟨6, _⟩ => ⟨S128x6144, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S128x1024, .f32⟩
  | .hbm, ⟨11, _⟩ => ⟨S15x128x1024, .f32⟩
  | .local _ .vmem, ⟨0, _⟩ => ⟨S128x1024, .f32⟩
  | .local _ .vmem, ⟨1, _⟩ => ⟨S15x128x1024, .f32⟩
  | .local _ .vmem, ⟨2, _⟩ => ⟨S1x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S4x256x256, .bf16⟩
  | .local _ .vmem, ⟨7, _⟩ => ⟨S1x1024, .f32⟩
  | .local _ .vmem, ⟨8, _⟩ => ⟨S1x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S128x1024, .f32⟩
  | .local _ .vmem, ⟨16, _⟩ => ⟨S15x128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_10 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_11 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S15x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S15x128x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== PoolSampleReferenceIdeal.lean ====
abbrev S128x1024 : Shape := ⟨2, ![128, 1024]⟩
abbrev S15x128x1024 : Shape := ⟨3, ![15, 128, 1024]⟩
abbrev S1x1024 : Shape := ⟨2, ![1, 1024]⟩
abbrev S4x256x256 : Shape := ⟨3, ![4, 256, 256]⟩
abbrev S128x6144 : Shape := ⟨2, ![128, 6144]⟩
abbrev S1024x2816 : Shape := ⟨2, ![1024, 2816]⟩
abbrev S2816x1024 : Shape := ⟨2, ![2816, 1024]⟩
abbrev S128x1x1024 : Shape := ⟨3, ![128, 1, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x15x1024 : Shape := ⟨3, ![128, 15, 1024]⟩
abbrev S128x16x1024 : Shape := ⟨3, ![128, 16, 1024]⟩
abbrev S128x2x256 : Shape := ⟨3, ![128, 2, 256]⟩
abbrev S128x256 : Shape := ⟨2, ![128, 256]⟩
abbrev S128x1x256 : Shape := ⟨3, ![128, 1, 256]⟩
abbrev S128x4x256 : Shape := ⟨3, ![128, 4, 256]⟩
abbrev S128x8x256 : Shape := ⟨3, ![128, 8, 256]⟩
abbrev S128x16x256 : Shape := ⟨3, ![128, 16, 256]⟩
abbrev S128x1x4x256 : Shape := ⟨4, ![128, 1, 4, 256]⟩
abbrev S4x256x128x1 : Shape := ⟨4, ![4, 256, 128, 1]⟩
abbrev S128x1x2816 : Shape := ⟨3, ![128, 1, 2816]⟩

abbrev nBuf : Space → Nat
  | .hbm => 131
  | .vmem => 0
  | .smem => 0
  | _ => 0

abbrev hbmTy0_0 (i : Nat) : BufTy := match i % 128 with
  | 0 => ⟨S128x1024, .f32⟩
  | 1 => ⟨S15x128x1024, .f32⟩
  | 2 => ⟨S1x1024, .f32⟩
  | 3 => ⟨S4x256x256, .bf16⟩
  | 4 => ⟨S1x1024, .f32⟩
  | 5 => ⟨S1x1024, .f32⟩
  | 6 => ⟨S128x6144, .f32⟩
  | 7 => ⟨S1024x2816, .bf16⟩
  | 8 => ⟨S1024x2816, .bf16⟩
  | 9 => ⟨S2816x1024, .bf16⟩
  | 10 => ⟨S128x1024, .f32⟩
  | 11 => ⟨S128x1024, .f32⟩
  | 12 => ⟨S128x1024, .f32⟩
  | 13 => ⟨S128x1024, .f32⟩
  | 14 => ⟨S128x1024, .f32⟩
  | 15 => ⟨S128x1024, .f32⟩
  | 16 => ⟨S128x1x1024, .f32⟩
  | 17 => ⟨S1024, .f32⟩
  | 18 => ⟨S128x1x1024, .f32⟩
  | 19 => ⟨S_, .f32⟩
  | 20 => ⟨S128x1, .f32⟩
  | 21 => ⟨S128x1x1, .f32⟩
  | 22 => ⟨S_, .f32⟩
  | 23 => ⟨S128x1x1, .f32⟩
  | 24 => ⟨S128x1x1, .f32⟩
  | 25 => ⟨S_, .f32⟩
  | 26 => ⟨S128x1x1, .f32⟩
  | 27 => ⟨S128x1x1, .f32⟩
  | 28 => ⟨S128x1x1, .f32⟩
  | 29 => ⟨S128x1x1024, .f32⟩
  | 30 => ⟨S128x1x1024, .f32⟩
  | 31 => ⟨S1x1x1024, .f32⟩
  | 32 => ⟨S128x1x1024, .f32⟩
  | 33 => ⟨S128x1x1024, .f32⟩
  | 34 => ⟨S128x1x1024, .f32⟩
  | 35 => ⟨S_, .f32⟩
  | 36 => ⟨S128x1x1024, .f32⟩
  | 37 => ⟨S128x1x1024, .f32⟩
  | 38 => ⟨S128x1x1024, .f32⟩
  | 39 => ⟨S128x1x1024, .f32⟩
  | 40 => ⟨S128x1x1024, .f32⟩
  | 41 => ⟨S128x15x1024, .f32⟩
  | 42 => ⟨S128x16x1024, .f32⟩
  | 43 => ⟨S128x2x256, .f32⟩
  | 44 => ⟨S_, .f32⟩
  | 45 => ⟨S128x256, .f32⟩
  | 46 => ⟨S128x1x256, .f32⟩
  | 47 => ⟨S_, .f32⟩
  | 48 => ⟨S128x1x256, .f32⟩
  | 49 => ⟨S128x1x256, .f32⟩
  | 50 => ⟨S128x4x256, .f32⟩
  | 51 => ⟨S_, .f32⟩
  | 52 => ⟨S128x256, .f32⟩
  | 53 => ⟨S128x1x256, .f32⟩
  | 54 => ⟨S_, .f32⟩
  | 55 => ⟨S128x1x256, .f32⟩
  | 56 => ⟨S128x1x256, .f32⟩
  | 57 => ⟨S128x8x256, .f32⟩
  | 58 => ⟨S_, .f32⟩
  | 59 => ⟨S128x256, .f32⟩
  | 60 => ⟨S128x1x256, .f32⟩
  | 61 => ⟨S_, .f32⟩
  | 62 => ⟨S128x1x256, .f32⟩
  | 63 => ⟨S128x1x256, .f32⟩
  | 64 => ⟨S128x16x256, .f32⟩
  | 65 => ⟨S_, .f32⟩
  | 66 => ⟨S128x256, .f32⟩
  | 67 => ⟨S128x1x256, .f32⟩
  | 68 => ⟨S_, .f32⟩
  | 69 => ⟨S128x1x256, .f32⟩
  | 70 => ⟨S128x1x256, .f32⟩
  | 71 => ⟨S128x1x1024, .f32⟩
  | 72 => ⟨S128x1x1024, .f32⟩
  | 73 => ⟨S128x1x4x256, .f32⟩
  | 74 => ⟨S4x256x256, .f32⟩
  | 75 => ⟨S4x256x128x1, .f32⟩
  | 76 => ⟨S128x1x4x256, .f32⟩
  | 77 => ⟨S128x1x1024, .f32⟩
  | 78 => ⟨S1024, .f32⟩
  | 79 => ⟨S1x1x1024, .f32⟩
  | 80 => ⟨S128x1x1024, .f32⟩
  | 81 => ⟨S128x1x1024, .f32⟩
  | 82 => ⟨S128x1x1024, .f32⟩
  | 83 => ⟨S128x1x1024, .f32⟩
  | 84 => ⟨S128x1x1024, .f32⟩
  | 85 => ⟨S1024, .f32⟩
  | 86 => ⟨S128x1x1024, .f32⟩
  | 87 => ⟨S_, .f32⟩
  | 88 => ⟨S128x1, .f32⟩
  | 89 => ⟨S128x1x1, .f32⟩
  | 90 => ⟨S_, .f32⟩
  | 91 => ⟨S128x1x1, .f32⟩
  | 92 => ⟨S128x1x1, .f32⟩
  | 93 => ⟨S_, .f32⟩
  | 94 => ⟨S128x1x1, .f32⟩
  | 95 => ⟨S128x1x1, .f32⟩
  | 96 => ⟨S128x1x1, .f32⟩
  | 97 => ⟨S128x1x1024, .f32⟩
  | 98 => ⟨S128x1x1024, .f32⟩
  | 99 => ⟨S1x1x1024, .f32⟩
  | 100 => ⟨S128x1x1024, .f32⟩
  | 101 => ⟨S128x1x1024, .f32⟩
  | 102 => ⟨S128x1x1024, .f32⟩
  | 103 => ⟨S_, .f32⟩
  | 104 => ⟨S128x1x1024, .f32⟩
  | 105 => ⟨S128x1x1024, .f32⟩
  | 106 => ⟨S128x1x1024, .f32⟩
  | 107 => ⟨S128x1x1024, .f32⟩
  | 108 => ⟨S128x1x1024, .f32⟩
  | 109 => ⟨S128x1x1024, .f32⟩
  | 110 => ⟨S1024x2816, .f32⟩
  | 111 => ⟨S1024x2816, .f32⟩
  | 112 => ⟨S2816x1024, .f32⟩
  | 113 => ⟨S128x1x2816, .f32⟩
  | 114 => ⟨S128x1x2816, .f32⟩
  | 115 => ⟨S128x1x2816, .f32⟩
  | 116 => ⟨S_, .f32⟩
  | 117 => ⟨S128x1x2816, .f32⟩
  | 118 => ⟨S128x1x2816, .f32⟩
  | 119 => ⟨S_, .f32⟩
  | 120 => ⟨S128x1x2816, .f32⟩
  | 121 => ⟨S128x1x2816, .f32⟩
  | 122 => ⟨S128x1x2816, .f32⟩
  | 123 => ⟨S128x1x2816, .f32⟩
  | 124 => ⟨S128x1x2816, .f32⟩
  | 125 => ⟨S128x1x1024, .f32⟩
  | 126 => ⟨S128x1x1024, .f32⟩
  | 127 => ⟨S128x1x1024, .f32⟩
  | _ => ⟨S128x1024, .f32⟩

abbrev hbmTy0_1 (i : Nat) : BufTy := match i % 128 with
  | 0 => ⟨S128x1024, .f32⟩
  | 1 => ⟨S128x15x1024, .f32⟩
  | 2 => ⟨S15x128x1024, .f32⟩
  | _ => ⟨S128x1024, .f32⟩

abbrev hbmTy (i : Nat) : BufTy := match i / 128 with
  | 0 => hbmTy0_0 i
  | 1 => hbmTy0_1 i
  | _ => ⟨S128x1024, .f32⟩

abbrev bufTy : (tb : Table) → Fin (tcTables nBuf tb) → BufTy
  | .hbm, ⟨i, _⟩ => hbmTy i
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_11 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_cst_13 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_call0_v0 : Ref sig .tc := ⟨.hbm, 114, rfl⟩
abbrev main_call0_v1 : Ref sig .tc := ⟨.hbm, 115, rfl⟩
abbrev main_call0_cst : Ref sig .tc := ⟨.hbm, 116, rfl⟩
abbrev main_call0_v2 : Ref sig .tc := ⟨.hbm, 117, rfl⟩
abbrev main_call0_v3 : Ref sig .tc := ⟨.hbm, 118, rfl⟩
abbrev main_call0_cst_0 : Ref sig .tc := ⟨.hbm, 119, rfl⟩
abbrev main_call0_v4 : Ref sig .tc := ⟨.hbm, 120, rfl⟩
abbrev main_call0_v5 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩

abbrev nD : Nat := 1
abbrev τ : Topo := Topo.v7x

variable {F : FTy → Type} [FloatOps F]
-- ==== Proof.GlaDecode.lean ====
module

public import proofs.«01_k».proof.Proof.Gen.GlaDecodeIdeal.Value
public import proofs.«01_k».proof.Proof.Gen.GlaDecodeReferenceIdeal.Run
public import Idealize.ShloMosaic.Lib.Pipeline.ValueKit
public import Idealize.ShloMosaic.Lib.Pointwise

/-!
The gated-linear-attention step of the sample batch: what the kernel writes at a grid point (one batch row), and the
reference's terms, each equal to one formula over the arguments.
-/

set_option maxRecDepth 16384
@[expose] public section
noncomputable section
open Idealize.ShloMosaic Idealize.ShloMosaic.TcCoe Idealize.SL.Sem
open Idealize.ShloMosaic.Pipeline (Dat)

namespace Cert.GlaDecodeIdeal.Tail
open Cert.GlaDecodeIdeal Cert.GlaDecodeIdeal.Gen

/-- Equality of two lane numbers, as a zero-or-one value. -/
theorem hot_eq (a b : ℕ) (ha : a < 128) (hb : b < 128) :
    FloatOps.sitofp (F := Ideal) FTy.f32 (BitVec.setWidth 32 (IntOp.cmpi CmpIPredicate.eq (BitVec.ofNat 32 a) (BitVec.ofNat 32 b)))
      = if a = b then 1 else (0 : EReal) := by
  split_ifs with h
  · subst h
    show (((BitVec.setWidth 32 (IntOp.cmpi CmpIPredicate.eq (BitVec.ofNat 32 a) (BitVec.ofNat 32 a))).toInt : ℝ) : EReal) = 1
    rw [show IntOp.cmpi CmpIPredicate.eq (BitVec.ofNat 32 a) (BitVec.ofNat 32 a) = 1#1 by simp [IntOp.cmpi]]
    norm_num
  · have hne : BitVec.ofNat 32 a ≠ BitVec.ofNat 32 b := by
      intro h'
      have := congrArg BitVec.toNat h'
      simp only [BitVec.toNat_ofNat] at this
      omega
    show (((BitVec.setWidth 32 (IntOp.cmpi CmpIPredicate.eq (BitVec.ofNat 32 a) (BitVec.ofNat 32 b))).toInt : ℝ) : EReal) = 0
    rw [show IntOp.cmpi CmpIPredicate.eq (BitVec.ofNat 32 a) (BitVec.ofNat 32 b) = 0#1 by
      rw [IntOp.cmpi]; exact congrArg BitVec.ofBool (beq_eq_false_iff_ne.mpr hne)]
    norm_num

/-- The selection matrix: one at row `b` of every column, zero elsewhere. -/
theorem sel_eq (i : grid0.Coords) (a b : Fin 128) :
    k0_pay2 (F := Ideal) i (ix2 a b) = if a = (⟨(i 0).val, (i 0).isLt⟩ : Fin 128) then 1 else (0 : EReal) := by
  pointwise [k0_pay2]
  refine (hot_eq a.val (i 0).val a.isLt (i 0).isLt).trans ?_
  by_cases h : a.val = (i 0).val
  · rw [if_pos h]
    exact (if_pos (Fin.ext h)).symm
  · rw [if_neg h]
    exact (if_neg fun h' => h (congrArg Fin.val h')).symm

/-- A finite value's remainder after itself is zero. -/
theorem sub_self_of_finite (x : EReal) (h : x < ⊤ ∧ ⊥ < x) : x - x = 0 := by
  lift x to ℝ using ⟨h.1.ne, h.2.ne'⟩
  rw [← EReal.coe_sub, sub_self, EReal.coe_zero]

/-- The three-part product of a finite row with the selection matrix is the row's entry at the selected lane. -/
theorem pick (v : Fin 128 → EReal) (b : Fin 128) (hv : ∀ j, v j < ⊤ ∧ ⊥ < v j) (s : Fin 128 → EReal)
    (hs : ∀ j, s j = if j = b then 1 else 0) :
    (∑ j, v j * s j) + (∑ j, (v j - v j) * s j) + ∑ j, (v j - v j - (v j - v j)) * s j = v b := by
  have h0 : ∀ j, v j - v j = 0 := fun j => sub_self_of_finite _ (hv j)
  simp only [h0, hs, sub_zero, zero_mul, Finset.sum_const_zero, add_zero, mul_ite, mul_one, mul_zero,
    Finset.sum_ite_eq', Finset.mem_univ, if_true]

/-- Row `h * 128 + d` of a stack of four heads of 128 features. -/
abbrev feat (h : Fin 4) (d : Fin 128) : Fin 512 := ⟨h.val * 128 + d.val, by omega⟩
/-- Lane `h * 256 + e` of four heads of 256 lanes. -/
abbrev lane (h : Fin 4) (e : Fin 256) : Fin 1024 := ⟨h.val * 256 + e.val, by omega⟩

/-- The first head's lanes are the first 256. -/
theorem lane_zero (e : Fin 256) (h : e.val < 1024) : (⟨e.val, h⟩ : Fin 1024) = lane 0 e :=
  Fin.ext (by simp [lane])

/-- The batch row that a grid point works on. -/
abbrev at_ (i : grid0.Coords) : Fin 128 := ⟨(i 0).val, (i 0).isLt⟩

/-- The staged queries spread over the value lanes: column `b` of the query array. -/
theorem pay3_at (i : grid0.Coords) (x : Vec Ideal S512x128 .f32) (hx : ∀ p q, x (ix2 p q) < ⊤ ∧ ⊥ < x (ix2 p q))
    (h : Fin 4) (d : Fin 128) (e : Fin 256) : k0_pay3 i x (ix3 h d e) = x (ix2 (feat h d) (at_ i)) := by
  pointwise [k0_pay3]
  split <;> exact pick (fun j => x (ix2 (feat h d) j)) (at_ i) (fun j => hx _ _) _ (fun j => sel_eq i j _)

/-- The staged keys spread over the value lanes: column `b` of the key array. -/
theorem pay4_at (i : grid0.Coords) (x : Vec Ideal S512x128 .f32) (hx : ∀ p q, x (ix2 p q) < ⊤ ∧ ⊥ < x (ix2 p q))
    (h : Fin 4) (d : Fin 128) (e : Fin 256) : k0_pay4 i x (ix3 h d e) = x (ix2 (feat h d) (at_ i)) := by
  pointwise [k0_pay4]
  split <;> exact pick (fun j => x (ix2 (feat h d) j)) (at_ i) (fun j => hx _ _) _ (fun j => sel_eq i j _)

/-- The decays spread over the value lanes: the exponential of column `b` of the gate array. -/
theorem pay10_at (i : grid0.Coords) (x : Vec Ideal S512x128 .f32) (hx : ∀ p q, x (ix2 p q) < ⊤ ∧ ⊥ < x (ix2 p q))
    (h : Fin 4) (d : Fin 128) (e : Fin 256) :
    k0_pay10 (k0_pay2 i) (k0_pay7 x) (k0_pay8 x) (k0_pay9 i x) (constant S512x128 .f32 0x00000000#32) (ix3 h d e)
      = Ideal.exp (x (ix2 (feat h d) (at_ i))) := by
  pointwise [k0_pay10, k0_pay9, k0_pay8, k0_pay7, k0_pay6, k0_pay5]
  split <;> exact congrArg Ideal.exp (pick (fun j => x (ix2 (feat h d) j)) (at_ i) (fun j => hx _ _) _ (fun j => sel_eq i j _))

/-- The updated state of one batch row: the state times the decay plus key times value. -/
def stateAt (k g : Fin 512 → EReal) (v : Fin 1024 → EReal) (s : Fin 4 → Fin 128 → Fin 256 → EReal)
    (h : Fin 4) (d : Fin 128) (e : Fin 256) : EReal :=
  s h d e * Ideal.exp (g (feat h d)) + k (feat h d) * v (lane h e)

/-- The query's product with the updated state. -/
def outAt (q k g : Fin 512 → EReal) (v : Fin 1024 → EReal) (s : Fin 4 → Fin 128 → Fin 256 → EReal)
    (h : Fin 4) (e : Fin 256) : EReal :=
  ∑ d, q (feat h d) * stateAt k g v s h d e

/-- The output of one batch row: the product normalised over its head's lanes, times the gain and the gate `r`. -/
def yAt (q k g : Fin 512 → EReal) (v r : Fin 1024 → EReal) (n : Fin 256 → EReal)
    (s : Fin 4 → Fin 128 → Fin 256 → EReal) (h : Fin 4) (e : Fin 256) : EReal :=
  outAt q k g v s h e * Ideal.rsqrt (Ideal.div (∑ j, outAt q k g v s h j * outAt q k g v s h j) (Ideal.ofBits .f32 0x43800000#32)
    + Ideal.ofBits .f32 0x358637BD#32) * n e * r (lane h e)

section
variable (i : grid0.Coords) (x0 x1 x2 : Vec Ideal S512x128 .f32) (x3 x4 : Vec Ideal S1x1x1024 .f32)
  (x5 : Vec Ideal S1x256 .f32) (x6 : Vec Ideal S1x4x128x256 .f32)
  (h0 : ∀ p q, x0 (ix2 p q) < ⊤ ∧ ⊥ < x0 (ix2 p q)) (h1 : ∀ p q, x1 (ix2 p q) < ⊤ ∧ ⊥ < x1 (ix2 p q))
  (h2 : ∀ p q, x2 (ix2 p q) < ⊤ ∧ ⊥ < x2 (ix2 p q))
include h0 h1 h2

/-- The keys as the later stores read them. -/
theorem pay37_at (h : Fin 4) (d : Fin 128) (e : Fin 256) :
    k0_pay37 i x0 x1 x2 x3 x4 x5 x6 (ix3 h d e) = x1 (ix2 (feat h d) (at_ i)) := by
  rw [← pay4_at i x1 h1 h d e]; unfold k0_pay37; frame_out

/-- The queries as the later stores read them. -/
theorem pay36_at (h : Fin 4) (d : Fin 128) (e : Fin 256) :
    k0_pay36 i x0 x1 x2 x3 x4 x5 x6 (ix3 h d e) = x0 (ix2 (feat h d) (at_ i)) := by
  rw [← pay3_at i x0 h0 h d e]; unfold k0_pay36; frame_out

/-- The decays as the later stores read them. -/
theorem pay41_at (h : Fin 4) (d : Fin 128) (e : Fin 256) :
    k0_pay41 i x0 x1 x2 x3 x4 x5 x6 (ix3 h d e) = Ideal.exp (x2 (ix2 (feat h d) (at_ i))) := by
  rw [← pay10_at i x2 h2 h d e]; unfold k0_pay41 k0_pay40 k0_pay39 k0_pay38 k0_pay35 k0_pay34; frame_out

/-- The same decays, spelt as the first store's payload has them. -/
theorem pay41_at' (h : Fin 4) (d : Fin 128) (e : Fin 256) :
    k0_pay10 (k0_pay35 i x0 x1 x2 x3 x4 x5 x6) (k0_pay38 i x0 x1 x2 x3 x4 x5 x6) (k0_pay39 i x0 x1 x2 x3 x4 x5 x6)
      (k0_pay40 i x0 x1 x2 x3 x4 x5 x6) (k0_pay34 i x0 x1 x2 x3 x4 x5 x6) (ix3 h d e)
      = Ideal.exp (x2 (ix2 (feat h d) (at_ i))) := pay41_at i x0 x1 x2 x3 x4 x5 x6 h0 h1 h2 h d e

/-- The stored state block is the updated state. -/
theorem block8 (u : Fin 1) (h : Fin 4) (d : Fin 128) (e : Fin 256) : out0_8 i x0 x1 x2 x3 x4 x5 x6 (ix4 u h d e)
    = stateAt (fun p => x1 (ix2 p (at_ i))) (fun p => x2 (ix2 p (at_ i))) (fun l => x3 (ix3 0 0 l))
        (fun h d e => x6 (ix4 0 h d e)) h d e := by
  have e37 := pay37_at i x0 x1 x2 x3 x4 x5 x6 h0 h1 h2
  have e41 := pay41_at i x0 x1 x2 x3 x4 x5 x6 h0 h1 h2
  have e41' := pay41_at' i x0 x1 x2 x3 x4 x5 x6 h0 h1 h2
  unfold out0_8
  canon_tiles x hh
  all_goals
    obtain ⟨p, q, d', e', rfl⟩ : ∃ (p : Fin 1) (q : Fin 1) (d' : Fin 128) (e' : Fin 256), x = ix4 p q d' e' :=
      ⟨x 0, x 1, x 2, x 3, eq_ix4 x⟩
    obtain rfl : d = d' := Fin.ext hh2
    obtain rfl : e = e' := Fin.ext hh3
    obtain rfl : q = 0 := Subsingleton.elim _ _
  · obtain rfl : h = 3 := Fin.ext hh1
    pointwise [k0_pay30, k0_pay29, stateAt]
    simp only [e37, e41]
    rfl
  · obtain rfl : h = 2 := Fin.ext hh1
    pointwise [k0_pay24, k0_pay23, stateAt]
    simp only [e37, e41]
    rfl
  · obtain rfl : h = 1 := Fin.ext hh1
    pointwise [k0_pay18, k0_pay17, stateAt]
    simp only [e37, e41]
    rfl
  · obtain rfl : h = 0 := Fin.ext hh1
    pointwise [k0_pay12, k0_pay11, stateAt]
    simp only [e37, e41', lane_zero]

/-- The stored output row is the normalised, gated product. -/
theorem block7 (u v : Fin 1) (h : Fin 4) (e : Fin 256) : out0_7 i x0 x1 x2 x3 x4 x5 x6 (ix3 u v (lane h e))
    = yAt (fun p => x0 (ix2 p (at_ i))) (fun p => x1 (ix2 p (at_ i))) (fun p => x2 (ix2 p (at_ i))) (fun l => x3 (ix3 0 0 l))
        (fun l => x4 (ix3 0 0 l)) (fun j => x5 (ix2 0 j)) (fun h d e => x6 (ix4 0 h d e)) h e := by
  have e36 := pay36_at i x0 x1 x2 x3 x4 x5 x6 h0 h1 h2
  have e37 := pay37_at i x0 x1 x2 x3 x4 x5 x6 h0 h1 h2
  have e41 := pay41_at i x0 x1 x2 x3 x4 x5 x6 h0 h1 h2
  have e41' := pay41_at' i x0 x1 x2 x3 x4 x5 x6 h0 h1 h2
  unfold out0_7
  canon_tiles x hh
  all_goals
    obtain ⟨p, q, e', rfl⟩ : ∃ (p : Fin 1) (q : Fin 1) (e' : Fin 256), x = ix3 p q e' :=
      ⟨x 0, x 1, x 2, eq_ix3 x⟩
  · have hh : h.val * 256 + e.val = 768 + e'.val := hh2
    obtain rfl : h = 3 := Fin.ext (by show h.val = 3; omega)
    obtain rfl : e = e' := Fin.ext (by change 3 * 256 + e.val = _ at hh; omega)
    pointwise [k0_pay1, k0_pay31, k0_pay32, k0_pay33, k0_pay29, yAt, outAt, stateAt]
    simp only [e36, e37, e41]
    rfl
  · have hh : h.val * 256 + e.val = 512 + e'.val := hh2
    obtain rfl : h = 2 := Fin.ext (by show h.val = 2; omega)
    obtain rfl : e = e' := Fin.ext (by change 2 * 256 + e.val = _ at hh; omega)
    pointwise [k0_pay28, k0_pay25, k0_pay26, k0_pay27, k0_pay23, yAt, outAt, stateAt]
    simp only [e36, e37, e41]
    rfl
  · have hh : h.val * 256 + e.val = 256 + e'.val := hh2
    obtain rfl : h = 1 := Fin.ext (by show h.val = 1; omega)
    obtain rfl : e = e' := Fin.ext (by change 1 * 256 + e.val = _ at hh; omega)
    pointwise [k0_pay22, k0_pay19, k0_pay20, k0_pay21, k0_pay17, yAt, outAt, stateAt]
    simp only [e36, e37, e41]
    rfl
  · have hh : h.val * 256 + e.val = e'.val := hh2
    obtain rfl : h = 0 := Fin.ext (by show h.val = 0; omega)
    obtain rfl : e = e' := Fin.ext (by change 0 * 256 + e.val = _ at hh; omega)
    pointwise [k0_pay16, k0_pay13, k0_pay14, k0_pay15, k0_pay11, yAt, outAt, stateAt]
    simp only [e36, e37, e41', lane_zero]
    try rfl

end
end Cert.GlaDecodeIdeal.Tail
-- ==== Proof.GlaDecodeArr.lean ====
module

public import proofs.«01_k».proof.Proof.GlaDecode
public import proofs.«01_k».proof.Proof.Gen.Pre_finite_qkg
public import Idealize.ShloMosaic.Lib.ReduceAll

/-!
The gated-linear-attention step: the kernel's two result arrays after the run, the reference's two terms, both equal to one
formula of the arguments, and what the precondition says of them.
-/

set_option maxRecDepth 16384
@[expose] public section
noncomputable section
open Idealize.ShloMosaic Idealize.ShloMosaic.TcCoe Idealize.SL.Sem
open Idealize.ShloMosaic.Pipeline (Dat)

namespace Cert.GlaDecodeIdeal.Tail
open Cert.GlaDecodeIdeal Cert.GlaDecodeIdeal.Gen

variable (m : (ℓ : Loc nD τ sig) → Buf (Elt Ideal) ℓ)

/-- The state after the step, at every index. -/
def stateArr (K G : FVec Ideal S512x128 .f32) (V : FVec Ideal S128x1x1024 .f32) (S : FVec Ideal S128x4x128x256 .f32) :
    FVec Ideal S128x4x128x256 .f32 :=
  fun i => stateAt (fun p => K (ix2 p (i 0))) (fun p => G (ix2 p (i 0))) (fun l => V (ix3 (i 0) 0 l))
    (fun h d e => S (ix4 (i 0) h d e)) (i 1) (i 2) (i 3)

/-- The head of a lane. -/
abbrev headOf (l : Fin 1024) : Fin 4 := ⟨l.val / 256, by omega⟩
/-- A lane's place in its head. -/
abbrev inHead (l : Fin 1024) : Fin 256 := ⟨l.val % 256, by omega⟩

/-- A lane is its head's lane at its place. -/
theorem lane_split (l : Fin 1024) : lane (headOf l) (inHead l) = l := Fin.ext (by show l.val / 256 * 256 + l.val % 256 = l.val; omega)
theorem headOf_lane (h : Fin 4) (e : Fin 256) : headOf (lane h e) = h := Fin.ext (by show (h.val * 256 + e.val) / 256 = h.val; omega)
theorem inHead_lane (h : Fin 4) (e : Fin 256) : inHead (lane h e) = e := Fin.ext (by show (h.val * 256 + e.val) % 256 = e.val; omega)

/-- The output of the step, at every index. -/
def yArr (Q K G : FVec Ideal S512x128 .f32) (V R : FVec Ideal S128x1x1024 .f32) (N : FVec Ideal S1x256 .f32)
    (S : FVec Ideal S128x4x128x256 .f32) : FVec Ideal S128x1x1024 .f32 :=
  fun i => yAt (fun p => Q (ix2 p (i 0))) (fun p => K (ix2 p (i 0))) (fun p => G (ix2 p (i 0))) (fun l => V (ix3 (i 0) 0 l))
    (fun l => R (ix3 (i 0) 0 l)) (fun j => N (ix2 0 j)) (fun h d e => S (ix4 (i 0) h d e)) (headOf (i 2)) (inHead (i 2))

/-- Every element of the array is finite. -/
def Finite2 (x : FVec Ideal S512x128 .f32) : Prop := ∀ (p : Fin 512) (q : Fin 128), x (ix2 p q) < (⊤ : EReal) ∧ (⊥ : EReal) < x (ix2 p q)

/-- The windows' block indices at a grid point. -/
theorem idx : ∀ t : Fin cfg0.N, win0_0.index t = ![0, 0] ∧ win0_1.index t = ![0, 0] ∧ win0_2.index t = ![0, 0]
    ∧ win0_3.index t = ![t.val, 0, 0] ∧ win0_4.index t = ![t.val, 0, 0] ∧ win0_5.index t = ![0, 0]
    ∧ win0_6.index t = ![t.val, 0, 0, 0] ∧ win0_7.index t = ![t.val, 0, 0] ∧ win0_8.index t = ![t.val, 0, 0, 0]
    ∧ (grid0.coords t 0).val = t.val ∧ t.val < 128 :=
  (by decide +kernel : ∀ t : Fin grid0.N, _)

/-- The grid has 128 points. -/
theorem point_lt (t : Fin cfg0.N) : t.val < 128 := (idx t).2.2.2.2.2.2.2.2.2.2
/-- A grid point's batch row is its number. -/
theorem at_coords (t : Fin cfg0.N) : at_ (grid0.coords t) = ⟨t.val, point_lt t⟩ := Fin.ext (idx t).2.2.2.2.2.2.2.2.2.1

/-- The queries are staged whole. -/
theorem read0 (c : Dev nD) (t : Fin cfg0.N) (p : Fin 512) (q : Fin 128) : (iblk m c 0 t : Vec Ideal S512x128 .f32) (ix2 p q)
    = m ((c : Thread nD τ).loc main_arg0) (ix2 p q) := by
  blk_ext! [iblk, V, idx t]
/-- The keys are staged whole. -/
theorem read1 (c : Dev nD) (t : Fin cfg0.N) (p : Fin 512) (q : Fin 128) : (iblk m c 1 t : Vec Ideal S512x128 .f32) (ix2 p q)
    = m ((c : Thread nD τ).loc main_arg1) (ix2 p q) := by
  blk_ext! [iblk, V, idx t]
/-- The gates are staged whole. -/
theorem read2 (c : Dev nD) (t : Fin cfg0.N) (p : Fin 512) (q : Fin 128) : (iblk m c 2 t : Vec Ideal S512x128 .f32) (ix2 p q)
    = m ((c : Thread nD τ).loc main_arg2) (ix2 p q) := by
  blk_ext! [iblk, V, idx t]
/-- The values of the point's batch row. -/
theorem read3 (c : Dev nD) (t : Fin cfg0.N) (l : Fin 1024) : (iblk m c 3 t : Vec Ideal S1x1x1024 .f32) (ix3 0 0 l)
    = m ((c : Thread nD τ).loc main_arg3) (ix3 ⟨t.val, point_lt t⟩ 0 l) := by
  blk_ext! [iblk, V, idx t]
/-- The output gate of the point's batch row. -/
theorem read4 (c : Dev nD) (t : Fin cfg0.N) (l : Fin 1024) : (iblk m c 4 t : Vec Ideal S1x1x1024 .f32) (ix3 0 0 l)
    = m ((c : Thread nD τ).loc main_arg4) (ix3 ⟨t.val, point_lt t⟩ 0 l) := by
  blk_ext! [iblk, V, idx t]
/-- The normalisation gain is staged whole. -/
theorem read5 (c : Dev nD) (t : Fin cfg0.N) (j : Fin 256) : (iblk m c 5 t : Vec Ideal S1x256 .f32) (ix2 0 j)
    = m ((c : Thread nD τ).loc main_arg5) (ix2 0 j) := by
  blk_ext! [iblk, V, idx t]
/-- The state of the point's batch row. -/
theorem read6 (c : Dev nD) (t : Fin cfg0.N) (h : Fin 4) (d : Fin 128) (e : Fin 256) :
    (iblk m c 6 t : Vec Ideal S1x4x128x256 .f32) (ix4 0 h d e)
    = m ((c : Thread nD τ).loc main_arg6) (ix4 ⟨t.val, point_lt t⟩ h d e) := by
  blk_ext! [iblk, V, idx t]

/-- Where the output window puts a block's element. -/
theorem place7 (t : Fin cfg0.N) (u v : Fin 1) (l : Fin 1024) : ((cfg0.win 7).blk t).view.emb (ix3 u v l)
    = ix3 (⟨t.val, point_lt t⟩ : Fin 128) (0 : Fin 1) l := by
  have := point_lt t
  blk_ext [idx t]
/-- Where the state window puts a block's element. -/
theorem place8 (t : Fin cfg0.N) (u : Fin 1) (h : Fin 4) (d : Fin 128) (e : Fin 256) : ((cfg0.win 8).blk t).view.emb (ix4 u h d e)
    = ix4 (⟨t.val, point_lt t⟩ : Fin 128) h d e := by
  have := point_lt t
  blk_ext [idx t]

section
variable (c : Dev nD) (h0 : Finite2 (m ((c : Thread nD τ).loc main_arg0))) (h1 : Finite2 (m ((c : Thread nD τ).loc main_arg1)))
  (h2 : Finite2 (m ((c : Thread nD τ).loc main_arg2)))
include h0 h1 h2

/-- The kernel's output array after the run. -/
theorem final7 : (dats m 0 c).arrAt 7 (cfgs 0).N
    = yArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  rw [after0_7]
  obtain ⟨u, v, l, rfl⟩ : ∃ (u v : Fin 1) (l : Fin 1024), y = ix3 u v l := ⟨y 0, y 1, y 2, eq_ix3 y⟩
  refine Eq.trans ?_ (congrArg (yArr _ _ _ _ _ _ _) (place7 t u v l)).symm
  obtain ⟨h, e, rfl⟩ : ∃ (h : Fin 4) (e : Fin 256), l = lane h e := ⟨headOf l, inHead l, (lane_split l).symm⟩
  refine (block7 (grid0.coords t) (iblk m c 0 t) (iblk m c 1 t) (iblk m c 2 t) (iblk m c 3 t) (iblk m c 4 t) (iblk m c 5 t)
    (iblk m c 6 t) (fun p q => by rw [read0]; exact h0 p q) (fun p q => by rw [read1]; exact h1 p q) (fun p q => by rw [read2]; exact h2 p q) u v h e).trans ?_
  simp only [read0, read1, read2, read3, read4, read5, read6, at_coords]
  show _ = yAt _ _ _ _ _ _ _ (headOf (lane h e)) (inHead (lane h e))
  rw [headOf_lane, inHead_lane]
  rfl

/-- The kernel's state array after the run. -/
theorem final8 : (dats m 0 c).arrAt 8 (cfgs 0).N
    = stateArr (m ((c : Thread nD τ).loc main_arg1)) (m ((c : Thread nD τ).loc main_arg2))
        (m ((c : Thread nD τ).loc main_arg3)) (m ((c : Thread nD τ).loc main_arg6)) := by
  refine (dats m 0 c).arrAt_eq_of_covers 8 _ (by decide +kernel) fun t _ y => ?_
  blk_simp
  rw [after0_8]
  obtain ⟨u, h, d, e, rfl⟩ : ∃ (u : Fin 1) (h : Fin 4) (d : Fin 128) (e : Fin 256), y = ix4 u h d e :=
    ⟨y 0, y 1, y 2, y 3, eq_ix4 y⟩
  refine Eq.trans ?_ (congrArg (stateArr _ _ _ _) (place8 t u h d e)).symm
  refine (block8 (grid0.coords t) (iblk m c 0 t) (iblk m c 1 t) (iblk m c 2 t) (iblk m c 3 t) (iblk m c 4 t) (iblk m c 5 t)
    (iblk m c 6 t) (fun p q => by rw [read0]; exact h0 p q) (fun p q => by rw [read1]; exact h1 p q) (fun p q => by rw [read2]; exact h2 p q) u h d e).trans ?_
  simp only [read1, read2, read3, read6, at_coords]
  rfl

end
end Cert.GlaDecodeIdeal.Tail

namespace Cert.GlaDecodeReferenceIdeal.Tail
open Cert.GlaDecodeReferenceIdeal Cert.GlaDecodeReferenceIdeal.Gen
open Cert.GlaDecodeIdeal.Tail (stateArr yArr stateAt outAt yAt feat lane headOf inHead lane_split)

/-- The reference's new state, as its composed term. -/
def stateT (K G : FVec Ideal S512x128 .f32) (V : FVec Ideal S128x1x1024 .f32) (S : FVec Ideal S128x4x128x256 .f32) :
    FVec Ideal S128x4x128x256 .f32 :=
  addf (mulf S (broadcastInDim S128x4x128x256 ![0, 1, 2, 3] bcast_S128x4x128x1_S128x4x128x256_0_1_2_3 (broadcastInDim S128x4x128x1 ![0, 1, 2] bcast_S128x4x128_S128x4x128x1_0_1_2 (Host.exp (shapeCast S128x4x128 (transpose S128x512 [1, 0] G transposes_S512x128_S128x512_1_0) shapeCasts_S128x512_S128x4x128))))) (mulf (broadcastInDim S128x4x128x256 ![0, 1, 2, 3] bcast_S128x4x128x1_S128x4x128x256_0_1_2_3 (broadcastInDim S128x4x128x1 ![0, 1, 2] bcast_S128x4x128_S128x4x128x1_0_1_2 (shapeCast S128x4x128 (transpose S128x512 [1, 0] K transposes_S512x128_S128x512_1_0) shapeCasts_S128x512_S128x4x128))) (broadcastInDim S128x4x128x256 ![0, 1, 2, 3] bcast_S128x4x1x256_S128x4x128x256_0_1_2_3 (broadcastInDim S128x4x1x256 ![0, 1, 3] bcast_S128x4x256_S128x4x1x256_0_1_3 (shapeCast S128x4x256 V shapeCasts_S128x1x1024_S128x4x256))))

/-- The reference's product of the queries with the new state. -/
def outT (Q : FVec Ideal S512x128 .f32) (Z : FVec Ideal S128x4x128x256 .f32) : FVec Ideal S128x4x256 .f32 :=
  Host.dotGeneral dot_S128x4x128_S128x4x128x256_S128x4x256_2_2_n_3_01_01 none (shapeCast S128x4x128 (transpose S128x512 [1, 0] Q transposes_S512x128_S128x512_1_0) shapeCasts_S128x512_S128x4x128) Z

/-- The reference's normalised, gated output of the product `O`. -/
def yT (O : FVec Ideal S128x4x256 .f32) (R : FVec Ideal S128x1x1024 .f32) (N : FVec Ideal S1x256 .f32) : FVec Ideal S128x1x1024 .f32 :=
  shapeCast S128x1x1024 (mulf (mulf (mulf O (broadcastInDim S128x4x256 ![0, 1, 2] bcast_S128x4x1_S128x4x256_0_1_2 (Host.rsqrt (addf (Host.divf (broadcastInDim S128x4x1 ![0, 1] bcast_S128x4_S128x4x1_0_1 (Host.reduceAdd (mulf O O) (constant S_ .f32 0x00000000#32) reducesTo_S128x4x256_S128x4_d2 h_S_)) (broadcastInDim S128x4x1 ![] bcast_S_S128x4x1 (constant S_ .f32 0x43800000#32))) (broadcastInDim S128x4x1 ![] bcast_S_S128x4x1 (constant S_ .f32 0x358637BD#32)))))) (broadcastInDim S128x4x256 ![0, 1, 2] bcast_S1x1x256_S128x4x256_0_1_2 (broadcastInDim S1x1x256 ![2] bcast_S256_S1x1x256_2 (shapeCast S256 N shapeCasts_S1x256_S256)))) (shapeCast S128x4x256 R shapeCasts_S128x1x1024_S128x4x256)) shapeCasts_S128x4x256_S128x1x1024

/-- The reference's output as the run states it is that term. -/
theorem res_eq (m : (ℓ : Loc nD τ sig) → Buf (Elt Ideal) ℓ) (c : Dev nD) : Value.res_main_v34 m c
    = yT (outT (m (c.tc.loc main_arg0)) (stateT (m (c.tc.loc main_arg1)) (m (c.tc.loc main_arg2)) (m (c.tc.loc main_arg3)) (m (c.tc.loc main_arg6))))
        (m (c.tc.loc main_arg4)) (m (c.tc.loc main_arg5)) := rfl

/-- The reference's new state is the step's formula at every index. -/
theorem stateT_eq (K G : FVec Ideal S512x128 .f32) (V : FVec Ideal S128x1x1024 .f32) (S : FVec Ideal S128x4x128x256 .f32) :
    stateT K G V S = stateArr K G V S := by
  funext i
  obtain ⟨b, h, d, e, rfl⟩ : ∃ (b : Fin 128) (h : Fin 4) (d : Fin 128) (e : Fin 256), i = ix4 b h d e := ⟨i 0, i 1, i 2, i 3, eq_ix4 i⟩
  pointwise [stateT, stateArr, stateAt]

/-- The reference's output is the step's formula at every index. -/
theorem yT_eq (Q K G : FVec Ideal S512x128 .f32) (V R : FVec Ideal S128x1x1024 .f32) (N : FVec Ideal S1x256 .f32)
    (S : FVec Ideal S128x4x128x256 .f32) : yT (outT Q (stateT K G V S)) R N = yArr Q K G V R N S := by
  have h1 : ∀ b h e, outT Q (stateT K G V S) (ix3 b h e) = outAt (fun p => Q (ix2 p b)) (fun p => K (ix2 p b)) (fun p => G (ix2 p b))
      (fun l => V (ix3 b 0 l)) (fun h d e => S (ix4 b h d e)) h e := by
    intro b h e
    rw [stateT_eq]
    pointwise [outT]
    rfl
  funext i
  obtain ⟨b, u, l, rfl⟩ : ∃ (b : Fin 128) (u : Fin 1) (l : Fin 1024), i = ix3 b u l := ⟨i 0, i 1, i 2, eq_ix3 i⟩
  obtain ⟨h, e, rfl⟩ : ∃ (h : Fin 4) (e : Fin 256), l = lane h e := ⟨headOf l, inHead l, (lane_split l).symm⟩
  pointwise [yT]
  simp only [h1]
  rfl

end Cert.GlaDecodeReferenceIdeal.Tail

namespace Cert.Pre_finite_qkg.Tail
open Cert.Pre_finite_qkg

/-- The word of positive infinity reads as the top value. -/
theorem inf_word : Ideal.ofBits .f32 0x7F800000#32 = (⊤ : EReal) := by
  show Ideal.ieee 8 23 0x7F800000#32 = ⊤
  unfold Ideal.ieee
  rw [if_pos (by decide), if_pos (by decide), if_neg (by decide)]
/-- The word of negative infinity reads as the bottom value. -/
theorem neg_inf_word : Ideal.ofBits .f32 0xFF800000#32 = (⊥ : EReal) := by
  show Ideal.ieee 8 23 0xFF800000#32 = ⊥
  unfold Ideal.ieee
  rw [if_pos (by decide), if_pos (by decide), if_pos (by decide)]

/-- Where the precondition is one, the queries, keys and gates are finite. -/
theorem finite_of [Facts] (q k g : FVec Ideal S512x128 .f32) (v r : FVec Ideal S128x1x1024 .f32) (n : FVec Ideal S1x256 .f32)
    (s : FVec Ideal S128x4x128x256 .f32) (h : fn (F := Ideal) q k g v r n s = fun _ => 1#1) :
    GlaDecodeIdeal.Tail.Finite2 q ∧ GlaDecodeIdeal.Tail.Finite2 k ∧ GlaDecodeIdeal.Tail.Finite2 g := by
  have h' := congrFun h (fun a => a.elim0)
  dsimp only [fn, fn_part1] at h'
  have and1 : ∀ a b : BitVec 1, IntOp.andi a b = 1#1 → a = 1#1 ∧ b = 1#1 := by decide
  obtain ⟨hqk, hg⟩ := and1 _ _ h'
  obtain ⟨hq, hk⟩ := and1 _ _ hqk
  have elt : ∀ x : EReal, IntOp.andi (BitVec.ofBool (decide (x < Ideal.ofBits .f32 0x7F800000#32)))
      (BitVec.ofBool (decide (Ideal.ofBits .f32 0xFF800000#32 < x))) = 1#1 → x < ⊤ ∧ ⊥ < x := by
    intro x hx
    obtain ⟨ha, hb⟩ := and1 _ _ hx
    rw [inf_word] at ha
    rw [neg_inf_word] at hb
    constructor
    · by_contra hc; rw [decide_eq_false hc] at ha; exact absurd ha (by decide)
    · by_contra hc; rw [decide_eq_false hc] at hb; exact absurd hb (by decide)
  refine ⟨fun a b => elt _ ?_, fun a b => elt _ ?_, fun a b => elt _ ?_⟩
  · exact Host.reduce_andi_all _ _ _ _ _ hq (ix2 a b)
  · exact Host.reduce_andi_all _ _ _ _ _ hk (ix2 a b)
  · exact Host.reduce_andi_all _ _ _ _ _ hg (ix2 a b)

end Cert.Pre_finite_qkg.Tail
-- ==== Proof.Rows.lean ====
module

public import Idealize.ShloMosaic.Lib.Pipeline.ValueKit
public import Idealize.ShloMosaic.Lib.Pointwise

/-!
The mathematics that the layer's row-wise calls share, on one row of 1024 extended reals: the root-mean-square
normalisation with its scale and shift, and the gated feed-forward map.
-/

@[expose] public section
noncomputable section
open Idealize.ShloMosaic

namespace Cert.Rows

/-- A row divided by its root mean square: `x k · rsqrt(mean(x²) + 10⁻⁶)`, the two constants as their binary32 words. -/
def rms (x : Fin 1024 → EReal) (k : Fin 1024) : EReal :=
  x k * Ideal.rsqrt (Ideal.div (∑ j, x j * x j) (Ideal.ofBits .f32 0x44800000#32) + Ideal.ofBits .f32 0x358637BD#32)

/-- The normalised row, times the gain `n`, times `1 + scale`, plus `shift`. -/
def pre (x n scale shift : Fin 1024 → EReal) (k : Fin 1024) : EReal :=
  rms x k * n k * (1 + scale k) + shift k

/-- The hidden activation of unit `f`: `silu(h · wg) · (h · wu)`. -/
def hiddenUnit {J F : ℕ} (h : Fin J → EReal) (wg wu : Fin J → Fin F → EReal) (f : Fin F) : EReal :=
  (∑ j, h j * wg j f) * Ideal.logistic (∑ j, h j * wg j f) * ∑ j, h j * wu j f

/-- The gated feed-forward map of a row over all 2816 hidden units. -/
def swiglu (h : Fin 1024 → EReal) (wg wu : Fin 1024 → Fin 2816 → EReal) (wd : Fin 2816 → Fin 1024 → EReal)
    (k : Fin 1024) : EReal :=
  ∑ f, hiddenUnit h wg wu f * wd f k

/-- The feed-forward map taken over the hidden units in two halves of 1408. -/
theorem swiglu_halves (h : Fin 1024 → EReal) (wg wu : Fin 1024 → Fin 2816 → EReal)
    (wd : Fin 2816 → Fin 1024 → EReal) (k : Fin 1024) :
    swiglu h wg wu wd k
      = (∑ f : Fin 1408, hiddenUnit h wg wu ⟨f.val, by omega⟩ * wd ⟨f.val, by omega⟩ k)
        + ∑ f : Fin 1408, hiddenUnit h wg wu ⟨1408 + f.val, by omega⟩ * wd ⟨1408 + f.val, by omega⟩ k := by
  unfold swiglu
  rw [Fin.sum_univ_two_halves 1408 1408 rfl]

end Cert.Rows
-- ==== Proof.OutFfn.lean ====
module

public import proofs.«01_k».proof.Proof.Gen.OutFfnIdeal.Value
public import proofs.«01_k».proof.Proof.Gen.OutFfnReferenceIdeal.Run
public import proofs.«01_k».proof.Proof.Rows

/-!
The output projection and feed-forward call: what the kernel writes at a grid point, and the reference's term, each
equal to one row-wise formula.
-/

set_option maxRecDepth 16384
@[expose] public section
noncomputable section
open Idealize.ShloMosaic Idealize.ShloMosaic.TcCoe Idealize.SL.Sem
open Idealize.ShloMosaic.Pipeline (Dat)

namespace Cert.OutFfnIdeal.Tail
open Cert.OutFfnIdeal Cert.OutFfnIdeal.Gen Cert.Rows

/-- The row after the output projection: `x + gate · (y · wo)`. -/
def mixed (X : FVec Ideal S4x4096x1024 .f32) (Y : FVec Ideal S4x4096x1024 .bf16) (WO : FVec Ideal S1024x1024 .bf16)
    (M : FVec Ideal S4x6144 .f32) (b : Fin 4) (s : Fin 4096) (k : Fin 1024) : EReal :=
  X (ix3 b s k) + M (ix2 b ⟨2048 + k.val, by omega⟩) * ∑ j : Fin 1024, Y (ix3 b s j) * WO (ix2 j k)

/-- The call's result at batch `b`, row `s`, lane `k`. -/
def result (X : FVec Ideal S4x4096x1024 .f32) (Y : FVec Ideal S4x4096x1024 .bf16) (WO : FVec Ideal S1024x1024 .bf16)
    (N2 : FVec Ideal S1x1024 .f32) (M : FVec Ideal S4x6144 .f32) (WG WU : FVec Ideal S1024x2816 .bf16)
    (WD : FVec Ideal S2816x1024 .bf16) (b : Fin 4) (s : Fin 4096) (k : Fin 1024) : EReal :=
  mixed X Y WO M b s k + M (ix2 b ⟨5120 + k.val, by omega⟩) *
    swiglu (pre (mixed X Y WO M b s) (fun j => N2 (ix2 0 j)) (fun j => M (ix2 b ⟨4096 + j.val, by omega⟩))
        (fun j => M (ix2 b ⟨3072 + j.val, by omega⟩)))
      (fun j f => WG (ix2 j f)) (fun j f => WU (ix2 j f)) (fun f j => WD (ix2 f j)) k

/-- The kernel's stored block as the row formula over its staged blocks. -/
theorem block (x0 : Vec Ideal S1x512x1024 .f32) (x1 : Vec Ideal S1x512x1024 .bf16) (x2 : Vec Ideal S1024x1024 .bf16)
    (x3 : Vec Ideal S1x1x1x1024 .f32) (x4 : Vec Ideal S1x1024 .f32) (x5 x6 x7 : Vec Ideal S1x1x1x1024 .f32)
    (x8 x9 : Vec Ideal S1024x2816 .bf16) (x10 : Vec Ideal S2816x1024 .bf16) (u : Fin 1) (r : Fin 512) (k : Fin 1024)
    (z : Fin 1024 → EReal) (hz : ∀ j, z j = x0 (ix3 0 r j) + x3 (ix4 0 0 0 j) * ∑ i, x1 (ix3 0 r i) * x2 (ix2 i j)) :
    out0_11 x0 x1 x2 x3 x4 x5 x6 x7 x8 x9 x10 (ix3 u r k) = z k + x7 (ix4 0 0 0 k) *
      swiglu (pre z (fun j => x4 (ix2 0 j)) (fun j => x6 (ix4 0 0 0 j)) (fun j => x5 (ix4 0 0 0 j)))
        (fun j f => x8 (ix2 j f)) (fun j f => x9 (ix2 j f)) (fun f j => x10 (ix2 f j)) k := by
  have h2 : ∀ (v0 : Vec Ideal S1x512x1024 .bf16) (v2 : Vec Ideal S1024x1024 .bf16) (v4 : Vec Ideal S1x512x1024 .f32)
      (v6 : Vec Ideal S1x1x1x1024 .f32) (j : Fin 1024),
      k0_pay2 v0 v2 v4 v6 (ix2 r j) = v4 (ix3 0 r j) + v6 (ix4 0 0 0 j) * ∑ i, v0 (ix3 0 r i) * v2 (ix2 i j) := by
    intro v0 v2 v4 v6 j
    pointwise [k0_pay2]
  rw [swiglu_halves]
  frame_out
  pointwise [k0_pay1, k0_pay7, k0_pay6, k0_pay3, k0_pay4, k0_pay5]
  simp only [h2, ← hz]
  rfl

variable (m : (ℓ : Loc nD τ sig) → Buf (Elt Ideal) ℓ)

/-- The windows' block indices at a grid point: batch and row block for the rows, the batch for the modulation rows. -/
theorem idx : ∀ t : Fin cfg0.N, win0_0.index t = ![t.val / 8, t.val % 8, 0] ∧ win0_1.index t = ![t.val / 8, t.val % 8, 0]
    ∧ win0_2.index t = ![0, 0] ∧ win0_3.index t = ![t.val / 8, 2, 0, 0] ∧ win0_4.index t = ![0, 0]
    ∧ win0_5.index t = ![t.val / 8, 3, 0, 0] ∧ win0_6.index t = ![t.val / 8, 4, 0, 0] ∧ win0_7.index t = ![t.val / 8, 5, 0, 0]
    ∧ win0_8.index t = ![0, 0] ∧ win0_9.index t = ![0, 0] ∧ win0_10.index t = ![0, 0]
    ∧ win0_11.index t = ![t.val / 8, t.val % 8, 0] ∧ t.val < 32 :=
  (by decide +kernel : ∀ t : Fin grid0.N, _)

/-- The call's result array: `result` at every index. -/
def resultArr (X : FVec Ideal S4x4096x1024 .f32) (Y : FVec Ideal S4x4096x1024 .bf16) (WO : FVec Ideal S1024x1024 .bf16)
    (N2 : FVec Ideal S1x1024 .f32) (M : FVec Ideal S4x6144 .f32) (WG WU : FVec Ideal S1024x2816 .bf16)
    (WD : FVec Ideal S2816x1024 .bf16) : FVec Ideal S4x4096x1024 .f32 :=
  fun i => result X Y WO N2 M WG WU WD (i 0) (i 1) (i 2)

/-- The stored block, its staged blocks read as the arrays at batch `b` and array row `s`, is the result there. -/
theorem point (x0 : Vec Ideal S1x512x1024 .f32) (x1 : Vec Ideal S1x512x1024 .bf16) (x2 : Vec Ideal S1024x1024 .bf16)
    (x3 : Vec Ideal S1x1x1x1024 .f32) (x4 : Vec Ideal S1x1024 .f32) (x5 x6 x7 : Vec Ideal S1x1x1x1024 .f32)
    (x8 x9 : Vec Ideal S1024x2816 .bf16) (x10 : Vec Ideal S2816x1024 .bf16)
    (X : FVec Ideal S4x4096x1024 .f32) (Y : FVec Ideal S4x4096x1024 .bf16) (WO : FVec Ideal S1024x1024 .bf16)
    (N2 : FVec Ideal S1x1024 .f32) (M : FVec Ideal S4x6144 .f32) (WG WU : FVec Ideal S1024x2816 .bf16)
    (WD : FVec Ideal S2816x1024 .bf16) (u : Fin 1) (r : Fin 512) (k : Fin 1024) (b : Fin 4) (s : Fin 4096)
    (e0 : ∀ j : Fin 1024, x0 (ix3 0 r j) = X (ix3 b s j)) (e1 : ∀ j : Fin 1024, x1 (ix3 0 r j) = Y (ix3 b s j))
    (e2 : ∀ i j : Fin 1024, x2 (ix2 i j) = WO (ix2 i j))
    (e3 : ∀ j : Fin 1024, x3 (ix4 0 0 0 j) = M (ix2 b ⟨2048 + j.val, by omega⟩))
    (e4 : ∀ j : Fin 1024, x4 (ix2 0 j) = N2 (ix2 0 j))
    (e5 : ∀ j : Fin 1024, x5 (ix4 0 0 0 j) = M (ix2 b ⟨3072 + j.val, by omega⟩))
    (e6 : ∀ j : Fin 1024, x6 (ix4 0 0 0 j) = M (ix2 b ⟨4096 + j.val, by omega⟩))
    (e7 : ∀ j : Fin 1024, x7 (ix4 0 0 0 j) = M (ix2 b ⟨5120 + j.val, by omega⟩))
    (e8 : ∀ (i : Fin 1024) (j : Fin 2816), x8 (ix2 i j) = WG (ix2 i j))
    (e9 : ∀ (i : Fin 1024) (j : Fin 2816), x9 (ix2 i j) = WU (ix2 i j))
    (e10 : ∀ (i : Fin 2816) (j : Fin 1024), x10 (ix2 i j) = WD (ix2 i j)) :
    out0_11 x0 x1 x2 x3 x4 x5 x6 x7 x8 x9 x10 (ix3 u r k) = result X Y WO N2 M WG WU WD b s k := by
  rw [block x0 x1 x2 x3 x4 x5 x6 x7 x8 x9 x10 u r k (mixed X Y WO M b s)
    (fun j => by simp only [mixed, e0, e1, e2, e3])]
  simp only [e4, e5, e6, e7, e8, e9, e10]
  rfl

/-- The grid has 32 points. -/
theorem point_lt (t : Fin cfg0.N) : t.val < 32 := (idx t).2.2.2.2.2.2.2.2.2.2.2.2

/-- The rows block at a point is the array's rows there. -/
theorem read0 (c : Dev nD) (t : Fin cfg0.N) (r : Fin 512) (j : Fin 1024) : (iblk m c 0 t : Vec Ideal S1x512x1024 .f32) (ix3 0 r j)
    = m ((c : Thread nD τ).loc main_arg0) (ix3 ⟨t.val / 8, by have := point_lt t; omega⟩ ⟨t.val % 8 * 512 + r.val, by omega⟩ j) := by
  blk_ext! [iblk, V, idx t]

/-- The mixer-output block at a point is the array's rows there. -/
theorem read1 (c : Dev nD) (t : Fin cfg0.N) (r : Fin 512) (j : Fin 1024) : (iblk m c 1 t : Vec Ideal S1x512x1024 .bf16) (ix3 0 r j)
    = m ((c : Thread nD τ).loc main_arg1) (ix3 ⟨t.val / 8, by have := point_lt t; omega⟩ ⟨t.val % 8 * 512 + r.val, by omega⟩ j) := by
  blk_ext! [iblk, V, idx t]

/-- The output weights are staged whole. -/
theorem read2 (c : Dev nD) (t : Fin cfg0.N) (i j : Fin 1024) : (iblk m c 2 t : Vec Ideal S1024x1024 .bf16) (ix2 i j)
    = m ((c : Thread nD τ).loc main_arg2) (ix2 i j) := by
  blk_ext! [iblk, V, idx t]

/-- Modulation row 2 of the point's batch. -/
theorem read3 (c : Dev nD) (t : Fin cfg0.N) (j : Fin 1024) : (iblk m c 3 t : Vec Ideal S1x1x1x1024 .f32) (ix4 0 0 0 j)
    = m ((c : Thread nD τ).loc main_arg4) (ix2 ⟨t.val / 8, by have := point_lt t; omega⟩ ⟨2048 + j.val, by omega⟩) := by
  blk_ext! [iblk, V, idx t]

/-- The normalisation gain is staged whole. -/
theorem read4 (c : Dev nD) (t : Fin cfg0.N) (j : Fin 1024) : (iblk m c 4 t : Vec Ideal S1x1024 .f32) (ix2 0 j)
    = m ((c : Thread nD τ).loc main_arg3) (ix2 0 j) := by
  blk_ext! [iblk, V, idx t]

/-- Modulation row 3 of the point's batch. -/
theorem read5 (c : Dev nD) (t : Fin cfg0.N) (j : Fin 1024) : (iblk m c 5 t : Vec Ideal S1x1x1x1024 .f32) (ix4 0 0 0 j)
    = m ((c : Thread nD τ).loc main_arg4) (ix2 ⟨t.val / 8, by have := point_lt t; omega⟩ ⟨3072 + j.val, by omega⟩) := by
  blk_ext! [iblk, V, idx t]

/-- Modulation row 4 of the point's batch. -/
theorem read6 (c : Dev nD) (t : Fin cfg0.N) (j : Fin 1024) : (iblk m c 6 t : Vec Ideal S1x1x1x1024 .f32) (ix4 0 0 0 j)
    = m ((c : Thread nD τ).loc main_arg4) (ix2 ⟨t.val / 8, by have := point_lt t; omega⟩ ⟨4096 + j.val, by omega⟩) := by
  blk_ext! [iblk, V, idx t]

/-- Modulation row 5 of the point's batch. -/
theorem read7 (c : Dev nD) (t : Fin cfg0.N) (j : Fin 1024) : (iblk m c 7 t : Vec Ideal S1x1x1x1024 .f32) (ix4 0 0 0 j)
    = m ((c : Thread nD τ).loc main_arg4) (ix2 ⟨t.val / 8, by have := point_lt t; omega⟩ ⟨5120 + j.val, by omega⟩) := by
  blk_ext! [iblk, V, idx t]

/-- The gate weights are staged whole. -/
theorem read8 (c : Dev nD) (t : Fin cfg0.N) (i : Fin 1024) (j : Fin 2816) : (iblk m c 8 t : Vec Ideal S1024x2816 .bf16) (ix2 i j)
    = m ((c : Thread nD τ).loc main_arg5) (ix2 i j) := by
  blk_ext! [iblk, V, idx t]

/-- The up weights are staged whole. -/
theorem read9 (c : Dev nD) (t : Fin cfg0.N) (i : Fin 1024) (j : Fin 2816) : (iblk m c 9 t : Vec Ideal S1024x2816 .bf16) (ix2 i j)
    = m ((c : Thread nD τ).loc main_arg6) (ix2 i j) := by
  blk_ext! [iblk, V, idx t]

/-- The down weights are staged whole. -/
theorem read10 (c : Dev nD) (t : Fin cfg0.N) (i : Fin 2816) (j : Fin 1024) : (iblk m c 10 t : Vec Ideal S2816x1024 .bf16) (ix2 i j)
    = m ((c : Thread nD τ).loc main_arg7) (ix2 i j) := by
  blk_ext! [iblk, V, idx t]

/-- Where the result window puts a block's element. -/
theorem place (t : Fin cfg0.N) (u : Fin 1) (r : Fin 512) (k : Fin 1024) : ((cfg0.win 11).blk t).view.emb (ix3 u r k)
    = ix3 (⟨t.val / 8, by have := point_lt t; omega⟩ : Fin 4) (⟨t.val % 8 * 512 + r.val, by omega⟩ : Fin 4096) k := by
  have := point_lt t
  blk_ext [idx t]

/-- The kernel's result array after the run is `resultArr` of the arguments. -/
theorem final (c : Dev nD) : (dats m 0 c).arrAt 11 (cfgs 0).N
    = resultArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 11 _ (by decide +kernel) fun t _ y => ?_
  have ht : t.val < 32 := point_lt t
  blk_simp
  rw [after0_11]
  obtain ⟨u, r, k, rfl⟩ : ∃ (u : Fin 1) (r : Fin 512) (k : Fin 1024), y = ix3 u r k := ⟨y 0, y 1, y 2, eq_ix3 y⟩
  exact (point _ _ _ _ _ _ _ _ _ _ _ (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) u r k ⟨t.val / 8, by omega⟩ ⟨t.val % 8 * 512 + r.val, by omega⟩
    (read0 m c t r) (read1 m c t r) (read2 m c t) (read3 m c t) (read4 m c t) (read5 m c t) (read6 m c t) (read7 m c t)
    (read8 m c t) (read9 m c t) (read10 m c t)).trans (congrArg (resultArr _ _ _ _ _ _ _ _) (place t u r k)).symm

end Cert.OutFfnIdeal.Tail

namespace Cert.OutFfnReferenceIdeal.Tail
open Cert.OutFfnReferenceIdeal Cert.OutFfnReferenceIdeal.Gen Cert.Rows

/-- The reference's row after the output projection, as its composed term. -/
def mixedT (X : FVec Ideal S4x4096x1024 .f32) (Y : FVec Ideal S4x4096x1024 .bf16) (WO : FVec Ideal S1024x1024 .bf16)
    (M : FVec Ideal S4x6144 .f32) : FVec Ideal S4x4096x1024 .f32 :=
  addf X (mulf (broadcastInDim S4x4096x1024 ![0, 1, 2] bcast_S4x1x1024_S4x4096x1024_0_1_2 (broadcastInDim S4x1x1024 ![0, 2] bcast_S4x1024_S4x1x1024_0_2 (extractStridedSlice S4x1024 ![0, 2048] M slices_S4x6144_S4x1024_0_2048))) (Host.dotGeneral dot_S4x4096x1024_S1024x1024_S4x4096x1024_2_0_01_1_n_n none (extf .f32 Y bitsLt_bf16_f32) (extf .f32 WO bitsLt_bf16_f32)))

/-- The reference's normalised, scaled and shifted rows, as its composed term of the rows `Z`. -/
def preT (Z : FVec Ideal S4x4096x1024 .f32) (N2 : FVec Ideal S1x1024 .f32) (M : FVec Ideal S4x6144 .f32) :
    FVec Ideal S4x4096x1024 .f32 :=
  addf (mulf (mulf (mulf Z (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf Z Z) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast S1024 N2 shapeCasts_S1x1024_S1024)))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 4096] M slices_S4x6144_S4x1024_0_4096))))) (broadcastInDim S4x4096x1024 ![0, 1, 2] bcast_S4x1x1024_S4x4096x1024_0_1_2 (broadcastInDim S4x1x1024 ![0, 2] bcast_S4x1024_S4x1x1024_0_2 (extractStridedSlice S4x1024 ![0, 3072] M slices_S4x6144_S4x1024_0_3072)))

/-- The reference's gated product of hidden activations, as its composed term of the normalised rows `H`. -/
def hiddenT (H : FVec Ideal S4x4096x1024 .f32) (WG WU : FVec Ideal S1024x2816 .bf16) : FVec Ideal S4x4096x2816 .f32 :=
  mulf (mulf (Host.dotGeneral dot_S4x4096x1024_S1024x2816_S4x4096x2816_2_0_01_1_n_n none H (extf .f32 WG bitsLt_bf16_f32)) (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf (Host.dotGeneral dot_S4x4096x1024_S1024x2816_S4x4096x2816_2_0_01_1_n_n none H (extf .f32 WG bitsLt_bf16_f32))))))) (Host.dotGeneral dot_S4x4096x1024_S1024x2816_S4x4096x2816_2_0_01_1_n_n none H (extf .f32 WU bitsLt_bf16_f32))

/-- The reference's whole term of its arguments. -/
def resultT (X : FVec Ideal S4x4096x1024 .f32) (Y : FVec Ideal S4x4096x1024 .bf16) (WO : FVec Ideal S1024x1024 .bf16)
    (N2 : FVec Ideal S1x1024 .f32) (M : FVec Ideal S4x6144 .f32) (WG WU : FVec Ideal S1024x2816 .bf16)
    (WD : FVec Ideal S2816x1024 .bf16) : FVec Ideal S4x4096x1024 .f32 :=
  addf (mixedT X Y WO M) (mulf (broadcastInDim S4x4096x1024 ![0, 1, 2] bcast_S4x1x1024_S4x4096x1024_0_1_2 (broadcastInDim S4x1x1024 ![0, 2] bcast_S4x1024_S4x1x1024_0_2 (extractStridedSlice S4x1024 ![0, 5120] M slices_S4x6144_S4x1024_0_5120))) (Host.dotGeneral dot_S4x4096x2816_S2816x1024_S4x4096x1024_2_0_01_1_n_n none (hiddenT (preT (mixedT X Y WO M) N2 M) WG WU) (extf .f32 WD bitsLt_bf16_f32)))

/-- The reference's result as the run states it is that term. -/
theorem res_eq (m : (ℓ : Loc nD τ sig) → Buf (Elt Ideal) ℓ) (c : Dev nD) : Value.res_main_v46 m c
    = resultT (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7)) := rfl

/-- The reference's term is the row formula at every index. -/
theorem resultT_eq (X : FVec Ideal S4x4096x1024 .f32) (Y : FVec Ideal S4x4096x1024 .bf16) (WO : FVec Ideal S1024x1024 .bf16)
    (N2 : FVec Ideal S1x1024 .f32) (M : FVec Ideal S4x6144 .f32) (WG WU : FVec Ideal S1024x2816 .bf16)
    (WD : FVec Ideal S2816x1024 .bf16) :
    resultT X Y WO N2 M WG WU WD = OutFfnIdeal.Tail.resultArr X Y WO N2 M WG WU WD := by
  have h1 : ∀ b s k, mixedT X Y WO M (ix3 b s k) = OutFfnIdeal.Tail.mixed X Y WO M b s k := by
    intro b s k
    pointwise [mixedT, OutFfnIdeal.Tail.mixed]
  have h2 : ∀ b s k, preT (mixedT X Y WO M) N2 M (ix3 b s k)
      = pre (OutFfnIdeal.Tail.mixed X Y WO M b s) (fun j => N2 (ix2 0 j)) (fun j => M (ix2 b ⟨4096 + j.val, by omega⟩))
        (fun j => M (ix2 b ⟨3072 + j.val, by omega⟩)) k := by
    intro b s k
    pointwise [preT]
    simp only [h1]
    rfl
  have h3 : ∀ b s f, hiddenT (preT (mixedT X Y WO M) N2 M) WG WU (ix3 b s f)
      = hiddenUnit (pre (OutFfnIdeal.Tail.mixed X Y WO M b s) (fun j => N2 (ix2 0 j)) (fun j => M (ix2 b ⟨4096 + j.val, by omega⟩))
        (fun j => M (ix2 b ⟨3072 + j.val, by omega⟩))) (fun j f => WG (ix2 j f)) (fun j f => WU (ix2 j f)) f := by
    intro b s f
    pointwise [hiddenT]
    simp only [h2]
    rfl
  funext i
  obtain ⟨b, s, k, rfl⟩ : ∃ (b : Fin 4) (s : Fin 4096) (k : Fin 1024), i = ix3 b s k := ⟨i 0, i 1, i 2, eq_ix3 i⟩
  pointwise [resultT]
  simp only [h1, h3]
  rfl

end Cert.OutFfnReferenceIdeal.Tail
-- ==== Proof.OutFfnSample.lean ====
module

public import proofs.«01_k».proof.Proof.Gen.OutFfnSampleIdeal.Value
public import proofs.«01_k».proof.Proof.Gen.OutFfnSampleReferenceIdeal.Run
public import proofs.«01_k».proof.Proof.Rows

/-!
The output projection and feed-forward call on the sample rows: what the kernel writes, and the reference's term, each
equal to one row-wise formula.
-/

set_option maxRecDepth 16384
@[expose] public section
noncomputable section
open Idealize.ShloMosaic Idealize.ShloMosaic.TcCoe Idealize.SL.Sem
open Idealize.ShloMosaic.Pipeline (Dat)

namespace Cert.OutFfnSampleIdeal.Tail
open Cert.OutFfnSampleIdeal Cert.OutFfnSampleIdeal.Gen Cert.Rows

/-- The row after the output projection: `x + gate · (y · wo)`. -/
def mixed (X : FVec Ideal S1x128x1024 .f32) (Y : FVec Ideal S1x128x1024 .bf16) (WO : FVec Ideal S1024x1024 .bf16)
    (M : FVec Ideal S128x6144 .f32) (s : Fin 128) (k : Fin 1024) : EReal :=
  X (ix3 0 s k) + M (ix2 s ⟨2048 + k.val, by omega⟩) * ∑ j : Fin 1024, Y (ix3 0 s j) * WO (ix2 j k)

/-- The call's result at row `s`, lane `k`. -/
def result (X : FVec Ideal S1x128x1024 .f32) (Y : FVec Ideal S1x128x1024 .bf16) (WO : FVec Ideal S1024x1024 .bf16)
    (N2 : FVec Ideal S1x1024 .f32) (M : FVec Ideal S128x6144 .f32) (WG WU : FVec Ideal S1024x2816 .bf16)
    (WD : FVec Ideal S2816x1024 .bf16) (s : Fin 128) (k : Fin 1024) : EReal :=
  mixed X Y WO M s k + M (ix2 s ⟨5120 + k.val, by omega⟩) *
    swiglu (pre (mixed X Y WO M s) (fun j => N2 (ix2 0 j)) (fun j => M (ix2 s ⟨4096 + j.val, by omega⟩))
        (fun j => M (ix2 s ⟨3072 + j.val, by omega⟩)))
      (fun j f => WG (ix2 j f)) (fun j f => WU (ix2 j f)) (fun f j => WD (ix2 f j)) k

/-- The call's result array: `result` at every index. -/
def resultArr (X : FVec Ideal S1x128x1024 .f32) (Y : FVec Ideal S1x128x1024 .bf16) (WO : FVec Ideal S1024x1024 .bf16)
    (N2 : FVec Ideal S1x1024 .f32) (M : FVec Ideal S128x6144 .f32) (WG WU : FVec Ideal S1024x2816 .bf16)
    (WD : FVec Ideal S2816x1024 .bf16) : FVec Ideal S1x128x1024 .f32 :=
  fun i => result X Y WO N2 M WG WU WD (i 1) (i 2)

/-- The kernel's stored block as the row formula over its staged blocks. -/
theorem block (x0 : Vec Ideal S1x128x1024 .f32) (x1 : Vec Ideal S1x128x1024 .bf16) (x2 : Vec Ideal S1024x1024 .bf16)
    (x3 : Vec Ideal S128x1024 .f32) (x4 : Vec Ideal S1x1024 .f32) (x5 x6 x7 : Vec Ideal S128x1024 .f32)
    (x8 x9 : Vec Ideal S1024x2816 .bf16) (x10 : Vec Ideal S2816x1024 .bf16) (u : Fin 1) (r : Fin 128) (k : Fin 1024)
    (z : Fin 1024 → EReal) (hz : ∀ j, z j = x0 (ix3 0 r j) + x3 (ix2 r j) * ∑ i, x1 (ix3 0 r i) * x2 (ix2 i j)) :
    out0_11 x0 x1 x2 x3 x4 x5 x6 x7 x8 x9 x10 (ix3 u r k) = z k + x7 (ix2 r k) *
      swiglu (pre z (fun j => x4 (ix2 0 j)) (fun j => x6 (ix2 r j)) (fun j => x5 (ix2 r j)))
        (fun j f => x8 (ix2 j f)) (fun j f => x9 (ix2 j f)) (fun f j => x10 (ix2 f j)) k := by
  have h2 : ∀ (v0 : Vec Ideal S1x128x1024 .bf16) (v2 : Vec Ideal S1024x1024 .bf16) (v4 : Vec Ideal S1x128x1024 .f32)
      (v6 : Vec Ideal S128x1024 .f32) (j : Fin 1024),
      k0_pay2 v0 v2 v4 v6 (ix2 r j) = v4 (ix3 0 r j) + v6 (ix2 r j) * ∑ i, v0 (ix3 0 r i) * v2 (ix2 i j) := by
    intro v0 v2 v4 v6 j
    pointwise [k0_pay2]
  rw [swiglu_halves]
  frame_out
  pointwise [k0_pay1, k0_pay3, k0_pay4]
  simp only [h2, ← hz]
  rfl

variable (m : (ℓ : Loc nD τ sig) → Buf (Elt Ideal) ℓ)

/-- The windows' block indices at the one grid point. -/
theorem idx : ∀ t : Fin cfg0.N, win0_0.index t = ![0, 0, 0] ∧ win0_1.index t = ![0, 0, 0]
    ∧ win0_2.index t = ![0, 0] ∧ win0_3.index t = ![0, 2] ∧ win0_4.index t = ![0, 0]
    ∧ win0_5.index t = ![0, 3] ∧ win0_6.index t = ![0, 4] ∧ win0_7.index t = ![0, 5]
    ∧ win0_8.index t = ![0, 0] ∧ win0_9.index t = ![0, 0] ∧ win0_10.index t = ![0, 0] ∧ win0_11.index t = ![0, 0, 0] :=
  (by decide +kernel : ∀ t : Fin grid0.N, _)

/-- The rows are staged whole. -/
theorem read0 (c : Dev nD) (t : Fin cfg0.N) (r : Fin 128) (j : Fin 1024) : (iblk m c 0 t : Vec Ideal S1x128x1024 .f32) (ix3 0 r j)
    = m ((c : Thread nD τ).loc main_arg0) (ix3 0 r j) := by
  blk_ext! [iblk, V, idx t]

/-- The mixer output is staged whole. -/
theorem read1 (c : Dev nD) (t : Fin cfg0.N) (r : Fin 128) (j : Fin 1024) : (iblk m c 1 t : Vec Ideal S1x128x1024 .bf16) (ix3 0 r j)
    = m ((c : Thread nD τ).loc main_arg1) (ix3 0 r j) := by
  blk_ext! [iblk, V, idx t]

/-- The normalisation gain is staged whole. -/
theorem read4 (c : Dev nD) (t : Fin cfg0.N) (j : Fin 1024) : (iblk m c 4 t : Vec Ideal S1x1024 .f32) (ix2 0 j)
    = m ((c : Thread nD τ).loc main_arg3) (ix2 0 j) := by
  blk_ext! [iblk, V, idx t]

/-- Modulation 2 of each row. -/
theorem read3 (c : Dev nD) (t : Fin cfg0.N) (r : Fin 128) (j : Fin 1024) : (iblk m c 3 t : Vec Ideal S128x1024 .f32) (ix2 r j)
    = m ((c : Thread nD τ).loc main_arg4) (ix2 r ⟨2048 + j.val, by omega⟩) := by
  blk_ext! [iblk, V, idx t]

/-- Modulation 3 of each row. -/
theorem read5 (c : Dev nD) (t : Fin cfg0.N) (r : Fin 128) (j : Fin 1024) : (iblk m c 5 t : Vec Ideal S128x1024 .f32) (ix2 r j)
    = m ((c : Thread nD τ).loc main_arg4) (ix2 r ⟨3072 + j.val, by omega⟩) := by
  blk_ext! [iblk, V, idx t]

/-- Modulation 4 of each row. -/
theorem read6 (c : Dev nD) (t : Fin cfg0.N) (r : Fin 128) (j : Fin 1024) : (iblk m c 6 t : Vec Ideal S128x1024 .f32) (ix2 r j)
    = m ((c : Thread nD τ).loc main_arg4) (ix2 r ⟨4096 + j.val, by omega⟩) := by
  blk_ext! [iblk, V, idx t]

/-- Modulation 5 of each row. -/
theorem read7 (c : Dev nD) (t : Fin cfg0.N) (r : Fin 128) (j : Fin 1024) : (iblk m c 7 t : Vec Ideal S128x1024 .f32) (ix2 r j)
    = m ((c : Thread nD τ).loc main_arg4) (ix2 r ⟨5120 + j.val, by omega⟩) := by
  blk_ext! [iblk, V, idx t]

/-- The output weights are staged whole. -/
theorem read2 (c : Dev nD) (t : Fin cfg0.N) (i : Fin 1024) (j : Fin 1024) : (iblk m c 2 t : Vec Ideal S1024x1024 .bf16) (ix2 i j)
    = m ((c : Thread nD τ).loc main_arg2) (ix2 i j) := by
  blk_ext! [iblk, V, idx t]

/-- The gate weights are staged whole. -/
theorem read8 (c : Dev nD) (t : Fin cfg0.N) (i : Fin 1024) (j : Fin 2816) : (iblk m c 8 t : Vec Ideal S1024x2816 .bf16) (ix2 i j)
    = m ((c : Thread nD τ).loc main_arg5) (ix2 i j) := by
  blk_ext! [iblk, V, idx t]

/-- The up weights are staged whole. -/
theorem read9 (c : Dev nD) (t : Fin cfg0.N) (i : Fin 1024) (j : Fin 2816) : (iblk m c 9 t : Vec Ideal S1024x2816 .bf16) (ix2 i j)
    = m ((c : Thread nD τ).loc main_arg6) (ix2 i j) := by
  blk_ext! [iblk, V, idx t]

/-- The down weights are staged whole. -/
theorem read10 (c : Dev nD) (t : Fin cfg0.N) (i : Fin 2816) (j : Fin 1024) : (iblk m c 10 t : Vec Ideal S2816x1024 .bf16) (ix2 i j)
    = m ((c : Thread nD τ).loc main_arg7) (ix2 i j) := by
  blk_ext! [iblk, V, idx t]

/-- Where the result window puts a block's element. -/
theorem place (t : Fin cfg0.N) (u : Fin 1) (r : Fin 128) (k : Fin 1024) : ((cfg0.win 11).blk t).view.emb (ix3 u r k)
    = ix3 u r k := by
  blk_ext [idx t]

/-- The kernel's result array after the run is `resultArr` of the arguments. -/
theorem final (c : Dev nD) : (dats m 0 c).arrAt 11 (cfgs 0).N
    = resultArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11]
  obtain ⟨u, r, k, rfl⟩ : ∃ (u : Fin 1) (r : Fin 128) (k : Fin 1024), y = ix3 u r k := ⟨y 0, y 1, y 2, eq_ix3 y⟩
  refine (block _ _ _ _ _ _ _ _ _ _ _ u r k (mixed (m ((c : Thread nD τ).loc main_arg0)) (m ((c : Thread nD τ).loc main_arg1)) (m ((c : Thread nD τ).loc main_arg2)) (m ((c : Thread nD τ).loc main_arg4)) r)
    (fun j => by simp only [mixed, read0 m c t, read1 m c t, read2 m c t, read3 m c t])).trans ?_
  simp only [read4 m c t, read5 m c t, read6 m c t, read7 m c t, read8 m c t, read9 m c t, read10 m c t]
  exact (congrArg (resultArr _ _ _ _ _ _ _ _) (place t u r k)).symm

end Cert.OutFfnSampleIdeal.Tail

namespace Cert.OutFfnSampleReferenceIdeal.Tail
open Cert.OutFfnSampleReferenceIdeal Cert.OutFfnSampleReferenceIdeal.Gen Cert.Rows

/-- The reference's row after the output projection, as its composed term. -/
def mixedT (X : FVec Ideal S1x128x1024 .f32) (Y : FVec Ideal S1x128x1024 .bf16) (WO : FVec Ideal S1024x1024 .bf16)
    (M : FVec Ideal S128x6144 .f32) : FVec Ideal S128x1024 .f32 :=
  addf (shapeCast S128x1024 X shapeCasts_S1x128x1024_S128x1024) (mulf (extractStridedSlice S128x1024 ![0, 2048] M slices_S128x6144_S128x1024_0_2048) (Host.dotGeneral dot_S128x1024_S1024x1024_S128x1024_1_0_0_1_n_n none (extf .f32 (shapeCast S128x1024 Y shapeCasts_S1x128x1024_S128x1024) bitsLt_bf16_f32) (extf .f32 WO bitsLt_bf16_f32)))

/-- The reference's normalised, scaled and shifted rows, as its composed term of the rows `Z`. -/
def preT (Z : FVec Ideal S128x1024 .f32) (N2 : FVec Ideal S1x1024 .f32) (M : FVec Ideal S128x6144 .f32) :
    FVec Ideal S128x1024 .f32 :=
  addf (mulf (mulf (mulf Z (broadcastInDim S128x1024 ![0, 1] bcast_S128x1_S128x1024_0_1 (Host.rsqrt (addf (Host.divf (broadcastInDim S128x1 ![0] bcast_S128_S128x1_0 (Host.reduceAdd (mulf Z Z) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 (shapeCast S1024 N2 shapeCasts_S1x1024_S1024)))) (addf (broadcastInDim S128x1024 ![] bcast_S_S128x1024 (constant S_ .f32 0x3F800000#32)) (extractStridedSlice S128x1024 ![0, 4096] M slices_S128x6144_S128x1024_0_4096))) (extractStridedSlice S128x1024 ![0, 3072] M slices_S128x6144_S128x1024_0_3072)

/-- The reference's gated product of hidden activations, as its composed term of the normalised rows `H`. -/
def hiddenT (H : FVec Ideal S128x1024 .f32) (WG WU : FVec Ideal S1024x2816 .bf16) : FVec Ideal S128x2816 .f32 :=
  mulf (mulf (Host.dotGeneral dot_S128x1024_S1024x2816_S128x2816_1_0_0_1_n_n none H (extf .f32 WG bitsLt_bf16_f32)) (Host.divf (broadcastInDim S128x2816 ![] bcast_S_S128x2816 (constant S_ .f32 0x3F800000#32)) (addf (broadcastInDim S128x2816 ![] bcast_S_S128x2816 (constant S_ .f32 0x3F800000#32)) (Host.exp (Host.negf (Host.dotGeneral dot_S128x1024_S1024x2816_S128x2816_1_0_0_1_n_n none H (extf .f32 WG bitsLt_bf16_f32))))))) (Host.dotGeneral dot_S128x1024_S1024x2816_S128x2816_1_0_0_1_n_n none H (extf .f32 WU bitsLt_bf16_f32))

/-- The reference's whole term of its arguments. -/
def resultT (X : FVec Ideal S1x128x1024 .f32) (Y : FVec Ideal S1x128x1024 .bf16) (WO : FVec Ideal S1024x1024 .bf16)
    (N2 : FVec Ideal S1x1024 .f32) (M : FVec Ideal S128x6144 .f32) (WG WU : FVec Ideal S1024x2816 .bf16)
    (WD : FVec Ideal S2816x1024 .bf16) : FVec Ideal S1x128x1024 .f32 :=
  broadcastInDim S1x128x1024 ![1, 2] bcast_S128x1024_S1x128x1024_1_2 (addf (mixedT X Y WO M) (mulf (extractStridedSlice S128x1024 ![0, 5120] M slices_S128x6144_S128x1024_0_5120) (Host.dotGeneral dot_S128x2816_S2816x1024_S128x1024_1_0_0_1_n_n none (hiddenT (preT (mixedT X Y WO M) N2 M) WG WU) (extf .f32 WD bitsLt_bf16_f32))))

/-- The reference's term is the row formula at every index. -/
theorem resultT_eq (X : FVec Ideal S1x128x1024 .f32) (Y : FVec Ideal S1x128x1024 .bf16) (WO : FVec Ideal S1024x1024 .bf16)
    (N2 : FVec Ideal S1x1024 .f32) (M : FVec Ideal S128x6144 .f32) (WG WU : FVec Ideal S1024x2816 .bf16)
    (WD : FVec Ideal S2816x1024 .bf16) :
    resultT X Y WO N2 M WG WU WD = OutFfnSampleIdeal.Tail.resultArr X Y WO N2 M WG WU WD := by
  have h1 : ∀ s k, mixedT X Y WO M (ix2 s k) = OutFfnSampleIdeal.Tail.mixed X Y WO M s k := by
    intro s k
    pointwise [mixedT, OutFfnSampleIdeal.Tail.mixed]
  have h2 : ∀ s k, preT (mixedT X Y WO M) N2 M (ix2 s k)
      = pre (OutFfnSampleIdeal.Tail.mixed X Y WO M s) (fun j => N2 (ix2 0 j)) (fun j => M (ix2 s ⟨4096 + j.val, by omega⟩))
        (fun j => M (ix2 s ⟨3072 + j.val, by omega⟩)) k := by
    intro s k
    pointwise [preT]
    simp only [h1]
    rfl
  have h3 : ∀ s f, hiddenT (preT (mixedT X Y WO M) N2 M) WG WU (ix2 s f)
      = hiddenUnit (pre (OutFfnSampleIdeal.Tail.mixed X Y WO M s) (fun j => N2 (ix2 0 j)) (fun j => M (ix2 s ⟨4096 + j.val, by omega⟩))
        (fun j => M (ix2 s ⟨3072 + j.val, by omega⟩))) (fun j f => WG (ix2 j f)) (fun j f => WU (ix2 j f)) f := by
    intro s f
    pointwise [hiddenT]
    simp only [h2]
    rfl
  funext i
  obtain ⟨u, s, k, rfl⟩ : ∃ (u : Fin 1) (s : Fin 128) (k : Fin 1024), i = ix3 u s k := ⟨i 0, i 1, i 2, eq_ix3 i⟩
  pointwise [resultT]
  simp only [h1, h3]
  rfl

/-- The reference runs, its results are the row-wise arrays, and its arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v41) = OutFfnSampleIdeal.Tail.resultArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (resultT_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))),
      (h c).2⟩) (Value.run m ρ)

end Cert.OutFfnSampleReferenceIdeal.Tail
-- ==== Proof.LogSig.lean ====
module

public import Idealize.ShloMosaic.Lib.Pipeline.ValueKit
public import Idealize.ShloMosaic.Lib.Pointwise

/-!
The logarithm of the logistic function on the extended reals, in the two spellings that the calls and their
references use.
-/

@[expose] public section
noncomputable section
open Idealize.ShloMosaic

namespace Cert.LogSig

/-- `log σ(x) = min(x, 0) − log(1 + e^(−|x|))`. -/
def logSig (x : EReal) : EReal := min x 0 - Ideal.log1p (Ideal.exp (0 - max x (-x)))

/-- `log(1 + e^y)` is not negative. -/
theorem log1p_exp_nonneg (y : EReal) : 0 ≤ Ideal.log1p (Ideal.exp y) := by
  induction y with
  | bot =>
    show 0 ≤ Ideal.log (1 + 0)
    rw [add_zero, ← EReal.coe_one]
    show (0 : EReal) ≤ if (1 : ℝ) ≤ 0 then ⊥ else ((Real.log 1 : ℝ) : EReal)
    rw [if_neg (by norm_num), Real.log_one, EReal.coe_zero]
  | top =>
    show 0 ≤ Ideal.log (1 + ⊤)
    rw [← EReal.coe_one, EReal.coe_add_top]
    exact le_top
  | coe r =>
    have h : (1 : EReal) + ((Real.exp r : ℝ) : EReal) = ((1 + Real.exp r : ℝ) : EReal) := by push_cast; rfl
    show 0 ≤ Ideal.log (1 + ((Real.exp r : ℝ) : EReal))
    rw [h]
    show (0 : EReal) ≤ if 1 + Real.exp r ≤ 0 then ⊥ else ((Real.log (1 + Real.exp r) : ℝ) : EReal)
    have hp := Real.exp_pos r
    rw [if_neg (by linarith)]
    exact_mod_cast Real.log_nonneg (by linarith)

/-- The logarithm of the logistic function is not positive. -/
theorem logSig_nonpos (x : EReal) : logSig x ≤ 0 := by
  unfold logSig
  have h := log1p_exp_nonneg (0 - max x (-x))
  calc min x 0 - Ideal.log1p (Ideal.exp (0 - max x (-x))) ≤ 0 - 0 := EReal.sub_le_sub (min_le_right _ _) h
    _ = 0 := by simp

/-- The spelling by `softplus(−x)`: `−(max(−x, 0) + log(1 + e^(−|−x|)))`. -/
theorem neg_softplus (x : EReal) :
    -(max (-x) 0 + Ideal.log1p (Ideal.exp (-(max (-x) (- -x))))) = logSig x := by
  unfold logSig
  have h := log1p_exp_nonneg (0 - max x (-x))
  rw [neg_neg, max_comm (-x) x, ← zero_sub (max x (-x))]
  have h0 : (0 : EReal) ≤ max (-x) 0 := le_max_right _ _
  rw [EReal.neg_add (Or.inl (ne_of_gt (lt_of_lt_of_le EReal.bot_lt_zero h0)))
    (Or.inr (ne_of_gt (lt_of_lt_of_le EReal.bot_lt_zero h)))]
  congr 1
  rcases le_total x 0 with hx | hx
  · rw [min_eq_left hx, max_eq_left (by simpa using EReal.neg_le_neg_iff.mpr hx), neg_neg]
  · rw [min_eq_right hx, max_eq_right (by simpa using EReal.neg_le_neg_iff.mpr hx), neg_zero]

end Cert.LogSig
-- ==== Proof.GlaProj.lean ====
module

public import proofs.«01_k».proof.Proof.Gen.GlaProjIdeal.Value
public import proofs.«01_k».proof.Proof.Gen.GlaProjReferenceIdeal.Run
public import proofs.«01_k».proof.Proof.Rows
public import proofs.«01_k».proof.Proof.LogSig

/-!
The gated-linear-attention projections: the queries, keys, values, decay gates and output gates that the kernel writes
at a grid point, and the reference's terms, each equal to one row-wise formula.
-/

set_option maxRecDepth 16384
@[expose] public section
noncomputable section
open Idealize.ShloMosaic Idealize.ShloMosaic.TcCoe Idealize.SL.Sem
open Idealize.ShloMosaic.Pipeline (Dat)

namespace Cert.GlaProjIdeal.Tail
open Cert.GlaProjIdeal Cert.GlaProjIdeal.Gen Cert.Rows Cert.LogSig

/-- The normalised, scaled and shifted row `s` of batch `b`. -/
def row (X : FVec Ideal S4x4096x1024 .f32) (N : FVec Ideal S1x1024 .f32) (M : FVec Ideal S4x6144 .f32)
    (b : Fin 4) (s : Fin 4096) : Fin 1024 → EReal :=
  pre (fun j => X (ix3 b s j)) (fun j => N (ix2 0 j)) (fun j => M (ix2 b ⟨1024 + j.val, by omega⟩))
    (fun j => M (ix2 b ⟨j.val, by omega⟩))

/-- A row times a weight matrix. -/
def lin {K : ℕ} (h : Fin 1024 → EReal) (W : Fin 1024 → Fin K → EReal) (k : Fin K) : EReal := ∑ j, h j * W j k

/-- The decay gate of a row: the low-rank map, its bias, and `log σ(·) / 16`. -/
def gate (h : Fin 1024 → EReal) (W1 : Fin 1024 → Fin 16 → EReal) (W2 : Fin 16 → Fin 512 → EReal)
    (B : Fin 512 → EReal) (k : Fin 512) : EReal :=
  Ideal.div (logSig ((∑ a, lin h W1 a * W2 a k) + B k)) (Ideal.ofBits .f32 0x41800000#32)

/-- The queries, scaled. -/
def qArr (X : FVec Ideal S4x4096x1024 .f32) (N : FVec Ideal S1x1024 .f32) (M : FVec Ideal S4x6144 .f32)
    (W : FVec Ideal S1024x512 .bf16) : FVec Ideal S4x4096x512 .f32 :=
  fun i => lin (row X N M (i 0) (i 1)) (fun j f => W (ix2 j f)) (i 2) * Ideal.ofBits .f32 0x3DB504F3#32

/-- The keys. -/
def kArr (X : FVec Ideal S4x4096x1024 .f32) (N : FVec Ideal S1x1024 .f32) (M : FVec Ideal S4x6144 .f32)
    (W : FVec Ideal S1024x512 .bf16) : FVec Ideal S4x4096x512 .f32 :=
  fun i => lin (row X N M (i 0) (i 1)) (fun j f => W (ix2 j f)) (i 2)

/-- The values. -/
def vArr (X : FVec Ideal S4x4096x1024 .f32) (N : FVec Ideal S1x1024 .f32) (M : FVec Ideal S4x6144 .f32)
    (W : FVec Ideal S1024x1024 .bf16) : FVec Ideal S4x4096x1024 .bf16 :=
  fun i => lin (row X N M (i 0) (i 1)) (fun j f => W (ix2 j f)) (i 2)

/-- The decay gates. -/
def gArr (X : FVec Ideal S4x4096x1024 .f32) (N : FVec Ideal S1x1024 .f32) (M : FVec Ideal S4x6144 .f32)
    (W1 : FVec Ideal S1024x16 .bf16) (W2 : FVec Ideal S16x512 .bf16) (B : FVec Ideal S1x512 .f32) :
    FVec Ideal S4x4096x512 .f32 :=
  fun i => gate (row X N M (i 0) (i 1)) (fun j f => W1 (ix2 j f)) (fun j f => W2 (ix2 j f)) (fun f => B (ix2 0 f)) (i 2)

/-- The output gates. -/
def rArr (X : FVec Ideal S4x4096x1024 .f32) (N : FVec Ideal S1x1024 .f32) (M : FVec Ideal S4x6144 .f32)
    (W : FVec Ideal S1024x1024 .bf16) : FVec Ideal S4x4096x1024 .f32 :=
  fun i => lin (row X N M (i 0) (i 1)) (fun j f => W (ix2 j f)) (i 2)
    * Ideal.logistic (lin (row X N M (i 0) (i 1)) (fun j f => W (ix2 j f)) (i 2))

/-- The normalised row that every store of the body uses, from the staged blocks. -/
theorem pay2 (v0 : Vec Ideal S1x512x1024 .f32) (v2 : Vec Ideal S1x1024 .f32) (v3 v5 : Vec Ideal S1x1x1x1024 .f32)
    (r : Fin 512) (j : Fin 1024) : k0_pay2 v0 v2 v3 v5 (ix2 r j)
      = pre (fun j => v0 (ix3 0 r j)) (fun j => v2 (ix2 0 j)) (fun j => v5 (ix4 0 0 0 j)) (fun j => v3 (ix4 0 0 0 j)) j := by
  pointwise [k0_pay2]
  rfl

/-- The same row, from the named value of the body. -/
theorem pay7 (x0 : Vec Ideal S1x512x1024 .f32) (x1 : Vec Ideal S1x1024 .f32) (x2 x3 : Vec Ideal S1x1x1x1024 .f32)
    (x4 x5 : Vec Ideal S1024x512 .bf16) (x6 : Vec Ideal S1024x1024 .bf16) (x7 : Vec Ideal S1024x16 .bf16)
    (x8 : Vec Ideal S16x512 .bf16) (x9 : Vec Ideal S1x512 .f32) (x10 : Vec Ideal S1024x1024 .bf16) (r : Fin 512) (j : Fin 1024) : k0_pay7 x0 x1 x2 x3 x4 x5 x6 x7 x8 x9 x10 (ix2 r j)
      = pre (fun j => x0 (ix3 0 r j)) (fun j => x1 (ix2 0 j)) (fun j => x3 (ix4 0 0 0 j)) (fun j => x2 (ix4 0 0 0 j)) j := by
  pointwise [k0_pay7, k0_pay2]
  rfl

/-- The stored queries. -/
theorem block11 (x0 : Vec Ideal S1x512x1024 .f32) (x1 : Vec Ideal S1x1024 .f32) (x2 x3 : Vec Ideal S1x1x1x1024 .f32)
    (x4 x5 : Vec Ideal S1024x512 .bf16) (x6 : Vec Ideal S1024x1024 .bf16) (x7 : Vec Ideal S1024x16 .bf16)
    (x8 : Vec Ideal S16x512 .bf16) (x9 : Vec Ideal S1x512 .f32) (x10 : Vec Ideal S1024x1024 .bf16) (u : Fin 1) (r : Fin 512) (k : Fin 512) (h : Fin 1024 → EReal)
    (hh : ∀ j, pre (fun j => x0 (ix3 0 r j)) (fun j => x1 (ix2 0 j)) (fun j => x3 (ix4 0 0 0 j)) (fun j => x2 (ix4 0 0 0 j)) j = h j) :
    out0_11 x0 x1 x2 x3 x4 x5 x6 x7 x8 x9 x10 (ix3 u r k) = lin h (fun j f => x4 (ix2 j f)) k * Ideal.ofBits .f32 0x3DB504F3#32 := by
  frame_out
  pointwise [k0_pay3]
  simp only [pay2, hh]
  rfl

/-- The stored keys. -/
theorem block12 (x0 : Vec Ideal S1x512x1024 .f32) (x1 : Vec Ideal S1x1024 .f32) (x2 x3 : Vec Ideal S1x1x1x1024 .f32)
    (x4 x5 : Vec Ideal S1024x512 .bf16) (x6 : Vec Ideal S1024x1024 .bf16) (x7 : Vec Ideal S1024x16 .bf16)
    (x8 : Vec Ideal S16x512 .bf16) (x9 : Vec Ideal S1x512 .f32) (x10 : Vec Ideal S1024x1024 .bf16) (u : Fin 1) (r : Fin 512) (k : Fin 512) (h : Fin 1024 → EReal)
    (hh : ∀ j, pre (fun j => x0 (ix3 0 r j)) (fun j => x1 (ix2 0 j)) (fun j => x3 (ix4 0 0 0 j)) (fun j => x2 (ix4 0 0 0 j)) j = h j) :
    out0_12 x0 x1 x2 x3 x4 x5 x6 x7 x8 x9 x10 (ix3 u r k) = lin h (fun j f => x5 (ix2 j f)) k := by
  frame_out
  pointwise [k0_pay4]
  simp only [pay7, hh]
  rfl

/-- The stored values. -/
theorem block13 (x0 : Vec Ideal S1x512x1024 .f32) (x1 : Vec Ideal S1x1024 .f32) (x2 x3 : Vec Ideal S1x1x1x1024 .f32)
    (x4 x5 : Vec Ideal S1024x512 .bf16) (x6 : Vec Ideal S1024x1024 .bf16) (x7 : Vec Ideal S1024x16 .bf16)
    (x8 : Vec Ideal S16x512 .bf16) (x9 : Vec Ideal S1x512 .f32) (x10 : Vec Ideal S1024x1024 .bf16) (u : Fin 1) (r : Fin 512) (k : Fin 1024) (h : Fin 1024 → EReal)
    (hh : ∀ j, pre (fun j => x0 (ix3 0 r j)) (fun j => x1 (ix2 0 j)) (fun j => x3 (ix4 0 0 0 j)) (fun j => x2 (ix4 0 0 0 j)) j = h j) :
    out0_13 x0 x1 x2 x3 x4 x5 x6 x7 x8 x9 x10 (ix3 u r k) = lin h (fun j f => x6 (ix2 j f)) k := by
  frame_out
  pointwise [k0_pay5]
  simp only [pay7, hh]
  rfl

/-- The stored decay gates. -/
theorem block14 (x0 : Vec Ideal S1x512x1024 .f32) (x1 : Vec Ideal S1x1024 .f32) (x2 x3 : Vec Ideal S1x1x1x1024 .f32)
    (x4 x5 : Vec Ideal S1024x512 .bf16) (x6 : Vec Ideal S1024x1024 .bf16) (x7 : Vec Ideal S1024x16 .bf16)
    (x8 : Vec Ideal S16x512 .bf16) (x9 : Vec Ideal S1x512 .f32) (x10 : Vec Ideal S1024x1024 .bf16) (u : Fin 1) (r : Fin 512) (k : Fin 512) (h : Fin 1024 → EReal)
    (hh : ∀ j, pre (fun j => x0 (ix3 0 r j)) (fun j => x1 (ix2 0 j)) (fun j => x3 (ix4 0 0 0 j)) (fun j => x2 (ix4 0 0 0 j)) j = h j) :
    out0_14 x0 x1 x2 x3 x4 x5 x6 x7 x8 x9 x10 (ix3 u r k) = gate h (fun j f => x7 (ix2 j f)) (fun j f => x8 (ix2 j f)) (fun f => x9 (ix2 0 f)) k := by
  frame_out
  pointwise [k0_pay6]
  simp only [pay7, hh]
  rfl

/-- The stored output gates. -/
theorem block15 (x0 : Vec Ideal S1x512x1024 .f32) (x1 : Vec Ideal S1x1024 .f32) (x2 x3 : Vec Ideal S1x1x1x1024 .f32)
    (x4 x5 : Vec Ideal S1024x512 .bf16) (x6 : Vec Ideal S1024x1024 .bf16) (x7 : Vec Ideal S1024x16 .bf16)
    (x8 : Vec Ideal S16x512 .bf16) (x9 : Vec Ideal S1x512 .f32) (x10 : Vec Ideal S1024x1024 .bf16) (u : Fin 1) (r : Fin 512) (k : Fin 1024) (h : Fin 1024 → EReal)
    (hh : ∀ j, pre (fun j => x0 (ix3 0 r j)) (fun j => x1 (ix2 0 j)) (fun j => x3 (ix4 0 0 0 j)) (fun j => x2 (ix4 0 0 0 j)) j = h j) :
    out0_15 x0 x1 x2 x3 x4 x5 x6 x7 x8 x9 x10 (ix3 u r k) = lin h (fun j f => x10 (ix2 j f)) k * Ideal.logistic (lin h (fun j f => x10 (ix2 j f)) k) := by
  frame_out
  pointwise [k0_pay1]
  simp only [pay7, hh]
  rfl

variable (m : (ℓ : Loc nD τ sig) → Buf (Elt Ideal) ℓ)

/-- The windows' block indices at a grid point: batch and row block for the rows, the batch for the modulation rows. -/
theorem idx : ∀ t : Fin cfg0.N, win0_0.index t = ![t.val / 8, t.val % 8, 0] ∧ win0_1.index t = ![0, 0]
    ∧ win0_2.index t = ![t.val / 8, 0, 0, 0] ∧ win0_3.index t = ![t.val / 8, 1, 0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![t.val / 8, t.val % 8, 0]
    ∧ win0_12.index t = ![t.val / 8, t.val % 8, 0] ∧ win0_13.index t = ![t.val / 8, t.val % 8, 0]
    ∧ win0_14.index t = ![t.val / 8, t.val % 8, 0] ∧ win0_15.index t = ![t.val / 8, t.val % 8, 0] ∧ t.val < 32 :=
  (by decide +kernel : ∀ t : Fin grid0.N, _)

/-- The grid has 32 points. -/
theorem point_lt (t : Fin cfg0.N) : t.val < 32 := (idx t).2.2.2.2.2.2.2.2.2.2.2.2.2.2.2.2

/-- The rows block at a point is the array's rows there. -/
theorem read0 (c : Dev nD) (t : Fin cfg0.N) (r : Fin 512) (j : Fin 1024) : (iblk m c 0 t : Vec Ideal S1x512x1024 .f32) (ix3 0 r j)
    = m ((c : Thread nD τ).loc main_arg0) (ix3 ⟨t.val / 8, by have := point_lt t; omega⟩ ⟨t.val % 8 * 512 + r.val, by omega⟩ j) := by
  blk_ext! [iblk, V, idx t]

/-- The normalisation gain is staged whole. -/
theorem read1 (c : Dev nD) (t : Fin cfg0.N) (j : Fin 1024) : (iblk m c 1 t : Vec Ideal S1x1024 .f32) (ix2 0 j)
    = m ((c : Thread nD τ).loc main_arg1) (ix2 0 j) := by
  blk_ext! [iblk, V, idx t]

/-- Modulation row 0 of the point's batch. -/
theorem read2 (c : Dev nD) (t : Fin cfg0.N) (j : Fin 1024) : (iblk m c 2 t : Vec Ideal S1x1x1x1024 .f32) (ix4 0 0 0 j)
    = m ((c : Thread nD τ).loc main_arg2) (ix2 ⟨t.val / 8, by have := point_lt t; omega⟩ ⟨j.val, by omega⟩) := by
  blk_ext! [iblk, V, idx t]

/-- Modulation row 1 of the point's batch. -/
theorem read3 (c : Dev nD) (t : Fin cfg0.N) (j : Fin 1024) : (iblk m c 3 t : Vec Ideal S1x1x1x1024 .f32) (ix4 0 0 0 j)
    = m ((c : Thread nD τ).loc main_arg2) (ix2 ⟨t.val / 8, by have := point_lt t; omega⟩ ⟨1024 + j.val, by omega⟩) := by
  blk_ext! [iblk, V, idx t]

/-- The query weights are staged whole. -/
theorem read4 (c : Dev nD) (t : Fin cfg0.N) (i : Fin 1024) (j : Fin 512) : (iblk m c 4 t : Vec Ideal S1024x512 .bf16) (ix2 i j)
    = m ((c : Thread nD τ).loc main_arg3) (ix2 i j) := by
  blk_ext! [iblk, V, idx t]

/-- The key weights are staged whole. -/
theorem read5 (c : Dev nD) (t : Fin cfg0.N) (i : Fin 1024) (j : Fin 512) : (iblk m c 5 t : Vec Ideal S1024x512 .bf16) (ix2 i j)
    = m ((c : Thread nD τ).loc main_arg4) (ix2 i j) := by
  blk_ext! [iblk, V, idx t]

/-- The value weights are staged whole. -/
theorem read6 (c : Dev nD) (t : Fin cfg0.N) (i : Fin 1024) (j : Fin 1024) : (iblk m c 6 t : Vec Ideal S1024x1024 .bf16) (ix2 i j)
    = m ((c : Thread nD τ).loc main_arg5) (ix2 i j) := by
  blk_ext! [iblk, V, idx t]

/-- The first gate weights are staged whole. -/
theorem read7 (c : Dev nD) (t : Fin cfg0.N) (i : Fin 1024) (j : Fin 16) : (iblk m c 7 t : Vec Ideal S1024x16 .bf16) (ix2 i j)
    = m ((c : Thread nD τ).loc main_arg6) (ix2 i j) := by
  blk_ext! [iblk, V, idx t]

/-- The second gate weights are staged whole. -/
theorem read8 (c : Dev nD) (t : Fin cfg0.N) (i : Fin 16) (j : Fin 512) : (iblk m c 8 t : Vec Ideal S16x512 .bf16) (ix2 i j)
    = m ((c : Thread nD τ).loc main_arg7) (ix2 i j) := by
  blk_ext! [iblk, V, idx t]

/-- The output-gate weights are staged whole. -/
theorem read10 (c : Dev nD) (t : Fin cfg0.N) (i : Fin 1024) (j : Fin 1024) : (iblk m c 10 t : Vec Ideal S1024x1024 .bf16) (ix2 i j)
    = m ((c : Thread nD τ).loc main_arg9) (ix2 i j) := by
  blk_ext! [iblk, V, idx t]

/-- The gate bias is staged whole. -/
theorem read9 (c : Dev nD) (t : Fin cfg0.N) (j : Fin 512) : (iblk m c 9 t : Vec Ideal S1x512 .f32) (ix2 0 j)
    = m ((c : Thread nD τ).loc main_arg8) (ix2 0 j) := by
  blk_ext! [iblk, V, idx t]

/-- The normalised row of a point's block is the array's normalised row. -/
theorem row_eq (c : Dev nD) (t : Fin cfg0.N) (r : Fin 512) (j : Fin 1024) :
    pre (fun j => (iblk m c 0 t : Vec Ideal S1x512x1024 .f32) (ix3 0 r j)) (fun j => (iblk m c 1 t : Vec Ideal S1x1024 .f32) (ix2 0 j))
      (fun j => (iblk m c 3 t : Vec Ideal S1x1x1x1024 .f32) (ix4 0 0 0 j)) (fun j => (iblk m c 2 t : Vec Ideal S1x1x1x1024 .f32) (ix4 0 0 0 j)) j
    = row (m ((c : Thread nD τ).loc main_arg0)) (m ((c : Thread nD τ).loc main_arg1)) (m ((c : Thread nD τ).loc main_arg2)) ⟨t.val / 8, by have := point_lt t; omega⟩ ⟨t.val % 8 * 512 + r.val, by omega⟩ j := by
  simp only [read0 m c t, read1 m c t, read2 m c t, read3 m c t]
  rfl

/-- Where the window of the queries puts a block's element. -/
theorem place11 (t : Fin cfg0.N) (u : Fin 1) (r : Fin 512) (k : Fin 512) : ((cfg0.win 11).blk t).view.emb (ix3 u r k)
    = ix3 (⟨t.val / 8, by have := point_lt t; omega⟩ : Fin 4) (⟨t.val % 8 * 512 + r.val, by omega⟩ : Fin 4096) k := by
  have := point_lt t
  blk_ext [idx t]

/-- The array of the queries after the run. -/
theorem final11 (c : Dev nD) : (dats m 0 c).arrAt 11 (cfgs 0).N
    = qArr (m ((c : Thread nD τ).loc main_arg0)) (m ((c : Thread nD τ).loc main_arg1)) (m ((c : Thread nD τ).loc main_arg2))
        (m ((c : Thread nD τ).loc main_arg3)) := by
  refine (dats m 0 c).arrAt_eq_of_covers 11 _ (by decide +kernel) fun t _ y => ?_
  have ht : t.val < 32 := point_lt t
  blk_simp
  rw [after0_11]
  obtain ⟨u, r, k, rfl⟩ : ∃ (u : Fin 1) (r : Fin 512) (k : Fin 512), y = ix3 u r k := ⟨y 0, y 1, y 2, eq_ix3 y⟩
  refine (block11 _ _ _ _ _ _ _ _ _ _ _ u r k _ (row_eq m c t r)).trans ?_
  simp only [read4 m c t]
  exact (congrArg (qArr _ _ _ _) (place11 t u r k)).symm

/-- Where the window of the keys puts a block's element. -/
theorem place12 (t : Fin cfg0.N) (u : Fin 1) (r : Fin 512) (k : Fin 512) : ((cfg0.win 12).blk t).view.emb (ix3 u r k)
    = ix3 (⟨t.val / 8, by have := point_lt t; omega⟩ : Fin 4) (⟨t.val % 8 * 512 + r.val, by omega⟩ : Fin 4096) k := by
  have := point_lt t
  blk_ext [idx t]

/-- The array of the keys after the run. -/
theorem final12 (c : Dev nD) : (dats m 0 c).arrAt 12 (cfgs 0).N
    = kArr (m ((c : Thread nD τ).loc main_arg0)) (m ((c : Thread nD τ).loc main_arg1)) (m ((c : Thread nD τ).loc main_arg2))
        (m ((c : Thread nD τ).loc main_arg4)) := by
  refine (dats m 0 c).arrAt_eq_of_covers 12 _ (by decide +kernel) fun t _ y => ?_
  have ht : t.val < 32 := point_lt t
  blk_simp
  rw [after0_12]
  obtain ⟨u, r, k, rfl⟩ : ∃ (u : Fin 1) (r : Fin 512) (k : Fin 512), y = ix3 u r k := ⟨y 0, y 1, y 2, eq_ix3 y⟩
  refine (block12 _ _ _ _ _ _ _ _ _ _ _ u r k _ (row_eq m c t r)).trans ?_
  simp only [read5 m c t]
  exact (congrArg (kArr _ _ _ _) (place12 t u r k)).symm

/-- Where the window of the values puts a block's element. -/
theorem place13 (t : Fin cfg0.N) (u : Fin 1) (r : Fin 512) (k : Fin 1024) : ((cfg0.win 13).blk t).view.emb (ix3 u r k)
    = ix3 (⟨t.val / 8, by have := point_lt t; omega⟩ : Fin 4) (⟨t.val % 8 * 512 + r.val, by omega⟩ : Fin 4096) k := by
  have := point_lt t
  blk_ext [idx t]

/-- The array of the values after the run. -/
theorem final13 (c : Dev nD) : (dats m 0 c).arrAt 13 (cfgs 0).N
    = vArr (m ((c : Thread nD τ).loc main_arg0)) (m ((c : Thread nD τ).loc main_arg1)) (m ((c : Thread nD τ).loc main_arg2))
        (m ((c : Thread nD τ).loc main_arg5)) := by
  refine (dats m 0 c).arrAt_eq_of_covers 13 _ (by decide +kernel) fun t _ y => ?_
  have ht : t.val < 32 := point_lt t
  blk_simp
  rw [after0_13]
  obtain ⟨u, r, k, rfl⟩ : ∃ (u : Fin 1) (r : Fin 512) (k : Fin 1024), y = ix3 u r k := ⟨y 0, y 1, y 2, eq_ix3 y⟩
  refine (block13 _ _ _ _ _ _ _ _ _ _ _ u r k _ (row_eq m c t r)).trans ?_
  simp only [read6 m c t]
  exact (congrArg (vArr _ _ _ _) (place13 t u r k)).symm

/-- Where the window of the decay gates puts a block's element. -/
theorem place14 (t : Fin cfg0.N) (u : Fin 1) (r : Fin 512) (k : Fin 512) : ((cfg0.win 14).blk t).view.emb (ix3 u r k)
    = ix3 (⟨t.val / 8, by have := point_lt t; omega⟩ : Fin 4) (⟨t.val % 8 * 512 + r.val, by omega⟩ : Fin 4096) k := by
  have := point_lt t
  blk_ext [idx t]

/-- The array of the decay gates after the run. -/
theorem final14 (c : Dev nD) : (dats m 0 c).arrAt 14 (cfgs 0).N
    = gArr (m ((c : Thread nD τ).loc main_arg0)) (m ((c : Thread nD τ).loc main_arg1)) (m ((c : Thread nD τ).loc main_arg2))
        (m ((c : Thread nD τ).loc main_arg6)) (m ((c : Thread nD τ).loc main_arg7)) (m ((c : Thread nD τ).loc main_arg8)) := by
  refine (dats m 0 c).arrAt_eq_of_covers 14 _ (by decide +kernel) fun t _ y => ?_
  have ht : t.val < 32 := point_lt t
  blk_simp
  rw [after0_14]
  obtain ⟨u, r, k, rfl⟩ : ∃ (u : Fin 1) (r : Fin 512) (k : Fin 512), y = ix3 u r k := ⟨y 0, y 1, y 2, eq_ix3 y⟩
  refine (block14 _ _ _ _ _ _ _ _ _ _ _ u r k _ (row_eq m c t r)).trans ?_
  simp only [read7 m c t, read8 m c t, read9 m c t]
  exact (congrArg (gArr _ _ _ _ _ _) (place14 t u r k)).symm

/-- Where the window of the output gates puts a block's element. -/
theorem place15 (t : Fin cfg0.N) (u : Fin 1) (r : Fin 512) (k : Fin 1024) : ((cfg0.win 15).blk t).view.emb (ix3 u r k)
    = ix3 (⟨t.val / 8, by have := point_lt t; omega⟩ : Fin 4) (⟨t.val % 8 * 512 + r.val, by omega⟩ : Fin 4096) k := by
  have := point_lt t
  blk_ext [idx t]

/-- The array of the output gates after the run. -/
theorem final15 (c : Dev nD) : (dats m 0 c).arrAt 15 (cfgs 0).N
    = rArr (m ((c : Thread nD τ).loc main_arg0)) (m ((c : Thread nD τ).loc main_arg1)) (m ((c : Thread nD τ).loc main_arg2))
        (m ((c : Thread nD τ).loc main_arg9)) := by
  refine (dats m 0 c).arrAt_eq_of_covers 15 _ (by decide +kernel) fun t _ y => ?_
  have ht : t.val < 32 := point_lt t
  blk_simp
  rw [after0_15]
  obtain ⟨u, r, k, rfl⟩ : ∃ (u : Fin 1) (r : Fin 512) (k : Fin 1024), y = ix3 u r k := ⟨y 0, y 1, y 2, eq_ix3 y⟩
  refine (block15 _ _ _ _ _ _ _ _ _ _ _ u r k _ (row_eq m c t r)).trans ?_
  simp only [read10 m c t]
  exact (congrArg (rArr _ _ _ _) (place15 t u r k)).symm

end Cert.GlaProjIdeal.Tail

namespace Cert.GlaProjReferenceIdeal.Tail
open Cert.GlaProjReferenceIdeal Cert.GlaProjReferenceIdeal.Gen Cert.Rows Cert.LogSig
open GlaProjIdeal.Tail (row lin gate qArr kArr vArr gArr rArr)

/-- The reference's normalised rows, as its composed term. -/
def preT (X : FVec Ideal S4x4096x1024 .f32) (N : FVec Ideal S1x1024 .f32) (M : FVec Ideal S4x6144 .f32) :
    FVec Ideal S4x4096x1024 .f32 :=
  addf (mulf (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast S1024 N shapeCasts_S1x1024_S1024)))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 1024] M slices_S4x6144_S4x1024_0_1024))))) (broadcastInDim S4x4096x1024 ![0, 1, 2] bcast_S4x1x1024_S4x4096x1024_0_1_2 (broadcastInDim S4x1x1024 ![0, 2] bcast_S4x1024_S4x1x1024_0_2 (extractStridedSlice S4x1024 ![0, 0] M slices_S4x6144_S4x1024_0_0)))

/-- Rows times a matrix of 512 columns, as the reference's term. -/
def linT (H : FVec Ideal S4x4096x1024 .f32) (W : FVec Ideal S1024x512 .bf16) : FVec Ideal S4x4096x512 .f32 :=
  Host.dotGeneral dot_S4x4096x1024_S1024x512_S4x4096x512_2_0_01_1_n_n none H (extf .f32 W bitsLt_bf16_f32)

/-- Rows times a matrix of 1024 columns, as the reference's term. -/
def linT' (H : FVec Ideal S4x4096x1024 .f32) (W : FVec Ideal S1024x1024 .bf16) : FVec Ideal S4x4096x1024 .f32 :=
  Host.dotGeneral dot_S4x4096x1024_S1024x1024_S4x4096x1024_2_0_01_1_n_n none H (extf .f32 W bitsLt_bf16_f32)

/-- The gate before its log-sigmoid, as the reference's term. -/
def gateT (H : FVec Ideal S4x4096x1024 .f32) (W1 : FVec Ideal S1024x16 .bf16) (W2 : FVec Ideal S16x512 .bf16)
    (B : FVec Ideal S1x512 .f32) : FVec Ideal S4x4096x512 .f32 :=
  addf (Host.dotGeneral dot_S4x4096x16_S16x512_S4x4096x512_2_0_01_1_n_n none (Host.dotGeneral dot_S4x4096x1024_S1024x16_S4x4096x16_2_0_01_1_n_n none H (extf .f32 W1 bitsLt_bf16_f32)) (extf .f32 W2 bitsLt_bf16_f32)) (broadcastInDim S4x4096x512 ![0, 1, 2] bcast_S1x1x512_S4x4096x512_0_1_2 (broadcastInDim S1x1x512 ![2] bcast_S512_S1x1x512_2 (shapeCast S512 B shapeCasts_S1x512_S512)))

/-- The log-sigmoid, as the reference's term. -/
def logSigT (Z : FVec Ideal S4x4096x512 .f32) : FVec Ideal S4x4096x512 .f32 :=
  Host.negf (select (cmpf .une (subf (Host.negf Z) (broadcastInDim S4x4096x512 ![] bcast_S_S4x4096x512 (constant S_ .f32 0x00000000#32))) (subf (Host.negf Z) (broadcastInDim S4x4096x512 ![] bcast_S_S4x4096x512 (constant S_ .f32 0x00000000#32)))) (addf (Host.negf Z) (broadcastInDim S4x4096x512 ![] bcast_S_S4x4096x512 (constant S_ .f32 0x00000000#32))) (addf (maximumf (Host.negf Z) (broadcastInDim S4x4096x512 ![] bcast_S_S4x4096x512 (constant S_ .f32 0x00000000#32))) (Host.log1p (Host.exp (Host.negf (Host.absf (subf (Host.negf Z) (broadcastInDim S4x4096x512 ![] bcast_S_S4x4096x512 (constant S_ .f32 0x00000000#32)))))))))

/-- The scaled queries, as the reference's term. -/
def qT (Q : FVec Ideal S4x4096x512 .f32) : FVec Ideal S4x4096x512 .f32 :=
  mulf Q (broadcastInDim S4x4096x512 ![] bcast_S_S4x4096x512 (constant S_ .f32 0x3DB504F3#32))

/-- The gates over sixteen, as the reference's term. -/
def gT (L : FVec Ideal S4x4096x512 .f32) : FVec Ideal S4x4096x512 .f32 :=
  Host.divf L (broadcastInDim S4x4096x512 ![] bcast_S_S4x4096x512 (constant S_ .f32 0x41800000#32))

/-- The output gates, as the reference's term. -/
def rT (R : FVec Ideal S4x4096x1024 .f32) : FVec Ideal S4x4096x1024 .f32 :=
  mulf R (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf R))))

section
variable (X : FVec Ideal S4x4096x1024 .f32) (N : FVec Ideal S1x1024 .f32) (M : FVec Ideal S4x6144 .f32)

/-- The normalised rows at an index. -/
theorem preT_at (b : Fin 4) (s : Fin 4096) (k : Fin 1024) : preT X N M (ix3 b s k) = row X N M b s k := by
  pointwise [preT]
  rfl

/-- A product with 512 columns at an index. -/
theorem linT_at (W : FVec Ideal S1024x512 .bf16) (b : Fin 4) (s : Fin 4096) (k : Fin 512) :
    linT (preT X N M) W (ix3 b s k) = lin (row X N M b s) (fun j f => W (ix2 j f)) k := by
  pointwise [linT]
  simp only [preT_at]
  rfl

/-- A product with 1024 columns at an index. -/
theorem linT'_at (W : FVec Ideal S1024x1024 .bf16) (b : Fin 4) (s : Fin 4096) (k : Fin 1024) :
    linT' (preT X N M) W (ix3 b s k) = lin (row X N M b s) (fun j f => W (ix2 j f)) k := by
  pointwise [linT']
  simp only [preT_at]
  rfl

/-- The log-sigmoid at an index. -/
theorem logSigT_at (Z : FVec Ideal S4x4096x512 .f32) (b : Fin 4) (s : Fin 4096) (k : Fin 512) :
    logSigT Z (ix3 b s k) = logSig (Z (ix3 b s k)) := by
  pointwise [logSigT]
  have e : ∀ x : Ideal .f32, FloatOps.absf x = max x (-x) := fun _ => rfl
  rw [← neg_softplus]
  simp [Ideal.cmp, e]

/-- The scaled queries. -/
theorem qT_eq (W : FVec Ideal S1024x512 .bf16) : qT (linT (preT X N M) W) = qArr X N M W := by
  funext i
  obtain ⟨b, s, k, rfl⟩ : ∃ (b : Fin 4) (s : Fin 4096) (k : Fin 512), i = ix3 b s k := ⟨i 0, i 1, i 2, eq_ix3 i⟩
  pointwise [qT]
  rw [linT_at]
  rfl

/-- The keys. -/
theorem kT_eq (W : FVec Ideal S1024x512 .bf16) : linT (preT X N M) W = kArr X N M W := by
  funext i
  obtain ⟨b, s, k, rfl⟩ : ∃ (b : Fin 4) (s : Fin 4096) (k : Fin 512), i = ix3 b s k := ⟨i 0, i 1, i 2, eq_ix3 i⟩
  rw [linT_at]
  rfl

/-- The values. -/
theorem vT_eq (W : FVec Ideal S1024x1024 .bf16) : truncf .bf16 (linT' (preT X N M) W) bitsLt_bf16_f32 = vArr X N M W := by
  funext i
  obtain ⟨b, s, k, rfl⟩ : ∃ (b : Fin 4) (s : Fin 4096) (k : Fin 1024), i = ix3 b s k := ⟨i 0, i 1, i 2, eq_ix3 i⟩
  exact linT'_at X N M W b s k

/-- The decay gates. -/
theorem gT_eq (W1 : FVec Ideal S1024x16 .bf16) (W2 : FVec Ideal S16x512 .bf16) (B : FVec Ideal S1x512 .f32) :
    gT (logSigT (gateT (preT X N M) W1 W2 B)) = gArr X N M W1 W2 B := by
  funext i
  obtain ⟨b, s, k, rfl⟩ : ∃ (b : Fin 4) (s : Fin 4096) (k : Fin 512), i = ix3 b s k := ⟨i 0, i 1, i 2, eq_ix3 i⟩
  pointwise [gT]
  rw [logSigT_at]
  pointwise [gateT]
  simp only [preT_at]
  rfl

/-- The output gates. -/
theorem rT_eq (W : FVec Ideal S1024x1024 .bf16) : rT (linT' (preT X N M) W) = rArr X N M W := by
  funext i
  obtain ⟨b, s, k, rfl⟩ : ∃ (b : Fin 4) (s : Fin 4096) (k : Fin 1024), i = ix3 b s k := ⟨i 0, i 1, i 2, eq_ix3 i⟩
  pointwise [rT]
  simp only [linT'_at]
  rfl

end

/-- The decay gates as the run states them are the term above. -/
theorem res_eq (m : (ℓ : Loc nD τ sig) → Buf (Elt Ideal) ℓ) (c : Dev nD) : Value.res_main_v47 m c
    = gT (logSigT (gateT (preT (m (c.tc.loc main_arg0)) (m (c.tc.loc main_arg1)) (m (c.tc.loc main_arg2)))
        (m (c.tc.loc main_arg6)) (m (c.tc.loc main_arg7)) (m (c.tc.loc main_arg8)))) := rfl

/-- The reference runs, its results are the row-wise arrays, and its arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = qArr (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v33) = kArr (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v36) = vArr (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v47) = gArr (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8))
      ∧ r.2.mem ((c.tc : Thread nD τ).loc main_v50) = rArr (m ((c.tc : Thread nD τ).loc main_arg0)) (m ((c.tc : Thread nD τ).loc main_arg1)) (m ((c.tc : Thread nD τ).loc main_arg2)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (qT_eq (m ((c.tc : Thread nD τ).loc main_arg0)) (m ((c.tc : Thread nD τ).loc main_arg1)) (m ((c.tc : Thread nD τ).loc main_arg2)) (m ((c.tc : Thread nD τ).loc main_arg3))),
      (h c).2.1.trans (kT_eq (m ((c.tc : Thread nD τ).loc main_arg0)) (m ((c.tc : Thread nD τ).loc main_arg1)) (m ((c.tc : Thread nD τ).loc main_arg2)) (m ((c.tc : Thread nD τ).loc main_arg4))),
      (h c).2.2.1.trans (vT_eq (m ((c.tc : Thread nD τ).loc main_arg0)) (m ((c.tc : Thread nD τ).loc main_arg1)) (m ((c.tc : Thread nD τ).loc main_arg2)) (m ((c.tc : Thread nD τ).loc main_arg5))),
      (h c).2.2.2.1.trans ((res_eq m c).trans (gT_eq (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)))),
      (h c).2.2.2.2.1.trans (rT_eq (m ((c.tc : Thread nD τ).loc main_arg0)) (m ((c.tc : Thread nD τ).loc main_arg1)) (m ((c.tc : Thread nD τ).loc main_arg2)) (m ((c.tc : Thread nD τ).loc main_arg9))),
      (h c).2.2.2.2.2⟩) (Value.run m ρ)

end Cert.GlaProjReferenceIdeal.Tail
-- ==== Proof.Heads.lean ====
module

public import proofs.«01_k».proof.Proof.Rows
public import proofs.«01_k».proof.Proof.LogSig

/-!
The mathematics of the attention layer's projections on one row: sixteen heads of sixty-four lanes, each head's
root-mean-square normalisation, and the forget gate.
-/

@[expose] public section
noncomputable section
open Idealize.ShloMosaic

namespace Cert.Heads
open Cert.LogSig

/-- Lane `d` of head `a` among the 1024 lanes. -/
def lane (a : Fin 16) (d : Fin 64) : Fin 1024 := ⟨a.val * 64 + d.val, by omega⟩

/-- A row times the weights of lane `d` of head `a`; the weights hold one output lane per row. -/
def proj (h : Fin 1024 → EReal) (W : Fin 1024 → Fin 1024 → EReal) (a : Fin 16) (d : Fin 64) : EReal :=
  ∑ j, W (lane a d) j * h j

/-- A head's lanes divided by their root mean square, times the gain. -/
def headNorm (y g : Fin 64 → EReal) (d : Fin 64) : EReal :=
  y d * Ideal.rsqrt (Ideal.div (∑ e, y e * y e) (Ideal.ofBits .f32 0x42800000#32) + Ideal.ofBits .f32 0x358637BD#32) * g d

/-- The forget gate of head `a`: the log-sigmoid of a row's product and bias. -/
def forget (h : Fin 1024 → EReal) (W : Fin 16 → Fin 1024 → EReal) (B : Fin 16 → EReal) (a : Fin 16) : EReal :=
  logSig ((∑ j, W a j * h j) + B a)

/-- The forget gate is not positive. -/
theorem forget_nonpos (h : Fin 1024 → EReal) (W : Fin 16 → Fin 1024 → EReal) (B : Fin 16 → EReal) (a : Fin 16) :
    forget h W B a ≤ 0 := logSig_nonpos _

end Cert.Heads
-- ==== Proof.FoxProjSample.lean ====
module

public import proofs.«01_k».proof.Proof.Gen.FoxProjSampleIdeal.Value
public import proofs.«01_k».proof.Proof.Gen.FoxProjSampleReferenceIdeal.Run
public import proofs.«01_k».proof.Proof.Heads

/-!
The attention projections of the sample rows: the queries, keys, values and forget gates that the kernel writes, and
the reference's terms, each equal to one row-wise formula.
-/

set_option maxRecDepth 16384
@[expose] public section
noncomputable section
open Idealize.ShloMosaic Idealize.ShloMosaic.TcCoe Idealize.SL.Sem
open Idealize.ShloMosaic.Pipeline (Dat)

namespace Cert.FoxProjSampleIdeal.Tail
open Cert.FoxProjSampleIdeal Cert.FoxProjSampleIdeal.Gen Cert.Rows Cert.LogSig Cert.Heads

/-- The normalised, scaled and shifted sample row `s`. -/
def row (X : FVec Ideal S1x128x1024 .f32) (N : FVec Ideal S1x1024 .f32) (M : FVec Ideal S128x6144 .f32)
    (s : Fin 128) : Fin 1024 → EReal :=
  pre (fun j => X (ix3 0 s j)) (fun j => N (ix2 0 j)) (fun j => M (ix2 s ⟨1024 + j.val, by omega⟩))
    (fun j => M (ix2 s ⟨j.val, by omega⟩))

/-- Normalised heads of every row: the queries and the keys. -/
def nArr (X : FVec Ideal S1x128x1024 .f32) (N : FVec Ideal S1x1024 .f32) (M : FVec Ideal S128x6144 .f32)
    (W : FVec Ideal S1024x1024 .bf16) (G : FVec Ideal S64x1 .f32) : FVec Ideal S1x16x64x128 .f32 :=
  fun i => headNorm (proj (row X N M (i 3)) (fun f j => W (ix2 f j)) (i 1)) (fun d => G (ix2 d 0)) (i 2)

/-- The values of every row. -/
def vArr (X : FVec Ideal S1x128x1024 .f32) (N : FVec Ideal S1x1024 .f32) (M : FVec Ideal S128x6144 .f32)
    (W : FVec Ideal S1024x1024 .bf16) : FVec Ideal S1x16x64x128 .f32 :=
  fun i => proj (row X N M (i 3)) (fun f j => W (ix2 f j)) (i 1) (i 2)

/-- The forget gates of every row. -/
def fArr (X : FVec Ideal S1x128x1024 .f32) (N : FVec Ideal S1x1024 .f32) (M : FVec Ideal S128x6144 .f32)
    (W : FVec Ideal S16x1024 .bf16) (B : FVec Ideal S16x1 .f32) : FVec Ideal S1x16x128 .f32 :=
  fun i => forget (row X N M (i 2)) (fun f j => W (ix2 f j)) (fun f => B (ix2 f 0)) (i 1)

/-- The normalised row that every store of the body uses, from the staged blocks. -/
theorem pay4 (v0 : Vec Ideal S1x128x1024 .f32) (v2 : Vec Ideal S1x1024 .f32) (v3 v4 : Vec Ideal S128x1024 .f32)
    (r : Fin 128) (j : Fin 1024) : k0_pay4 v0 v2 v3 v4 (ix2 r j)
      = pre (fun j => v0 (ix3 0 r j)) (fun j => v2 (ix2 0 j)) (fun j => v4 (ix2 r j)) (fun j => v3 (ix2 r j)) j := by
  pointwise [k0_pay4]
  rfl

/-- The same row, from the named value of the body. -/
theorem pay11 (x0 : Vec Ideal S1x128x1024 .f32) (x1 : Vec Ideal S1x1024 .f32) (x2 x3 : Vec Ideal S128x1024 .f32)
    (x4 x5 x6 : Vec Ideal S1024x1024 .bf16) (x7 : Vec Ideal S16x1024 .bf16) (x8 : Vec Ideal S16x1 .f32)
    (x9 x10 : Vec Ideal S64x1 .f32) (x11 : Vec Ideal S128x128 .bf16) (r : Fin 128) (j : Fin 1024) : k0_pay11 x0 x1 x2 x3 x4 x5 x6 x7 x8 x9 x10 x11 (ix2 r j)
      = pre (fun j => x0 (ix3 0 r j)) (fun j => x1 (ix2 0 j)) (fun j => x3 (ix2 r j)) (fun j => x2 (ix2 r j)) j := by
  pointwise [k0_pay11, k0_pay4]
  rfl

/-- The stored queries. -/
theorem block12 (x0 : Vec Ideal S1x128x1024 .f32) (x1 : Vec Ideal S1x1024 .f32) (x2 x3 : Vec Ideal S128x1024 .f32)
    (x4 x5 x6 : Vec Ideal S1024x1024 .bf16) (x7 : Vec Ideal S16x1024 .bf16) (x8 : Vec Ideal S16x1 .f32)
    (x9 x10 : Vec Ideal S64x1 .f32) (x11 : Vec Ideal S128x128 .bf16) (u : Fin 1) (a : Fin 16) (d : Fin 64) (s : Fin 128) (h : Fin 1024 → EReal)
    (hh : ∀ j, pre (fun j => x0 (ix3 0 s j)) (fun j => x1 (ix2 0 j)) (fun j => x3 (ix2 s j)) (fun j => x2 (ix2 s j)) j = h j) :
    out0_12 x0 x1 x2 x3 x4 x5 x6 x7 x8 x9 x10 x11 (ix4 u a d s) = headNorm (proj h (fun f j => x4 (ix2 f j)) a) (fun d => x9 (ix2 d 0)) d := by
  frame_out
  pointwise [k0_pay10, k0_pay5, k0_pay6]
  simp only [pay4, hh]
  rfl

/-- The stored keys. -/
theorem block13 (x0 : Vec Ideal S1x128x1024 .f32) (x1 : Vec Ideal S1x1024 .f32) (x2 x3 : Vec Ideal S128x1024 .f32)
    (x4 x5 x6 : Vec Ideal S1024x1024 .bf16) (x7 : Vec Ideal S16x1024 .bf16) (x8 : Vec Ideal S16x1 .f32)
    (x9 x10 : Vec Ideal S64x1 .f32) (x11 : Vec Ideal S128x128 .bf16) (u : Fin 1) (a : Fin 16) (d : Fin 64) (s : Fin 128) (h : Fin 1024 → EReal)
    (hh : ∀ j, pre (fun j => x0 (ix3 0 s j)) (fun j => x1 (ix2 0 j)) (fun j => x3 (ix2 s j)) (fun j => x2 (ix2 s j)) j = h j) :
    out0_13 x0 x1 x2 x3 x4 x5 x6 x7 x8 x9 x10 x11 (ix4 u a d s) = headNorm (proj h (fun f j => x5 (ix2 f j)) a) (fun d => x10 (ix2 d 0)) d := by
  frame_out
  pointwise [k0_pay1, k0_pay7]
  simp only [pay11, hh]
  rfl

/-- The stored values. -/
theorem block14 (x0 : Vec Ideal S1x128x1024 .f32) (x1 : Vec Ideal S1x1024 .f32) (x2 x3 : Vec Ideal S128x1024 .f32)
    (x4 x5 x6 : Vec Ideal S1024x1024 .bf16) (x7 : Vec Ideal S16x1024 .bf16) (x8 : Vec Ideal S16x1 .f32)
    (x9 x10 : Vec Ideal S64x1 .f32) (x11 : Vec Ideal S128x128 .bf16) (u : Fin 1) (a : Fin 16) (d : Fin 64) (s : Fin 128) (h : Fin 1024 → EReal)
    (hh : ∀ j, pre (fun j => x0 (ix3 0 s j)) (fun j => x1 (ix2 0 j)) (fun j => x3 (ix2 s j)) (fun j => x2 (ix2 s j)) j = h j) :
    out0_14 x0 x1 x2 x3 x4 x5 x6 x7 x8 x9 x10 x11 (ix4 u a d s) = proj h (fun f j => x6 (ix2 f j)) a d := by
  frame_out
  pointwise [k0_pay2, k0_pay8]
  simp only [pay11, hh]
  rfl

/-- The stored forget gates. -/
theorem block15 (x0 : Vec Ideal S1x128x1024 .f32) (x1 : Vec Ideal S1x1024 .f32) (x2 x3 : Vec Ideal S128x1024 .f32)
    (x4 x5 x6 : Vec Ideal S1024x1024 .bf16) (x7 : Vec Ideal S16x1024 .bf16) (x8 : Vec Ideal S16x1 .f32)
    (x9 x10 : Vec Ideal S64x1 .f32) (x11 : Vec Ideal S128x128 .bf16) (u : Fin 1) (a : Fin 16) (s : Fin 128) (h : Fin 1024 → EReal)
    (hh : ∀ j, pre (fun j => x0 (ix3 0 s j)) (fun j => x1 (ix2 0 j)) (fun j => x3 (ix2 s j)) (fun j => x2 (ix2 s j)) j = h j) :
    out0_15 x0 x1 x2 x3 x4 x5 x6 x7 x8 x9 x10 x11 (ix3 u a s) = forget h (fun f j => x7 (ix2 f j)) (fun f => x8 (ix2 f 0)) a := by
  frame_out
  pointwise [k0_pay3, k0_pay9]
  simp only [pay11, hh]
  rfl

variable (m : (ℓ : Loc nD τ sig) → Buf (Elt Ideal) ℓ)

/-- The windows' block indices at the one grid point. -/
theorem idx : ∀ t : Fin cfg0.N, win0_0.index t = ![0, 0, 0] ∧ win0_1.index t = ![0, 0]
    ∧ win0_2.index t = ![0, 0] ∧ win0_3.index t = ![0, 1] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_12.index t = ![0, 0, 0, 0]
    ∧ win0_13.index t = ![0, 0, 0, 0] ∧ win0_14.index t = ![0, 0, 0, 0] ∧ win0_15.index t = ![0, 0, 0] :=
  (by decide +kernel : ∀ t : Fin grid0.N, _)

/-- The rows are staged whole. -/
theorem read0 (c : Dev nD) (t : Fin cfg0.N) (r : Fin 128) (j : Fin 1024) : (iblk m c 0 t : Vec Ideal S1x128x1024 .f32) (ix3 0 r j)
    = m ((c : Thread nD τ).loc main_arg0) (ix3 0 r j) := by
  blk_ext! [iblk, V, idx t]

/-- The normalisation gain is staged whole. -/
theorem read1 (c : Dev nD) (t : Fin cfg0.N) (j : Fin 1024) : (iblk m c 1 t : Vec Ideal S1x1024 .f32) (ix2 0 j)
    = m ((c : Thread nD τ).loc main_arg1) (ix2 0 j) := by
  blk_ext! [iblk, V, idx t]

/-- Modulation 0 of each row. -/
theorem read2 (c : Dev nD) (t : Fin cfg0.N) (r : Fin 128) (j : Fin 1024) : (iblk m c 2 t : Vec Ideal S128x1024 .f32) (ix2 r j)
    = m ((c : Thread nD τ).loc main_arg2) (ix2 r ⟨j.val, by omega⟩) := by
  blk_ext! [iblk, V, idx t]

/-- Modulation 1 of each row. -/
theorem read3 (c : Dev nD) (t : Fin cfg0.N) (r : Fin 128) (j : Fin 1024) : (iblk m c 3 t : Vec Ideal S128x1024 .f32) (ix2 r j)
    = m ((c : Thread nD τ).loc main_arg2) (ix2 r ⟨1024 + j.val, by omega⟩) := by
  blk_ext! [iblk, V, idx t]

/-- The query weights are staged whole. -/
theorem read4 (c : Dev nD) (t : Fin cfg0.N) (i : Fin 1024) (j : Fin 1024) : (iblk m c 4 t : Vec Ideal S1024x1024 .bf16) (ix2 i j)
    = m ((c : Thread nD τ).loc main_arg3) (ix2 i j) := by
  blk_ext! [iblk, V, idx t]

/-- The key weights are staged whole. -/
theorem read5 (c : Dev nD) (t : Fin cfg0.N) (i : Fin 1024) (j : Fin 1024) : (iblk m c 5 t : Vec Ideal S1024x1024 .bf16) (ix2 i j)
    = m ((c : Thread nD τ).loc main_arg4) (ix2 i j) := by
  blk_ext! [iblk, V, idx t]

/-- The value weights are staged whole. -/
theorem read6 (c : Dev nD) (t : Fin cfg0.N) (i : Fin 1024) (j : Fin 1024) : (iblk m c 6 t : Vec Ideal S1024x1024 .bf16) (ix2 i j)
    = m ((c : Thread nD τ).loc main_arg5) (ix2 i j) := by
  blk_ext! [iblk, V, idx t]

/-- The forget weights are staged whole. -/
theorem read7 (c : Dev nD) (t : Fin cfg0.N) (i : Fin 16) (j : Fin 1024) : (iblk m c 7 t : Vec Ideal S16x1024 .bf16) (ix2 i j)
    = m ((c : Thread nD τ).loc main_arg6) (ix2 i j) := by
  blk_ext! [iblk, V, idx t]

/-- The forget bias is staged whole. -/
theorem read8 (c : Dev nD) (t : Fin cfg0.N) (i : Fin 16) (j : Fin 1) : (iblk m c 8 t : Vec Ideal S16x1 .f32) (ix2 i j)
    = m ((c : Thread nD τ).loc main_arg7) (ix2 i j) := by
  blk_ext! [iblk, V, idx t]

/-- The query gain is staged whole. -/
theorem read9 (c : Dev nD) (t : Fin cfg0.N) (i : Fin 64) (j : Fin 1) : (iblk m c 9 t : Vec Ideal S64x1 .f32) (ix2 i j)
    = m ((c : Thread nD τ).loc main_arg8) (ix2 i j) := by
  blk_ext! [iblk, V, idx t]

/-- The key gain is staged whole. -/
theorem read10 (c : Dev nD) (t : Fin cfg0.N) (i : Fin 64) (j : Fin 1) : (iblk m c 10 t : Vec Ideal S64x1 .f32) (ix2 i j)
    = m ((c : Thread nD τ).loc main_arg9) (ix2 i j) := by
  blk_ext! [iblk, V, idx t]

/-- The normalised row of the staged blocks is the array's normalised row. -/
theorem row_eq (c : Dev nD) (t : Fin cfg0.N) (s : Fin 128) (j : Fin 1024) :
    pre (fun j => (iblk m c 0 t : Vec Ideal S1x128x1024 .f32) (ix3 0 s j)) (fun j => (iblk m c 1 t : Vec Ideal S1x1024 .f32) (ix2 0 j))
      (fun j => (iblk m c 3 t : Vec Ideal S128x1024 .f32) (ix2 s j)) (fun j => (iblk m c 2 t : Vec Ideal S128x1024 .f32) (ix2 s j)) j
    = row (m ((c : Thread nD τ).loc main_arg0)) (m ((c : Thread nD τ).loc main_arg1)) (m ((c : Thread nD τ).loc main_arg2)) s j := by
  simp only [read0 m c t, read1 m c t, read2 m c t, read3 m c t]
  rfl

/-- Where the window of the queries puts a block's element. -/
theorem place12 (t : Fin cfg0.N) (u : Fin 1) (a : Fin 16) (d : Fin 64) (s : Fin 128) : ((cfg0.win 12).blk t).view.emb (ix4 u a d s)
    = ix4 u a d s := by
  blk_ext [idx t]

/-- The array of the queries after the run. -/
theorem final12 (c : Dev nD) : (dats m 0 c).arrAt 12 (cfgs 0).N
    = nArr (m ((c : Thread nD τ).loc main_arg0)) (m ((c : Thread nD τ).loc main_arg1)) (m ((c : Thread nD τ).loc main_arg2))
        (m ((c : Thread nD τ).loc main_arg3)) (m ((c : Thread nD τ).loc main_arg8)) := by
  refine (dats m 0 c).arrAt_eq_of_covers 12 _ (by decide +kernel) fun t _ y => ?_
  blk_simp
  rw [after0_12]
  obtain ⟨u, a, d, s, rfl⟩ : ∃ (u : Fin 1) (a : Fin 16) (d : Fin 64) (s : Fin 128), y = ix4 u a d s := ⟨y 0, y 1, y 2, y 3, eq_ix4 y⟩
  refine (block12 _ _ _ _ _ _ _ _ _ _ _ _ u a d s _ (row_eq m c t s)).trans ?_
  simp only [read4 m c t, read9 m c t]
  exact (congrArg (nArr _ _ _ _ _) (place12 t u a d s)).symm

/-- Where the window of the keys puts a block's element. -/
theorem place13 (t : Fin cfg0.N) (u : Fin 1) (a : Fin 16) (d : Fin 64) (s : Fin 128) : ((cfg0.win 13).blk t).view.emb (ix4 u a d s)
    = ix4 u a d s := by
  blk_ext [idx t]

/-- The array of the keys after the run. -/
theorem final13 (c : Dev nD) : (dats m 0 c).arrAt 13 (cfgs 0).N
    = nArr (m ((c : Thread nD τ).loc main_arg0)) (m ((c : Thread nD τ).loc main_arg1)) (m ((c : Thread nD τ).loc main_arg2))
        (m ((c : Thread nD τ).loc main_arg4)) (m ((c : Thread nD τ).loc main_arg9)) := by
  refine (dats m 0 c).arrAt_eq_of_covers 13 _ (by decide +kernel) fun t _ y => ?_
  blk_simp
  rw [after0_13]
  obtain ⟨u, a, d, s, rfl⟩ : ∃ (u : Fin 1) (a : Fin 16) (d : Fin 64) (s : Fin 128), y = ix4 u a d s := ⟨y 0, y 1, y 2, y 3, eq_ix4 y⟩
  refine (block13 _ _ _ _ _ _ _ _ _ _ _ _ u a d s _ (row_eq m c t s)).trans ?_
  simp only [read5 m c t, read10 m c t]
  exact (congrArg (nArr _ _ _ _ _) (place13 t u a d s)).symm

/-- Where the window of the values puts a block's element. -/
theorem place14 (t : Fin cfg0.N) (u : Fin 1) (a : Fin 16) (d : Fin 64) (s : Fin 128) : ((cfg0.win 14).blk t).view.emb (ix4 u a d s)
    = ix4 u a d s := by
  blk_ext [idx t]

/-- The array of the values after the run. -/
theorem final14 (c : Dev nD) : (dats m 0 c).arrAt 14 (cfgs 0).N
    = vArr (m ((c : Thread nD τ).loc main_arg0)) (m ((c : Thread nD τ).loc main_arg1)) (m ((c : Thread nD τ).loc main_arg2))
        (m ((c : Thread nD τ).loc main_arg5)) := by
  refine (dats m 0 c).arrAt_eq_of_covers 14 _ (by decide +kernel) fun t _ y => ?_
  blk_simp
  rw [after0_14]
  obtain ⟨u, a, d, s, rfl⟩ : ∃ (u : Fin 1) (a : Fin 16) (d : Fin 64) (s : Fin 128), y = ix4 u a d s := ⟨y 0, y 1, y 2, y 3, eq_ix4 y⟩
  refine (block14 _ _ _ _ _ _ _ _ _ _ _ _ u a d s _ (row_eq m c t s)).trans ?_
  simp only [read6 m c t]
  exact (congrArg (vArr _ _ _ _) (place14 t u a d s)).symm

/-- Where the window of the forget gates puts a block's element. -/
theorem place15 (t : Fin cfg0.N) (u : Fin 1) (a : Fin 16) (s : Fin 128) : ((cfg0.win 15).blk t).view.emb (ix3 u a s)
    = ix3 u a s := by
  blk_ext [idx t]

/-- The array of the forget gates after the run. -/
theorem final15 (c : Dev nD) : (dats m 0 c).arrAt 15 (cfgs 0).N
    = fArr (m ((c : Thread nD τ).loc main_arg0)) (m ((c : Thread nD τ).loc main_arg1)) (m ((c : Thread nD τ).loc main_arg2))
        (m ((c : Thread nD τ).loc main_arg6)) (m ((c : Thread nD τ).loc main_arg7)) := by
  refine (dats m 0 c).arrAt_eq_of_covers 15 _ (by decide +kernel) fun t _ y => ?_
  blk_simp
  rw [after0_15]
  obtain ⟨u, a, s, rfl⟩ : ∃ (u : Fin 1) (a : Fin 16) (s : Fin 128), y = ix3 u a s := ⟨y 0, y 1, y 2, eq_ix3 y⟩
  refine (block15 _ _ _ _ _ _ _ _ _ _ _ _ u a s _ (row_eq m c t s)).trans ?_
  simp only [read7 m c t, read8 m c t]
  exact (congrArg (fArr _ _ _ _ _) (place15 t u a s)).symm

end Cert.FoxProjSampleIdeal.Tail

namespace Cert.FoxProjSampleReferenceIdeal.Tail
open Cert.FoxProjSampleReferenceIdeal Cert.FoxProjSampleReferenceIdeal.Gen Cert.Rows Cert.LogSig Cert.Heads
open FoxProjSampleIdeal.Tail (row nArr vArr fArr)

/-- The reference's normalised rows, as its composed term. -/
def preT (X : FVec Ideal S1x128x1024 .f32) (N : FVec Ideal S1x1024 .f32) (M : FVec Ideal S128x6144 .f32) :
    FVec Ideal S128x1024 .f32 :=
  addf (mulf (mulf (mulf (shapeCast S128x1024 X shapeCasts_S1x128x1024_S128x1024) (broadcastInDim S128x1024 ![0, 1] bcast_S128x1_S128x1024_0_1 (Host.rsqrt (addf (Host.divf (broadcastInDim S128x1 ![0] bcast_S128_S128x1_0 (Host.reduceAdd (mulf (shapeCast S128x1024 X shapeCasts_S1x128x1024_S128x1024) (shapeCast S128x1024 X shapeCasts_S1x128x1024_S128x1024)) (constant S_ .f32 0x00000000#32) reducesTo_S128x1024_S128_d1 h_S_)) (broadcastInDim S128x1 ![] bcast_S_S128x1 (constant S_ .f32 0x44800000#32))) (broadcastInDim S128x1 ![] bcast_S_S128x1 (constant S_ .f32 0x358637BD#32)))))) (broadcastInDim S128x1024 ![0, 1] bcast_S1x1024_S128x1024_0_1 (broadcastInDim S1x1024 ![1] bcast_S1024_S1x1024_1 (shapeCast S1024 N shapeCasts_S1x1024_S1024)))) (addf (broadcastInDim S128x1024 ![] bcast_S_S128x1024 (constant S_ .f32 0x3F800000#32)) (extractStridedSlice S128x1024 ![0, 1024] M slices_S128x6144_S128x1024_0_1024))) (extractStridedSlice S128x1024 ![0, 0] M slices_S128x6144_S128x1024_0_0)

/-- Rows times a transposed weight matrix, by heads, as the reference's term. -/
def projT (H : FVec Ideal S128x1024 .f32) (W : FVec Ideal S1024x1024 .bf16) : FVec Ideal S1x128x16x64 .f32 :=
  shapeCast S1x128x16x64 (Host.dotGeneral dot_S1x128x1024_S1024x1024_S1x128x1024_2_0_01_1_n_n none (broadcastInDim S1x128x1024 ![1, 2] bcast_S128x1024_S1x128x1024_1_2 H) (transpose S1024x1024 [1, 0] (extf .f32 W bitsLt_bf16_f32) transposes_S1024x1024_S1024x1024_1_0)) shapeCasts_S1x128x1024_S1x128x16x64

/-- The heads' normalisation, as the reference's term. -/
def normT (Y : FVec Ideal S1x128x16x64 .f32) (G : FVec Ideal S64x1 .f32) : FVec Ideal S1x128x16x64 .f32 :=
  mulf (mulf Y (broadcastInDim S1x128x16x64 ![0, 1, 2, 3] bcast_S1x128x16x1_S1x128x16x64_0_1_2_3 (Host.rsqrt (addf (Host.divf (broadcastInDim S1x128x16x1 ![0, 1, 2] bcast_S1x128x16_S1x128x16x1_0_1_2 (Host.reduceAdd (mulf Y Y) (constant S_ .f32 0x00000000#32) reducesTo_S1x128x16x64_S1x128x16_d3 h_S_)) (broadcastInDim S1x128x16x1 ![] bcast_S_S1x128x16x1 (constant S_ .f32 0x42800000#32))) (broadcastInDim S1x128x16x1 ![] bcast_S_S1x128x16x1 (constant S_ .f32 0x358637BD#32)))))) (broadcastInDim S1x128x16x64 ![0, 1, 2, 3] bcast_S1x1x1x64_S1x128x16x64_0_1_2_3 (broadcastInDim S1x1x1x64 ![3] bcast_S64_S1x1x1x64_3 (shapeCast S64 G shapeCasts_S64x1_S64)))

/-- Sequence last, as the reference's term. -/
def turnT (Y : FVec Ideal S1x128x16x64 .f32) : FVec Ideal S1x16x64x128 .f32 :=
  transpose S1x16x64x128 [0, 2, 3, 1] Y transposes_S1x128x16x64_S1x16x64x128_0_2_3_1

/-- The forget gate before its log-sigmoid, as the reference's term. -/
def preForgetT (H : FVec Ideal S128x1024 .f32) (W : FVec Ideal S16x1024 .bf16) (B : FVec Ideal S16x1 .f32) :
    FVec Ideal S1x128x16 .f32 :=
  addf (Host.dotGeneral dot_S1x128x1024_S1024x16_S1x128x16_2_0_01_1_n_n none (broadcastInDim S1x128x1024 ![1, 2] bcast_S128x1024_S1x128x1024_1_2 H) (transpose S1024x16 [1, 0] (extf .f32 W bitsLt_bf16_f32) transposes_S16x1024_S1024x16_1_0)) (broadcastInDim S1x128x16 ![0, 1, 2] bcast_S1x1x16_S1x128x16_0_1_2 (broadcastInDim S1x1x16 ![2] bcast_S16_S1x1x16_2 (shapeCast S16 B shapeCasts_S16x1_S16)))

/-- The log-sigmoid, as the reference's term. -/
def logSigT (Z : FVec Ideal S1x128x16 .f32) : FVec Ideal S1x128x16 .f32 :=
  Host.negf (select (cmpf .une (subf (Host.negf Z) (broadcastInDim S1x128x16 ![] bcast_S_S1x128x16 (constant S_ .f32 0x00000000#32))) (subf (Host.negf Z) (broadcastInDim S1x128x16 ![] bcast_S_S1x128x16 (constant S_ .f32 0x00000000#32)))) (addf (Host.negf Z) (broadcastInDim S1x128x16 ![] bcast_S_S1x128x16 (constant S_ .f32 0x00000000#32))) (addf (maximumf (Host.negf Z) (broadcastInDim S1x128x16 ![] bcast_S_S1x128x16 (constant S_ .f32 0x00000000#32))) (Host.log1p (Host.exp (Host.negf (Host.absf (subf (Host.negf Z) (broadcastInDim S1x128x16 ![] bcast_S_S1x128x16 (constant S_ .f32 0x00000000#32)))))))))

/-- The forget gates with the sequence last, as the reference's term. -/
def turnForgetT (Y : FVec Ideal S1x128x16 .f32) : FVec Ideal S1x16x128 .f32 :=
  transpose S1x16x128 [0, 2, 1] Y transposes_S1x128x16_S1x16x128_0_2_1

section
variable (X : FVec Ideal S1x128x1024 .f32) (N : FVec Ideal S1x1024 .f32) (M : FVec Ideal S128x6144 .f32)

/-- The normalised rows at an index. -/
theorem preT_at (s : Fin 128) (k : Fin 1024) : preT X N M (ix2 s k) = row X N M s k := by
  pointwise [preT]
  rfl

/-- The heads' products at an index. -/
theorem projT_at (W : FVec Ideal S1024x1024 .bf16) (u : Fin 1) (s : Fin 128) (a : Fin 16) (d : Fin 64) :
    projT (preT X N M) W (ix4 u s a d) = proj (row X N M s) (fun f j => W (ix2 f j)) a d := by
  pointwise [projT]
  simp only [preT_at]
  exact Finset.sum_congr rfl fun _ _ => mul_comm _ _

/-- The heads' normalisation at an index. -/
theorem normT_at (Y : FVec Ideal S1x128x16x64 .f32) (G : FVec Ideal S64x1 .f32) (u : Fin 1) (s : Fin 128) (a : Fin 16) (d : Fin 64) :
    normT Y G (ix4 u s a d) = headNorm (fun e => Y (ix4 u s a e)) (fun e => G (ix2 e 0)) d := by
  rw [Subsingleton.elim u 0]
  pointwise [normT]
  rfl

/-- The log-sigmoid at an index. -/
theorem logSigT_at (Z : FVec Ideal S1x128x16 .f32) (u : Fin 1) (s : Fin 128) (a : Fin 16) :
    logSigT Z (ix3 u s a) = logSig (Z (ix3 u s a)) := by
  pointwise [logSigT]
  have e : ∀ x : Ideal .f32, FloatOps.absf x = max x (-x) := fun _ => rfl
  rw [← neg_softplus]
  simp [Ideal.cmp, e]

/-- The forget gate before its log-sigmoid, at an index. -/
theorem preForgetT_at (W : FVec Ideal S16x1024 .bf16) (B : FVec Ideal S16x1 .f32) (u : Fin 1) (s : Fin 128) (a : Fin 16) :
    preForgetT (preT X N M) W B (ix3 u s a) = (∑ j, W (ix2 a j) * row X N M s j) + B (ix2 a 0) := by
  pointwise [preForgetT]
  simp only [preT_at, mul_comm]

/-- The queries and the keys. -/
theorem nT_eq (W : FVec Ideal S1024x1024 .bf16) (G : FVec Ideal S64x1 .f32) :
    turnT (normT (projT (preT X N M) W) G) = nArr X N M W G := by
  funext i
  obtain ⟨u, a, d, s, rfl⟩ : ∃ (u : Fin 1) (a : Fin 16) (d : Fin 64) (s : Fin 128), i = ix4 u a d s := ⟨i 0, i 1, i 2, i 3, eq_ix4 i⟩
  pointwise [turnT]
  simp only [normT_at, projT_at]
  rfl

/-- The values. -/
theorem vT_eq (W : FVec Ideal S1024x1024 .bf16) : turnT (projT (preT X N M) W) = vArr X N M W := by
  funext i
  obtain ⟨u, a, d, s, rfl⟩ : ∃ (u : Fin 1) (a : Fin 16) (d : Fin 64) (s : Fin 128), i = ix4 u a d s := ⟨i 0, i 1, i 2, i 3, eq_ix4 i⟩
  pointwise [turnT]
  simp only [projT_at]
  rfl

/-- The forget gates. -/
theorem fT_eq (W : FVec Ideal S16x1024 .bf16) (B : FVec Ideal S16x1 .f32) :
    turnForgetT (logSigT (preForgetT (preT X N M) W B)) = fArr X N M W B := by
  funext i
  obtain ⟨u, a, s, rfl⟩ : ∃ (u : Fin 1) (a : Fin 16) (s : Fin 128), i = ix3 u a s := ⟨i 0, i 1, i 2, eq_ix3 i⟩
  pointwise [turnForgetT]
  simp only [logSigT_at, preForgetT_at]
  rfl

end

/-- The reference runs, its results are the row-wise arrays, and its arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v74) = nArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8))
      ∧ r.2.mem ((c.tc : Thread nD τ).loc main_v75) = nArr (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg9))
      ∧ r.2.mem ((c.tc : Thread nD τ).loc main_v76) = vArr (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v77) = fArr (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (nT_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8))),
      (h c).2.1.trans (nT_eq (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg9))),
      (h c).2.2.1.trans (vT_eq (m ((c.tc : Thread nD τ).loc main_arg0)) (m ((c.tc : Thread nD τ).loc main_arg1)) (m ((c.tc : Thread nD τ).loc main_arg2)) (m ((c.tc : Thread nD τ).loc main_arg5))),
      (h c).2.2.2.1.trans (fT_eq (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7))),
      (h c).2.2.2.2⟩) (Value.run m ρ)

end Cert.FoxProjSampleReferenceIdeal.Tail
-- ==== Proof.Cum.lean ====
module

public import Idealize.ShloMosaic.Lib.Claim
public import Idealize.ShloMosaic.Lib.Pipeline.ValueKit

/-!
Running sums over the extended reals: the sum of the first entries of a vector, its split at a block boundary, the host's
running sum along the middle axis, and a product with a triangular matrix taken in three parts.
-/

@[expose] public section
noncomputable section
open Idealize.ShloMosaic

namespace Cert.Cum

/-- The sum of the first `n` entries of `f`. -/
def upTo {N : ℕ} (f : Fin N → EReal) (n : ℕ) : EReal := ∑ i ∈ Finset.range n, if h : i < N then f ⟨i, h⟩ else 0

/-- No entries sum to zero. -/
theorem upTo_zero {N : ℕ} (f : Fin N → EReal) : upTo f 0 = 0 := by simp [upTo]

/-- One entry more. -/
theorem upTo_succ {N : ℕ} (f : Fin N → EReal) (n : ℕ) (h : n < N) : upTo f (n + 1) = upTo f n + f ⟨n, h⟩ := by
  simp [upTo, Finset.sum_range_succ, h]

/-- The first `n` entries and, of the next `B` entries, those up to the `s`-th. -/
theorem upTo_block {N B : ℕ} (f : Fin N → EReal) (n : ℕ) (hn : n + B ≤ N) (s : Fin B) :
    upTo f (n + s.val + 1) = upTo f n + ∑ k : Fin B, if k.val ≤ s.val then f ⟨n + k.val, by omega⟩ else 0 := by
  have hs := s.isLt
  have e : ∀ k : Fin B, (if k.val ≤ s.val then f ⟨n + k.val, by omega⟩ else 0)
      = (fun i : ℕ => if i ≤ s.val then (if h : n + i < N then f ⟨n + i, h⟩ else 0) else 0) k.val := fun k => by
    dsimp only
    rw [dif_pos (show n + k.val < N by omega)]
  rw [Finset.sum_congr rfl fun k _ => e k,
    Fin.sum_univ_eq_sum_range (fun i : ℕ => if i ≤ s.val then (if h : n + i < N then f ⟨n + i, h⟩ else 0) else 0) B,
    ← Finset.sum_filter]
  have hf : (Finset.range B).filter (fun i => i ≤ s.val) = Finset.range (s.val + 1) := by
    ext i; simp only [Finset.mem_filter, Finset.mem_range]; omega
  rw [hf]
  unfold upTo
  rw [show n + s.val + 1 = n + (s.val + 1) by omega, Finset.sum_range_add]

/-- Running sums of equal vectors are equal. -/
theorem upTo_congr {N : ℕ} (f g : Fin N → EReal) (n : ℕ) (h : ∀ i, f i = g i) : upTo f n = upTo g n := by
  rw [show f = g from funext h]

/-- A value that is not plus infinity, plus its difference with itself, plus the difference of that, is the value. -/
theorem three_parts (x : EReal) (hx : x ≠ ⊤) : x + (x - x) + ((x - x) - (x - x)) = x := by
  induction x using EReal.rec with
  | bot => simp
  | coe r => norm_cast; simp
  | top => exact absurd rfl hx

/-- A fold that adds is the start plus the sum. -/
theorem foldl_add {α : Type*} (g : α → EReal) (l : List α) (v : EReal) :
    l.foldl (fun r n => r + g n) v = v + (l.map g).sum := by
  induction l generalizing v with
  | nil => simp
  | cons a l ih => rw [List.foldl_cons, ih, List.map_cons, List.sum_cons, add_assoc]

/-- The indices of a window one wide but for its middle axis. -/
def midEquiv (N : ℕ) : Fin N ≃ (⟨3, ![1, N, 1]⟩ : Shape).Idx where
  toFun k := ix3 (0 : Fin 1) k (0 : Fin 1)
  invFun w := w 1
  left_inv _ := rfl
  right_inv w := by
    refine ((eq_ix3 w).trans ?_).symm
    have h0 : w 0 = (0 : Fin 1) := Subsingleton.elim (α := Fin 1) _ _
    have h2 : w 2 = (0 : Fin 1) := Subsingleton.elim (α := Fin 1) _ _
    exact congrArg₂ (fun p q : Fin 1 => ix3 p (w 1 : Fin N) q) h0 h2

/-- The host's running sum along the middle axis: entry `j` is the sum of the entries up to `j`. -/
theorem cumsum_mid {B N Nm1 C : ℕ} (hN : Nm1 + 1 = N) (x : (⟨3, ![B, N, C]⟩ : Shape).Idx → EReal)
    (h : (⟨3, ![B, N, C]⟩ : Shape).ReduceWindows (![1, N, 1] : Fin 3 → ℕ) ![1, 1, 1] ![0, Nm1, 0] ![0, 0, 0] ⟨3, ![B, N, C]⟩)
    (b : Fin B) (j : Fin N) (c : Fin C) :
    Ideal.hostReduceWindowAdd (![1, N, 1] : Fin 3 → ℕ) ![1, 1, 1] ![0, Nm1, 0] ![0, 0, 0] h x 0 (ix3 b j c)
      = upTo (fun i => x (ix3 b i c)) (j.val + 1) := by
  subst hN
  have hj := j.isLt
  have hb := b.isLt
  have hc := c.isLt
  unfold Ideal.hostReduceWindowAdd Host.reduceWindow
  dsimp only
  rw [foldl_add, zero_add]
  set W : Shape := ⟨3, ![1, Nm1 + 1, 1]⟩ with hW
  let G : W.Idx → EReal := fun w => if Nm1 ≤ j.val + (w 1).val then
    (if hh : j.val + (w 1).val - Nm1 < Nm1 + 1 then x (ix3 b ⟨j.val + (w 1).val - Nm1, hh⟩ c) else 0) else 0
  have e1 : ((List.finRange W.numel).map fun n => G (W.rowMajor.symm n)).sum = upTo (fun i => x (ix3 b i c)) (j.val + 1) := by
    have : ((List.finRange W.numel).map fun n => G (W.rowMajor.symm n)).sum = ∑ n : Fin W.numel, G (W.rowMajor.symm n) := by
      rw [← List.ofFn_eq_map, List.sum_ofFn]
    rw [this, Equiv.sum_comp W.rowMajor.symm G, ← Equiv.sum_comp (midEquiv (Nm1 + 1)) G]
    have e2 : ∀ k : Fin (Nm1 + 1), G (midEquiv (Nm1 + 1) k) = (fun i : ℕ => if Nm1 ≤ j.val + i then
        (if hh : j.val + i - Nm1 < Nm1 + 1 then x (ix3 b ⟨j.val + i - Nm1, hh⟩ c) else 0) else 0) k.val := fun _ => rfl
    rw [Finset.sum_congr rfl fun k _ => e2 k, Fin.sum_univ_eq_sum_range (fun i : ℕ => if Nm1 ≤ j.val + i then
        (if hh : j.val + i - Nm1 < Nm1 + 1 then x (ix3 b ⟨j.val + i - Nm1, hh⟩ c) else 0) else 0) (Nm1 + 1),
      show Finset.range (Nm1 + 1) = Finset.range ((Nm1 - j.val) + (j.val + 1)) from congrArg _ (by omega), Finset.sum_range_add, Finset.sum_eq_zero, zero_add]
    · unfold upTo
      refine Finset.sum_congr rfl fun i hi => ?_
      rw [if_pos (by omega)]
      have : j.val + (Nm1 - j.val + i) - Nm1 = i := by omega
      simp only [this]
    · intro i hi
      rw [Finset.mem_range] at hi
      rw [if_neg (by omega)]
  rw [← e1]
  refine congrArg List.sum (List.map_congr_left fun n _ => ?_)
  have w0 : (W.rowMajor.symm n 0).val = 0 := by have h0 : (W.rowMajor.symm n 0).val < 1 := (W.rowMajor.symm n 0).isLt; omega
  have w2 : (W.rowMajor.symm n 2).val = 0 := by have h2 : (W.rowMajor.symm n 2).val < 1 := (W.rowMajor.symm n 2).isLt; omega
  have w1 : (W.rowMajor.symm n 1).val < Nm1 + 1 := (W.rowMajor.symm n 1).isLt
  dsimp only [G]
  split
  · next hin =>
    have h1 := hin 1
    change Nm1 ≤ j.val * 1 + (W.rowMajor.symm n 1).val ∧ j.val * 1 + (W.rowMajor.symm n 1).val - Nm1 < Nm1 + 1 at h1
    rw [if_pos (by omega), dif_pos (by omega)]
    refine congrArg x (funext fun a => Fin.ext ?_)
    match a with
    | ⟨0, _⟩ => show b.val * 1 + (W.rowMajor.symm n 0).val - 0 = b.val; omega
    | ⟨1, _⟩ => show j.val * 1 + (W.rowMajor.symm n 1).val - Nm1 = j.val + (W.rowMajor.symm n 1).val - Nm1; omega
    | ⟨2, _⟩ => show c.val * 1 + (W.rowMajor.symm n 2).val - 0 = c.val; omega
  · next hin =>
    rw [if_neg fun hle => hin fun a => by
      match a with
      | ⟨0, _⟩ => show 0 ≤ b.val * 1 + (W.rowMajor.symm n 0).val ∧ b.val * 1 + (W.rowMajor.symm n 0).val - 0 < B; omega
      | ⟨1, _⟩ => show Nm1 ≤ j.val * 1 + (W.rowMajor.symm n 1).val ∧ j.val * 1 + (W.rowMajor.symm n 1).val - Nm1 < Nm1 + 1; omega
      | ⟨2, _⟩ => show 0 ≤ c.val * 1 + (W.rowMajor.symm n 2).val ∧ c.val * 1 + (W.rowMajor.symm n 2).val - 0 < C; omega]

end Cert.Cum
-- ==== Proof.FoxProjPay.lean ====
module

public import proofs.«01_k».proof.Proof.Gen.FoxProjIdeal.Value
public import proofs.«01_k».proof.Proof.Heads
public import proofs.«01_k».proof.Proof.Cum

/-!
The attention projections of the prompt: queries and keys with the forget gates' running sums as extra lanes, the keys,
the values and the gates that the kernel writes, each equal to one row-wise formula.
-/

set_option maxRecDepth 16384
@[expose] public section
noncomputable section
open Idealize.ShloMosaic Idealize.ShloMosaic.TcCoe Idealize.SL.Sem
open Idealize.ShloMosaic.Pipeline (Dat)

namespace Cert.FoxProjIdeal.Tail
open Cert.FoxProjIdeal Cert.FoxProjIdeal.Gen Cert.Rows Cert.LogSig Cert.Heads Cert.Cum

/-- The normalised, scaled and shifted row `s` of batch entry `b`. -/
def row (X : FVec Ideal S4x4096x1024 .f32) (N : FVec Ideal S1x1024 .f32) (M : FVec Ideal S4x6144 .f32)
    (b : Fin 4) (s : Fin 4096) : Fin 1024 → EReal :=
  pre (fun j => X (ix3 b s j)) (fun j => N (ix2 0 j)) (fun j => M (ix2 b ⟨1024 + j.val, by omega⟩))
    (fun j => M (ix2 b ⟨j.val, by omega⟩))

/-- The gate of head `a` at every position of batch entry `b`. -/
def gate (X : FVec Ideal S4x4096x1024 .f32) (N : FVec Ideal S1x1024 .f32) (M : FVec Ideal S4x6144 .f32)
    (W : FVec Ideal S16x1024 .bf16) (B : FVec Ideal S16x1 .f32) (b : Fin 4) (a : Fin 16) (s : Fin 4096) : EReal :=
  forget (row X N M b s) (fun f j => W (ix2 f j)) (fun f => B (ix2 f 0)) a

/-- The sixteen extra lanes of a query and the zero lanes after them: the parts of the running sum, then ones. -/
def extraQ (f : EReal) (r : ℕ) : EReal :=
  if r = 0 then f else if r = 1 then f - f else if r = 2 then f - f - (f - f) else if r < 6 then 1 else 0

/-- The sixteen extra lanes of a key and the zero lanes after them: ones, then the negated parts of the running sum. -/
def extraK (f : EReal) (r : ℕ) : EReal :=
  if r < 3 then 1 else if r = 3 then 0 - f else if r = 4 then 0 - (f - f) else if r = 5 then 0 - (f - f - (f - f)) else 0

/-- Normalised heads of every row: the keys. -/
def kArr (X : FVec Ideal S4x4096x1024 .f32) (N : FVec Ideal S1x1024 .f32) (M : FVec Ideal S4x6144 .f32)
    (W : FVec Ideal S1024x1024 .bf16) (G : FVec Ideal S64x1 .f32) : FVec Ideal S4x16x64x4096 .f32 :=
  fun i => headNorm (proj (row X N M (i 0) (i 3)) (fun f j => W (ix2 f j)) (i 1)) (fun d => G (ix2 d 0)) (i 2)

/-- The values of every row. -/
def vArr (X : FVec Ideal S4x4096x1024 .f32) (N : FVec Ideal S1x1024 .f32) (M : FVec Ideal S4x6144 .f32)
    (W : FVec Ideal S1024x1024 .bf16) : FVec Ideal S4x16x64x4096 .f32 :=
  fun i => proj (row X N M (i 0) (i 3)) (fun f j => W (ix2 f j)) (i 1) (i 2)

/-- The forget gates of every row. -/
def fArr (X : FVec Ideal S4x4096x1024 .f32) (N : FVec Ideal S1x1024 .f32) (M : FVec Ideal S4x6144 .f32)
    (W : FVec Ideal S16x1024 .bf16) (B : FVec Ideal S16x1 .f32) : FVec Ideal S4x16x4096 .f32 :=
  fun i => gate X N M W B (i 0) (i 1) (i 2)

/-- The queries with their extra lanes. -/
def qaArr (X : FVec Ideal S4x4096x1024 .f32) (N : FVec Ideal S1x1024 .f32) (M : FVec Ideal S4x6144 .f32)
    (W : FVec Ideal S1024x1024 .bf16) (G : FVec Ideal S64x1 .f32) (Wf : FVec Ideal S16x1024 .bf16) (B : FVec Ideal S16x1 .f32) :
    FVec Ideal S4x16x128x4096 .bf16 :=
  fun i => if h : (i 2).val < 64 then
      headNorm (proj (row X N M (i 0) (i 3)) (fun f j => W (ix2 f j)) (i 1)) (fun d => G (ix2 d 0)) ⟨(i 2).val, h⟩
        * Ideal.ofBits .f32 0x3E000000#32
    else extraQ (upTo (gate X N M Wf B (i 0) (i 1)) ((i 3).val + 1)) ((i 2).val - 64)

/-- The keys with their extra lanes. -/
def kaArr (X : FVec Ideal S4x4096x1024 .f32) (N : FVec Ideal S1x1024 .f32) (M : FVec Ideal S4x6144 .f32)
    (W : FVec Ideal S1024x1024 .bf16) (G : FVec Ideal S64x1 .f32) (Wf : FVec Ideal S16x1024 .bf16) (B : FVec Ideal S16x1 .f32) :
    FVec Ideal S4x16x128x4096 .bf16 :=
  fun i => if h : (i 2).val < 64 then
      headNorm (proj (row X N M (i 0) (i 3)) (fun f j => W (ix2 f j)) (i 1)) (fun d => G (ix2 d 0)) ⟨(i 2).val, h⟩
    else extraK (upTo (gate X N M Wf B (i 0) (i 1)) ((i 3).val + 1)) ((i 2).val - 64)

/-- The normalised row that every store of the body uses, from the staged blocks. -/
theorem pay3 (x0 : Vec Ideal S1x512x1024 .f32) (x1 : Vec Ideal S1x1024 .f32) (x2 x3 : Vec Ideal S1x1x1x1024 .f32)
    (r : Fin 512) (j : Fin 1024) : k0_pay3 x0 x1 x2 x3 (ix2 r j)
      = pre (fun j => x0 (ix3 0 r j)) (fun j => x1 (ix2 0 j)) (fun j => x3 (ix4 0 0 0 j)) (fun j => x2 (ix4 0 0 0 j)) j := by
  pointwise [k0_pay3]
  rfl

/-- The normalised queries. -/
theorem payQ (x0 : Vec Ideal S1x512x1024 .f32) (x1 : Vec Ideal S1x1024 .f32) (x2 x3 : Vec Ideal S1x1x1x1024 .f32)
    (w : Vec Ideal S1024x1024 .bf16) (g : Vec Ideal S64x1 .f32) (a : Fin 16) (d : Fin 64) (s : Fin 512) (h : Fin 1024 → EReal)
    (hh : ∀ j, pre (fun j => x0 (ix3 0 s j)) (fun j => x1 (ix2 0 j)) (fun j => x3 (ix4 0 0 0 j)) (fun j => x2 (ix4 0 0 0 j)) j = h j) :
    k0_pay7 (k0_pay4 x0 x1 x2 x3 w) g (k0_pay5 x0 x1 x2 x3 w) k0_pay6 (ix3 a d s)
      = headNorm (proj h (fun f j => w (ix2 f j)) a) (fun d => g (ix2 d 0)) d := by
  pointwise [k0_pay7, k0_pay4, k0_pay5, k0_pay6]
  simp only [pay3, hh]
  rfl

/-- The normalised keys. -/
theorem payK (x0 : Vec Ideal S1x512x1024 .f32) (x1 : Vec Ideal S1x1024 .f32) (x2 x3 : Vec Ideal S1x1x1x1024 .f32)
    (w : Vec Ideal S1024x1024 .bf16) (g : Vec Ideal S64x1 .f32) (a : Fin 16) (d : Fin 64) (s : Fin 512) (h : Fin 1024 → EReal)
    (hh : ∀ j, pre (fun j => x0 (ix3 0 s j)) (fun j => x1 (ix2 0 j)) (fun j => x3 (ix4 0 0 0 j)) (fun j => x2 (ix4 0 0 0 j)) j = h j) :
    k0_pay8 (k0_pay3 x0 x1 x2 x3) w g (ix3 a d s)
      = headNorm (proj h (fun f j => w (ix2 f j)) a) (fun d => g (ix2 d 0)) d := by
  pointwise [k0_pay8]
  simp only [pay3, hh]
  rfl

/-- The values. -/
theorem payV (x0 : Vec Ideal S1x512x1024 .f32) (x1 : Vec Ideal S1x1024 .f32) (x2 x3 : Vec Ideal S1x1x1x1024 .f32)
    (w : Vec Ideal S1024x1024 .bf16) (a : Fin 16) (d : Fin 64) (s : Fin 512) (h : Fin 1024 → EReal)
    (hh : ∀ j, pre (fun j => x0 (ix3 0 s j)) (fun j => x1 (ix2 0 j)) (fun j => x3 (ix4 0 0 0 j)) (fun j => x2 (ix4 0 0 0 j)) j = h j) :
    k0_pay9 (k0_pay3 x0 x1 x2 x3) w (ix3 a d s) = proj h (fun f j => w (ix2 f j)) a d := by
  pointwise [k0_pay9]
  simp only [pay3, hh]
  rfl

/-- The forget gates. -/
theorem payF (x0 : Vec Ideal S1x512x1024 .f32) (x1 : Vec Ideal S1x1024 .f32) (x2 x3 : Vec Ideal S1x1x1x1024 .f32)
    (w : Vec Ideal S16x1024 .bf16) (g : Vec Ideal S16x1 .f32) (a : Fin 16) (s : Fin 512) (h : Fin 1024 → EReal)
    (hh : ∀ j, pre (fun j => x0 (ix3 0 s j)) (fun j => x1 (ix2 0 j)) (fun j => x3 (ix4 0 0 0 j)) (fun j => x2 (ix4 0 0 0 j)) j = h j) :
    k0_pay13 (k0_pay11 (k0_pay3 x0 x1 x2 x3) w g) (k0_pay12 (k0_pay3 x0 x1 x2 x3) w g) (ix2 a s)
      = forget h (fun f j => w (ix2 f j)) (fun f => g (ix2 f 0)) a := by
  pointwise [k0_pay13, k0_pay11, k0_pay12, k0_pay10]
  simp only [pay3, hh]
  rfl

/-- The running sum inside a block: the sum of the block's gates so far, on top of the carried sum. -/
theorem paySum (p q : FVec Ideal S16x512 .f32) (tri : Vec Ideal S512x512 .bf16) (cr : Vec Ideal S16x1 .f32)
    (hT : ∀ k s : Fin 512, tri (ix2 k s) = if k.val ≤ s.val then 1 else 0)
    (hL : ∀ (a : Fin 16) (k : Fin 512), k0_pay13 p q (ix2 a k) ≤ 0) (a : Fin 16) (s : Fin 512) :
    k0_pay18 p q tri cr (ix2 a s) = cr (ix2 a 0) + ∑ k : Fin 512, if k.val ≤ s.val then k0_pay13 p q (ix2 a k) else 0 := by
  pointwise [k0_pay18]
  simp only [hT, mul_ite, mul_one, mul_zero]
  rw [← Finset.sum_add_distrib, ← Finset.sum_add_distrib, add_comm]
  congr 1
  refine Finset.sum_congr rfl fun k _ => ?_
  split
  · exact three_parts _ (ne_top_of_le_ne_top (by simp) (hL a k))
  · simp

/-- The sum that the block hands to the next one. -/
theorem payCarry (p q : FVec Ideal S16x512 .f32) (tri : Vec Ideal S512x512 .bf16) (cr : Vec Ideal S16x1 .f32)
    (a : Fin 16) (l : Fin 128) : k0_pay20 (k0_pay19 p q tri cr) (ix2 a l) = k0_pay18 p q tri cr (ix2 a 511) := by
  pointwise [k0_pay20, k0_pay19]

/-- The extra lanes of a query. -/
theorem payXQ (f : FVec Ideal S16x512 .f32) (u : Fin 1) (a r : Fin 16) (s : Fin 512) :
    k0_pay36 (k0_pay27 f) (ix4 u a r s) = extraQ (f (ix2 a s)) r.val := by
  pointwise [k0_pay36, k0_pay27, k0_pay26, k0_pay25, k0_pay24, k0_pay23, k0_pay22, k0_pay21]
  fin_cases r <;> rfl

/-- The extra lanes of a key. -/
theorem payXK (f : FVec Ideal S16x512 .f32) (u : Fin 1) (a r : Fin 16) (s : Fin 512) :
    k0_pay1 (k0_pay39 (k0_pay26 f) (iota .tc S16x16x512 32 [1] iota_S16x16x512_d1_w32) k0_pay28 k0_pay29 (k0_pay30 f) k0_pay31 (k0_pay32 f) k0_pay33) (ix4 u a r s) = extraK (f (ix2 a s)) r.val := by
  pointwise [k0_pay1, k0_pay39, k0_pay28, k0_pay29, k0_pay30, k0_pay31, k0_pay32, k0_pay33, k0_pay26, k0_pay25, k0_pay24, k0_pay23, k0_pay22, k0_pay21]
  fin_cases r <;> rfl

end Cert.FoxProjIdeal.Tail
-- ==== Proof.FoxProjIn.lean ====
module

public import proofs.«01_k».proof.Proof.FoxProjPay

/-!
What a grid point of the prompt projections finds: the staged blocks, the square of ones, the carried sum, and the
three stores that fill a block of head lanes.
-/

set_option maxRecDepth 16384
@[expose] public section
noncomputable section
open Idealize.ShloMosaic Idealize.ShloMosaic.TcCoe Idealize.SL.Sem
open Idealize.ShloMosaic.Pipeline (Dat)

namespace Cert.FoxProjIdeal.Tail
open Cert.FoxProjIdeal Cert.FoxProjIdeal.Gen Cert.Rows Cert.LogSig Cert.Heads Cert.Cum

variable (m : (ℓ : Loc nD τ sig) → Buf (Elt Ideal) ℓ)

/-- There are thirty-two grid points. -/
theorem point_lt (t : Fin cfg0.N) : t.val < 32 := t.isLt

/-- The windows' block indices at each grid point. -/
theorem idx : ∀ t : Fin cfg0.N, win0_0.index t = ![t.val / 8, t.val % 8, 0] ∧ win0_1.index t = ![0, 0]
    ∧ win0_2.index t = ![t.val / 8, 0, 0, 0] ∧ win0_3.index t = ![t.val / 8, 1, 0, 0] ∧ win0_4.index t = ![0, 0]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0]
    ∧ win0_12.index t = ![t.val / 8, 0, 0, t.val % 8]
    ∧ win0_13.index t = ![t.val / 8, 0, 0, t.val % 8] ∧ win0_14.index t = ![t.val / 8, 0, 0, t.val % 8]
    ∧ win0_15.index t = ![t.val / 8, 0, 0, t.val % 8] ∧ win0_16.index t = ![t.val / 8, 0, t.val % 8] :=
  (by decide +kernel : ∀ t : Fin grid0.N, _)

/-- The square of ones on and above the diagonal, as the launch builds it. -/
def triT : FVec Ideal S512x512 .bf16 :=
  select (cmpi .sge (addi (iotaInDim S512x512 32 0) (broadcastInDim S512x512 ![] bcast_S_S512x512 (constantI S_ 32 4294967295#32))) (iotaInDim S512x512 32 1))
    (broadcastInDim S512x512 ![] bcast_S_S512x512 (constant S_ .bf16 0x0000#16)) (broadcastInDim S512x512 ![] bcast_S_S512x512 (constant S_ .bf16 0x3F80#16))

/-- The square is built before the launch. -/
theorem V_v2 (c : Dev nD) : V m c main_v2 = triT := by
  show StableHlo.after (List.flatten [hostOps0, hostOps0_1]) _ _ = _
  simp only [hostOps0, hostOps0_1, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The modulations are reshaped before the launch. -/
theorem V_v0 (c : Dev nD) : V m c main_v0 = shapeCast S4x6x1x1024 (m ((c : Thread nD τ).loc main_arg2)) shapeCasts_S4x6144_S4x6x1x1024 := by
  show StableHlo.after (List.flatten [hostOps0, hostOps0_1]) _ _ = _
  simp only [hostOps0, hostOps0_1, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- The square at an index. -/
theorem triT_at (k s : Fin 512) : triT (ix2 k s) = if k.val ≤ s.val then 1 else 0 := by
  pointwise [triT]
  have hk := k.isLt
  have hs := s.isLt
  have e : (IntOp.addi (BitVec.ofNat 32 k.val) 4294967295#32).toInt = (k.val : ℤ) - 1 := by
    show (BitVec.ofNat 32 k.val + 4294967295#32).toInt = _
    rw [BitVec.toInt_add, BitVec.toInt_eq_toNat_bmod, BitVec.toInt_eq_toNat_bmod, BitVec.toNat_ofNat, BitVec.toNat_ofNat]
    simp only [Int.bmod]
    omega
  have e' : (BitVec.ofNat 32 s.val).toInt = (s.val : ℤ) := by
    rw [BitVec.toInt_eq_toNat_bmod, BitVec.toNat_ofNat]
    simp only [Int.bmod]
    omega
  by_cases h : k.val ≤ s.val
  · rw [if_pos h]
    have h1 : ¬ ((s.val : ℤ) ≤ (k.val : ℤ) - 1) := by omega
    simp [Scalar.select, IntOp.cmpi, BitVec.sle, e, e', h1]
  · rw [if_neg h]
    have h1 : (s.val : ℤ) ≤ (k.val : ℤ) - 1 := by omega
    simp [Scalar.select, IntOp.cmpi, BitVec.sle, e, e', h1]

/-- A square array is staged whole. -/
theorem read11 (t : Fin cfg0.N) (k s : Fin 512) (X : FVec Ideal S512x512 .bf16) :
    (((cfg0.win 11).blk t).view.read (Elt Ideal) X : Vec Ideal S512x512 .bf16) (ix2 k s) = X (ix2 k s) := by
  have e : (win0_11.blk t).view.emb (ix2 k s) = (ix2 k s : S512x512.Idx) := by
    blk_ext [idx t]
  exact congrArg X e

/-- The staged square's entries. -/
theorem tri_eq (c : Dev nD) (t : Fin cfg0.N) (k s : Fin 512) : (iblk m c 11 t : Vec Ideal S512x512 .bf16) (ix2 k s)
    = (if k.val ≤ s.val then 1 else 0 : EReal) := by
  have hT : V m c (Pipeline.arrRef spec0 11) = triT := V_v2 m c
  refine Eq.trans ?_ (triT_at k s)
  refine Eq.trans ?_ (read11 t k s triT)
  unfold iblk
  rw [hT]

/-- The rows block at a point is the array's rows there. -/
theorem read0 (c : Dev nD) (t : Fin cfg0.N) (r : Fin 512) (j : Fin 1024) : (iblk m c 0 t : Vec Ideal S1x512x1024 .f32) (ix3 0 r j)
    = m ((c : Thread nD τ).loc main_arg0) (ix3 (⟨t.val / 8, by have := point_lt t; omega⟩ : Fin 4) (⟨t.val % 8 * 512 + r.val, by omega⟩ : Fin 4096) j) := by
  have := point_lt t
  show V m c main_arg0 _ = _
  rw [V_main_arg0]
  blk_ext [idx t]

/-- The normalisation gain is staged whole. -/
theorem read1 (c : Dev nD) (t : Fin cfg0.N) (i : Fin 1) (j : Fin 1024) : (iblk m c 1 t : Vec Ideal S1x1024 .f32) (ix2 i j)
    = m ((c : Thread nD τ).loc main_arg1) (ix2 i j) := by
  show V m c main_arg1 _ = _
  rw [V_main_arg1]
  blk_ext [idx t]

/-- Modulation row 0 of the point's batch entry. -/
theorem read2 (c : Dev nD) (t : Fin cfg0.N) (j : Fin 1024) : (iblk m c 2 t : Vec Ideal S1x1x1x1024 .f32) (ix4 0 0 0 j)
    = m ((c : Thread nD τ).loc main_arg2) (ix2 (⟨t.val / 8, by have := point_lt t; omega⟩ : Fin 4) ⟨j.val, by omega⟩) := by
  have := point_lt t
  have e : (win0_2.blk t).view.emb (ix4 0 0 0 j) = (ix4 (⟨t.val / 8, by omega⟩ : Fin 4) 0 0 j : S4x6x1x1024.Idx) := by
    blk_ext [idx t]
  refine (congrFun (V_v0 m c) _).trans ?_
  refine (congrArg _ e).trans ?_
  pointwise []

/-- Modulation row 1 of the point's batch entry. -/
theorem read3 (c : Dev nD) (t : Fin cfg0.N) (j : Fin 1024) : (iblk m c 3 t : Vec Ideal S1x1x1x1024 .f32) (ix4 0 0 0 j)
    = m ((c : Thread nD τ).loc main_arg2) (ix2 (⟨t.val / 8, by have := point_lt t; omega⟩ : Fin 4) ⟨1024 + j.val, by omega⟩) := by
  have := point_lt t
  have e : (win0_3.blk t).view.emb (ix4 0 0 0 j) = (ix4 (⟨t.val / 8, by omega⟩ : Fin 4) 1 0 j : S4x6x1x1024.Idx) := by
    blk_ext [idx t]
  refine (congrFun (V_v0 m c) _).trans ?_
  refine (congrArg _ e).trans ?_
  pointwise []

/-- The query weights are staged whole. -/
theorem read4 (c : Dev nD) (t : Fin cfg0.N) (i : Fin 1024) (j : Fin 1024) : (iblk m c 4 t : Vec Ideal S1024x1024 .bf16) (ix2 i j)
    = m ((c : Thread nD τ).loc main_arg3) (ix2 i j) := by
  show V m c main_arg3 _ = _
  rw [V_main_arg3]
  blk_ext [idx t]

/-- The key weights are staged whole. -/
theorem read5 (c : Dev nD) (t : Fin cfg0.N) (i : Fin 1024) (j : Fin 1024) : (iblk m c 5 t : Vec Ideal S1024x1024 .bf16) (ix2 i j)
    = m ((c : Thread nD τ).loc main_arg4) (ix2 i j) := by
  show V m c main_arg4 _ = _
  rw [V_main_arg4]
  blk_ext [idx t]

/-- The value weights are staged whole. -/
theorem read6 (c : Dev nD) (t : Fin cfg0.N) (i : Fin 1024) (j : Fin 1024) : (iblk m c 6 t : Vec Ideal S1024x1024 .bf16) (ix2 i j)
    = m ((c : Thread nD τ).loc main_arg5) (ix2 i j) := by
  show V m c main_arg5 _ = _
  rw [V_main_arg5]
  blk_ext [idx t]

/-- The forget weights are staged whole. -/
theorem read7 (c : Dev nD) (t : Fin cfg0.N) (i : Fin 16) (j : Fin 1024) : (iblk m c 7 t : Vec Ideal S16x1024 .bf16) (ix2 i j)
    = m ((c : Thread nD τ).loc main_arg6) (ix2 i j) := by
  show V m c main_arg6 _ = _
  rw [V_main_arg6]
  blk_ext [idx t]

/-- The forget bias is staged whole. -/
theorem read8 (c : Dev nD) (t : Fin cfg0.N) (i : Fin 16) (j : Fin 1) : (iblk m c 8 t : Vec Ideal S16x1 .f32) (ix2 i j)
    = m ((c : Thread nD τ).loc main_arg7) (ix2 i j) := by
  show V m c main_arg7 _ = _
  rw [V_main_arg7]
  blk_ext [idx t]

/-- The query gain is staged whole. -/
theorem read9 (c : Dev nD) (t : Fin cfg0.N) (i : Fin 64) (j : Fin 1) : (iblk m c 9 t : Vec Ideal S64x1 .f32) (ix2 i j)
    = m ((c : Thread nD τ).loc main_arg8) (ix2 i j) := by
  show V m c main_arg8 _ = _
  rw [V_main_arg8]
  blk_ext [idx t]

/-- The key gain is staged whole. -/
theorem read10 (c : Dev nD) (t : Fin cfg0.N) (i : Fin 64) (j : Fin 1) : (iblk m c 10 t : Vec Ideal S64x1 .f32) (ix2 i j)
    = m ((c : Thread nD τ).loc main_arg9) (ix2 i j) := by
  show V m c main_arg9 _ = _
  rw [V_main_arg9]
  blk_ext [idx t]

/-- Three stores that fill a block of head lanes, read back. -/
theorem canon3 (q0 : FVec Ideal S1x16x48x512 .bf16) (q1 : FVec Ideal S1x16x16x512 .bf16) (q2 : FVec Ideal S1x16x64x512 .bf16)
   (u : Fin 1) (a : Fin 16) (d : Fin 128) (s : Fin 512) :
   (View.canon
      [⟨Rect.unit ![0, 0, 80, 0] ![1, 16, 48, 512] inb_S1x16x128x512_S1x16x48x512_0_0_80_0, q0⟩,
        ⟨Rect.unit ![0, 0, 64, 0] ![1, 16, 16, 512] inb_S1x16x128x512_S1x16x16x512_0_0_64_0, q1⟩,
        ⟨Rect.unit ![0, 0, 0, 0] ![1, 16, 64, 512] inb_S1x16x128x512_S1x16x64x512_0_0_0_0, q2⟩] : Vec Ideal S1x16x128x512 .bf16)
    (ix4 u a d s) = if h : d.val < 64 then q2 (ix4 u a ⟨d.val, h⟩ s) else if h' : d.val < 80 then q1 (ix4 u a ⟨d.val - 64, by omega⟩ s)
      else q0 (ix4 u a ⟨d.val - 80, by omega⟩ s) := by
  have hc := View.cover_of_tiledBy (Val := Elt Ideal) (e := .bf16) (s := S1x16x128x512)
      [⟨Rect.unit ![0, 0, 80, 0] ![1, 16, 48, 512] inb_S1x16x128x512_S1x16x48x512_0_0_80_0, q0⟩,
        ⟨Rect.unit ![0, 0, 64, 0] ![1, 16, 16, 512] inb_S1x16x128x512_S1x16x16x512_0_0_64_0, q1⟩,
        ⟨Rect.unit ![0, 0, 0, 0] ![1, 16, 64, 512] inb_S1x16x128x512_S1x16x64x512_0_0_0_0, q2⟩] ![1, 16, 16, 512] (by sl_kernel_rfl) (ix4 u a d s)
  canon_tiles x h using hc
  case piece0 =>
    obtain ⟨x0, x1, x2, x3, rfl⟩ : ∃ (x0 : Fin 1) (x1 : Fin 16) (x2 : Fin 48) (x3 : Fin 512), x = ix4 x0 x1 x2 x3 := ⟨x 0, x 1, x 2, x 3, eq_ix4 x⟩
    obtain rfl : u = x0 := Subsingleton.elim _ _
    obtain rfl : a = x1 := Fin.ext h1
    obtain rfl : s = x3 := Fin.ext h3
    have h2' : d.val = 80 + x2.val := h2
    rw [dif_neg (by omega), dif_neg (by omega)]
    simp only [show (⟨d.val - 80, by omega⟩ : Fin 48) = x2 from Fin.ext (by show d.val - 80 = x2.val; omega)]
  case piece1 =>
    obtain ⟨x0, x1, x2, x3, rfl⟩ : ∃ (x0 : Fin 1) (x1 : Fin 16) (x2 : Fin 16) (x3 : Fin 512), x = ix4 x0 x1 x2 x3 := ⟨x 0, x 1, x 2, x 3, eq_ix4 x⟩
    obtain rfl : u = x0 := Subsingleton.elim _ _
    obtain rfl : a = x1 := Fin.ext h1
    obtain rfl : s = x3 := Fin.ext h3
    have h2' : d.val = 64 + x2.val := h2
    rw [dif_neg (by omega), dif_pos (by omega)]
    simp only [show (⟨d.val - 64, by omega⟩ : Fin 16) = x2 from Fin.ext (by show d.val - 64 = x2.val; omega)]
  case piece2 =>
    obtain ⟨x0, x1, x2, x3, rfl⟩ : ∃ (x0 : Fin 1) (x1 : Fin 16) (x2 : Fin 64) (x3 : Fin 512), x = ix4 x0 x1 x2 x3 := ⟨x 0, x 1, x 2, x 3, eq_ix4 x⟩
    obtain rfl : u = x0 := Subsingleton.elim _ _
    obtain rfl : a = x1 := Fin.ext h1
    obtain rfl : s = x3 := Fin.ext h3
    have h2' : d.val = 0 + x2.val := by rw [Nat.zero_add]; exact h2
    rw [dif_pos (by omega)]
    simp only [show (⟨d.val, by omega⟩ : Fin 64) = x2 from Fin.ext (by show d.val = x2.val; omega)]

/-- The first block of a batch entry starts from a zero sum. -/
theorem cr_A (a : Fin 16) : ((View.whole cc0_scratch0).readCov [⟨Rect.unit ![0, 0] ![16, 128] inb_S16x128_S16x128_0_0, k0_pay17 (F := Ideal)⟩]
          (Rect.unit ![0, 0] ![16, 1] inb_S16x128_S16x1_0_0).toLoadRect : Vec Ideal S16x1 .f32) (ix2 a 0) = (0 : EReal) := by
  have z : ∀ y : S16x128.Idx, k0_pay17 (F := Ideal) y = (0 : EReal) := fun y => by
    obtain ⟨i, j, rfl⟩ : ∃ (i : Fin 16) (j : Fin 128), y = ix2 i j := ⟨y 0, y 1, eq_ix2 y⟩
    pointwise [k0_pay17]
  rw [View.readCov_eq_canon']
  have e : View.canon (Val := Elt Ideal) (e := .f32) [⟨Rect.unit ![0, 0] ![16, 128] inb_S16x128_S16x128_0_0, k0_pay17 (F := Ideal)⟩] = k0_pay17 (F := Ideal) :=
    View.canon_cons_unit_lit' _ _ _ (by decide)
  exact (congrFun e _).trans (z _)

/-- A later block starts from the sum in the first column of what the block before it left. -/
theorem cr_B (S : Vec Ideal S16x128 .f32) (w : (Memref.whole cc0_scratch0).IsWhole) (a : Fin 16) :
    (View.ld (View.read (Elt Ideal) (View.whole cc0_scratch0) (w.unread S))
      (Rect.unit ![0, 0] ![16, 1] inb_S16x128_S16x1_0_0) : Vec Ideal S16x1 .f32) (ix2 a 0) = S (ix2 a 0) := by
  have e : View.read (Elt Ideal) (View.whole cc0_scratch0) (w.unread S) = S := w.read_unread S
  rw [e]
  pointwise []

end Cert.FoxProjIdeal.Tail
-- ==== Proof.FoxProj.lean ====
module

public import proofs.«01_k».proof.Proof.FoxProjIn

/-!
The attention projections of the prompt: the queries and keys with the running sums of the forget gates as extra
lanes, the keys, the values and the gates, in every row of the arrays that the launch leaves.
-/

set_option maxRecDepth 16384
@[expose] public section
noncomputable section
open Idealize.ShloMosaic Idealize.ShloMosaic.TcCoe Idealize.SL.Sem
open Idealize.ShloMosaic.Pipeline (Dat)

namespace Cert.FoxProjIdeal.Tail
open Cert.FoxProjIdeal Cert.FoxProjIdeal.Gen Cert.Rows Cert.LogSig Cert.Heads Cert.Cum

variable (m : (ℓ : Loc nD τ sig) → Buf (Elt Ideal) ℓ)

/-- The normalised row of the staged blocks is the array's normalised row. -/
theorem row_eq (c : Dev nD) (t : Fin cfg0.N) (s : Fin 512) (j : Fin 1024) :
    pre (fun j => (iblk m c 0 t : Vec Ideal S1x512x1024 .f32) (ix3 0 s j)) (fun j => (iblk m c 1 t : Vec Ideal S1x1024 .f32) (ix2 0 j))
      (fun j => (iblk m c 3 t : Vec Ideal S1x1x1x1024 .f32) (ix4 0 0 0 j)) (fun j => (iblk m c 2 t : Vec Ideal S1x1x1x1024 .f32) (ix4 0 0 0 j)) j
    = (row (m ((c : Thread nD τ).loc main_arg0)) (m ((c : Thread nD τ).loc main_arg1)) (m ((c : Thread nD τ).loc main_arg2)) (⟨t.val / 8, by have := point_lt t; omega⟩ : Fin 4) ⟨t.val % 8 * 512 + s.val, by omega⟩) j := by
  simp only [read0 m c t, read1 m c t, read2 m c t, read3 m c t]
  rfl

/-- The point's forget gates. -/
theorem gate_eq (c : Dev nD) (t : Fin cfg0.N) (a : Fin 16) (s : Fin 512) :
    k0_pay13 (k0_pay11 (k0_pay3 (iblk m c 0 t) (iblk m c 1 t) (iblk m c 2 t) (iblk m c 3 t)) (iblk m c 7 t) (iblk m c 8 t)) (k0_pay12 (k0_pay3 (iblk m c 0 t) (iblk m c 1 t) (iblk m c 2 t) (iblk m c 3 t)) (iblk m c 7 t) (iblk m c 8 t)) (ix2 a s)
      = (gate (m ((c : Thread nD τ).loc main_arg0)) (m ((c : Thread nD τ).loc main_arg1)) (m ((c : Thread nD τ).loc main_arg2)) (m ((c : Thread nD τ).loc main_arg6)) (m ((c : Thread nD τ).loc main_arg7)) (⟨t.val / 8, by have := point_lt t; omega⟩ : Fin 4) a) ⟨t.val % 8 * 512 + s.val, by omega⟩ := by
  refine (payF _ _ _ _ _ _ a s _ (row_eq m c t s)).trans ?_
  simp only [read7 m c t, read8 m c t]
  rfl

/-- The point's running sums, from the sum of the batch entry's blocks before it. -/
theorem sum_eq (c : Dev nD) (t : Fin cfg0.N) (CR : Vec Ideal S16x1 .f32)
    (hCR : ∀ a : Fin 16, CR (ix2 a 0) = upTo (gate (m ((c : Thread nD τ).loc main_arg0)) (m ((c : Thread nD τ).loc main_arg1)) (m ((c : Thread nD τ).loc main_arg2)) (m ((c : Thread nD τ).loc main_arg6)) (m ((c : Thread nD τ).loc main_arg7)) (⟨t.val / 8, by have := point_lt t; omega⟩ : Fin 4) a) (t.val % 8 * 512)) (a : Fin 16) (s : Fin 512) :
    k0_pay18 (k0_pay11 (k0_pay3 (iblk m c 0 t) (iblk m c 1 t) (iblk m c 2 t) (iblk m c 3 t)) (iblk m c 7 t) (iblk m c 8 t)) (k0_pay12 (k0_pay3 (iblk m c 0 t) (iblk m c 1 t) (iblk m c 2 t) (iblk m c 3 t)) (iblk m c 7 t) (iblk m c 8 t)) (iblk m c 11 t) CR (ix2 a s)
      = upTo (gate (m ((c : Thread nD τ).loc main_arg0)) (m ((c : Thread nD τ).loc main_arg1)) (m ((c : Thread nD τ).loc main_arg2)) (m ((c : Thread nD τ).loc main_arg6)) (m ((c : Thread nD τ).loc main_arg7)) (⟨t.val / 8, by have := point_lt t; omega⟩ : Fin 4) a) (t.val % 8 * 512 + s.val + 1) := by
  rw [paySum _ _ _ _ (tri_eq m c t) (fun a k => (gate_eq m c t a k).trans_le (forget_nonpos _ _ _ _)), hCR,
    upTo_block _ _ (by omega) s]
  exact congrArg _ (Finset.sum_congr rfl fun k _ => by rw [gate_eq m c t a k])

/-- What a point leaves for the next one: every lane of head `a` holds the sum of its batch entry's gates so far. -/
theorem carry (c : Dev nD) : ∀ (n : ℕ) (hn : n < cfg0.N) (a : Fin 16) (l : Fin 128),
    (outsAt0 m c n hn).2.2.2.2.2 (ix2 a l)
      = upTo (gate (m ((c : Thread nD τ).loc main_arg0)) (m ((c : Thread nD τ).loc main_arg1)) (m ((c : Thread nD τ).loc main_arg2)) (m ((c : Thread nD τ).loc main_arg6)) (m ((c : Thread nD τ).loc main_arg7)) (⟨n / 8, by have := point_lt ⟨n, hn⟩; dsimp at this; omega⟩ : Fin 4) a) ((n % 8 + 1) * 512) := by
  intro n
  induction n using Nat.strong_induction_on with
  | _ n ih =>
    intro hn a l
    have hn' : n < 32 := point_lt ⟨n, hn⟩
    by_cases h0 : n % 8 = 0
    · have hA := outsAt0_A m c ⟨n, hn⟩ h0
      dsimp only at hA
      rw [hA]
      frame_out
      rw [payCarry, sum_eq m c ⟨n, hn⟩ _ (fun a => (cr_A a).trans (by
        show (0 : EReal) = upTo _ (n % 8 * 512)
        rw [h0, Nat.zero_mul, upTo_zero]))]
      exact congrArg _ (by show n % 8 * 512 + 511 + 1 = _; omega)
    · have hB := outsAt0_B m c ⟨n, hn⟩ h0
      dsimp only at hB
      rw [hB]
      frame_out
      rw [payCarry, sum_eq m c ⟨n, hn⟩ _ (fun a => (cr_B _ _ a).trans ((ih (n - 1) (by omega) _ a 0).trans (by
        rw [show ((n - 1) % 8 + 1) * 512 = n % 8 * 512 by omega]
        simp only [show (n - 1) / 8 = n / 8 by omega])))]
      exact congrArg _ (by show n % 8 * 512 + 511 + 1 = _; omega)

/-- The carried sum that a later point of a batch entry starts from. -/
theorem cr_later (c : Dev nD) (t : Fin cfg0.N) (h0 : ¬ t.val % 8 = 0) (w : (Memref.whole cc0_scratch0).IsWhole)
    (hp : t.val - 1 < cfg0.N) (a : Fin 16) :
    (View.ld (View.read (Elt Ideal) (View.whole cc0_scratch0) (w.unread (outsAt0 m c (t.val - 1) hp).2.2.2.2.2))
      (Rect.unit ![0, 0] ![16, 1] inb_S16x128_S16x1_0_0) : Vec Ideal S16x1 .f32) (ix2 a 0)
      = upTo (gate (m ((c : Thread nD τ).loc main_arg0)) (m ((c : Thread nD τ).loc main_arg1)) (m ((c : Thread nD τ).loc main_arg2)) (m ((c : Thread nD τ).loc main_arg6)) (m ((c : Thread nD τ).loc main_arg7)) (⟨t.val / 8, by have := point_lt t; omega⟩ : Fin 4) a) (t.val % 8 * 512) := by
  have := point_lt t
  refine (cr_B _ _ a).trans ((carry m c (t.val - 1) hp a 0).trans ?_)
  rw [show ((t.val - 1) % 8 + 1) * 512 = t.val % 8 * 512 by omega]
  simp only [show (t.val - 1) / 8 = t.val / 8 by omega]

/-- The sum that the first point of a batch entry starts from. -/
theorem cr_first (c : Dev nD) (t : Fin cfg0.N) (h0 : t.val % 8 = 0) (a : Fin 16) :
    ((View.whole cc0_scratch0).readCov [⟨Rect.unit ![0, 0] ![16, 128] inb_S16x128_S16x128_0_0, k0_pay17 (F := Ideal)⟩]
          (Rect.unit ![0, 0] ![16, 1] inb_S16x128_S16x1_0_0).toLoadRect : Vec Ideal S16x1 .f32) (ix2 a 0)
      = upTo (gate (m ((c : Thread nD τ).loc main_arg0)) (m ((c : Thread nD τ).loc main_arg1)) (m ((c : Thread nD τ).loc main_arg2)) (m ((c : Thread nD τ).loc main_arg6)) (m ((c : Thread nD τ).loc main_arg7)) (⟨t.val / 8, by have := point_lt t; omega⟩ : Fin 4) a) (t.val % 8 * 512) :=
  (cr_A a).trans (by rw [h0, Nat.zero_mul, upTo_zero])

/-- The block of queries with their extra lanes. -/
theorem blockQ (c : Dev nD) (t : Fin cfg0.N) (CR : Vec Ideal S16x1 .f32)
    (hCR : ∀ a : Fin 16, CR (ix2 a 0) = upTo (gate (m ((c : Thread nD τ).loc main_arg0)) (m ((c : Thread nD τ).loc main_arg1)) (m ((c : Thread nD τ).loc main_arg2)) (m ((c : Thread nD τ).loc main_arg6)) (m ((c : Thread nD τ).loc main_arg7)) (⟨t.val / 8, by have := point_lt t; omega⟩ : Fin 4) a) (t.val % 8 * 512)) (u : Fin 1) (a : Fin 16) (d : Fin 128) (s : Fin 512) :
    (if h : d.val < 64 then k0_pay35 (k0_pay7 (k0_pay4 (iblk m c 0 t) (iblk m c 1 t) (iblk m c 2 t) (iblk m c 3 t) (iblk m c 4 t)) (iblk m c 9 t)
              (k0_pay5 (iblk m c 0 t) (iblk m c 1 t) (iblk m c 2 t) (iblk m c 3 t) (iblk m c 4 t)) k0_pay6) (ix4 u a ⟨d.val, h⟩ s)
      else if h' : d.val < 80 then k0_pay36 (k0_pay27 (k0_pay18 (k0_pay11 (k0_pay3 (iblk m c 0 t) (iblk m c 1 t) (iblk m c 2 t) (iblk m c 3 t)) (iblk m c 7 t) (iblk m c 8 t)) (k0_pay12 (k0_pay3 (iblk m c 0 t) (iblk m c 1 t) (iblk m c 2 t) (iblk m c 3 t)) (iblk m c 7 t) (iblk m c 8 t)) (iblk m c 11 t) CR)) (ix4 u a ⟨d.val - 64, by omega⟩ s)
      else k0_pay37 (F := Ideal) (ix4 u a ⟨d.val - 80, by omega⟩ s))
    = qaArr (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg6)) (m ((c : Thread nD τ).loc main_arg7)) (ix4 (⟨t.val / 8, by have := point_lt t; omega⟩ : Fin 4) a d ⟨t.val % 8 * 512 + s.val, by omega⟩) := by
  by_cases h : d.val < 64
  · rw [dif_pos h]
    refine Eq.trans ?_ (dif_pos (c := d.val < 64) h).symm
    pointwise [k0_pay35]
    rw [payQ _ _ _ _ _ _ a ⟨d.val, h⟩ s _ (row_eq m c t s)]
    simp only [read4 m c t, read9 m c t]
  · rw [dif_neg h]
    refine Eq.trans ?_ (dif_neg (c := d.val < 64) h).symm
    by_cases h' : d.val < 80
    · rw [dif_pos h', payXQ, sum_eq m c t CR hCR]
      rfl
    · rw [dif_neg h']
      show _ = extraQ _ (d.val - 64)
      unfold extraQ
      rw [if_neg (by omega), if_neg (by omega), if_neg (by omega), if_neg (by omega)]
      pointwise [k0_pay37, k0_pay34]

/-- The block of keys with their extra lanes. -/
theorem blockKA (c : Dev nD) (t : Fin cfg0.N) (CR : Vec Ideal S16x1 .f32)
    (hCR : ∀ a : Fin 16, CR (ix2 a 0) = upTo (gate (m ((c : Thread nD τ).loc main_arg0)) (m ((c : Thread nD τ).loc main_arg1)) (m ((c : Thread nD τ).loc main_arg2)) (m ((c : Thread nD τ).loc main_arg6)) (m ((c : Thread nD τ).loc main_arg7)) (⟨t.val / 8, by have := point_lt t; omega⟩ : Fin 4) a) (t.val % 8 * 512)) (u : Fin 1) (a : Fin 16) (d : Fin 128) (s : Fin 512) :
    (if h : d.val < 64 then k0_pay38 (k0_pay8 (k0_pay3 (iblk m c 0 t) (iblk m c 1 t) (iblk m c 2 t) (iblk m c 3 t)) (iblk m c 5 t) (iblk m c 10 t)) (ix4 u a ⟨d.val, h⟩ s)
      else if h' : d.val < 80 then k0_pay1 (k0_pay39 (k0_pay26 (k0_pay18 (k0_pay11 (k0_pay3 (iblk m c 0 t) (iblk m c 1 t) (iblk m c 2 t) (iblk m c 3 t)) (iblk m c 7 t) (iblk m c 8 t)) (k0_pay12 (k0_pay3 (iblk m c 0 t) (iblk m c 1 t) (iblk m c 2 t) (iblk m c 3 t)) (iblk m c 7 t) (iblk m c 8 t)) (iblk m c 11 t) CR)) (iota .tc S16x16x512 32 [1] iota_S16x16x512_d1_w32) k0_pay28 k0_pay29 (k0_pay30 (k0_pay18 (k0_pay11 (k0_pay3 (iblk m c 0 t) (iblk m c 1 t) (iblk m c 2 t) (iblk m c 3 t)) (iblk m c 7 t) (iblk m c 8 t)) (k0_pay12 (k0_pay3 (iblk m c 0 t) (iblk m c 1 t) (iblk m c 2 t) (iblk m c 3 t)) (iblk m c 7 t) (iblk m c 8 t)) (iblk m c 11 t) CR)) k0_pay31 (k0_pay32 (k0_pay18 (k0_pay11 (k0_pay3 (iblk m c 0 t) (iblk m c 1 t) (iblk m c 2 t) (iblk m c 3 t)) (iblk m c 7 t) (iblk m c 8 t)) (k0_pay12 (k0_pay3 (iblk m c 0 t) (iblk m c 1 t) (iblk m c 2 t) (iblk m c 3 t)) (iblk m c 7 t) (iblk m c 8 t)) (iblk m c 11 t) CR)) k0_pay33) (ix4 u a ⟨d.val - 64, by omega⟩ s)
      else k0_pay2 (k0_pay34 (F := Ideal)) (ix4 u a ⟨d.val - 80, by omega⟩ s))
    = kaArr (m ((c : Thread nD τ).loc main_arg0)) (m ((c : Thread nD τ).loc main_arg1)) (m ((c : Thread nD τ).loc main_arg2)) (m ((c : Thread nD τ).loc main_arg4)) (m ((c : Thread nD τ).loc main_arg9)) (m ((c : Thread nD τ).loc main_arg6)) (m ((c : Thread nD τ).loc main_arg7)) (ix4 (⟨t.val / 8, by have := point_lt t; omega⟩ : Fin 4) a d ⟨t.val % 8 * 512 + s.val, by omega⟩) := by
  by_cases h : d.val < 64
  · rw [dif_pos h]
    refine Eq.trans ?_ (dif_pos (c := d.val < 64) h).symm
    pointwise [k0_pay38]
    rw [payK _ _ _ _ _ _ a ⟨d.val, h⟩ s _ (row_eq m c t s)]
    simp only [read5 m c t, read10 m c t]
  · rw [dif_neg h]
    refine Eq.trans ?_ (dif_neg (c := d.val < 64) h).symm
    by_cases h' : d.val < 80
    · rw [dif_pos h', payXK, sum_eq m c t CR hCR]
      rfl
    · rw [dif_neg h']
      show _ = extraK _ (d.val - 64)
      unfold extraK
      rw [if_neg (by omega), if_neg (by omega), if_neg (by omega), if_neg (by omega)]
      pointwise [k0_pay2, k0_pay34]

/-- The block of keys. -/
theorem blockK (c : Dev nD) (t : Fin cfg0.N) (u : Fin 1) (a : Fin 16) (d : Fin 64) (s : Fin 512) :
    k0_pay14 (k0_pay8 (k0_pay3 (iblk m c 0 t) (iblk m c 1 t) (iblk m c 2 t) (iblk m c 3 t)) (iblk m c 5 t) (iblk m c 10 t)) (ix4 u a d s)
    = kArr (m ((c : Thread nD τ).loc main_arg0)) (m ((c : Thread nD τ).loc main_arg1)) (m ((c : Thread nD τ).loc main_arg2)) (m ((c : Thread nD τ).loc main_arg4)) (m ((c : Thread nD τ).loc main_arg9)) (ix4 (⟨t.val / 8, by have := point_lt t; omega⟩ : Fin 4) a d ⟨t.val % 8 * 512 + s.val, by omega⟩) := by
  pointwise [k0_pay14]
  rw [payK _ _ _ _ _ _ a d s _ (row_eq m c t s)]
  simp only [read5 m c t, read10 m c t]
  rfl

/-- The block of values. -/
theorem blockV (c : Dev nD) (t : Fin cfg0.N) (u : Fin 1) (a : Fin 16) (d : Fin 64) (s : Fin 512) :
    k0_pay15 (k0_pay9 (k0_pay3 (iblk m c 0 t) (iblk m c 1 t) (iblk m c 2 t) (iblk m c 3 t)) (iblk m c 6 t)) (ix4 u a d s)
    = vArr (m ((c : Thread nD τ).loc main_arg0)) (m ((c : Thread nD τ).loc main_arg1)) (m ((c : Thread nD τ).loc main_arg2)) (m ((c : Thread nD τ).loc main_arg5)) (ix4 (⟨t.val / 8, by have := point_lt t; omega⟩ : Fin 4) a d ⟨t.val % 8 * 512 + s.val, by omega⟩) := by
  pointwise [k0_pay15]
  rw [payV _ _ _ _ _ a d s _ (row_eq m c t s)]
  simp only [read6 m c t]
  rfl

/-- The block of forget gates. -/
theorem blockF (c : Dev nD) (t : Fin cfg0.N) (u : Fin 1) (a : Fin 16) (s : Fin 512) :
    k0_pay16 (k0_pay11 (k0_pay3 (iblk m c 0 t) (iblk m c 1 t) (iblk m c 2 t) (iblk m c 3 t)) (iblk m c 7 t) (iblk m c 8 t)) (k0_pay12 (k0_pay3 (iblk m c 0 t) (iblk m c 1 t) (iblk m c 2 t) (iblk m c 3 t)) (iblk m c 7 t) (iblk m c 8 t)) (ix3 u a s)
    = fArr (m ((c : Thread nD τ).loc main_arg0)) (m ((c : Thread nD τ).loc main_arg1)) (m ((c : Thread nD τ).loc main_arg2)) (m ((c : Thread nD τ).loc main_arg6)) (m ((c : Thread nD τ).loc main_arg7)) (ix3 (⟨t.val / 8, by have := point_lt t; omega⟩ : Fin 4) a ⟨t.val % 8 * 512 + s.val, by omega⟩) := by
  pointwise [k0_pay16]
  rw [gate_eq m c t a s]
  rfl

/-- Where the window of the queries with their extra lanes puts a block's element. -/
theorem place12 (t : Fin cfg0.N) (u : Fin 1) (a : Fin 16) (d : Fin 128) (s : Fin 512) : ((cfg0.win 12).blk t).view.emb (ix4 u a d s)
    = ix4 (⟨t.val / 8, by have := point_lt t; omega⟩ : Fin 4) a d (⟨t.val % 8 * 512 + s.val, by omega⟩ : Fin 4096) := by
  have := point_lt t
  blk_ext [idx t]

/-- The array of the queries with their extra lanes after the run. -/
theorem final12 (c : Dev nD) : (dats m 0 c).arrAt 12 (cfgs 0).N
    = qaArr (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg6)) (m ((c : Thread nD τ).loc main_arg7)) := by
  refine (dats m 0 c).arrAt_eq_of_covers 12 _ (by decide +kernel) fun t _ y => ?_
  have ht : t.val < 32 := point_lt t
  blk_simp
  rw [after0_12]
  obtain ⟨u, a, d, s, rfl⟩ : ∃ (u : Fin 1) (a : Fin 16) (d : Fin 128) (s : Fin 512), y = ix4 u a d s := ⟨y 0, y 1, y 2, y 3, eq_ix4 y⟩
  refine Eq.trans ?_ (congrArg (qaArr (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg6)) (m ((c : Thread nD τ).loc main_arg7))) (place12 t u a d s)).symm
  by_cases h0 : t.val % 8 = 0
  · rw [outsAt0_A m c t h0]
    frame_out
    exact (canon3 _ _ _ u a d s).trans (blockQ m c t _ (cr_first m c t h0) u a d s)
  · rw [outsAt0_B m c t h0]
    frame_out
    exact (canon3 _ _ _ u a d s).trans (blockQ m c t _ (cr_later m c t h0 _ _) u a d s)

/-- Where the window of the keys with their extra lanes puts a block's element. -/
theorem place13 (t : Fin cfg0.N) (u : Fin 1) (a : Fin 16) (d : Fin 128) (s : Fin 512) : ((cfg0.win 13).blk t).view.emb (ix4 u a d s)
    = ix4 (⟨t.val / 8, by have := point_lt t; omega⟩ : Fin 4) a d (⟨t.val % 8 * 512 + s.val, by omega⟩ : Fin 4096) := by
  have := point_lt t
  blk_ext [idx t]

/-- The array of the keys with their extra lanes after the run. -/
theorem final13 (c : Dev nD) : (dats m 0 c).arrAt 13 (cfgs 0).N
    = kaArr (m ((c : Thread nD τ).loc main_arg0)) (m ((c : Thread nD τ).loc main_arg1)) (m ((c : Thread nD τ).loc main_arg2)) (m ((c : Thread nD τ).loc main_arg4)) (m ((c : Thread nD τ).loc main_arg9)) (m ((c : Thread nD τ).loc main_arg6)) (m ((c : Thread nD τ).loc main_arg7)) := by
  refine (dats m 0 c).arrAt_eq_of_covers 13 _ (by decide +kernel) fun t _ y => ?_
  have ht : t.val < 32 := point_lt t
  blk_simp
  rw [after0_13]
  obtain ⟨u, a, d, s, rfl⟩ : ∃ (u : Fin 1) (a : Fin 16) (d : Fin 128) (s : Fin 512), y = ix4 u a d s := ⟨y 0, y 1, y 2, y 3, eq_ix4 y⟩
  refine Eq.trans ?_ (congrArg (kaArr (m ((c : Thread nD τ).loc main_arg0)) (m ((c : Thread nD τ).loc main_arg1)) (m ((c : Thread nD τ).loc main_arg2)) (m ((c : Thread nD τ).loc main_arg4)) (m ((c : Thread nD τ).loc main_arg9)) (m ((c : Thread nD τ).loc main_arg6)) (m ((c : Thread nD τ).loc main_arg7))) (place13 t u a d s)).symm
  by_cases h0 : t.val % 8 = 0
  · rw [outsAt0_A m c t h0]
    frame_out
    exact (canon3 _ _ _ u a d s).trans (blockKA m c t _ (cr_first m c t h0) u a d s)
  · rw [outsAt0_B m c t h0]
    frame_out
    exact (canon3 _ _ _ u a d s).trans (blockKA m c t _ (cr_later m c t h0 _ _) u a d s)

/-- Where the window of the keys puts a block's element. -/
theorem place14 (t : Fin cfg0.N) (u : Fin 1) (a : Fin 16) (d : Fin 64) (s : Fin 512) : ((cfg0.win 14).blk t).view.emb (ix4 u a d s)
    = ix4 (⟨t.val / 8, by have := point_lt t; omega⟩ : Fin 4) a d (⟨t.val % 8 * 512 + s.val, by omega⟩ : Fin 4096) := by
  have := point_lt t
  blk_ext [idx t]

/-- The array of the keys after the run. -/
theorem final14 (c : Dev nD) : (dats m 0 c).arrAt 14 (cfgs 0).N
    = kArr (m ((c : Thread nD τ).loc main_arg0)) (m ((c : Thread nD τ).loc main_arg1)) (m ((c : Thread nD τ).loc main_arg2)) (m ((c : Thread nD τ).loc main_arg4)) (m ((c : Thread nD τ).loc main_arg9)) := by
  refine (dats m 0 c).arrAt_eq_of_covers 14 _ (by decide +kernel) fun t _ y => ?_
  have ht : t.val < 32 := point_lt t
  blk_simp
  rw [after0_14]
  obtain ⟨u, a, d, s, rfl⟩ : ∃ (u : Fin 1) (a : Fin 16) (d : Fin 64) (s : Fin 512), y = ix4 u a d s := ⟨y 0, y 1, y 2, y 3, eq_ix4 y⟩
  refine Eq.trans ?_ (congrArg (kArr (m ((c : Thread nD τ).loc main_arg0)) (m ((c : Thread nD τ).loc main_arg1)) (m ((c : Thread nD τ).loc main_arg2)) (m ((c : Thread nD τ).loc main_arg4)) (m ((c : Thread nD τ).loc main_arg9))) (place14 t u a d s)).symm
  by_cases h0 : t.val % 8 = 0
  · rw [outsAt0_A m c t h0]
    frame_out
    exact blockK m c t u a d s
  · rw [outsAt0_B m c t h0]
    frame_out
    exact blockK m c t u a d s

/-- Where the window of the values puts a block's element. -/
theorem place15 (t : Fin cfg0.N) (u : Fin 1) (a : Fin 16) (d : Fin 64) (s : Fin 512) : ((cfg0.win 15).blk t).view.emb (ix4 u a d s)
    = ix4 (⟨t.val / 8, by have := point_lt t; omega⟩ : Fin 4) a d (⟨t.val % 8 * 512 + s.val, by omega⟩ : Fin 4096) := by
  have := point_lt t
  blk_ext [idx t]

/-- The array of the values after the run. -/
theorem final15 (c : Dev nD) : (dats m 0 c).arrAt 15 (cfgs 0).N
    = vArr (m ((c : Thread nD τ).loc main_arg0)) (m ((c : Thread nD τ).loc main_arg1)) (m ((c : Thread nD τ).loc main_arg2)) (m ((c : Thread nD τ).loc main_arg5)) := by
  refine (dats m 0 c).arrAt_eq_of_covers 15 _ (by decide +kernel) fun t _ y => ?_
  have ht : t.val < 32 := point_lt t
  blk_simp
  rw [after0_15]
  obtain ⟨u, a, d, s, rfl⟩ : ∃ (u : Fin 1) (a : Fin 16) (d : Fin 64) (s : Fin 512), y = ix4 u a d s := ⟨y 0, y 1, y 2, y 3, eq_ix4 y⟩
  refine Eq.trans ?_ (congrArg (vArr (m ((c : Thread nD τ).loc main_arg0)) (m ((c : Thread nD τ).loc main_arg1)) (m ((c : Thread nD τ).loc main_arg2)) (m ((c : Thread nD τ).loc main_arg5))) (place15 t u a d s)).symm
  by_cases h0 : t.val % 8 = 0
  · rw [outsAt0_A m c t h0]
    frame_out
    exact blockV m c t u a d s
  · rw [outsAt0_B m c t h0]
    frame_out
    exact blockV m c t u a d s

/-- Where the window of the forget gates puts a block's element. -/
theorem place16 (t : Fin cfg0.N) (u : Fin 1) (a : Fin 16) (s : Fin 512) : ((cfg0.win 16).blk t).view.emb (ix3 u a s)
    = ix3 (⟨t.val / 8, by have := point_lt t; omega⟩ : Fin 4) a (⟨t.val % 8 * 512 + s.val, by omega⟩ : Fin 4096) := by
  have := point_lt t
  blk_ext [idx t]

/-- The array of the forget gates after the run. -/
theorem final16 (c : Dev nD) : (dats m 0 c).arrAt 16 (cfgs 0).N
    = fArr (m ((c : Thread nD τ).loc main_arg0)) (m ((c : Thread nD τ).loc main_arg1)) (m ((c : Thread nD τ).loc main_arg2)) (m ((c : Thread nD τ).loc main_arg6)) (m ((c : Thread nD τ).loc main_arg7)) := by
  refine (dats m 0 c).arrAt_eq_of_covers 16 _ (by decide +kernel) fun t _ y => ?_
  have ht : t.val < 32 := point_lt t
  blk_simp
  rw [after0_16]
  obtain ⟨u, a, s, rfl⟩ : ∃ (u : Fin 1) (a : Fin 16) (s : Fin 512), y = ix3 u a s := ⟨y 0, y 1, y 2, eq_ix3 y⟩
  refine Eq.trans ?_ (congrArg (fArr (m ((c : Thread nD τ).loc main_arg0)) (m ((c : Thread nD τ).loc main_arg1)) (m ((c : Thread nD τ).loc main_arg2)) (m ((c : Thread nD τ).loc main_arg6)) (m ((c : Thread nD τ).loc main_arg7))) (place16 t u a s)).symm
  by_cases h0 : t.val % 8 = 0
  · rw [outsAt0_A m c t h0]
    frame_out
    exact blockF m c t u a s
  · rw [outsAt0_B m c t h0]
    frame_out
    exact blockF m c t u a s

end Cert.FoxProjIdeal.Tail
-- ==== Proof.FoxProjRef.lean ====
module

public import proofs.«01_k».proof.Proof.Gen.FoxProjReferenceIdeal.Run
public import proofs.«01_k».proof.Proof.FoxProjPay

/-!
The attention projections of the prompt: the reference's terms, each equal to the row-wise formula that the kernel's
results are equal to.
-/

set_option maxRecDepth 16384
@[expose] public section
noncomputable section
open Idealize.ShloMosaic Idealize.ShloMosaic.TcCoe Idealize.SL.Sem
open Idealize.ShloMosaic.Pipeline (Dat)

namespace Cert.FoxProjReferenceIdeal.Tail
open Cert.FoxProjReferenceIdeal Cert.FoxProjReferenceIdeal.Gen Cert.Rows Cert.LogSig Cert.Heads Cert.Cum
open FoxProjIdeal.Tail (row gate extraQ extraK kArr vArr fArr qaArr kaArr)

/-- The reference's normalised rows, as its composed term. -/
def preT (X : FVec Ideal S4x4096x1024 .f32) (N : FVec Ideal S1x1024 .f32) (M : FVec Ideal S4x6144 .f32) :
    FVec Ideal S4x4096x1024 .f32 :=
  addf (mulf (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast S1024 N shapeCasts_S1x1024_S1024)))) (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (extractStridedSlice S4x1024 ![0, 1024] M slices_S4x6144_S4x1024_0_1024))))) (broadcastInDim S4x4096x1024 ![0, 1, 2] bcast_S4x1x1024_S4x4096x1024_0_1_2 (broadcastInDim S4x1x1024 ![0, 2] bcast_S4x1024_S4x1x1024_0_2 (extractStridedSlice S4x1024 ![0, 0] M slices_S4x6144_S4x1024_0_0)))

/-- Rows times a transposed weight matrix, by heads, as the reference's term. -/
def projT (H : FVec Ideal S4x4096x1024 .f32) (W : FVec Ideal S1024x1024 .bf16) : FVec Ideal S4x4096x16x64 .f32 :=
  shapeCast S4x4096x16x64 (Host.dotGeneral dot_S4x4096x1024_S1024x1024_S4x4096x1024_2_0_01_1_n_n none H (transpose S1024x1024 [1, 0] (extf .f32 W bitsLt_bf16_f32) transposes_S1024x1024_S1024x1024_1_0)) shapeCasts_S4x4096x1024_S4x4096x16x64

/-- The heads' normalisation, as the reference's term. -/
def normT (Y : FVec Ideal S4x4096x16x64 .f32) (G : FVec Ideal S64x1 .f32) : FVec Ideal S4x4096x16x64 .f32 :=
  mulf (mulf Y (broadcastInDim S4x4096x16x64 ![0, 1, 2, 3] bcast_S4x4096x16x1_S4x4096x16x64_0_1_2_3 (Host.rsqrt (addf (Host.divf (broadcastInDim S4x4096x16x1 ![0, 1, 2] bcast_S4x4096x16_S4x4096x16x1_0_1_2 (Host.reduceAdd (mulf Y Y) (constant S_ .f32 0x00000000#32) reducesTo_S4x4096x16x64_S4x4096x16_d3 h_S_)) (broadcastInDim S4x4096x16x1 ![] bcast_S_S4x4096x16x1 (constant S_ .f32 0x42800000#32))) (broadcastInDim S4x4096x16x1 ![] bcast_S_S4x4096x16x1 (constant S_ .f32 0x358637BD#32)))))) (broadcastInDim S4x4096x16x64 ![0, 1, 2, 3] bcast_S1x1x1x64_S4x4096x16x64_0_1_2_3 (broadcastInDim S1x1x1x64 ![3] bcast_S64_S1x1x1x64_3 (shapeCast S64 G shapeCasts_S64x1_S64)))

/-- The sequence last, as the reference's term. -/
def turnT (Y : FVec Ideal S4x4096x16x64 .f32) : FVec Ideal S4x16x64x4096 .f32 :=
  transpose S4x16x64x4096 [0, 2, 3, 1] Y transposes_S4x4096x16x64_S4x16x64x4096_0_2_3_1

/-- The forget gate before its log-sigmoid, as the reference's term. -/
def preForgetT (H : FVec Ideal S4x4096x1024 .f32) (W : FVec Ideal S16x1024 .bf16) (B : FVec Ideal S16x1 .f32) :
    FVec Ideal S4x4096x16 .f32 :=
  addf (Host.dotGeneral dot_S4x4096x1024_S1024x16_S4x4096x16_2_0_01_1_n_n none H (transpose S1024x16 [1, 0] (extf .f32 W bitsLt_bf16_f32) transposes_S16x1024_S1024x16_1_0)) (broadcastInDim S4x4096x16 ![0, 1, 2] bcast_S1x1x16_S4x4096x16_0_1_2 (broadcastInDim S1x1x16 ![2] bcast_S16_S1x1x16_2 (shapeCast S16 B shapeCasts_S16x1_S16)))

/-- The log-sigmoid, as the reference's term. -/
def logSigT (Z : FVec Ideal S4x4096x16 .f32) : FVec Ideal S4x4096x16 .f32 :=
  Host.negf (select (cmpf .une (subf (Host.negf Z) (broadcastInDim S4x4096x16 ![] bcast_S_S4x4096x16 (constant S_ .f32 0x00000000#32))) (subf (Host.negf Z) (broadcastInDim S4x4096x16 ![] bcast_S_S4x4096x16 (constant S_ .f32 0x00000000#32)))) (addf (Host.negf Z) (broadcastInDim S4x4096x16 ![] bcast_S_S4x4096x16 (constant S_ .f32 0x00000000#32))) (addf (maximumf (Host.negf Z) (broadcastInDim S4x4096x16 ![] bcast_S_S4x4096x16 (constant S_ .f32 0x00000000#32))) (Host.log1p (Host.exp (Host.negf (Host.absf (subf (Host.negf Z) (broadcastInDim S4x4096x16 ![] bcast_S_S4x4096x16 (constant S_ .f32 0x00000000#32)))))))))

/-- The gates with the sequence last, as the reference's term. -/
def turnForgetT (Y : FVec Ideal S4x4096x16 .f32) : FVec Ideal S4x16x4096 .f32 :=
  transpose S4x16x4096 [0, 2, 1] Y transposes_S4x4096x16_S4x16x4096_0_2_1

/-- The running sums along the sequence, as the reference's term. -/
def sumT (L : FVec Ideal S4x4096x16 .f32) : FVec Ideal S4x4096x16 .f32 :=
  Host.reduceWindowAdd ![1, 4096, 1] ![1, 1, 1] ![0, 4095, 0] ![0, 0, 0] L (broadcastInDim S_ ![] bcast_S_S_ (constant S_ .f32 0x00000000#32)) reduceWindows_S4x4096x16_S4x4096x16_w1s1p0_0_w4096s1p4095_0_w1s1p0_0 h_S_

/-- A sum's rounding, the rounding of what is left, and the rounding of what is left then, as the reference's term. -/
def partsT (C : FVec Ideal S4x4096x16 .f32) : FVec Ideal S4x4096x16x3 .f32 :=
  concatenate S4x4096x16x3 3 [⟨S4x4096x16x1, ((broadcastInDim S4x4096x16x1 ![0, 1, 2] bcast_S4x4096x16_S4x4096x16x1_0_1_2 (extf .f32 (truncf .bf16 C bitsLt_bf16_f32) bitsLt_bf16_f32)) : (⟨S4x4096x16x1, .f32⟩ : BufTy).Contents (Elt Ideal))⟩, ⟨S4x4096x16x1, ((broadcastInDim S4x4096x16x1 ![0, 1, 2] bcast_S4x4096x16_S4x4096x16x1_0_1_2 (extf .f32 (truncf .bf16 (subf C (extf .f32 (truncf .bf16 C bitsLt_bf16_f32) bitsLt_bf16_f32)) bitsLt_bf16_f32) bitsLt_bf16_f32)) : (⟨S4x4096x16x1, .f32⟩ : BufTy).Contents (Elt Ideal))⟩, ⟨S4x4096x16x1, ((broadcastInDim S4x4096x16x1 ![0, 1, 2] bcast_S4x4096x16_S4x4096x16x1_0_1_2 (extf .f32 (truncf .bf16 (subf (subf C (extf .f32 (truncf .bf16 C bitsLt_bf16_f32) bitsLt_bf16_f32)) (extf .f32 (truncf .bf16 (subf C (extf .f32 (truncf .bf16 C bitsLt_bf16_f32) bitsLt_bf16_f32)) bitsLt_bf16_f32) bitsLt_bf16_f32)) bitsLt_bf16_f32) bitsLt_bf16_f32)) : (⟨S4x4096x16x1, .f32⟩ : BufTy).Contents (Elt Ideal))⟩] concatenates_S4x4096x16x1_S4x4096x16x1_S4x4096x16x1_S4x4096x16x3_d3

/-- Scaled queries, three parts, three ones and zeros, the sequence last, as the reference's term. -/
def queryT (Y : FVec Ideal S4x4096x16x64 .f32) (P : FVec Ideal S4x4096x16x3 .f32) : FVec Ideal S4x16x128x4096 .bf16 :=
  transpose S4x16x128x4096 [0, 2, 3, 1] (truncf .bf16 ((concatenate S4x4096x16x128 3 [⟨S4x4096x16x64, ((mulf Y (broadcastInDim S4x4096x16x64 ![] bcast_S_S4x4096x16x64 (constant (F := Ideal) S_ .f32 0x3E000000#32))) : (⟨S4x4096x16x64, .f32⟩ : BufTy).Contents (Elt Ideal))⟩, ⟨S4x4096x16x3, (P : (⟨S4x4096x16x3, .f32⟩ : BufTy).Contents (Elt Ideal))⟩, ⟨S4x4096x16x3, ((broadcastInDim S4x4096x16x3 ![] bcast_S_S4x4096x16x3 (constant (F := Ideal) S_ .f32 0x3F800000#32)) : (⟨S4x4096x16x3, .f32⟩ : BufTy).Contents (Elt Ideal))⟩, ⟨S4x4096x16x58, ((broadcastInDim S4x4096x16x58 ![] bcast_S_S4x4096x16x58 (constant (F := Ideal) S_ .f32 0x00000000#32)) : (⟨S4x4096x16x58, .f32⟩ : BufTy).Contents (Elt Ideal))⟩] concatenates_S4x4096x16x64_S4x4096x16x3_S4x4096x16x3_S4x4096x16x58_S4x4096x16x128_d3 : (⟨S4x4096x16x128, .f32⟩ : BufTy).Contents (Elt Ideal))) bitsLt_bf16_f32) transposes_S4x4096x16x128_S4x16x128x4096_0_2_3_1

/-- Keys, three ones, three negated parts and zeros, the sequence last, as the reference's term. -/
def keyT (Y : FVec Ideal S4x4096x16x64 .f32) (P : FVec Ideal S4x4096x16x3 .f32) : FVec Ideal S4x16x128x4096 .bf16 :=
  transpose S4x16x128x4096 [0, 2, 3, 1] (truncf .bf16 ((concatenate S4x4096x16x128 3 [⟨S4x4096x16x64, (Y : (⟨S4x4096x16x64, .f32⟩ : BufTy).Contents (Elt Ideal))⟩, ⟨S4x4096x16x3, ((broadcastInDim S4x4096x16x3 ![] bcast_S_S4x4096x16x3 (constant (F := Ideal) S_ .f32 0x3F800000#32)) : (⟨S4x4096x16x3, .f32⟩ : BufTy).Contents (Elt Ideal))⟩, ⟨S4x4096x16x3, ((Host.negf P) : (⟨S4x4096x16x3, .f32⟩ : BufTy).Contents (Elt Ideal))⟩, ⟨S4x4096x16x58, ((broadcastInDim S4x4096x16x58 ![] bcast_S_S4x4096x16x58 (constant (F := Ideal) S_ .f32 0x00000000#32)) : (⟨S4x4096x16x58, .f32⟩ : BufTy).Contents (Elt Ideal))⟩] concatenates_S4x4096x16x64_S4x4096x16x3_S4x4096x16x3_S4x4096x16x58_S4x4096x16x128_d3 : (⟨S4x4096x16x128, .f32⟩ : BufTy).Contents (Elt Ideal))) bitsLt_bf16_f32) transposes_S4x4096x16x128_S4x16x128x4096_0_2_3_1

section
variable (X : FVec Ideal S4x4096x1024 .f32) (N : FVec Ideal S1x1024 .f32) (M : FVec Ideal S4x6144 .f32)

/-- The normalised rows at an index. -/
theorem preT_at (b : Fin 4) (s : Fin 4096) (k : Fin 1024) : preT X N M (ix3 b s k) = row X N M b s k := by
  pointwise [preT]
  rfl

/-- The heads' products at an index. -/
theorem projT_at (W : FVec Ideal S1024x1024 .bf16) (b : Fin 4) (s : Fin 4096) (a : Fin 16) (d : Fin 64) :
    projT (preT X N M) W (ix4 b s a d) = proj (row X N M b s) (fun f j => W (ix2 f j)) a d := by
  pointwise [projT]
  simp only [preT_at]
  exact Finset.sum_congr rfl fun _ _ => mul_comm _ _

/-- The heads' normalisation at an index. -/
theorem normT_at (Y : FVec Ideal S4x4096x16x64 .f32) (G : FVec Ideal S64x1 .f32) (b : Fin 4) (s : Fin 4096) (a : Fin 16)
    (d : Fin 64) : normT Y G (ix4 b s a d) = headNorm (fun e => Y (ix4 b s a e)) (fun e => G (ix2 e 0)) d := by
  pointwise [normT]
  rfl

/-- The log-sigmoid at an index. -/
theorem logSigT_at (Z : FVec Ideal S4x4096x16 .f32) (b : Fin 4) (s : Fin 4096) (a : Fin 16) :
    logSigT Z (ix3 b s a) = logSig (Z (ix3 b s a)) := by
  pointwise [logSigT]
  have e : ∀ x : Ideal .f32, FloatOps.absf x = max x (-x) := fun _ => rfl
  rw [← neg_softplus]
  simp [Ideal.cmp, e]

/-- The forget gate before its log-sigmoid, at an index. -/
theorem preForgetT_at (W : FVec Ideal S16x1024 .bf16) (B : FVec Ideal S16x1 .f32) (b : Fin 4) (s : Fin 4096) (a : Fin 16) :
    preForgetT (preT X N M) W B (ix3 b s a) = (∑ j, W (ix2 a j) * row X N M b s j) + B (ix2 a 0) := by
  pointwise [preForgetT]
  simp only [preT_at, mul_comm]

/-- The gates at an index. -/
theorem gateT_at (W : FVec Ideal S16x1024 .bf16) (B : FVec Ideal S16x1 .f32) (b : Fin 4) (s : Fin 4096) (a : Fin 16) :
    logSigT (preForgetT (preT X N M) W B) (ix3 b s a) = gate X N M W B b a s := by
  rw [logSigT_at, preForgetT_at]
  rfl

/-- The running sums at an index. -/
theorem sumT_at (L : FVec Ideal S4x4096x16 .f32) (b : Fin 4) (s : Fin 4096) (a : Fin 16) :
    sumT L (ix3 b s a) = upTo (fun i => L (ix3 b i a)) (s.val + 1) := by
  unfold sumT Host.reduceWindowAdd
  rw [Ideal.hostReduceWindowAdd_def, show (broadcastInDim S_ ![] bcast_S_S_ (constant (F := Ideal) S_ .f32 0x00000000#32)) (Shape.Idx.first h_S_) = 0 from by pointwise []]
  exact cumsum_mid (B := 4) (N := 4096) (Nm1 := 4095) (C := 16) (by rfl) L
    reduceWindows_S4x4096x16_S4x4096x16_w1s1p0_0_w4096s1p4095_0_w1s1p0_0 b s a

/-- The three parts at an index. -/
theorem partsT_at (C : FVec Ideal S4x4096x16 .f32) (b : Fin 4) (s : Fin 4096) (a : Fin 16) (r : Fin 3) :
    partsT C (ix4 b s a r) = extraQ (C (ix3 b s a)) r.val := by
  pointwise [partsT]
  fin_cases r <;> rfl

/-- A query's lanes at an index. -/
theorem queryT_at (Y : FVec Ideal S4x4096x16x64 .f32) (C : FVec Ideal S4x4096x16 .f32) (b : Fin 4) (s : Fin 4096)
    (a : Fin 16) (r : Fin 128) :
    queryT Y (partsT C) (ix4 b a r s) = if h : r.val < 64 then Y (ix4 b s a ⟨r.val, h⟩) * Ideal.ofBits .f32 0x3E000000#32
      else extraQ (C (ix3 b s a)) (r.val - 64) := by
  pointwise [queryT]
  simp only [partsT_at]
  by_cases h : r.val < 64
  · rw [dif_pos h, dif_pos h]
  rw [dif_neg h, dif_neg h]
  generalize r.val - 64 = n
  by_cases h3 : n < 3
  · rw [dif_pos h3]
  · rw [dif_neg h3]
    unfold extraQ
    split_ifs <;> first | rfl | omega

/-- A key's lanes at an index. -/
theorem keyT_at (Y : FVec Ideal S4x4096x16x64 .f32) (C : FVec Ideal S4x4096x16 .f32) (b : Fin 4) (s : Fin 4096)
    (a : Fin 16) (r : Fin 128) :
    keyT Y (partsT C) (ix4 b a r s) = if h : r.val < 64 then Y (ix4 b s a ⟨r.val, h⟩)
      else extraK (C (ix3 b s a)) (r.val - 64) := by
  pointwise [keyT]
  simp only [partsT_at]
  by_cases h : r.val < 64
  · rw [dif_pos h, dif_pos h]
  rw [dif_neg h, dif_neg h]
  generalize r.val - 64 = n
  by_cases h3 : n < 3
  · rw [dif_pos h3, extraK, if_pos h3]
  rw [dif_neg h3]
  by_cases h6 : n < 6
  · rw [dif_pos (by omega)]
    obtain rfl | rfl | rfl : n = 3 ∨ n = 4 ∨ n = 5 := by omega
    all_goals simp [extraQ, extraK]
  · rw [dif_neg (by omega)]
    unfold extraK
    split_ifs <;> first | rfl | omega

/-- The queries with their extra lanes. -/
theorem qaT_eq (W : FVec Ideal S1024x1024 .bf16) (G : FVec Ideal S64x1 .f32) (Wf : FVec Ideal S16x1024 .bf16)
    (B : FVec Ideal S16x1 .f32) :
    queryT (normT (projT (preT X N M) W) G) (partsT (sumT (logSigT (preForgetT (preT X N M) Wf B))))
      = qaArr X N M W G Wf B := by
  funext i
  obtain ⟨b, a, d, s, rfl⟩ : ∃ (b : Fin 4) (a : Fin 16) (d : Fin 128) (s : Fin 4096), i = ix4 b a d s := ⟨i 0, i 1, i 2, i 3, eq_ix4 i⟩
  rw [queryT_at, sumT_at]
  simp only [normT_at, projT_at, gateT_at]
  rfl

/-- The keys with their extra lanes. -/
theorem kaT_eq (W : FVec Ideal S1024x1024 .bf16) (G : FVec Ideal S64x1 .f32) (Wf : FVec Ideal S16x1024 .bf16)
    (B : FVec Ideal S16x1 .f32) :
    keyT (normT (projT (preT X N M) W) G) (partsT (sumT (logSigT (preForgetT (preT X N M) Wf B))))
      = kaArr X N M W G Wf B := by
  funext i
  obtain ⟨b, a, d, s, rfl⟩ : ∃ (b : Fin 4) (a : Fin 16) (d : Fin 128) (s : Fin 4096), i = ix4 b a d s := ⟨i 0, i 1, i 2, i 3, eq_ix4 i⟩
  rw [keyT_at, sumT_at]
  simp only [normT_at, projT_at, gateT_at]
  rfl

/-- The keys. -/
theorem kT_eq (W : FVec Ideal S1024x1024 .bf16) (G : FVec Ideal S64x1 .f32) :
    turnT (normT (projT (preT X N M) W) G) = kArr X N M W G := by
  funext i
  obtain ⟨b, a, d, s, rfl⟩ : ∃ (b : Fin 4) (a : Fin 16) (d : Fin 64) (s : Fin 4096), i = ix4 b a d s := ⟨i 0, i 1, i 2, i 3, eq_ix4 i⟩
  pointwise [turnT]
  simp only [normT_at, projT_at]
  rfl

/-- The values. -/
theorem vT_eq (W : FVec Ideal S1024x1024 .bf16) : turnT (projT (preT X N M) W) = vArr X N M W := by
  funext i
  obtain ⟨b, a, d, s, rfl⟩ : ∃ (b : Fin 4) (a : Fin 16) (d : Fin 64) (s : Fin 4096), i = ix4 b a d s := ⟨i 0, i 1, i 2, i 3, eq_ix4 i⟩
  pointwise [turnT]
  simp only [projT_at]
  rfl

/-- The forget gates. -/
theorem fT_eq (W : FVec Ideal S16x1024 .bf16) (B : FVec Ideal S16x1 .f32) :
    turnForgetT (logSigT (preForgetT (preT X N M) W B)) = fArr X N M W B := by
  funext i
  obtain ⟨b, a, s, rfl⟩ : ∃ (b : Fin 4) (a : Fin 16) (s : Fin 4096), i = ix3 b a s := ⟨i 0, i 1, i 2, eq_ix3 i⟩
  pointwise [turnForgetT]
  simp only [gateT_at]
  rfl

end

set_option maxHeartbeats 4000000 in
/-- The reference runs, its results are the row-wise arrays, and its arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v99) = qaArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg6)) (m ((c.tc : Thread nD τ).loc main_arg7))
      ∧ r.2.mem ((c.tc : Thread nD τ).loc main_v100) = kaArr (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg6)) (m ((c.tc : Thread nD τ).loc main_arg7))
      ∧ r.2.mem ((c.tc : Thread nD τ).loc main_v101) = kArr (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg9))
      ∧ r.2.mem ((c.tc : Thread nD τ).loc main_v102) = vArr (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v103) = fArr (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (qaT_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg6)) (m ((c.tc : Thread nD τ).loc main_arg7))),
      (h c).2.1.trans (kaT_eq (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg9)) (m ((c.tc : Thread nD τ).loc main_arg6)) (m ((c.tc : Thread nD τ).loc main_arg7))),
      (h c).2.2.1.trans (kT_eq (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg9))),
      (h c).2.2.2.1.trans (vT_eq (m ((c.tc : Thread nD τ).loc main_arg0)) (m ((c.tc : Thread nD τ).loc main_arg1)) (m ((c.tc : Thread nD τ).loc main_arg2)) (m ((c.tc : Thread nD τ).loc main_arg5))),
      (h c).2.2.2.2.1.trans (fT_eq (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7))),
      (h c).2.2.2.2.2⟩) (Value.run m ρ)

end Cert.FoxProjReferenceIdeal.Tail
-- ==== Proof.Pool.lean ====
module

public import proofs.«01_k».proof.Proof.Rows
public import proofs.«01_k».proof.Proof.Cum

/-!
The mathematics of the causal pooling mixer on the rows of one batch entry: windows of 2, 4, 8 and 16 rows on four
groups of 256 lanes, the mean over each window less the row, and each group's square map. For finite rows a window's
sum is the difference of two running sums.
-/

@[expose] public section
noncomputable section
open Idealize.ShloMosaic

namespace Cert.Pool
open Cert.Cum Cert.Rows

/-- Row `n - 16` of the rows, and zero before the first row and behind the last. -/
def ext (z : Fin 4096 → Fin 1024 → EReal) (n : ℕ) (k : Fin 1024) : EReal :=
  if h : 16 ≤ n ∧ n < 4112 then z ⟨n - 16, by omega⟩ k else 0

/-- The sum of the `w` rows that end at row `n` of the padded rows. -/
def wsum (w : ℕ) (z : Fin 4096 → Fin 1024 → EReal) (n : ℕ) (k : Fin 1024) : EReal := ∑ i ∈ Finset.range w, ext z (n - i) k

/-- How many rows a window of `w` ending at row `s` holds. -/
def cnt (w s : ℕ) : EReal := ((((min w (s + 1) : ℕ) : ℤ) : ℝ) : EReal)

/-- Lane `c` of group `g`. -/
def lane (g : Fin 4) (c : Fin 256) : Fin 1024 := ⟨g.val * 256 + c.val, by omega⟩

/-- The mean over the group's window, less the row. -/
def dev (g : Fin 4) (z : Fin 4096 → Fin 1024 → EReal) (s : ℕ) (k : Fin 1024) : EReal :=
  wsum (2 ^ (g.val + 1)) z (s + 16) k * Ideal.div 1 (cnt (2 ^ (g.val + 1)) s) - ext z (s + 16) k

/-- The group's square map of the deviations. -/
def grp (g : Fin 4) (z : Fin 4096 → Fin 1024 → EReal) (P : Fin 4 → Fin 256 → Fin 256 → EReal) (s : ℕ) (d : Fin 256) : EReal :=
  ∑ c, dev g z s (lane g c) * P g c d

/-- The pooling mixer's row before its scale. -/
def pooled (z : Fin 4096 → Fin 1024 → EReal) (P : Fin 4 → Fin 256 → Fin 256 → EReal) (s : ℕ) (k : Fin 1024) : EReal :=
  grp ⟨k.val / 256, by omega⟩ z P s ⟨k.val % 256, by omega⟩

/-- The mixer's row at a group's lane. -/
theorem pooled_lane (z : Fin 4096 → Fin 1024 → EReal) (P : Fin 4 → Fin 256 → Fin 256 → EReal) (s : ℕ) (g : Fin 4) (d : Fin 256) :
    pooled z P s (lane g d) = grp g z P s d := by
  unfold pooled
  have h1 : (⟨(lane g d).val / 256, by omega⟩ : Fin 4) = g := Fin.ext (by show (g.val * 256 + d.val) / 256 = g.val; omega)
  have h2 : (⟨(lane g d).val % 256, by omega⟩ : Fin 256) = d := Fin.ext (by show (g.val * 256 + d.val) % 256 = d.val; omega)
  rw [h1, h2]

/-- Every lane is a lane of a group. -/
theorem exists_lane (k : Fin 1024) : ∃ g d, k = lane g d :=
  ⟨⟨k.val / 256, by omega⟩, ⟨k.val % 256, by omega⟩, Fin.ext (by show k.val = k.val / 256 * 256 + k.val % 256; omega)⟩

/-- A running sum is an earlier one and the window between. -/
theorem upTo_window (z : Fin 4096 → Fin 1024 → EReal) (k : Fin 1024) (s : ℕ) (hs : s < 4096) (w : ℕ) (hw : w ≤ 16) :
    upTo (fun i => z i k) (s + 1) = upTo (fun i => z i k) (s + 1 - w) + wsum w z (s + 16) k := by
  induction w with
  | zero => simp [wsum]
  | succ w ih =>
    rw [ih (by omega)]
    unfold wsum
    rw [Finset.sum_range_succ, add_comm (Finset.sum _ _) (ext _ _ _), ← add_assoc]
    congr 1
    by_cases h : w ≤ s
    · rw [show s + 1 - w = (s - w) + 1 by omega, show s + 1 - (w + 1) = s - w by omega, upTo_succ _ _ (show s - w < 4096 by omega), ext,
        dif_pos (show 16 ≤ s + 16 - w ∧ s + 16 - w < 4112 by omega)]
      congr 3
      omega
    · rw [show s + 1 - w = 0 by omega, show s + 1 - (w + 1) = 0 by omega, ext, dif_neg (by omega), add_zero]

/-- Finite: a real number. -/
def Fin' (x : EReal) : Prop := ∃ r : ℝ, x = (r : EReal)

theorem Fin'.add {x y : EReal} : Fin' x → Fin' y → Fin' (x + y) := by
  rintro ⟨a, rfl⟩ ⟨b, rfl⟩; exact ⟨a + b, by norm_cast⟩
theorem Fin'.mul {x y : EReal} : Fin' x → Fin' y → Fin' (x * y) := by
  rintro ⟨a, rfl⟩ ⟨b, rfl⟩; exact ⟨a * b, by norm_cast⟩
theorem Fin'.zero : Fin' 0 := ⟨0, rfl⟩
theorem Fin'.one : Fin' 1 := ⟨1, rfl⟩
theorem Fin'.sum {α : Type*} (s : Finset α) (f : α → EReal) (h : ∀ i, Fin' (f i)) : Fin' (∑ i ∈ s, f i) := by
  classical
  induction s using Finset.induction with
  | empty => simpa using Fin'.zero
  | insert a s ha ih => rw [Finset.sum_insert ha]; exact (h a).add ih

/-- A sum of finite values is finite. -/
theorem upTo_fin (f : Fin 4096 → EReal) (h : ∀ i, Fin' (f i)) (n : ℕ) : Fin' (upTo f n) :=
  Fin'.sum _ _ fun i => by
    by_cases hi : i < 4096
    · rw [dif_pos hi]; exact h _
    · rw [dif_neg hi]; exact Fin'.zero

/-- For finite rows, a window's sum is the difference of two running sums. -/
theorem window_eq (z : Fin 4096 → Fin 1024 → EReal) (k : Fin 1024) (h : ∀ i, Fin' (z i k)) (s : ℕ) (hs : s < 4096) (w : ℕ) (hw : w ≤ 16) :
    upTo (fun i => z i k) (s + 1) - upTo (fun i => z i k) (s + 1 - w) = wsum w z (s + 16) k := by
  rw [upTo_window z k s hs w hw]
  obtain ⟨a, ha⟩ := upTo_fin (fun i => z i k) h (s + 1 - w)
  have hb : Fin' (wsum w z (s + 16) k) := Fin'.sum _ _ fun i => by
    unfold ext
    by_cases hi : 16 ≤ s + 16 - i ∧ s + 16 - i < 4112
    · rw [dif_pos hi]; exact h _
    · rw [dif_neg hi]; exact Fin'.zero
  obtain ⟨b, hb⟩ := hb
  rw [ha, hb]
  norm_cast
  simp

/-- A window holds a row at least. -/
theorem cnt_ne (w s : ℕ) (hw : 0 < w) : cnt w s ≠ 0 := by
  unfold cnt
  have : 0 < min w (s + 1) := by omega
  norm_cast
  omega

/-- A binary32 word with a clear sign and an exponent neither zero nor full is a positive real. -/
theorem word_pos (b : BitVec 32) (hn : (b.extractLsb' 31 1 == 1#1) = false) (h1 : (b.extractLsb' 23 8).toNat ≠ 2 ^ 8 - 1)
    (h0 : (b.extractLsb' 23 8).toNat ≠ 0) : ∃ r : ℝ, 0 < r ∧ Ideal.ofBits .f32 b = (r : EReal) := by
  refine ⟨(1 * ((2 ^ 23 + (b.extractLsb' 0 23).toNat : ℕ) : ℝ) * (2 : ℝ) ^ (((b.extractLsb' 23 8).toNat : Int) - (2 ^ (8 - 1) - 1) - (23 : ℕ))), ?_, ?_⟩
  · positivity
  · show Ideal.ieee 8 23 b = _
    unfold Ideal.ieee
    simp only [hn]
    rw [if_neg h1, if_neg h0]
    simp

/-- A square is not negative. -/
theorem sq_nonneg' (x : EReal) : 0 ≤ x * x := by
  induction x using EReal.rec with
  | bot => simp
  | coe r => norm_cast; exact mul_self_nonneg r
  | top => simp

/-- A row divided by its root mean square is finite: an infinite entry makes the divisor infinite. -/
theorem rms_fin (x : Fin 1024 → EReal) (k : Fin 1024) : Fin' (rms x k) := by
  unfold rms
  obtain ⟨w, hw, ew⟩ := word_pos 0x44800000#32 (by decide) (by decide) (by decide)
  obtain ⟨e, he, ee⟩ := word_pos 0x358637BD#32 (by decide) (by decide) (by decide)
  rw [ew, ee, Ideal.div_coe hw.ne']
  by_cases hx : ∀ j, Fin' (x j)
  · have hq : ∃ q : ℝ, 0 ≤ q ∧ (∑ j, x j * x j) = (q : EReal) := by
      have : ∀ s : Finset (Fin 1024), ∃ q : ℝ, 0 ≤ q ∧ (∑ j ∈ s, x j * x j) = (q : EReal) := fun s => by
        induction s using Finset.induction with
        | empty => exact ⟨0, le_refl _, by simp⟩
        | insert a s ha ih =>
          obtain ⟨q, hq, e⟩ := ih
          obtain ⟨r, hr⟩ := hx a
          exact ⟨r * r + q, add_nonneg (mul_self_nonneg r) hq, by rw [Finset.sum_insert ha, e, hr]; norm_cast⟩
      exact this _
    obtain ⟨q, hq, eq⟩ := hq
    rw [eq]
    have hp : (0 : ℝ) < q * (1 / w) + e := by positivity
    rw [show (q : EReal) * ((1 / w : ℝ) : EReal) + (e : EReal) = ((q * (1 / w) + e : ℝ) : EReal) by norm_cast, Ideal.rsqrt_coe,
      if_neg (not_lt.mpr hp.le), if_neg hp.ne']
    exact Fin'.mul (hx k) ⟨_, rfl⟩
  · obtain ⟨j, hj⟩ := not_forall.mp hx
    have hs : x j * x j = ⊤ := by
      generalize x j = v at hj
      induction v using EReal.rec with
      | bot => simp
      | coe r => exact absurd ⟨r, rfl⟩ hj
      | top => simp
    have ht : (∑ j, x j * x j) = ⊤ := by
      refine top_le_iff.mp ?_
      rw [← hs]
      exact Finset.single_le_sum (f := fun j => x j * x j) (fun i _ => sq_nonneg' (x i)) (Finset.mem_univ j)
    have hm : (⊤ : EReal) * ((1 / w : ℝ) : EReal) = ⊤ := EReal.top_mul_coe_of_pos (by positivity)
    rw [ht, hm, EReal.top_add_coe, Ideal.rsqrt_top, mul_zero]
    exact Fin'.zero

/-- A column of values that are all finite, or all plus infinity, or all minus infinity. -/
def Even {N : ℕ} (f : Fin N → EReal) : Prop := (∀ i, Fin' (f i)) ∨ (∀ i, f i = ⊤) ∨ (∀ i, f i = ⊥)

/-- With a finite gain and a finite scale, a lane's normalised values are all finite or all the same infinity. -/
theorem pre_even {N : ℕ} (x : Fin N → Fin 1024 → EReal) (n scale shift : Fin 1024 → EReal) (k : Fin 1024) (hn : Fin' (n k))
    (hs : Fin' (scale k)) : Even fun i => pre (x i) n scale shift k := by
  have hA : ∀ i, Fin' (rms (x i) k * n k * (1 + scale k)) := fun i => Fin'.mul (Fin'.mul (rms_fin _ _) hn) (Fin'.add Fin'.one hs)
  unfold pre
  generalize hv : shift k = v
  induction v using EReal.rec with
  | bot => exact Or.inr (Or.inr fun i => EReal.add_bot _)
  | coe r => exact Or.inl fun i => Fin'.add (hA i) ⟨r, rfl⟩
  | top =>
    refine Or.inr (Or.inl fun i => ?_)
    obtain ⟨a, ha⟩ := hA i
    dsimp only
    rw [ha]
    exact EReal.coe_add_top a

/-- The deviation from running sums: their difference over the count, less the row. -/
theorem dev_running (z : Fin 4096 → Fin 1024 → EReal) (k : Fin 1024) (h : Even fun i => z i k) (s : Fin 4096) (w : ℕ) (h0 : 0 < w)
    (hw : w ≤ 16) :
    Ideal.div (upTo (fun i => z i k) (s.val + 1) - upTo (fun i => z i k) (s.val + 1 - w)) (cnt w s.val) - z s k
      = wsum w z (s.val + 16) k * Ideal.div 1 (cnt w s.val) - ext z (s.val + 16) k := by
  have he : ext z (s.val + 16) k = z s k := by
    rw [ext, dif_pos (by omega)]
    exact congrArg (fun q => z q k) (Fin.ext (by show s.val + 16 - 16 = s.val; omega))
  rw [he, ← Ideal.mul_one_div (cnt_ne w s.val h0)]
  rcases h with h | h | h
  · rw [window_eq z k h s.val s.isLt w hw]
  · dsimp only at h
    rw [h s, EReal.sub_top, EReal.sub_top]
  · have h1 : wsum w z (s.val + 16) k = ⊥ := by
      obtain ⟨w', rfl⟩ : ∃ w', w = w' + 1 := ⟨w - 1, by omega⟩
      unfold wsum
      rw [Finset.sum_range_succ', Nat.sub_zero, he]
      dsimp only at h
      rw [h s, EReal.add_bot]
    rw [h1, upTo_succ _ _ s.isLt]
    dsimp only at h
    rw [show (⟨s.val, s.isLt⟩ : Fin 4096) = s from rfl, h s, EReal.add_bot, EReal.bot_sub]

end Cert.Pool
-- ==== Proof.PoolPay.lean ====
module

public import proofs.«01_k».proof.Proof.Gen.PoolFfnIdeal.Value
public import proofs.«01_k».proof.Proof.Pool

/-!
The arithmetic of the prompt pooling call's body, at an index: the normalised rows, the four window sums over the
scratch rows, the inverse counts, the four group maps and the feed-forward map.
-/

set_option maxRecDepth 16384
@[expose] public section
noncomputable section
open Idealize.ShloMosaic Idealize.ShloMosaic.TcCoe Idealize.SL.Sem
open Idealize.ShloMosaic.Pipeline (Dat)

namespace Cert.PoolFfnIdeal.Tail
open Cert.PoolFfnIdeal Cert.PoolFfnIdeal.Gen Cert.Rows Cert.Pool

/-- The normalised rows of a block, at an index. -/
theorem pay5_at (x0 : Vec Ideal S1x256x1024 .f32) (x1 : Vec Ideal S1x1024 .f32) (x2 x3 : Vec Ideal S1x1x1x1024 .f32)
    (r : Fin 256) (k : Fin 1024) : k0_pay5 x0 x1 x2 x3 (ix2 r k)
      = pre (fun j => x0 (ix3 0 r j)) (fun j => x1 (ix2 0 j)) (fun j => x3 (ix4 0 0 0 j)) (fun j => x2 (ix4 0 0 0 j)) k := by
  pointwise [k0_pay5, k0_pay4]
  rfl

/-- The stored rows are the normalised rows. -/
theorem pay7_at (x0 : Vec Ideal S1x256x1024 .f32) (x1 : Vec Ideal S1x1024 .f32) (x2 x3 : Vec Ideal S1x1x1x1024 .f32)
    (r : Fin 256) (k : Fin 1024) : k0_pay7 x0 x1 x2 x3 (ix2 r k) = k0_pay5 x0 x1 x2 x3 (ix2 r k) := by
  pointwise [k0_pay7]

section
variable (z : Fin 4096 → Fin 1024 → EReal) (B : ℕ) (S : Vec Ideal S272x1024 .f32) (H : FVec Ideal S256x1024 .f32)
  (hS : ∀ (r : Fin 272) (j : Fin 1024), S (ix2 r j) = ext z (B + r.val) j)
  (hH : ∀ (r : Fin 256) (j : Fin 1024), H (ix2 r j) = ext z (B + 16 + r.val) j)
include hS hH

/-- Group 0's window sum. -/
theorem win0 (r : Fin 256) (c : Fin 256) :
    k0_pay11 H (View.ld S (Rect.unit ![15, 0] ![256, 1024] inb_S272x1024_S256x1024_15_0)) (ix2 r c)
      = wsum (2 ^ ((0 : Fin 4).val + 1)) z (B + r.val + 16) (lane 0 c) := by
  pointwise [k0_pay11, k0_pay10]
  simp only [hS, hH]
  show _ = wsum 2 z _ _
  simp only [wsum, Finset.sum_range_succ, Finset.sum_range_zero, zero_add]
  repeat' refine congrArg₂ (· + ·) ?_ ?_
  all_goals exact congrArg₂ (ext z) (by omega) (Fin.ext (by simp [lane]; try omega))

/-- Group 1's window sum. -/
theorem win1 (r : Fin 256) (c : Fin 256) :
    k0_pay14 H (View.ld S (Rect.unit ![15, 0] ![256, 1024] inb_S272x1024_S256x1024_15_0))
        (View.ld S (Rect.unit ![14, 256] ![256, 768] inb_S272x1024_S256x768_14_256))
        (View.ld S (Rect.unit ![13, 256] ![256, 768] inb_S272x1024_S256x768_13_256)) (ix2 r c)
      = wsum (2 ^ ((1 : Fin 4).val + 1)) z (B + r.val + 16) (lane 1 c) := by
  pointwise [k0_pay14, k0_pay13, k0_pay10]
  simp only [hS, hH]
  show _ = wsum 4 z _ _
  simp only [wsum, Finset.sum_range_succ, Finset.sum_range_zero, zero_add]
  repeat' refine congrArg₂ (· + ·) ?_ ?_
  all_goals exact congrArg₂ (ext z) (by omega) (Fin.ext (by simp [lane]; try omega))

/-- Group 2's window sum. -/
theorem win2 (r : Fin 256) (c : Fin 256) :
    k0_pay17 H (View.ld S (Rect.unit ![15, 0] ![256, 1024] inb_S272x1024_S256x1024_15_0))
        (View.ld S (Rect.unit ![14, 256] ![256, 768] inb_S272x1024_S256x768_14_256))
        (View.ld S (Rect.unit ![13, 256] ![256, 768] inb_S272x1024_S256x768_13_256))
        (View.ld S (Rect.unit ![12, 512] ![256, 512] inb_S272x1024_S256x512_12_512))
        (View.ld S (Rect.unit ![11, 512] ![256, 512] inb_S272x1024_S256x512_11_512))
        (View.ld S (Rect.unit ![10, 512] ![256, 512] inb_S272x1024_S256x512_10_512))
        (View.ld S (Rect.unit ![9, 512] ![256, 512] inb_S272x1024_S256x512_9_512)) (ix2 r c)
      = wsum (2 ^ ((2 : Fin 4).val + 1)) z (B + r.val + 16) (lane 2 c) := by
  pointwise [k0_pay17, k0_pay16, k0_pay13, k0_pay10]
  simp only [hS, hH]
  show _ = wsum 8 z _ _
  simp only [wsum, Finset.sum_range_succ, Finset.sum_range_zero, zero_add]
  repeat' refine congrArg₂ (· + ·) ?_ ?_
  all_goals exact congrArg₂ (ext z) (by omega) (Fin.ext (by simp [lane]; try omega))

/-- Group 3's window sum. -/
theorem win3 (r : Fin 256) (c : Fin 256) :
    k0_pay22 (k0_pay18 H (View.ld S (Rect.unit ![15, 0] ![256, 1024] inb_S272x1024_S256x1024_15_0))
        (View.ld S (Rect.unit ![14, 256] ![256, 768] inb_S272x1024_S256x768_14_256))
        (View.ld S (Rect.unit ![13, 256] ![256, 768] inb_S272x1024_S256x768_13_256))
        (View.ld S (Rect.unit ![12, 512] ![256, 512] inb_S272x1024_S256x512_12_512))
        (View.ld S (Rect.unit ![11, 512] ![256, 512] inb_S272x1024_S256x512_11_512))
        (View.ld S (Rect.unit ![10, 512] ![256, 512] inb_S272x1024_S256x512_10_512))
        (View.ld S (Rect.unit ![9, 512] ![256, 512] inb_S272x1024_S256x512_9_512)))
        (View.ld S (Rect.unit ![8, 768] ![256, 256] inb_S272x1024_S256x256_8_768))
        (View.ld S (Rect.unit ![7, 768] ![256, 256] inb_S272x1024_S256x256_7_768))
        (View.ld S (Rect.unit ![6, 768] ![256, 256] inb_S272x1024_S256x256_6_768))
        (View.ld S (Rect.unit ![5, 768] ![256, 256] inb_S272x1024_S256x256_5_768))
        (View.ld S (Rect.unit ![4, 768] ![256, 256] inb_S272x1024_S256x256_4_768))
        (View.ld S (Rect.unit ![3, 768] ![256, 256] inb_S272x1024_S256x256_3_768))
        (View.ld S (Rect.unit ![2, 768] ![256, 256] inb_S272x1024_S256x256_2_768))
        (View.ld S (Rect.unit ![1, 768] ![256, 256] inb_S272x1024_S256x256_1_768)) (ix2 r c)
      = wsum (2 ^ ((3 : Fin 4).val + 1)) z (B + r.val + 16) (lane 3 c) := by
  pointwise [k0_pay22, k0_pay18, k0_pay16, k0_pay13, k0_pay10]
  simp only [hS, hH]
  show _ = wsum 16 z _ _
  simp only [wsum, Finset.sum_range_succ, Finset.sum_range_zero, zero_add]
  repeat' refine congrArg₂ (· + ·) ?_ ?_
  all_goals exact congrArg₂ (ext z) (by omega) (Fin.ext (by simp [lane]; try omega))

end

/-- The signed minimum of two small naturals' words is the word of their minimum. -/
theorem min_int (a b : ℕ) (ha : a < 5000) (hb : b < 5000) :
    (IntOp.minsi (BitVec.ofNat 32 a) (BitVec.ofNat 32 b)).toInt = ((min a b : ℕ) : ℤ) := by
  have e2 : ∀ n : ℕ, n < 5000 → (BitVec.ofNat 32 n).toInt = (n : ℤ) := fun n hn => by
    rw [BitVec.toInt_eq_toNat_bmod, BitVec.toNat_ofNat]
    simp only [Int.bmod]
    omega
  unfold IntOp.minsi
  by_cases h : a < b
  · have hs : (BitVec.ofNat 32 a).slt (BitVec.ofNat 32 b) = true := by
      simp only [BitVec.slt, e2 a ha, e2 b hb]
      exact decide_eq_true (by omega)
    rw [if_pos hs, e2 a ha, min_eq_left h.le]
  · have hs : ¬ (BitVec.ofNat 32 a).slt (BitVec.ofNat 32 b) = true := by
      simp only [BitVec.slt, e2 a ha, e2 b hb, decide_eq_true_eq]
      omega
    rw [if_neg hs, e2 b hb, min_eq_right (by omega)]

/-- The count of a window of `w` at row `r` of the block at `256 i`, as the body's integers compute it. -/
theorem count_int (w : ℕ) (hw : w ≤ 16) (i : ℕ) (hi : i < 16) (r : Fin 256) :
    (((IntOp.minsi (BitVec.ofNat 32 w) (IntOp.addi (IntOp.addi (Scalar.muli (BitVec.ofNat 32 i) 256#32) (BitVec.ofNat 32 r.val)) 1#32)).toInt : ℝ) : EReal)
      = cnt w (256 * i + r.val) := by
  have hr := r.isLt
  have e : (IntOp.addi (IntOp.addi (Scalar.muli (BitVec.ofNat 32 i) 256#32) (BitVec.ofNat 32 r.val)) 1#32) = BitVec.ofNat 32 (256 * i + r.val + 1) := by
    apply BitVec.eq_of_toNat_eq
    show (BitVec.ofNat 32 i * 256#32 + BitVec.ofNat 32 r.val + 1#32).toNat = _
    simp only [BitVec.toNat_add, BitVec.toNat_mul, BitVec.toNat_ofNat]
    omega
  rw [e, min_int w _ (by omega) (by omega)]
  rfl

/-- The body's lane positions. -/
abbrev pos : IVec S256x1 32 := iota .tc S256x1 32 [0] iota_S256x1_d0_w32

section
variable (t : Fin cfg0.N) (i : ℕ) (hi : i < 16) (ht : (grid0.coords t 1).val = i)
include hi ht

/-- Group 0's inverse count. -/
theorem inv0 (r : Fin 256) : k0_pay12 (F := Ideal) pos (k0_pay8 (grid0.coords t)) (ix2 r 0)
    = Ideal.div 1 (cnt (2 ^ ((0 : Fin 4).val + 1)) (256 * i + r.val)) := by
  rw [← count_int _ (by decide) i hi r, ← ht]
  pointwise [k0_pay12, k0_pay9, k0_pay8, pos]
  rfl
/-- Group 1's inverse count. -/
theorem inv1 (r : Fin 256) (c : Fin 256) : k0_pay25 (k0_pay15 (F := Ideal) pos (k0_pay8 (grid0.coords t))) (ix2 r c)
    = Ideal.div 1 (cnt (2 ^ ((1 : Fin 4).val + 1)) (256 * i + r.val)) := by
  rw [← count_int _ (by decide) i hi r, ← ht]
  pointwise [k0_pay25, k0_pay15, k0_pay9, k0_pay8, pos]
  rfl
/-- Group 2's inverse count. -/
theorem inv2 (r : Fin 256) : k0_pay21 (F := Ideal) (k0_pay19 pos (k0_pay8 (grid0.coords t))) k0_pay20 (ix2 r 0)
    = Ideal.div 1 (cnt (2 ^ ((2 : Fin 4).val + 1)) (256 * i + r.val)) := by
  rw [← count_int _ (by decide) i hi r, ← ht]
  pointwise [k0_pay21, k0_pay19, k0_pay20, k0_pay9, k0_pay8, pos]
  rfl
/-- Group 3's inverse count. -/
theorem inv3 (r : Fin 256) : k0_pay23 (F := Ideal) (k0_pay9 pos (k0_pay8 (grid0.coords t))) (ix2 r 0)
    = Ideal.div 1 (cnt (2 ^ ((3 : Fin 4).val + 1)) (256 * i + r.val)) := by
  rw [← count_int _ (by decide) i hi r, ← ht]
  pointwise [k0_pay23, k0_pay9, k0_pay8, pos]
  rfl

end

/-- A group's map with its lanes and its output lane written another way. -/
theorem grp_of (g : Fin 4) (z : Fin 4096 → Fin 1024 → EReal) (P : Fin 4 → Fin 256 → Fin 256 → EReal) (s : ℕ) (d : Fin 256)
    (q : Fin 256 → Fin 1024) (hq : ∀ c, q c = lane g c) (e : Fin 256) (he : e = d) :
    (∑ c, (wsum (2 ^ (g.val + 1)) z (s + 16) (lane g c) * Ideal.div 1 (cnt (2 ^ (g.val + 1)) s) - ext z (s + 16) (q c)) * P g c e)
      = grp g z P s d := by
  subst he
  obtain rfl := funext hq
  rfl

/-- The mixed row of the body from its window sums, inverse counts and matrices. -/
theorem pay26_at (z : Fin 4096 → Fin 1024 → EReal) (P : Fin 4 → Fin 256 → Fin 256 → EReal) (s : ℕ)
    (x H : FVec Ideal S256x1024 .f32) (w0 w1 w2 w3 i1 : FVec Ideal S256x256 .f32) (i0 i2 i3 : FVec Ideal S256x1 .f32)
    (p0 p1 p2 p3 : Vec Ideal S1x256x256 .bf16) (ps : Vec Ideal S1x1024 .f32) (g : Vec Ideal S1x1x1x1024 .f32) (r : Fin 256)
    (hH : ∀ j, H (ix2 r j) = ext z (s + 16) j)
    (hw0 : ∀ c, w0 (ix2 r c) = wsum (2 ^ ((0 : Fin 4).val + 1)) z (s + 16) (lane 0 c))
    (hw1 : ∀ c, w1 (ix2 r c) = wsum (2 ^ ((1 : Fin 4).val + 1)) z (s + 16) (lane 1 c))
    (hw2 : ∀ c, w2 (ix2 r c) = wsum (2 ^ ((2 : Fin 4).val + 1)) z (s + 16) (lane 2 c))
    (hw3 : ∀ c, w3 (ix2 r c) = wsum (2 ^ ((3 : Fin 4).val + 1)) z (s + 16) (lane 3 c))
    (hi0 : i0 (ix2 r 0) = Ideal.div 1 (cnt (2 ^ ((0 : Fin 4).val + 1)) s))
    (hi1 : ∀ c, i1 (ix2 r c) = Ideal.div 1 (cnt (2 ^ ((1 : Fin 4).val + 1)) s))
    (hi2 : i2 (ix2 r 0) = Ideal.div 1 (cnt (2 ^ ((2 : Fin 4).val + 1)) s))
    (hi3 : i3 (ix2 r 0) = Ideal.div 1 (cnt (2 ^ ((3 : Fin 4).val + 1)) s))
    (hp0 : ∀ c d, p0 (ix3 0 c d) = P 0 c d) (hp1 : ∀ c d, p1 (ix3 0 c d) = P 1 c d)
    (hp2 : ∀ c d, p2 (ix3 0 c d) = P 2 c d) (hp3 : ∀ c d, p3 (ix3 0 c d) = P 3 c d) (k : Fin 1024) :
    k0_pay26 x H w1 w2 i2 w3 i3 (k0_pay24 H w0 i0 p0) i1 p1 p2 p3 ps g (ix2 r k)
      = x (ix2 r k) + g (ix4 0 0 0 k) * (pooled z P s k * ps (ix2 0 k)) := by
  have key : ∀ g' d, k = lane g' d → k0_pay26 x H w1 w2 i2 w3 i3 (k0_pay24 H w0 i0 p0) i1 p1 p2 p3 ps g (ix2 r k)
      = x (ix2 r k) + g (ix4 0 0 0 k) * (grp g' z P s d * ps (ix2 0 k)) := by
    intro g' d hk
    have hv : k.val = g'.val * 256 + d.val := congrArg Fin.val hk
    pointwise [k0_pay26, k0_pay24]
    simp only [hH, hw0, hw1, hw2, hw3, hi0, hi1, hi2, hi3, hp0, hp1, hp2, hp3]
    fin_cases g'
    · have hv0 : k.val = 0 + d.val := by simpa using hv
      rw [dif_pos (by omega)]
      exact congrArg (fun q => x (ix2 r k) + g (ix4 0 0 0 k) * (q * ps (ix2 0 k)))
        (grp_of 0 z P s d _ (fun c => Fin.ext (by simp [lane])) _ (Fin.ext (by simp; omega)))
    · have hv0 : k.val = 256 + d.val := by simpa using hv
      rw [dif_neg (by omega), dif_pos (by omega)]
      exact congrArg (fun q => x (ix2 r k) + g (ix4 0 0 0 k) * (q * ps (ix2 0 k)))
        (grp_of 1 z P s d _ (fun c => Fin.ext (by simp [lane])) _ (Fin.ext (by simp; omega)))
    · have hv0 : k.val = 512 + d.val := by simpa using hv
      rw [dif_neg (by omega), dif_neg (by omega), dif_pos (by omega)]
      exact congrArg (fun q => x (ix2 r k) + g (ix4 0 0 0 k) * (q * ps (ix2 0 k)))
        (grp_of 2 z P s d _ (fun c => Fin.ext (by simp [lane])) _ (Fin.ext (by simp; omega)))
    · have hv0 : k.val = 768 + d.val := by simpa using hv
      rw [dif_neg (by omega), dif_neg (by omega), dif_neg (by omega)]
      exact congrArg (fun q => x (ix2 r k) + g (ix4 0 0 0 k) * (q * ps (ix2 0 k)))
        (grp_of 3 z P s d _ (fun c => Fin.ext (by simp [lane])) _ (Fin.ext (by simp; omega)))
  obtain ⟨g', d, hk⟩ := exists_lane k
  rw [key g' d hk, hk, pooled_lane]

/-- The call's result from the mixed rows: the feed-forward map of the normalised mixed rows, gated and added. -/
theorem out_at (X : FVec Ideal S256x1024 .f32) (x7 : Vec Ideal S1x1024 .f32) (x8 x9 x10 : Vec Ideal S1x1x1x1024 .f32)
    (x11 x12 : Vec Ideal S1024x2816 .bf16) (x13 : Vec Ideal S2816x1024 .bf16) (u : Fin 1) (r : Fin 256) (k : Fin 1024)
    (y : Fin 1024 → EReal) (hy : ∀ j, X (ix2 r j) = y j) :
    k0_pay1 X (k0_pay28 x10) (k0_pay29 X x7 (k0_pay27 x8) x9)
        (k0_pay30 X x7 (k0_pay27 x8) x9 (View.ld x11 (Rect.unit ![0, 0] ![1024, 1408] inb_S1024x2816_S1024x1408_0_0))
          (View.ld x12 (Rect.unit ![0, 0] ![1024, 1408] inb_S1024x2816_S1024x1408_0_0))
          (View.ld x13 (Rect.unit ![0, 0] ![1408, 1024] inb_S2816x1024_S1408x1024_0_0)))
        (View.ld x11 (Rect.unit ![0, 1408] ![1024, 1408] inb_S1024x2816_S1024x1408_0_1408))
        (constant S256x1408 FTy.f32 0#32)
        (View.ld x12 (Rect.unit ![0, 1408] ![1024, 1408] inb_S1024x2816_S1024x1408_0_1408))
        (View.ld x13 (Rect.unit ![1408, 0] ![1408, 1024] inb_S2816x1024_S1408x1024_1408_0)) (ix3 u r k)
      = y k + x10 (ix4 0 0 0 k) *
        swiglu (pre y (fun j => x7 (ix2 0 j)) (fun j => x9 (ix4 0 0 0 j)) (fun j => x8 (ix4 0 0 0 j)))
          (fun j f => x11 (ix2 j f)) (fun j f => x12 (ix2 j f)) (fun f j => x13 (ix2 f j)) k := by
  rw [swiglu_halves]
  pointwise [k0_pay1, k0_pay28, k0_pay29, k0_pay30, k0_pay27]
  simp only [hy]
  rfl

end Cert.PoolFfnIdeal.Tail
-- ==== Proof.PoolIn.lean ====
module

public import proofs.«01_k».proof.Proof.PoolPay
public import Idealize.ShloMosaic.Lib.WritesUnit

/-!
What a grid point of the prompt pooling call finds: the staged blocks, and the scratch rows, which are the sixteen
normalised rows before the block and the block's own.
-/

set_option maxRecDepth 16384
@[expose] public section
noncomputable section
open Idealize.ShloMosaic Idealize.ShloMosaic.TcCoe Idealize.SL.Sem
open Idealize.ShloMosaic.Pipeline (Dat)

namespace Cert.PoolFfnIdeal.Tail
open Cert.PoolFfnIdeal Cert.PoolFfnIdeal.Gen Cert.Rows Cert.Pool

variable (m : (ℓ : Loc nD τ sig) → Buf (Elt Ideal) ℓ)

/-- There are sixty-four grid points. -/
theorem point_lt (t : Fin cfg0.N) : t.val < 64 := t.isLt

/-- The windows' block indices at each grid point. -/
theorem idx : ∀ t : Fin cfg0.N, win0_0.index t = ![t.val / 16, t.val % 16, 0] ∧ win0_1.index t = ![0, 0]
    ∧ win0_2.index t = ![t.val / 16, 0, 0, 0] ∧ win0_3.index t = ![t.val / 16, 1, 0, 0] ∧ win0_4.index t = ![t.val / 16, 2, 0, 0]
    ∧ win0_5.index t = ![0, 0, 0] ∧ win0_6.index t = ![0, 0] ∧ win0_7.index t = ![0, 0]
    ∧ win0_8.index t = ![t.val / 16, 3, 0, 0] ∧ win0_9.index t = ![t.val / 16, 4, 0, 0] ∧ win0_10.index t = ![t.val / 16, 5, 0, 0]
    ∧ win0_11.index t = ![0, 0] ∧ win0_12.index t = ![0, 0] ∧ win0_13.index t = ![0, 0]
    ∧ win0_14.index t = ![t.val / 16, t.val % 16, 0] ∧ win0_15.index t = ![t.val / 16, 0, 0] :=
  (by decide +kernel : ∀ t : Fin grid0.N, _)

/-- The second grid coordinate is the block's number in its batch entry. -/
theorem coord1 : ∀ t : Fin cfg0.N, (grid0.coords t 1).val = t.val % 16 := (by decide +kernel : ∀ t : Fin grid0.N, _)

/-- The modulations are reshaped before the launch. -/
theorem V_v0 (c : Dev nD) : V m c main_v0 = shapeCast S4x6x1x1024 (m ((c : Thread nD τ).loc main_arg5)) shapeCasts_S4x6144_S4x6x1x1024 := by
  rfl

/-- The rows block at a point is the array's rows there. -/
theorem read0 (c : Dev nD) (t : Fin cfg0.N) (r : Fin 256) (j : Fin 1024) : (iblk m c 0 t : Vec Ideal S1x256x1024 .f32) (ix3 0 r j)
    = m ((c : Thread nD τ).loc main_arg0) (ix3 (⟨t.val / 16, by have := point_lt t; omega⟩ : Fin 4) (⟨t.val % 16 * 256 + r.val, by omega⟩ : Fin 4096) j) := by
  have := point_lt t
  show V m c main_arg0 _ = _
  rw [V_main_arg0]
  blk_ext [idx t]

/-- The first normalisation gain is staged whole. -/
theorem read1 (c : Dev nD) (t : Fin cfg0.N) (i : Fin 1) (j : Fin 1024) : (iblk m c 1 t : Vec Ideal S1x1024 .f32) (ix2 i j)
    = m ((c : Thread nD τ).loc main_arg1) (ix2 i j) := by
  show V m c main_arg1 _ = _
  rw [V_main_arg1]
  blk_ext [idx t]

/-- Modulation row 0 of the point's batch entry. -/
theorem read2 (c : Dev nD) (t : Fin cfg0.N) (j : Fin 1024) : (iblk m c 2 t : Vec Ideal S1x1x1x1024 .f32) (ix4 0 0 0 j)
    = m ((c : Thread nD τ).loc main_arg5) (ix2 (⟨t.val / 16, by have := point_lt t; omega⟩ : Fin 4) ⟨j.val, by omega⟩) := by
  have := point_lt t
  have e : (win0_2.blk t).view.emb (ix4 0 0 0 j) = (ix4 (⟨t.val / 16, by omega⟩ : Fin 4) 0 0 j : S4x6x1x1024.Idx) := by
    blk_ext [idx t]
  refine (congrFun (V_v0 m c) _).trans ?_
  refine (congrArg _ e).trans ?_
  pointwise []

/-- Modulation row 1 of the point's batch entry. -/
theorem read3 (c : Dev nD) (t : Fin cfg0.N) (j : Fin 1024) : (iblk m c 3 t : Vec Ideal S1x1x1x1024 .f32) (ix4 0 0 0 j)
    = m ((c : Thread nD τ).loc main_arg5) (ix2 (⟨t.val / 16, by have := point_lt t; omega⟩ : Fin 4) ⟨1024 + j.val, by omega⟩) := by
  have := point_lt t
  have e : (win0_3.blk t).view.emb (ix4 0 0 0 j) = (ix4 (⟨t.val / 16, by omega⟩ : Fin 4) 1 0 j : S4x6x1x1024.Idx) := by
    blk_ext [idx t]
  refine (congrFun (V_v0 m c) _).trans ?_
  refine (congrArg _ e).trans ?_
  pointwise []

/-- Modulation row 2 of the point's batch entry. -/
theorem read4 (c : Dev nD) (t : Fin cfg0.N) (j : Fin 1024) : (iblk m c 4 t : Vec Ideal S1x1x1x1024 .f32) (ix4 0 0 0 j)
    = m ((c : Thread nD τ).loc main_arg5) (ix2 (⟨t.val / 16, by have := point_lt t; omega⟩ : Fin 4) ⟨2048 + j.val, by omega⟩) := by
  have := point_lt t
  have e : (win0_4.blk t).view.emb (ix4 0 0 0 j) = (ix4 (⟨t.val / 16, by omega⟩ : Fin 4) 2 0 j : S4x6x1x1024.Idx) := by
    blk_ext [idx t]
  refine (congrFun (V_v0 m c) _).trans ?_
  refine (congrArg _ e).trans ?_
  pointwise []

/-- Modulation row 3 of the point's batch entry. -/
theorem read8 (c : Dev nD) (t : Fin cfg0.N) (j : Fin 1024) : (iblk m c 8 t : Vec Ideal S1x1x1x1024 .f32) (ix4 0 0 0 j)
    = m ((c : Thread nD τ).loc main_arg5) (ix2 (⟨t.val / 16, by have := point_lt t; omega⟩ : Fin 4) ⟨3072 + j.val, by omega⟩) := by
  have := point_lt t
  have e : (win0_8.blk t).view.emb (ix4 0 0 0 j) = (ix4 (⟨t.val / 16, by omega⟩ : Fin 4) 3 0 j : S4x6x1x1024.Idx) := by
    blk_ext [idx t]
  refine (congrFun (V_v0 m c) _).trans ?_
  refine (congrArg _ e).trans ?_
  pointwise []

/-- Modulation row 4 of the point's batch entry. -/
theorem read9 (c : Dev nD) (t : Fin cfg0.N) (j : Fin 1024) : (iblk m c 9 t : Vec Ideal S1x1x1x1024 .f32) (ix4 0 0 0 j)
    = m ((c : Thread nD τ).loc main_arg5) (ix2 (⟨t.val / 16, by have := point_lt t; omega⟩ : Fin 4) ⟨4096 + j.val, by omega⟩) := by
  have := point_lt t
  have e : (win0_9.blk t).view.emb (ix4 0 0 0 j) = (ix4 (⟨t.val / 16, by omega⟩ : Fin 4) 4 0 j : S4x6x1x1024.Idx) := by
    blk_ext [idx t]
  refine (congrFun (V_v0 m c) _).trans ?_
  refine (congrArg _ e).trans ?_
  pointwise []

/-- Modulation row 5 of the point's batch entry. -/
theorem read10 (c : Dev nD) (t : Fin cfg0.N) (j : Fin 1024) : (iblk m c 10 t : Vec Ideal S1x1x1x1024 .f32) (ix4 0 0 0 j)
    = m ((c : Thread nD τ).loc main_arg5) (ix2 (⟨t.val / 16, by have := point_lt t; omega⟩ : Fin 4) ⟨5120 + j.val, by omega⟩) := by
  have := point_lt t
  have e : (win0_10.blk t).view.emb (ix4 0 0 0 j) = (ix4 (⟨t.val / 16, by omega⟩ : Fin 4) 5 0 j : S4x6x1x1024.Idx) := by
    blk_ext [idx t]
  refine (congrFun (V_v0 m c) _).trans ?_
  refine (congrArg _ e).trans ?_
  pointwise []

/-- The groups' matrices are staged whole. -/
theorem read5 (c : Dev nD) (t : Fin cfg0.N) (i : Fin 4) (j : Fin 256) (k : Fin 256) : (iblk m c 5 t : Vec Ideal S4x256x256 .bf16) (ix3 i j k)
    = m ((c : Thread nD τ).loc main_arg2) (ix3 i j k) := by
  show V m c main_arg2 _ = _
  rw [V_main_arg2]
  blk_ext [idx t]

/-- The pooling scale is staged whole. -/
theorem read6 (c : Dev nD) (t : Fin cfg0.N) (i : Fin 1) (j : Fin 1024) : (iblk m c 6 t : Vec Ideal S1x1024 .f32) (ix2 i j)
    = m ((c : Thread nD τ).loc main_arg3) (ix2 i j) := by
  show V m c main_arg3 _ = _
  rw [V_main_arg3]
  blk_ext [idx t]

/-- The second normalisation gain is staged whole. -/
theorem read7 (c : Dev nD) (t : Fin cfg0.N) (i : Fin 1) (j : Fin 1024) : (iblk m c 7 t : Vec Ideal S1x1024 .f32) (ix2 i j)
    = m ((c : Thread nD τ).loc main_arg4) (ix2 i j) := by
  show V m c main_arg4 _ = _
  rw [V_main_arg4]
  blk_ext [idx t]

/-- The gate weights are staged whole. -/
theorem read11 (c : Dev nD) (t : Fin cfg0.N) (i : Fin 1024) (j : Fin 2816) : (iblk m c 11 t : Vec Ideal S1024x2816 .bf16) (ix2 i j)
    = m ((c : Thread nD τ).loc main_arg6) (ix2 i j) := by
  show V m c main_arg6 _ = _
  rw [V_main_arg6]
  blk_ext [idx t]

/-- The up weights are staged whole. -/
theorem read12 (c : Dev nD) (t : Fin cfg0.N) (i : Fin 1024) (j : Fin 2816) : (iblk m c 12 t : Vec Ideal S1024x2816 .bf16) (ix2 i j)
    = m ((c : Thread nD τ).loc main_arg7) (ix2 i j) := by
  show V m c main_arg7 _ = _
  rw [V_main_arg7]
  blk_ext [idx t]

/-- The down weights are staged whole. -/
theorem read13 (c : Dev nD) (t : Fin cfg0.N) (i : Fin 2816) (j : Fin 1024) : (iblk m c 13 t : Vec Ideal S2816x1024 .bf16) (ix2 i j)
    = m ((c : Thread nD τ).loc main_arg8) (ix2 i j) := by
  show V m c main_arg8 _ = _
  rw [V_main_arg8]
  blk_ext [idx t]

/-- The normalised rows of a batch entry. -/
def rowZ (X : FVec Ideal S4x4096x1024 .f32) (N : FVec Ideal S1x1024 .f32) (M : FVec Ideal S4x6144 .f32) (b : Fin 4)
    (s : Fin 4096) : Fin 1024 → EReal :=
  pre (fun j => X (ix3 b s j)) (fun j => N (ix2 0 j)) (fun j => M (ix2 b ⟨1024 + j.val, by omega⟩)) (fun j => M (ix2 b ⟨j.val, by omega⟩))

/-- The normalised rows of a grid point's batch entry, of the launch's arguments. -/
def zOf (c : Dev nD) (b : ℕ) (hb : b < 4) : Fin 4096 → Fin 1024 → EReal :=
  rowZ (m ((c : Thread nD τ).loc main_arg0)) (m ((c : Thread nD τ).loc main_arg1)) (m ((c : Thread nD τ).loc main_arg5)) ⟨b, hb⟩

/-- A point's normalised rows are rows of the padded rows. -/
theorem rows_at (c : Dev nD) (t : Fin cfg0.N) (hb : t.val / 16 < 4) (r : Fin 256) (j : Fin 1024) :
    k0_pay5 (iblk m c 0 t) (iblk m c 1 t) (iblk m c 2 t) (iblk m c 3 t) (ix2 r j)
      = ext (zOf m c (t.val / 16) hb) (256 * (t.val % 16) + 16 + r.val) j := by
  have hr := r.isLt
  rw [pay5_at, ext, dif_pos (by omega)]
  simp only [read0, read1, read2, read3]
  unfold zOf rowZ
  have e : (⟨256 * (t.val % 16) + 16 + r.val - 16, by omega⟩ : Fin 4096) = ⟨t.val % 16 * 256 + r.val, by omega⟩ := Fin.ext (by dsimp only; omega)
  rw [e]

/-- The latest store's rows, read back. -/
theorem canon_hit {o n : ℕ} (inb : ∀ a, (![o, 0] : Fin 2 → ℕ) a + (![n, 1024] : Fin 2 → ℕ) a ≤ S272x1024.size a)
    (w : Vec Ideal (Rect.unit (s := S272x1024) ![o, 0] ![n, 1024] inb).shape .f32) (L : List (View.Piece (Elt Ideal) S272x1024 .f32))
    (r : Fin 272) (j : Fin 1024) (x : (Rect.unit (s := S272x1024) ![o, 0] ![n, 1024] inb).shape.Idx)
    (h0 : r.val = o + (x 0).val) (h1 : j.val = (x 1).val) :
    (View.canon (⟨Rect.unit ![o, 0] ![n, 1024] inb, w⟩ :: L) : Vec Ideal S272x1024 .f32) (ix2 r j) = w x := by
  refine (View.read_writes_junk_apply_eq_canon (View.whole cc0_scratch0) _ _).symm.trans ?_
  refine View.read_writes_cons_unit_of_mem _ _ inb w L _ x rfl ?_
  intro a
  fin_cases a
  · exact h0
  · show j.val = 0 + (x 1).val
    omega

/-- Rows the latest store does not reach come from the stores before it. -/
theorem canon_miss {o n : ℕ} (inb : ∀ a, (![o, 0] : Fin 2 → ℕ) a + (![n, 1024] : Fin 2 → ℕ) a ≤ S272x1024.size a)
    (w : Vec Ideal (Rect.unit (s := S272x1024) ![o, 0] ![n, 1024] inb).shape .f32) (L : List (View.Piece (Elt Ideal) S272x1024 .f32))
    (r : Fin 272) (j : Fin 1024) (h : r.val < o ∨ o + n ≤ r.val) :
    (View.canon (⟨Rect.unit ![o, 0] ![n, 1024] inb, w⟩ :: L) : Vec Ideal S272x1024 .f32) (ix2 r j)
      = (View.canon L : Vec Ideal S272x1024 .f32) (ix2 r j) := by
  refine (View.read_writes_junk_apply_eq_canon (View.whole cc0_scratch0) _ _).symm.trans ?_
  refine (View.read_writes_cons_unit_of_not_mem _ _ inb w L _ rfl 0 h).trans ?_
  exact View.read_writes_junk_apply_eq_canon (View.whole cc0_scratch0) _ _

/-- The block's rows of the scratch buffer, from the store of the block. -/
abbrev own (c : Dev nD) (t : Fin cfg0.N) : View.Piece (Elt Ideal) S272x1024 .f32 :=
  ⟨Rect.unit ![16, 0] ![256, 1024] inb_S272x1024_S256x1024_16_0, k0_pay7 (iblk m c 0 t) (iblk m c 1 t) (iblk m c 2 t) (iblk m c 3 t)⟩

/-- The zero rows before the first block. -/
abbrev zeros : View.Piece (Elt Ideal) S272x1024 .f32 :=
  ⟨Rect.unit ![0, 0] ![16, 1024] inb_S272x1024_S16x1024_0_0, k0_pay6 (F := Ideal)⟩

/-- The block's rows read back are the padded rows. -/
theorem own_at (c : Dev nD) (t : Fin cfg0.N) (hb : t.val / 16 < 4) (L : List (View.Piece (Elt Ideal) S272x1024 .f32))
    (r : Fin 272) (j : Fin 1024) (h : 16 ≤ r.val) :
    (View.canon (own m c t :: L) : Vec Ideal S272x1024 .f32) (ix2 r j)
      = ext (zOf m c (t.val / 16) hb) (256 * (t.val % 16) + r.val) j := by
  have hr := r.isLt
  refine (canon_hit _ _ _ r j (ix2 (⟨r.val - 16, by omega⟩ : Fin 256) j) (by show r.val = 16 + (r.val - 16); omega) rfl).trans ?_
  refine (pay7_at _ _ _ _ _ _).trans ((rows_at m c t hb _ j).trans ?_)
  exact congrArg (fun n => ext _ n j) (by dsimp only; omega)

/-- At the first block of a batch entry, the scratch rows before the halo is moved are the padded rows. -/
theorem scratch_A (c : Dev nD) (t : Fin cfg0.N) (hb : t.val / 16 < 4) (h0 : t.val % 16 = 0) (r : Fin 272) (j : Fin 1024) :
    (View.canon [own m c t, zeros] : Vec Ideal S272x1024 .f32) (ix2 r j)
      = ext (zOf m c (t.val / 16) hb) (256 * (t.val % 16) + r.val) j := by
  have hr := r.isLt
  by_cases h : 16 ≤ r.val
  · exact own_at m c t hb _ r j h
  · refine (canon_miss _ _ _ r j (Or.inl (by omega))).trans ?_
    refine (canon_hit _ _ _ r j (ix2 (⟨r.val, by omega⟩ : Fin 16) j) (by show r.val = 0 + r.val; omega) rfl).trans ?_
    rw [ext, dif_neg (by omega)]
    pointwise [k0_pay6]

/-- At a later block, the scratch rows before the halo is moved are the padded rows, if the first sixteen were so already. -/
theorem scratch_B (c : Dev nD) (t : Fin cfg0.N) (hb : t.val / 16 < 4) (P : Vec Ideal S272x1024 .f32)
    (w : (Memref.whole cc0_scratch0).IsWhole)
    (hP : ∀ (a : Fin 16) (j : Fin 1024), P (ix2 (⟨a.val, by omega⟩ : Fin 272) j) = ext (zOf m c (t.val / 16) hb) (256 * (t.val % 16) + a.val) j)
    (r : Fin 272) (j : Fin 1024) :
    (View.read (Elt Ideal) (View.whole cc0_scratch0) ((View.whole cc0_scratch0).writes (Elt Ideal) (w.unread P) [own m c t]) : Vec Ideal S272x1024 .f32) (ix2 r j)
      = ext (zOf m c (t.val / 16) hb) (256 * (t.val % 16) + r.val) j := by
  have hr := r.isLt
  by_cases h : 16 ≤ r.val
  · refine (View.read_writes_cons_unit_of_mem _ _ _ _ [] (ix2 r j) (ix2 (⟨r.val - 16, by omega⟩ : Fin 256) j) rfl ?_).trans ?_
    · intro a
      fin_cases a
      · show r.val = 16 + (r.val - 16)
        omega
      · show j.val = 0 + j.val
        omega
    · refine (pay7_at _ _ _ _ _ _).trans ((rows_at m c t hb _ j).trans ?_)
      exact congrArg (fun n => ext _ n j) (by dsimp only; omega)
  · refine (View.read_writes_cons_unit_of_not_mem _ _ _ _ [] (ix2 r j) rfl 0 (Or.inl (by show r.val < 16; omega))).trans ?_
    have e : View.read (Elt Ideal) (View.whole cc0_scratch0) (w.unread P) = P := w.read_unread P
    refine (congrFun e _).trans ?_
    exact hP ⟨r.val, by omega⟩ j

end Cert.PoolFfnIdeal.Tail
-- ==== Proof.PoolFfn.lean ====
module

public import proofs.«01_k».proof.Proof.PoolIn

/-!
The prompt pooling call: the rows carried from block to block, the blocks it writes, and its two result arrays.
-/

set_option maxRecDepth 16384
@[expose] public section
noncomputable section
open Idealize.ShloMosaic Idealize.ShloMosaic.TcCoe Idealize.SL.Sem
open Idealize.ShloMosaic.Pipeline (Dat)

namespace Cert.PoolFfnIdeal.Tail
open Cert.PoolFfnIdeal Cert.PoolFfnIdeal.Gen Cert.Rows Cert.Pool

variable (m : (ℓ : Loc nD τ sig) → Buf (Elt Ideal) ℓ)

/-- What the halo store leaves in the first sixteen rows. -/
theorem halo_at (Q : Vec Ideal S16x1024 .f32) (L : List (View.Piece (Elt Ideal) S272x1024 .f32)) (a : Fin 16) (j : Fin 1024) :
    (View.canon (⟨Rect.unit ![0, 0] ![16, 1024] inb_S272x1024_S16x1024_0_0, k0_pay2 Q⟩ :: L) : Vec Ideal S272x1024 .f32)
      (ix2 (⟨a.val, by omega⟩ : Fin 272) j) = Q (ix2 a j) := by
  refine (canon_hit _ _ _ _ j (ix2 a j) (by show a.val = 0 + a.val; omega) rfl).trans ?_
  pointwise [k0_pay2]

/-- Where the last sixteen rows of the scratch buffer are loaded from. -/
abbrev lastRect : Rect S272x1024 := Rect.unit (s := S272x1024) ![256, 0] ![16, 1024] inb_S272x1024_S16x1024_256_0

/-- The last sixteen rows of the scratch buffer, loaded after the block's store. -/
theorem last_at (c : Dev nD) (t : Fin cfg0.N) (hb : t.val / 16 < 4) (L : List (View.Piece (Elt Ideal) S272x1024 .f32)) (a : Fin 16) (j : Fin 1024) :
    ((View.whole cc0_scratch0).readCov (Val := Elt Ideal) (own m c t :: L) lastRect.toLoadRect : Vec Ideal S16x1024 .f32) (ix2 a j)
      = ext (zOf m c (t.val / 16) hb) (256 * (t.val % 16 + 1) + a.val) j := by
  rw [View.readCov_eq_canon']
  have e : lastRect.toLoadRect.idx (ix2 a j) = ix2 (⟨256 + a.val, by omega⟩ : Fin 272) j := by
    funext q
    fin_cases q
    · exact Fin.ext (by show 256 + 1 * a.val = 256 + a.val; omega)
    · exact Fin.ext (by show 0 + 1 * j.val = j.val; omega)
  refine (congrArg (View.canon (own m c t :: L)) e).trans ((own_at m c t hb L _ j (by show 16 ≤ 256 + a.val; omega)).trans ?_)
  exact congrArg (fun n => ext _ n j) (by dsimp only; omega)

/-- After each point the first sixteen scratch rows are the last sixteen of the padded rows so far. -/
theorem carry (c : Dev nD) : ∀ (n : ℕ) (hn : n < cfg0.N) (hb : n / 16 < 4) (a : Fin 16) (j : Fin 1024),
    ((outsAt0 m c n hn).2.2 : Vec Ideal S272x1024 .f32) (ix2 (⟨a.val, by omega⟩ : Fin 272) j)
      = ext (zOf m c (n / 16) hb) (256 * (n % 16 + 1) + a.val) j := by
  intro n hn hb a j
  by_cases h0 : n % 16 = 0
  · have hA := outsAt0_A m c ⟨n, hn⟩ h0
    dsimp only at hA
    rw [hA]
    frame_out
    exact (halo_at _ _ a j).trans (last_at m c ⟨n, hn⟩ hb [zeros] a j)
  · have hB := outsAt0_B m c ⟨n, hn⟩ h0
    dsimp only at hB
    rw [hB]
    frame_out
    exact (halo_at _ _ a j).trans (last_at m c ⟨n, hn⟩ hb [] a j)

/-- The rows that the call leaves for the next chunk: the last sixteen of each point's padded rows. -/
theorem tail_at (c : Dev nD) (t : Fin cfg0.N) (hb : t.val / 16 < 4) (u : Fin 1) (a : Fin 16) (j : Fin 1024) :
    ((outsAt0 m c t.val t.isLt).2.1 : Vec Ideal S1x16x1024 .f32) (ix3 u a j)
      = ext (zOf m c (t.val / 16) hb) (256 * (t.val % 16 + 1) + a.val) j := by
  have hq : ∀ Q : Vec Ideal S16x1024 .f32, k0_pay3 Q (ix3 u a j) = Q (ix2 a j) := fun Q => by pointwise [k0_pay3]
  by_cases h0 : t.val % 16 = 0
  · rw [outsAt0_A m c t h0]
    frame_out
    exact (hq _).trans (last_at m c t hb [zeros] a j)
  · rw [outsAt0_B m c t h0]
    frame_out
    exact (hq _).trans (last_at m c t hb [] a j)

/-- The mixed row: the row plus the gated, scaled pooling mix. -/
def mixedP (X : FVec Ideal S4x4096x1024 .f32) (N : FVec Ideal S1x1024 .f32) (PW : FVec Ideal S4x256x256 .bf16)
    (PS : FVec Ideal S1x1024 .f32) (M : FVec Ideal S4x6144 .f32) (b : Fin 4) (s : Fin 4096) (k : Fin 1024) : EReal :=
  X (ix3 b s k) + M (ix2 b ⟨2048 + k.val, by omega⟩) *
    (pooled (rowZ X N M b) (fun g c d => PW (ix3 g c d)) s.val k * PS (ix2 0 k))

/-- The call's first result at an index. -/
def resultP (X : FVec Ideal S4x4096x1024 .f32) (N : FVec Ideal S1x1024 .f32) (PW : FVec Ideal S4x256x256 .bf16)
    (PS N2 : FVec Ideal S1x1024 .f32) (M : FVec Ideal S4x6144 .f32) (WG WU : FVec Ideal S1024x2816 .bf16)
    (WD : FVec Ideal S2816x1024 .bf16) (b : Fin 4) (s : Fin 4096) (k : Fin 1024) : EReal :=
  mixedP X N PW PS M b s k + M (ix2 b ⟨5120 + k.val, by omega⟩) *
    swiglu (pre (mixedP X N PW PS M b s) (fun j => N2 (ix2 0 j)) (fun j => M (ix2 b ⟨4096 + j.val, by omega⟩))
        (fun j => M (ix2 b ⟨3072 + j.val, by omega⟩)))
      (fun j f => WG (ix2 j f)) (fun j f => WU (ix2 j f)) (fun f j => WD (ix2 f j)) k

/-- The first result array. -/
def outArr (X : FVec Ideal S4x4096x1024 .f32) (N : FVec Ideal S1x1024 .f32) (PW : FVec Ideal S4x256x256 .bf16)
    (PS N2 : FVec Ideal S1x1024 .f32) (M : FVec Ideal S4x6144 .f32) (WG WU : FVec Ideal S1024x2816 .bf16)
    (WD : FVec Ideal S2816x1024 .bf16) : FVec Ideal S4x4096x1024 .f32 :=
  fun i => resultP X N PW PS N2 M WG WU WD (i 0) (i 1) (i 2)

/-- The second result array: the last sixteen normalised rows of each batch entry. -/
def tailArr (X : FVec Ideal S4x4096x1024 .f32) (N : FVec Ideal S1x1024 .f32) (M : FVec Ideal S4x6144 .f32) : FVec Ideal S4x16x1024 .f32 :=
  fun i => rowZ X N M (i 0) ⟨4080 + (i 1).val, by have h : (i 1).val < 16 := (i 1).isLt; omega⟩ (i 2)

/-- The block's mixed rows as the body computes them from the scratch rows `S`. -/
def mixT (c : Dev nD) (t : Fin cfg0.N) (S : Vec Ideal S272x1024 .f32) : FVec Ideal S256x1024 .f32 :=
  k0_pay26 (k0_pay4 (iblk m c 0 t)) (k0_pay5 (iblk m c 0 t) (iblk m c 1 t) (iblk m c 2 t) (iblk m c 3 t))
    (k0_pay14 (k0_pay5 (iblk m c 0 t) (iblk m c 1 t) (iblk m c 2 t) (iblk m c 3 t))
      (View.ld S (Rect.unit ![15, 0] ![256, 1024] inb_S272x1024_S256x1024_15_0))
      (View.ld S (Rect.unit ![14, 256] ![256, 768] inb_S272x1024_S256x768_14_256))
      (View.ld S (Rect.unit ![13, 256] ![256, 768] inb_S272x1024_S256x768_13_256)))
    (k0_pay17 (k0_pay5 (iblk m c 0 t) (iblk m c 1 t) (iblk m c 2 t) (iblk m c 3 t))
      (View.ld S (Rect.unit ![15, 0] ![256, 1024] inb_S272x1024_S256x1024_15_0))
      (View.ld S (Rect.unit ![14, 256] ![256, 768] inb_S272x1024_S256x768_14_256))
      (View.ld S (Rect.unit ![13, 256] ![256, 768] inb_S272x1024_S256x768_13_256))
      (View.ld S (Rect.unit ![12, 512] ![256, 512] inb_S272x1024_S256x512_12_512))
      (View.ld S (Rect.unit ![11, 512] ![256, 512] inb_S272x1024_S256x512_11_512))
      (View.ld S (Rect.unit ![10, 512] ![256, 512] inb_S272x1024_S256x512_10_512))
      (View.ld S (Rect.unit ![9, 512] ![256, 512] inb_S272x1024_S256x512_9_512)))
    (k0_pay21 (k0_pay19 pos (k0_pay8 (grid0.coords t))) k0_pay20)
    (k0_pay22
      (k0_pay18 (k0_pay5 (iblk m c 0 t) (iblk m c 1 t) (iblk m c 2 t) (iblk m c 3 t))
        (View.ld S (Rect.unit ![15, 0] ![256, 1024] inb_S272x1024_S256x1024_15_0))
        (View.ld S (Rect.unit ![14, 256] ![256, 768] inb_S272x1024_S256x768_14_256))
        (View.ld S (Rect.unit ![13, 256] ![256, 768] inb_S272x1024_S256x768_13_256))
        (View.ld S (Rect.unit ![12, 512] ![256, 512] inb_S272x1024_S256x512_12_512))
        (View.ld S (Rect.unit ![11, 512] ![256, 512] inb_S272x1024_S256x512_11_512))
        (View.ld S (Rect.unit ![10, 512] ![256, 512] inb_S272x1024_S256x512_10_512))
        (View.ld S (Rect.unit ![9, 512] ![256, 512] inb_S272x1024_S256x512_9_512)))
      (View.ld S (Rect.unit ![8, 768] ![256, 256] inb_S272x1024_S256x256_8_768))
      (View.ld S (Rect.unit ![7, 768] ![256, 256] inb_S272x1024_S256x256_7_768))
      (View.ld S (Rect.unit ![6, 768] ![256, 256] inb_S272x1024_S256x256_6_768))
      (View.ld S (Rect.unit ![5, 768] ![256, 256] inb_S272x1024_S256x256_5_768))
      (View.ld S (Rect.unit ![4, 768] ![256, 256] inb_S272x1024_S256x256_4_768))
      (View.ld S (Rect.unit ![3, 768] ![256, 256] inb_S272x1024_S256x256_3_768))
      (View.ld S (Rect.unit ![2, 768] ![256, 256] inb_S272x1024_S256x256_2_768))
      (View.ld S (Rect.unit ![1, 768] ![256, 256] inb_S272x1024_S256x256_1_768)))
    (k0_pay23 (k0_pay9 pos (k0_pay8 (grid0.coords t))))
    (k0_pay24 (k0_pay5 (iblk m c 0 t) (iblk m c 1 t) (iblk m c 2 t) (iblk m c 3 t))
      (k0_pay11 (k0_pay5 (iblk m c 0 t) (iblk m c 1 t) (iblk m c 2 t) (iblk m c 3 t))
        (View.ld S (Rect.unit ![15, 0] ![256, 1024] inb_S272x1024_S256x1024_15_0)))
      (k0_pay12 pos (k0_pay8 (grid0.coords t)))
      (View.ld (iblk m c 5 t) (Rect.unit ![0, 0, 0] ![1, 256, 256] inb_S4x256x256_S1x256x256_0_0_0)))
    (k0_pay25 (k0_pay15 pos (k0_pay8 (grid0.coords t))))
    (View.ld (iblk m c 5 t) (Rect.unit ![1, 0, 0] ![1, 256, 256] inb_S4x256x256_S1x256x256_1_0_0))
    (View.ld (iblk m c 5 t) (Rect.unit ![2, 0, 0] ![1, 256, 256] inb_S4x256x256_S1x256x256_2_0_0))
    (View.ld (iblk m c 5 t) (Rect.unit ![3, 0, 0] ![1, 256, 256] inb_S4x256x256_S1x256x256_3_0_0)) (iblk m c 6 t) (iblk m c 4 t)

/-- The block of results as the body computes it from the scratch rows `S`. -/
def blockT (c : Dev nD) (t : Fin cfg0.N) (S : Vec Ideal S272x1024 .f32) : FVec Ideal S1x256x1024 .f32 :=
  k0_pay1 (mixT m c t S) (k0_pay28 (iblk m c 10 t)) (k0_pay29 (mixT m c t S) (iblk m c 7 t) (k0_pay27 (iblk m c 8 t)) (iblk m c 9 t))
    (k0_pay30 (mixT m c t S) (iblk m c 7 t) (k0_pay27 (iblk m c 8 t)) (iblk m c 9 t)
      (View.ld (iblk m c 11 t) (Rect.unit ![0, 0] ![1024, 1408] inb_S1024x2816_S1024x1408_0_0))
      (View.ld (iblk m c 12 t) (Rect.unit ![0, 0] ![1024, 1408] inb_S1024x2816_S1024x1408_0_0))
      (View.ld (iblk m c 13 t) (Rect.unit ![0, 0] ![1408, 1024] inb_S2816x1024_S1408x1024_0_0)))
    (View.ld (iblk m c 11 t) (Rect.unit ![0, 1408] ![1024, 1408] inb_S1024x2816_S1024x1408_0_1408))
    (constant S256x1408 FTy.f32 0#32)
    (View.ld (iblk m c 12 t) (Rect.unit ![0, 1408] ![1024, 1408] inb_S1024x2816_S1024x1408_0_1408))
    (View.ld (iblk m c 13 t) (Rect.unit ![1408, 0] ![1408, 1024] inb_S2816x1024_S1408x1024_1408_0))

/-- The block of results from padded scratch rows is the formula's. -/
theorem blockT_at (c : Dev nD) (t : Fin cfg0.N) (hb : t.val / 16 < 4) (S : Vec Ideal S272x1024 .f32)
    (hS : ∀ (r : Fin 272) (j : Fin 1024), S (ix2 r j) = ext (zOf m c (t.val / 16) hb) (256 * (t.val % 16) + r.val) j)
    (u : Fin 1) (r : Fin 256) (k : Fin 1024) :
    blockT m c t S (ix3 u r k) = resultP (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      ⟨t.val / 16, hb⟩ ⟨t.val % 16 * 256 + r.val, by omega⟩ k := by
  have hi : t.val % 16 < 16 := by omega
  have hr := r.isLt
  have hH := fun (q : Fin 256) j => rows_at m c t hb q j
  have hp : ∀ (g : Fin 4) (c' d : Fin 256), (iblk m c 5 t : Vec Ideal S4x256x256 .bf16) (ix3 g c' d) = m ((c : Thread nD τ).loc main_arg2) (ix3 g c' d) :=
    fun g c' d => read5 m c t g c' d
  have hy : ∀ j, mixT m c t S (ix2 r j) = mixedP (m ((c : Thread nD τ).loc main_arg0)) (m ((c : Thread nD τ).loc main_arg1)) (m ((c : Thread nD τ).loc main_arg2))
      (m ((c : Thread nD τ).loc main_arg3)) (m ((c : Thread nD τ).loc main_arg5)) ⟨t.val / 16, hb⟩ ⟨t.val % 16 * 256 + r.val, by omega⟩ j := by
    intro j
    unfold mixT
    rw [pay26_at (zOf m c (t.val / 16) hb) (fun g c' d => m ((c : Thread nD τ).loc main_arg2) (ix3 g c' d)) (256 * (t.val % 16) + r.val)
      _ _ _ _ _ _ _ _ _ _ _ _ _ _ _ _ r
      (fun j => (hH r j).trans (congrArg (fun n => ext _ n j) (by omega)))
      (fun c' => (win0 _ _ S _ hS hH r c')) (fun c' => (win1 _ _ S _ hS hH r c')) (fun c' => (win2 _ _ S _ hS hH r c')) (fun c' => (win3 _ _ S _ hS hH r c'))
      (inv0 t _ hi (coord1 t) r) (fun c' => inv1 t _ hi (coord1 t) r c') (inv2 t _ hi (coord1 t) r) (inv3 t _ hi (coord1 t) r)
      (fun c' d => by pointwise []; exact hp _ _ _) (fun c' d => by pointwise []; exact hp _ _ _)
      (fun c' d => by pointwise []; exact hp _ _ _) (fun c' d => by pointwise []; exact hp _ _ _) j]
    have h4 : k0_pay4 (iblk m c 0 t) (ix2 r j) = (iblk m c 0 t : Vec Ideal S1x256x1024 .f32) (ix3 0 r j) := by
      pointwise [k0_pay4]
    rw [h4, read0, read4, read6]
    unfold mixedP
    rw [show 256 * (t.val % 16) + r.val = t.val % 16 * 256 + r.val by omega]
    rfl
  unfold blockT
  refine (out_at (mixT m c t S) _ _ _ _ _ _ _ u r k _ hy).trans ?_
  simp only [read7, read8, read9, read10, read11, read12, read13]
  rfl

/-- Where the first result window puts a block's element. -/
theorem place14 (t : Fin cfg0.N) (u : Fin 1) (r : Fin 256) (k : Fin 1024) : ((cfg0.win 14).blk t).view.emb (ix3 u r k)
    = ix3 (⟨t.val / 16, by have := point_lt t; omega⟩ : Fin 4) (⟨t.val % 16 * 256 + r.val, by omega⟩ : Fin 4096) k := by
  have := point_lt t
  blk_ext [idx t]

/-- Where the second result window puts a block's element. -/
theorem place15 (t : Fin cfg0.N) (u : Fin 1) (a : Fin 16) (k : Fin 1024) : ((cfg0.win 15).blk t).view.emb (ix3 u a k)
    = ix3 (⟨t.val / 16, by have := point_lt t; omega⟩ : Fin 4) a k := by
  have := point_lt t
  blk_ext [idx t]

/-- The first result array after the run. -/
theorem finalOut (c : Dev nD) : (dats m 0 c).arrAt 14 (cfgs 0).N
    = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t _ y => ?_
  have ht := point_lt t
  have hb : t.val / 16 < 4 := by omega
  blk_simp
  rw [after0_14]
  obtain ⟨u, r, k, rfl⟩ : ∃ (u : Fin 1) (r : Fin 256) (k : Fin 1024), y = ix3 u r k := ⟨y 0, y 1, y 2, eq_ix3 y⟩
  refine Eq.trans ?_ (congrArg (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (place14 t u r k)).symm
  by_cases h0 : t.val % 16 = 0
  · rw [outsAt0_A m c t h0]
    frame_out
    simp only [View.readCov_eq_canon']
    exact blockT_at m c t hb (View.canon [own m c t, zeros]) (scratch_A m c t hb h0) u r k
  · rw [outsAt0_B m c t h0]
    frame_out
    refine blockT_at m c t hb _ (scratch_B m c t hb _ _ ?_) u r k
    intro a j
    refine (carry m c (t.val - 1) _ (by omega) a j).trans ?_
    rw [show 256 * ((t.val - 1) % 16 + 1) = 256 * (t.val % 16) by omega]
    have e : ∀ (b : ℕ) (hb' : b < 4), b = t.val / 16 → zOf m c b hb' = zOf m c (t.val / 16) hb := fun b hb' h => by subst h; rfl
    rw [e _ _ (show (t.val - 1) / 16 = t.val / 16 by omega)]

/-- The second result array after the run. -/
theorem finalTail (c : Dev nD) : (dats m 0 c).arrAt 15 (cfgs 0).N
    = tailArr (m ((c : Thread nD τ).loc main_arg0)) (m ((c : Thread nD τ).loc main_arg1)) (m ((c : Thread nD τ).loc main_arg5)) := by
  refine (dats m 0 c).arrAt_eq_of_covers 15 _ (by decide +kernel) fun t hf y => ?_
  have ht := point_lt t
  have hb : t.val / 16 < 4 := by omega
  have h15 : t.val % 16 = 15 := (flush0_15 t).1 hf
  blk_simp
  rw [after0_15]
  obtain ⟨u, a, k, rfl⟩ : ∃ (u : Fin 1) (a : Fin 16) (k : Fin 1024), y = ix3 u a k := ⟨y 0, y 1, y 2, eq_ix3 y⟩
  refine Eq.trans ?_ (congrArg (tailArr (m ((c : Thread nD τ).loc main_arg0)) (m ((c : Thread nD τ).loc main_arg1)) (m ((c : Thread nD τ).loc main_arg5))) (place15 t u a k)).symm
  refine (tail_at m c t hb u a k).trans ?_
  rw [h15, ext, dif_pos (by omega)]
  show zOf m c _ hb _ k = rowZ _ _ _ _ ⟨4080 + a.val, _⟩ k
  unfold zOf
  congr 1
  exact Fin.ext (by show 256 * (15 + 1) + a.val - 16 = 4080 + a.val; omega)

end Cert.PoolFfnIdeal.Tail
-- ==== Proof.PoolRef.lean ====
module

public import proofs.«01_k».proof.Proof.Gen.PoolFfnReferenceIdeal.Run
public import proofs.«01_k».proof.Proof.PoolFfn
public import proofs.«01_k».proof.Proof.Gen.Pre_finite_gains
public import Idealize.ShloMosaic.Lib.ReduceAll

/-!
The pooling reference's terms, stage by stage, and what each is at an index: running sums along the sequence, their
differences over the counts, the groups' maps and the feed-forward map.
-/

set_option maxRecDepth 16384
@[expose] public section
noncomputable section
open Idealize.ShloMosaic Idealize.ShloMosaic.TcCoe Idealize.SL.Sem

namespace Cert.PoolFfnReferenceIdeal.Tail
open Cert.PoolFfnReferenceIdeal Cert.PoolFfnReferenceIdeal.Gen Cert.Rows Cert.Pool Cert.Cum
open PoolFfnIdeal.Tail (rowZ mixedP resultP outArr tailArr min_int)

/-- The first normalised rows, as the reference's term. -/
def preT (X : FVec Ideal S4x4096x1024 .f32) (N : FVec Ideal S1x1024 .f32) (M : FVec Ideal S4x6144 .f32) : FVec Ideal S4x4096x1024 .f32 :=
  addf (mulf (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant (F := Ideal) S_ .f32 0x00000000#32) reducesTo_S4x4096x1024_S4x4096_d2 h_S_)) (broadcastInDim S4x4096x1 ![] bcast_S_S4x4096x1 (constant (F := Ideal) S_ .f32 0x44800000#32))) (broadcastInDim S4x4096x1 ![] bcast_S_S4x4096x1 (constant (F := Ideal) S_ .f32 0x358637BD#32)))))) (broadcastInDim S4x4096x1024 ![0, 1, 2] bcast_S1x1x1024_S4x4096x1024_0_1_2 (broadcastInDim S1x1x1024 ![2] bcast_S1024_S1x1x1024_2 (shapeCast S1024 N shapeCasts_S1x1024_S1024)))) (broadcastInDim S4x4096x1024 ![0, 1, 2] bcast_S4x1x1024_S4x4096x1024_0_1_2 (addf (broadcastInDim S4x1x1024 ![] bcast_S_S4x1x1024 (constant (F := Ideal) S_ .f32 0x3F800000#32)) (broadcastInDim S4x1x1024 ![0, 2] bcast_S4x1024_S4x1x1024_0_2 (extractStridedSlice S4x1024 ![0, 1024] M slices_S4x6144_S4x1024_0_1024))))) (broadcastInDim S4x4096x1024 ![0, 1, 2] bcast_S4x1x1024_S4x4096x1024_0_1_2 (broadcastInDim S4x1x1024 ![0, 2] bcast_S4x1024_S4x1x1024_0_2 (extractStridedSlice S4x1024 ![0, 0] M slices_S4x6144_S4x1024_0_0)))

/-- The running sums of the rows, as the reference's term. -/
def sumT (Z : FVec Ideal S4x4096x1024 .f32) : FVec Ideal S4x4096x1024 .f32 :=
  Host.reduceWindowAdd ![1, 4096, 1] ![1, 1, 1] ![0, 4095, 0] ![0, 0, 0] Z (broadcastInDim S_ ![] bcast_S_S_ (constant (F := Ideal) S_ .f32 0x00000000#32)) reduceWindows_S4x4096x1024_S4x4096x1024_w1s1p0_0_w4096s1p4095_0_w1s1p0_0 h_S_

/-- Group 0: the running sums less those two rows before, over the count, as the reference's term. -/
def part0T (C : FVec Ideal S4x4096x1024 .f32) : FVec Ideal S4x4096x256 .f32 :=
  Host.divf (subf (extractStridedSlice S4x4096x256 ![0, 0, 0] C slices_S4x4096x1024_S4x4096x256_0_0_0) (concatenate S4x4096x256 1 [⟨S4x2x256, (broadcastInDim S4x2x256 ![] bcast_S_S4x2x256 (constant (F := Ideal) S_ .f32 0x00000000#32))⟩, ⟨S4x4094x256, (extractStridedSlice S4x4094x256 ![0, 0, 0] C slices_S4x4096x1024_S4x4094x256_0_0_0)⟩] concatenates_S4x2x256_S4x4094x256_S4x4096x256_d1)) (broadcastInDim S4x4096x256 ![0, 1, 2] bcast_S1x4096x1_S4x4096x256_0_1_2 (broadcastInDim S1x4096x1 ![1] bcast_S4096_S1x4096x1_1 (sitofp .f32 (minsi (broadcastInDim S4096 ![] bcast_S_S4096 (constantI S_ 32 2#32)) (addi (iotaInDim S4096 32 0) (broadcastInDim S4096 ![] bcast_S_S4096 (constantI S_ 32 1#32)))))))

/-- Group 1: the running sums less those four rows before, over the count, as the reference's term. -/
def part1T (C : FVec Ideal S4x4096x1024 .f32) : FVec Ideal S4x4096x256 .f32 :=
  Host.divf (subf (extractStridedSlice S4x4096x256 ![0, 0, 256] C slices_S4x4096x1024_S4x4096x256_0_0_256) (concatenate S4x4096x256 1 [⟨S4x4x256, (broadcastInDim S4x4x256 ![] bcast_S_S4x4x256 (constant (F := Ideal) S_ .f32 0x00000000#32))⟩, ⟨S4x4092x256, (extractStridedSlice S4x4092x256 ![0, 0, 256] C slices_S4x4096x1024_S4x4092x256_0_0_256)⟩] concatenates_S4x4x256_S4x4092x256_S4x4096x256_d1)) (broadcastInDim S4x4096x256 ![0, 1, 2] bcast_S1x4096x1_S4x4096x256_0_1_2 (broadcastInDim S1x4096x1 ![1] bcast_S4096_S1x4096x1_1 (sitofp .f32 (minsi (broadcastInDim S4096 ![] bcast_S_S4096 (constantI S_ 32 4#32)) (addi (iotaInDim S4096 32 0) (broadcastInDim S4096 ![] bcast_S_S4096 (constantI S_ 32 1#32)))))))

/-- Group 2: the running sums less those eight rows before, over the count, as the reference's term. -/
def part2T (C : FVec Ideal S4x4096x1024 .f32) : FVec Ideal S4x4096x256 .f32 :=
  Host.divf (subf (extractStridedSlice S4x4096x256 ![0, 0, 512] C slices_S4x4096x1024_S4x4096x256_0_0_512) (concatenate S4x4096x256 1 [⟨S4x8x256, (broadcastInDim S4x8x256 ![] bcast_S_S4x8x256 (constant (F := Ideal) S_ .f32 0x00000000#32))⟩, ⟨S4x4088x256, (extractStridedSlice S4x4088x256 ![0, 0, 512] C slices_S4x4096x1024_S4x4088x256_0_0_512)⟩] concatenates_S4x8x256_S4x4088x256_S4x4096x256_d1)) (broadcastInDim S4x4096x256 ![0, 1, 2] bcast_S1x4096x1_S4x4096x256_0_1_2 (broadcastInDim S1x4096x1 ![1] bcast_S4096_S1x4096x1_1 (sitofp .f32 (minsi (broadcastInDim S4096 ![] bcast_S_S4096 (constantI S_ 32 8#32)) (addi (iotaInDim S4096 32 0) (broadcastInDim S4096 ![] bcast_S_S4096 (constantI S_ 32 1#32)))))))

/-- Group 3: the running sums less those sixteen rows before, over the count, as the reference's term. -/
def part3T (C : FVec Ideal S4x4096x1024 .f32) : FVec Ideal S4x4096x256 .f32 :=
  Host.divf (subf (extractStridedSlice S4x4096x256 ![0, 0, 768] C slices_S4x4096x1024_S4x4096x256_0_0_768) (concatenate S4x4096x256 1 [⟨S4x16x256, (broadcastInDim S4x16x256 ![] bcast_S_S4x16x256 (constant (F := Ideal) S_ .f32 0x00000000#32))⟩, ⟨S4x4080x256, (extractStridedSlice S4x4080x256 ![0, 0, 768] C slices_S4x4096x1024_S4x4080x256_0_0_768)⟩] concatenates_S4x16x256_S4x4080x256_S4x4096x256_d1)) (broadcastInDim S4x4096x256 ![0, 1, 2] bcast_S1x4096x1_S4x4096x256_0_1_2 (broadcastInDim S1x4096x1 ![1] bcast_S4096_S1x4096x1_1 (sitofp .f32 (minsi (broadcastInDim S4096 ![] bcast_S_S4096 (constantI S_ 32 16#32)) (addi (iotaInDim S4096 32 0) (broadcastInDim S4096 ![] bcast_S_S4096 (constantI S_ 32 1#32)))))))

/-- The groups' means side by side, less the rows, as the reference's term. -/
def devT (G0 G1 G2 G3 : FVec Ideal S4x4096x256 .f32) (Z : FVec Ideal S4x4096x1024 .f32) : FVec Ideal S4x4096x1024 .f32 :=
  subf ((concatenate S4x4096x1024 2 [⟨S4x4096x256, G0⟩, ⟨S4x4096x256, G1⟩, ⟨S4x4096x256, G2⟩, ⟨S4x4096x256, G3⟩] concatenates_S4x4096x256_S4x4096x256_S4x4096x256_S4x4096x256_S4x4096x1024_d2 : (⟨S4x4096x1024, .f32⟩ : BufTy).Contents (Elt Ideal))) Z

/-- The gated and scaled group maps of the deviations, as the reference's term. -/
def mixT (V : FVec Ideal S4x4096x1024 .f32) (PW : FVec Ideal S4x256x256 .bf16) (PS : FVec Ideal S1x1024 .f32) (M : FVec Ideal S4x6144 .f32) : FVec Ideal S4x4096x1024 .f32 :=
  mulf (broadcastInDim S4x4096x1024 ![0, 1, 2] bcast_S4x1x1024_S4x4096x1024_0_1_2 (broadcastInDim S4x1x1024 ![0, 2] bcast_S4x1024_S4x1x1024_0_2 (extractStridedSlice S4x1024 ![0, 2048] M slices_S4x6144_S4x1024_0_2048))) (mulf (shapeCast S4x4096x1024 (transpose S4x4096x4x256 [2, 3, 0, 1] (Host.dotGeneral dot_S4x256x256_S4x4096x4x256_S4x256x4x4096_1_3_2_01_0_2 none (extf .f32 PW bitsLt_bf16_f32) (shapeCast S4x4096x4x256 V shapeCasts_S4x4096x1024_S4x4096x4x256)) transposes_S4x256x4x4096_S4x4096x4x256_2_3_0_1) shapeCasts_S4x4096x4x256_S4x4096x1024) (broadcastInDim S4x4096x1024 ![0, 1, 2] bcast_S1x1x1024_S4x4096x1024_0_1_2 (broadcastInDim S1x1x1024 ![2] bcast_S1024_S1x1x1024_2 (shapeCast S1024 PS shapeCasts_S1x1024_S1024))))

/-- The second normalised rows, as the reference's term. -/
def pre2T (X : FVec Ideal S4x4096x1024 .f32) (N : FVec Ideal S1x1024 .f32) (M : FVec Ideal S4x6144 .f32) : FVec Ideal S4x4096x1024 .f32 :=
  addf (mulf (mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant (F := Ideal) S_ .f32 0x00000000#32) reducesTo_S4x4096x1024_S4x4096_d2 h_S_)) (broadcastInDim S4x4096x1 ![] bcast_S_S4x4096x1 (constant (F := Ideal) S_ .f32 0x44800000#32))) (broadcastInDim S4x4096x1 ![] bcast_S_S4x4096x1 (constant (F := Ideal) S_ .f32 0x358637BD#32)))))) (broadcastInDim S4x4096x1024 ![0, 1, 2] bcast_S1x1x1024_S4x4096x1024_0_1_2 (broadcastInDim S1x1x1024 ![2] bcast_S1024_S1x1x1024_2 (shapeCast S1024 N shapeCasts_S1x1024_S1024)))) (broadcastInDim S4x4096x1024 ![0, 1, 2] bcast_S4x1x1024_S4x4096x1024_0_1_2 (addf (broadcastInDim S4x1x1024 ![] bcast_S_S4x1x1024 (constant (F := Ideal) S_ .f32 0x3F800000#32)) (broadcastInDim S4x1x1024 ![0, 2] bcast_S4x1024_S4x1x1024_0_2 (extractStridedSlice S4x1024 ![0, 4096] M slices_S4x6144_S4x1024_0_4096))))) (broadcastInDim S4x4096x1024 ![0, 1, 2] bcast_S4x1x1024_S4x4096x1024_0_1_2 (broadcastInDim S4x1x1024 ![0, 2] bcast_S4x1024_S4x1x1024_0_2 (extractStridedSlice S4x1024 ![0, 3072] M slices_S4x6144_S4x1024_0_3072)))

/-- The gated product of hidden activations, as the reference's term. -/
def hiddenT (H : FVec Ideal S4x4096x1024 .f32) (WG WU : FVec Ideal S1024x2816 .bf16) : FVec Ideal S4x4096x2816 .f32 :=
  mulf (mulf (Host.dotGeneral dot_S4x4096x1024_S1024x2816_S4x4096x2816_2_0_01_1_n_n none H (extf .f32 WG bitsLt_bf16_f32)) (Host.divf (broadcastInDim S4x4096x2816 ![] bcast_S_S4x4096x2816 (constant (F := Ideal) S_ .f32 0x3F800000#32)) (addf (broadcastInDim S4x4096x2816 ![] bcast_S_S4x4096x2816 (constant (F := Ideal) S_ .f32 0x3F800000#32)) (Host.exp (Host.negf (Host.dotGeneral dot_S4x4096x1024_S1024x2816_S4x4096x2816_2_0_01_1_n_n none H (extf .f32 WG bitsLt_bf16_f32))))))) (Host.dotGeneral dot_S4x4096x1024_S1024x2816_S4x4096x2816_2_0_01_1_n_n none H (extf .f32 WU bitsLt_bf16_f32))

/-- The gated feed-forward map added to the rows, as the reference's term. -/
def outT (Y : FVec Ideal S4x4096x1024 .f32) (A : FVec Ideal S4x4096x2816 .f32) (M : FVec Ideal S4x6144 .f32) (WD : FVec Ideal S2816x1024 .bf16) : FVec Ideal S4x4096x1024 .f32 :=
  addf Y (mulf (broadcastInDim S4x4096x1024 ![0, 1, 2] bcast_S4x1x1024_S4x4096x1024_0_1_2 (broadcastInDim S4x1x1024 ![0, 2] bcast_S4x1024_S4x1x1024_0_2 (extractStridedSlice S4x1024 ![0, 5120] M slices_S4x6144_S4x1024_0_5120))) (Host.dotGeneral dot_S4x4096x2816_S2816x1024_S4x4096x1024_2_0_01_1_n_n none A (extf .f32 WD bitsLt_bf16_f32)))

/-- The rows after the pooling mix, as the reference's term. -/
def mixedT (X : FVec Ideal S4x4096x1024 .f32) (N : FVec Ideal S1x1024 .f32) (PW : FVec Ideal S4x256x256 .bf16) (PS : FVec Ideal S1x1024 .f32)
    (M : FVec Ideal S4x6144 .f32) : FVec Ideal S4x4096x1024 .f32 :=
  addf X (mixT (devT (part0T (sumT (preT X N M))) (part1T (sumT (preT X N M))) (part2T (sumT (preT X N M))) (part3T (sumT (preT X N M))) (preT X N M)) PW PS M)

/-- The normalised rows at an index. -/
theorem preT_at (X : FVec Ideal S4x4096x1024 .f32) (N : FVec Ideal S1x1024 .f32) (M : FVec Ideal S4x6144 .f32) (b : Fin 4) (s : Fin 4096) (k : Fin 1024) :
    preT X N M (ix3 b s k) = rowZ X N M b s k := by
  pointwise [preT]
  rfl

/-- The second normalised rows at an index. -/
theorem pre2T_at (X : FVec Ideal S4x4096x1024 .f32) (N : FVec Ideal S1x1024 .f32) (M : FVec Ideal S4x6144 .f32) (b : Fin 4) (s : Fin 4096) (k : Fin 1024) :
    pre2T X N M (ix3 b s k) = pre (fun j => X (ix3 b s j)) (fun j => N (ix2 0 j)) (fun j => M (ix2 b ⟨4096 + j.val, by omega⟩))
        (fun j => M (ix2 b ⟨3072 + j.val, by omega⟩)) k := by
  pointwise [pre2T]
  rfl

/-- The running sums at an index. -/
theorem sumT_at (Z : FVec Ideal S4x4096x1024 .f32) (b : Fin 4) (s : Fin 4096) (k : Fin 1024) :
    sumT Z (ix3 b s k) = upTo (fun i => Z (ix3 b i k)) (s.val + 1) := by
  unfold sumT Host.reduceWindowAdd
  rw [Ideal.hostReduceWindowAdd_def, show (broadcastInDim S_ ![] bcast_S_S_ (constant (F := Ideal) S_ .f32 0x00000000#32)) (Shape.Idx.first h_S_) = 0 from by pointwise []]
  exact cumsum_mid (B := 4) (N := 4096) (Nm1 := 4095) (C := 1024) (by rfl) Z
    reduceWindows_S4x4096x1024_S4x4096x1024_w1s1p0_0_w4096s1p4095_0_w1s1p0_0 b s k

/-- The count at a row, as the reference's integers compute it. -/
theorem count_row (w : ℕ) (hw : w ≤ 16) (s : Fin 4096) :
    (((IntOp.minsi (BitVec.ofNat 32 w) (IntOp.addi (BitVec.ofNat 32 s.val) 1#32)).toInt : ℝ) : EReal) = cnt w s.val := by
  have hs := s.isLt
  have e : IntOp.addi (BitVec.ofNat 32 s.val) 1#32 = BitVec.ofNat 32 (s.val + 1) := by
    apply BitVec.eq_of_toNat_eq
    show (BitVec.ofNat 32 s.val + 1#32).toNat = _
    simp only [BitVec.toNat_add, BitVec.toNat_ofNat]
    omega
  rw [e, min_int w _ (by omega) (by omega)]
  rfl

/-- The running sum `w` rows before, or none. -/
theorem before_eq (f : Fin 4096 → EReal) (w s : ℕ) (hw : 0 < w) :
    (if h : s < w then (0 : EReal) else upTo f (s - w + 1)) = upTo f (s + 1 - w) := by
  by_cases h : s < w
  · rw [dif_pos h, show s + 1 - w = 0 by omega, upTo_zero]
  · rw [dif_neg h, show s + 1 - w = s - w + 1 by omega]

/-- Group 0's mean at an index. -/
theorem part0T_at (Z : FVec Ideal S4x4096x1024 .f32) (b : Fin 4) (s : Fin 4096) (c : Fin 256) :
    part0T (sumT Z) (ix3 b s c) = Ideal.div (upTo (fun i => Z (ix3 b i (lane 0 c))) (s.val + 1)
      - upTo (fun i => Z (ix3 b i (lane 0 c))) (s.val + 1 - 2 ^ ((0 : Fin 4).val + 1))) (cnt (2 ^ ((0 : Fin 4).val + 1)) s.val) := by
  have hl : ∀ h : c.val < 1024, (⟨c.val, h⟩ : Fin 1024) = lane 0 c := fun h => Fin.ext (by simp [lane])
  rw [← count_row _ (by decide) s]
  pointwise [part0T]
  simp only [sumT_at, hl]
  exact congrArg (fun q => Ideal.div (upTo (fun i => Z (ix3 b i (lane 0 c))) (s.val + 1) - q) _) (before_eq _ 2 s.val (by decide))

/-- Group 1's mean at an index. -/
theorem part1T_at (Z : FVec Ideal S4x4096x1024 .f32) (b : Fin 4) (s : Fin 4096) (c : Fin 256) :
    part1T (sumT Z) (ix3 b s c) = Ideal.div (upTo (fun i => Z (ix3 b i (lane 1 c))) (s.val + 1)
      - upTo (fun i => Z (ix3 b i (lane 1 c))) (s.val + 1 - 2 ^ ((1 : Fin 4).val + 1))) (cnt (2 ^ ((1 : Fin 4).val + 1)) s.val) := by
  have hl : ∀ h : 256 + c.val < 1024, (⟨256 + c.val, h⟩ : Fin 1024) = lane 1 c := fun h => Fin.ext (by simp [lane])
  rw [← count_row _ (by decide) s]
  pointwise [part1T]
  simp only [sumT_at, hl]
  exact congrArg (fun q => Ideal.div (upTo (fun i => Z (ix3 b i (lane 1 c))) (s.val + 1) - q) _) (before_eq _ 4 s.val (by decide))

/-- Group 2's mean at an index. -/
theorem part2T_at (Z : FVec Ideal S4x4096x1024 .f32) (b : Fin 4) (s : Fin 4096) (c : Fin 256) :
    part2T (sumT Z) (ix3 b s c) = Ideal.div (upTo (fun i => Z (ix3 b i (lane 2 c))) (s.val + 1)
      - upTo (fun i => Z (ix3 b i (lane 2 c))) (s.val + 1 - 2 ^ ((2 : Fin 4).val + 1))) (cnt (2 ^ ((2 : Fin 4).val + 1)) s.val) := by
  have hl : ∀ h : 512 + c.val < 1024, (⟨512 + c.val, h⟩ : Fin 1024) = lane 2 c := fun h => Fin.ext (by simp [lane])
  rw [← count_row _ (by decide) s]
  pointwise [part2T]
  simp only [sumT_at, hl]
  exact congrArg (fun q => Ideal.div (upTo (fun i => Z (ix3 b i (lane 2 c))) (s.val + 1) - q) _) (before_eq _ 8 s.val (by decide))

/-- Group 3's mean at an index. -/
theorem part3T_at (Z : FVec Ideal S4x4096x1024 .f32) (b : Fin 4) (s : Fin 4096) (c : Fin 256) :
    part3T (sumT Z) (ix3 b s c) = Ideal.div (upTo (fun i => Z (ix3 b i (lane 3 c))) (s.val + 1)
      - upTo (fun i => Z (ix3 b i (lane 3 c))) (s.val + 1 - 2 ^ ((3 : Fin 4).val + 1))) (cnt (2 ^ ((3 : Fin 4).val + 1)) s.val) := by
  have hl : ∀ h : 768 + c.val < 1024, (⟨768 + c.val, h⟩ : Fin 1024) = lane 3 c := fun h => Fin.ext (by simp [lane])
  rw [← count_row _ (by decide) s]
  pointwise [part3T]
  simp only [sumT_at, hl]
  exact congrArg (fun q => Ideal.div (upTo (fun i => Z (ix3 b i (lane 3 c))) (s.val + 1) - q) _) (before_eq _ 16 s.val (by decide))

/-- The deviations at a group's lane. -/
theorem devT_at (G0 G1 G2 G3 : FVec Ideal S4x4096x256 .f32) (Z : FVec Ideal S4x4096x1024 .f32) (b : Fin 4) (s : Fin 4096) (g : Fin 4) (c : Fin 256) :
    devT G0 G1 G2 G3 Z (ix3 b s (lane g c)) = (![G0, G1, G2, G3] g) (ix3 b s c) - Z (ix3 b s (lane g c)) := by
  have hv : (lane g c).val = g.val * 256 + c.val := rfl
  pointwise [devT]
  refine congrArg (· - Z (ix3 b s (lane g c))) ?_
  fin_cases g
  · rw [dif_pos (by simp [lane] <;> omega)]
    exact congrArg (fun q => G0 (ix3 b s q)) (Fin.ext (by simp [lane] ))
  · rw [dif_neg (by show ¬ _; simp [lane] <;> omega), dif_pos (by simp [lane] <;> omega)]
    exact congrArg (fun q => G1 (ix3 b s q)) (Fin.ext (by simp [lane] ))
  · rw [dif_neg (by show ¬ _; simp [lane] <;> omega), dif_neg (by show ¬ _; simp [lane] <;> omega), dif_pos (by simp [lane] <;> omega)]
    exact congrArg (fun q => G2 (ix3 b s q)) (Fin.ext (by simp [lane] <;> omega))
  · rw [dif_neg (by show ¬ _; simp [lane] <;> omega), dif_neg (by show ¬ _; simp [lane] <;> omega), dif_neg (by show ¬ _; simp [lane] <;> omega)]
    exact congrArg (fun q => G3 (ix3 b s q)) (Fin.ext (by simp [lane] <;> omega))

/-- The gated mix at a lane. -/
theorem mixT_at (V : FVec Ideal S4x4096x1024 .f32) (PW : FVec Ideal S4x256x256 .bf16) (PS : FVec Ideal S1x1024 .f32) (M : FVec Ideal S4x6144 .f32)
    (b : Fin 4) (s : Fin 4096) (k : Fin 1024) :
    mixT V PW PS M (ix3 b s k) = M (ix2 b ⟨2048 + k.val, by omega⟩) *
      ((∑ c : Fin 256, V (ix3 b s (lane ⟨k.val / 256, by omega⟩ c)) * PW (ix3 ⟨k.val / 256, by omega⟩ c ⟨k.val % 256, by omega⟩)) * PS (ix2 0 k)) := by
  pointwise [mixT]
  refine congrArg (fun q => M (ix2 b ⟨2048 + k.val, by omega⟩) * (q * PS (ix2 0 k))) ?_
  exact Finset.sum_congr rfl fun c _ => mul_comm _ _

/-- The mixed rows at an index, where the first gain and the first scale are finite. -/
theorem mixedT_at (X : FVec Ideal S4x4096x1024 .f32) (N : FVec Ideal S1x1024 .f32) (PW : FVec Ideal S4x256x256 .bf16) (PS : FVec Ideal S1x1024 .f32)
    (M : FVec Ideal S4x6144 .f32) (hN : ∀ k : Fin 1024, Fin' (N (ix2 0 k))) (hM : ∀ (b : Fin 4) (k : Fin 1024), Fin' (M (ix2 b ⟨1024 + k.val, by omega⟩)))
    (b : Fin 4) (s : Fin 4096) (k : Fin 1024) : mixedT X N PW PS M (ix3 b s k) = mixedP X N PW PS M b s k := by
  have hd : ∀ (g : Fin 4) (c : Fin 256), devT (part0T (sumT (preT X N M))) (part1T (sumT (preT X N M))) (part2T (sumT (preT X N M)))
      (part3T (sumT (preT X N M))) (preT X N M) (ix3 b s (lane g c)) = dev g (rowZ X N M b) s.val (lane g c) := by
    intro g c
    have he : Pool.Even fun i => rowZ X N M b i (lane g c) :=
      pre_even (fun (i : Fin 4096) j => X (ix3 b i j)) (fun j => N (ix2 0 j)) (fun j => M (ix2 b ⟨1024 + j.val, by omega⟩)) (fun j => M (ix2 b ⟨j.val, by omega⟩))
        (lane g c) (hN _) (hM _ _)
    have hp : (![part0T (sumT (preT X N M)), part1T (sumT (preT X N M)), part2T (sumT (preT X N M)), part3T (sumT (preT X N M))] g) (ix3 b s c)
        = Ideal.div (upTo (fun i => rowZ X N M b i (lane g c)) (s.val + 1) - upTo (fun i => rowZ X N M b i (lane g c)) (s.val + 1 - 2 ^ (g.val + 1)))
          (cnt (2 ^ (g.val + 1)) s.val) := by
      fin_cases g
      · exact (part0T_at _ b s c).trans (by simp only [preT_at]; rfl)
      · exact (part1T_at _ b s c).trans (by simp only [preT_at]; rfl)
      · exact (part2T_at _ b s c).trans (by simp only [preT_at]; rfl)
      · exact (part3T_at _ b s c).trans (by simp only [preT_at]; rfl)
    rw [devT_at, hp, preT_at]
    have h2 : 2 ^ (g.val + 1) ≤ 16 := by fin_cases g <;> decide
    exact dev_running (rowZ X N M b) (lane g c) he s (2 ^ (g.val + 1)) (by positivity) h2
  have h1 : mixedT X N PW PS M (ix3 b s k) = X (ix3 b s k) + mixT (devT (part0T (sumT (preT X N M))) (part1T (sumT (preT X N M))) (part2T (sumT (preT X N M)))
      (part3T (sumT (preT X N M))) (preT X N M)) PW PS M (ix3 b s k) := by
    pointwise [mixedT]
  rw [h1, mixT_at]
  simp only [hd]
  rfl

/-- The reference's rows at an index, in the names of its arguments. -/
def resT (X : FVec Ideal S4x4096x1024 .f32) (N : FVec Ideal S1x1024 .f32) (PW : FVec Ideal S4x256x256 .bf16) (PS N2 : FVec Ideal S1x1024 .f32)
    (M : FVec Ideal S4x6144 .f32) (WG WU : FVec Ideal S1024x2816 .bf16) (WD : FVec Ideal S2816x1024 .bf16) : FVec Ideal S4x4096x1024 .f32 :=
  outT (mixedT X N PW PS M) (hiddenT (pre2T (mixedT X N PW PS M) N2 M) WG WU) M WD

/-- The last sixteen normalised rows, as the reference's term. -/
def tailT (X : FVec Ideal S4x4096x1024 .f32) (N : FVec Ideal S1x1024 .f32) (M : FVec Ideal S4x6144 .f32) : FVec Ideal S4x16x1024 .f32 :=
  extractStridedSlice S4x16x1024 ![0, 4080, 0] (preT X N M) slices_S4x4096x1024_S4x16x1024_0_4080_0

/-- The last sixteen normalised rows are the carried rows. -/
theorem tailT_eq (X : FVec Ideal S4x4096x1024 .f32) (N : FVec Ideal S1x1024 .f32) (M : FVec Ideal S4x6144 .f32) : tailT X N M = tailArr X N M := by
  funext i
  obtain ⟨b, a, k, rfl⟩ : ∃ (b : Fin 4) (a : Fin 16) (k : Fin 1024), i = ix3 b a k := ⟨i 0, i 1, i 2, eq_ix3 i⟩
  pointwise [tailT]
  exact preT_at X N M b _ k

/-- The reference's term is the row formula at every index, where the first gain and the first scale are finite. -/
theorem resT_eq (X : FVec Ideal S4x4096x1024 .f32) (N : FVec Ideal S1x1024 .f32) (PW : FVec Ideal S4x256x256 .bf16) (PS N2 : FVec Ideal S1x1024 .f32)
    (M : FVec Ideal S4x6144 .f32) (WG WU : FVec Ideal S1024x2816 .bf16) (WD : FVec Ideal S2816x1024 .bf16)
    (hN : ∀ k : Fin 1024, Fin' (N (ix2 0 k))) (hM : ∀ (b : Fin 4) (k : Fin 1024), Fin' (M (ix2 b ⟨1024 + k.val, by omega⟩))) :
    resT X N PW PS N2 M WG WU WD = outArr X N PW PS N2 M WG WU WD := by
  have h1 : ∀ b s k, mixedT X N PW PS M (ix3 b s k) = mixedP X N PW PS M b s k := mixedT_at X N PW PS M hN hM
  have h2 : ∀ b s k, pre2T (mixedT X N PW PS M) N2 M (ix3 b s k)
      = pre (mixedP X N PW PS M b s) (fun j => N2 (ix2 0 j)) (fun j => M (ix2 b ⟨4096 + j.val, by omega⟩))
        (fun j => M (ix2 b ⟨3072 + j.val, by omega⟩)) k := by
    intro b s k
    rw [pre2T_at]
    simp only [h1]
  have h3 : ∀ b s f, hiddenT (pre2T (mixedT X N PW PS M) N2 M) WG WU (ix3 b s f)
      = hiddenUnit (pre (mixedP X N PW PS M b s) (fun j => N2 (ix2 0 j)) (fun j => M (ix2 b ⟨4096 + j.val, by omega⟩))
        (fun j => M (ix2 b ⟨3072 + j.val, by omega⟩))) (fun j f => WG (ix2 j f)) (fun j f => WU (ix2 j f)) f := by
    intro b s f
    pointwise [hiddenT]
    simp only [h2]
    rfl
  funext i
  obtain ⟨b, s, k, rfl⟩ : ∃ (b : Fin 4) (s : Fin 4096) (k : Fin 1024), i = ix3 b s k := ⟨i 0, i 1, i 2, eq_ix3 i⟩
  pointwise [resT, outT]
  simp only [h1, h3]
  rfl

set_option maxHeartbeats 4000000 in
/-- The reference runs, its results are the composed term and the carried rows, and its arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v130) = resT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v131) = tailArr (m ((c.tc : Thread nD τ).loc main_arg0)) (m ((c.tc : Thread nD τ).loc main_arg1)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (rfl),
      (h c).2.1.trans (tailT_eq (m ((c.tc : Thread nD τ).loc main_arg0)) (m ((c.tc : Thread nD τ).loc main_arg1)) (m ((c.tc : Thread nD τ).loc main_arg5))),
      (h c).2.2⟩) (Value.run m ρ)

end Cert.PoolFfnReferenceIdeal.Tail

namespace Cert.Pre_finite_gains.Tail
open Cert.Pre_finite_gains Cert.Pool

/-- The word of positive infinity reads as the top value. -/
theorem inf_word : Ideal.ofBits .f32 0x7F800000#32 = (⊤ : EReal) := by
  show Ideal.ieee 8 23 0x7F800000#32 = ⊤
  unfold Ideal.ieee
  rw [if_pos (by decide), if_pos (by decide), if_neg (by decide)]
/-- The word of negative infinity reads as the bottom value. -/
theorem neg_inf_word : Ideal.ofBits .f32 0xFF800000#32 = (⊥ : EReal) := by
  show Ideal.ieee 8 23 0xFF800000#32 = ⊥
  unfold Ideal.ieee
  rw [if_pos (by decide), if_pos (by decide), if_pos (by decide)]

/-- Where the precondition is one, the first gain and the first scale are finite. -/
theorem finite_of [Facts] (X : FVec Ideal S4x4096x1024 .f32) (N : FVec Ideal S1x1024 .f32) (PW : FVec Ideal S4x256x256 .bf16)
    (PS N2 : FVec Ideal S1x1024 .f32) (M : FVec Ideal S4x6144 .f32) (WG WU : FVec Ideal S1024x2816 .bf16) (WD : FVec Ideal S2816x1024 .bf16)
    (h : fn (F := Ideal) X N PW PS N2 M WG WU WD = fun _ => 1#1) :
    (∀ k : Fin 1024, Fin' (N (ix2 0 k))) ∧ ∀ (b : Fin 4) (k : Fin 1024), Fin' (M (ix2 b ⟨1024 + k.val, by omega⟩)) := by
  have h' := congrFun h (fun a => a.elim0)
  dsimp only [fn] at h'
  have and1 : ∀ a b : BitVec 1, IntOp.andi a b = 1#1 → a = 1#1 ∧ b = 1#1 := by decide
  obtain ⟨hn, hm⟩ := and1 _ _ h'
  have elt : ∀ x : EReal, IntOp.andi (BitVec.ofBool (decide (x < Ideal.ofBits .f32 0x7F800000#32)))
      (BitVec.ofBool (decide (Ideal.ofBits .f32 0xFF800000#32 < x))) = 1#1 → Fin' x := by
    intro x hx
    obtain ⟨ha, hb⟩ := and1 _ _ hx
    rw [inf_word] at ha
    rw [neg_inf_word] at hb
    have h1 : x < ⊤ := by by_contra hc; rw [decide_eq_false hc] at ha; exact absurd ha (by decide)
    have h2 : ⊥ < x := by by_contra hc; rw [decide_eq_false hc] at hb; exact absurd hb (by decide)
    exact ⟨x.toReal, (EReal.coe_toReal h1.ne h2.ne').symm⟩
  refine ⟨fun k => elt _ ?_, fun b k => elt _ ?_⟩
  · exact Host.reduce_andi_all _ _ _ _ _ hn (ix2 0 k)
  · have e : M (ix2 b ⟨1024 + k.val, by omega⟩)
        = extractStridedSlice S4x1024 ![0, 1024] M Facts.slices_S4x6144_S4x1024_0_1024 (ix2 b k) := by
      pointwise []
    rw [e]
    exact Host.reduce_andi_all _ _ _ _ _ hm (ix2 b k)

end Cert.Pre_finite_gains.Tail
-- ==== Proof.PoolSample.lean ====
module

public import proofs.«01_k».proof.Proof.Gen.PoolSampleIdeal.Value
public import proofs.«01_k».proof.Proof.Gen.PoolSampleReferenceIdeal.Run
public import proofs.«01_k».proof.Proof.Pool
public import Idealize.ShloMosaic.Lib.WritesUnit

/-!
The pooling call on the sample rows: one new row per sequence behind a state of fifteen rows. What the kernel writes as one
row-wise formula.
-/

set_option maxRecDepth 16384
@[expose] public section
noncomputable section
open Idealize.ShloMosaic Idealize.ShloMosaic.TcCoe Idealize.SL.Sem
open Idealize.ShloMosaic.Pipeline (Dat)

namespace Cert.PoolSampleIdeal.Tail
open Cert.PoolSampleIdeal Cert.PoolSampleIdeal.Gen Cert.Rows Cert.Pool

/-- Row `n` of the sixteen: the state's fifteen rows, then the new row. -/
def extS (z : Fin 1024 → EReal) (st : Fin 15 → Fin 1024 → EReal) (n : ℕ) (k : Fin 1024) : EReal :=
  if h : n < 15 then st ⟨n, h⟩ k else z k

/-- The mean of the last `2 ^ (g + 1)` rows, less the new row. -/
def devS (g : Fin 4) (z : Fin 1024 → EReal) (st : Fin 15 → Fin 1024 → EReal) (k : Fin 1024) : EReal :=
  Ideal.div (∑ i ∈ Finset.range (2 ^ (g.val + 1)), extS z st (15 - i) k) ((2 ^ (g.val + 1) : ℝ) : EReal) - z k

/-- The group's square map of the deviations. -/
def grpS (g : Fin 4) (z : Fin 1024 → EReal) (st : Fin 15 → Fin 1024 → EReal) (P : Fin 4 → Fin 256 → Fin 256 → EReal) (d : Fin 256) : EReal :=
  ∑ c, devS g z st (lane g c) * P g c d

/-- The pooling mixer's row before its scale. -/
def pooledS (z : Fin 1024 → EReal) (st : Fin 15 → Fin 1024 → EReal) (P : Fin 4 → Fin 256 → Fin 256 → EReal) (k : Fin 1024) : EReal :=
  grpS ⟨k.val / 256, by omega⟩ z st P ⟨k.val % 256, by omega⟩

/-- The mixer's row at a group's lane. -/
theorem pooledS_lane (z : Fin 1024 → EReal) (st : Fin 15 → Fin 1024 → EReal) (P : Fin 4 → Fin 256 → Fin 256 → EReal) (g : Fin 4) (d : Fin 256) :
    pooledS z st P (lane g d) = grpS g z st P d := by
  unfold pooledS
  have h1 : (⟨(lane g d).val / 256, by omega⟩ : Fin 4) = g := Fin.ext (by show (g.val * 256 + d.val) / 256 = g.val; omega)
  have h2 : (⟨(lane g d).val % 256, by omega⟩ : Fin 256) = d := Fin.ext (by show (g.val * 256 + d.val) % 256 = d.val; omega)
  rw [h1, h2]

/-- Dividing by a power of two is multiplying by its inverse's word. -/
theorem inv_word (x : EReal) : x * Ideal.ofBits .f32 0x3F000000#32 = Ideal.div x ((2 ^ 1 : ℝ) : EReal)
    ∧ x * Ideal.ofBits .f32 0x3E800000#32 = Ideal.div x ((2 ^ 2 : ℝ) : EReal)
    ∧ x * Ideal.ofBits .f32 0x3E000000#32 = Ideal.div x ((2 ^ 3 : ℝ) : EReal)
    ∧ x * Ideal.ofBits .f32 0x3D800000#32 = Ideal.div x ((2 ^ 4 : ℝ) : EReal) := by
  have h : ∀ r : ℝ, r ≠ 0 → x * (((1 / r : ℝ)) : EReal) = Ideal.div x (r : EReal) := by
    intro r hr
    rw [← Ideal.mul_one_div (by exact_mod_cast hr)]
    congr 1
    exact ((one_mul _).symm.trans (Ideal.div_coe hr 1).symm)
  have h1 : Ideal.ofBits .f32 0x3F000000#32 = ((1 / 2 ^ 1 : ℝ) : EReal) := by
    show Ideal.ieee 8 23 0x3F000000#32 = _
    unfold Ideal.ieee
    rw [if_neg (by decide), if_neg (by decide)]
    refine congrArg _ ?_
    rw [if_neg (by decide)]
    norm_num
    rw [show ((1056964608 : ℤ) >>> (23 : ℕ)) % 256 = 126 by decide]
    norm_num
  have h2 : Ideal.ofBits .f32 0x3E800000#32 = ((1 / 2 ^ 2 : ℝ) : EReal) := by
    show Ideal.ieee 8 23 0x3E800000#32 = _
    unfold Ideal.ieee
    rw [if_neg (by decide), if_neg (by decide)]
    refine congrArg _ ?_
    rw [if_neg (by decide)]
    norm_num
    rw [show ((1048576000 : ℤ) >>> (23 : ℕ)) % 256 = 125 by decide]
    norm_num
  have h3 : Ideal.ofBits .f32 0x3E000000#32 = ((1 / 2 ^ 3 : ℝ) : EReal) := by
    show Ideal.ieee 8 23 0x3E000000#32 = _
    unfold Ideal.ieee
    rw [if_neg (by decide), if_neg (by decide)]
    refine congrArg _ ?_
    rw [if_neg (by decide)]
    norm_num
    rw [show ((1040187392 : ℤ) >>> (23 : ℕ)) % 256 = 124 by decide]
    norm_num
  have h4 : Ideal.ofBits .f32 0x3D800000#32 = ((1 / 2 ^ 4 : ℝ) : EReal) := by
    show Ideal.ieee 8 23 0x3D800000#32 = _
    unfold Ideal.ieee
    rw [if_neg (by decide), if_neg (by decide)]
    refine congrArg _ ?_
    rw [if_neg (by decide)]
    norm_num
    rw [show ((1031798784 : ℤ) >>> (23 : ℕ)) % 256 = 123 by decide]
    norm_num
  rw [h1, h2, h3, h4]
  exact ⟨h _ (by norm_num), h _ (by norm_num), h _ (by norm_num), h _ (by norm_num)⟩

/-- The normalised new row of sequence `b`. -/
def rowS (X : FVec Ideal S128x1024 .f32) (N : FVec Ideal S1x1024 .f32) (M : FVec Ideal S128x6144 .f32) (b : Fin 128) : Fin 1024 → EReal :=
  pre (fun j => X (ix2 b j)) (fun j => N (ix2 0 j)) (fun j => M (ix2 b ⟨1024 + j.val, by omega⟩)) (fun j => M (ix2 b ⟨j.val, by omega⟩))

/-- The row after the pooling mixer. -/
def mixedS (X : FVec Ideal S128x1024 .f32) (ST : FVec Ideal S15x128x1024 .f32) (N : FVec Ideal S1x1024 .f32) (PW : FVec Ideal S4x256x256 .bf16)
    (PS : FVec Ideal S1x1024 .f32) (M : FVec Ideal S128x6144 .f32) (b : Fin 128) (k : Fin 1024) : EReal :=
  X (ix2 b k) + M (ix2 b ⟨2048 + k.val, by omega⟩) *
    (pooledS (rowS X N M b) (fun n j => ST (ix3 n b j)) (fun g c d => PW (ix3 g c d)) k * PS (ix2 0 k))

/-- The call's first result: the row after the pooling mixer and the feed-forward map. -/
def outArr (X : FVec Ideal S128x1024 .f32) (ST : FVec Ideal S15x128x1024 .f32) (N : FVec Ideal S1x1024 .f32) (PW : FVec Ideal S4x256x256 .bf16)
    (PS N2 : FVec Ideal S1x1024 .f32) (M : FVec Ideal S128x6144 .f32) (WG WU : FVec Ideal S1024x2816 .bf16)
    (WD : FVec Ideal S2816x1024 .bf16) : FVec Ideal S128x1024 .f32 :=
  fun i => mixedS X ST N PW PS M (i 0) (i 1) + M (ix2 (i 0) ⟨5120 + (i 1).val, by have h : (i 1).val < 1024 := (i 1).isLt; omega⟩) *
    swiglu (pre (mixedS X ST N PW PS M (i 0)) (fun j => N2 (ix2 0 j)) (fun j => M (ix2 (i 0) ⟨4096 + j.val, by omega⟩))
        (fun j => M (ix2 (i 0) ⟨3072 + j.val, by omega⟩)))
      (fun j f => WG (ix2 j f)) (fun j f => WU (ix2 j f)) (fun f j => WD (ix2 f j)) (i 1)

/-- The call's second result: the state one row on. -/
def stateArr (X : FVec Ideal S128x1024 .f32) (ST : FVec Ideal S15x128x1024 .f32) (N : FVec Ideal S1x1024 .f32) (M : FVec Ideal S128x6144 .f32) :
    FVec Ideal S15x128x1024 .f32 :=
  fun i => extS (rowS X N M (i 1)) (fun n j => ST (ix3 n (i 1) j)) ((i 0).val + 1) (i 2)

/-- The normalised rows of the block, at an index. -/
theorem pay3_at (x0 : Vec Ideal S128x1024 .f32) (x1 : Vec Ideal S1x1024 .f32) (x2 x3 : Vec Ideal S128x1024 .f32)
    (r : Fin 128) (k : Fin 1024) : k0_pay3 x0 x1 x2 x3 (ix2 r k)
      = pre (fun j => x0 (ix2 r j)) (fun j => x1 (ix2 0 j)) (fun j => x3 (ix2 r j)) (fun j => x2 (ix2 r j)) k := by
  pointwise [k0_pay3]
  rfl

/-- The mixer's rows as the body computes them from the staged blocks. -/
def mixT (x0 : Vec Ideal S128x1024 .f32) (x1 : Vec Ideal S15x128x1024 .f32) (x2 : Vec Ideal S1x1024 .f32) (x3 x4 : Vec Ideal S128x1024 .f32)
    (x6 : Vec Ideal S4x256x256 .bf16) : FVec Ideal S128x1024 .f32 :=
  k0_pay12 (k0_pay3 x0 x2 x3 x4)
    (k0_pay5 x0 x2 x3 x4 (View.ld x1 (Rect.unit ![14, 0, 0] ![1, 128, 1024] inb_S15x128x1024_S1x128x1024_14_0_0)))
    (k0_pay7 x0 x2 x3 x4 (View.ld x1 (Rect.unit ![14, 0, 0] ![1, 128, 1024] inb_S15x128x1024_S1x128x1024_14_0_0)) (View.ld x1 (Rect.unit ![13, 0, 0] ![1, 128, 1024] inb_S15x128x1024_S1x128x1024_13_0_0)) (View.ld x1 (Rect.unit ![12, 0, 0] ![1, 128, 1024] inb_S15x128x1024_S1x128x1024_12_0_0)))
    (k0_pay10 (k0_pay8 x0 x2 x3 x4 (View.ld x1 (Rect.unit ![14, 0, 0] ![1, 128, 1024] inb_S15x128x1024_S1x128x1024_14_0_0)) (View.ld x1 (Rect.unit ![13, 0, 0] ![1, 128, 1024] inb_S15x128x1024_S1x128x1024_13_0_0)) (View.ld x1 (Rect.unit ![12, 0, 0] ![1, 128, 1024] inb_S15x128x1024_S1x128x1024_12_0_0)) (View.ld x1 (Rect.unit ![11, 0, 0] ![1, 128, 1024] inb_S15x128x1024_S1x128x1024_11_0_0))) (View.ld x1 (Rect.unit ![10, 0, 0] ![1, 128, 1024] inb_S15x128x1024_S1x128x1024_10_0_0)) (View.ld x1 (Rect.unit ![9, 0, 0] ![1, 128, 1024] inb_S15x128x1024_S1x128x1024_9_0_0)) (View.ld x1 (Rect.unit ![8, 0, 0] ![1, 128, 1024] inb_S15x128x1024_S1x128x1024_8_0_0)))
    (k0_pay11 (k0_pay8 x0 x2 x3 x4 (View.ld x1 (Rect.unit ![14, 0, 0] ![1, 128, 1024] inb_S15x128x1024_S1x128x1024_14_0_0)) (View.ld x1 (Rect.unit ![13, 0, 0] ![1, 128, 1024] inb_S15x128x1024_S1x128x1024_13_0_0)) (View.ld x1 (Rect.unit ![12, 0, 0] ![1, 128, 1024] inb_S15x128x1024_S1x128x1024_12_0_0)) (View.ld x1 (Rect.unit ![11, 0, 0] ![1, 128, 1024] inb_S15x128x1024_S1x128x1024_11_0_0))) (View.ld x1 (Rect.unit ![10, 0, 0] ![1, 128, 1024] inb_S15x128x1024_S1x128x1024_10_0_0)) (View.ld x1 (Rect.unit ![9, 0, 0] ![1, 128, 1024] inb_S15x128x1024_S1x128x1024_9_0_0)) (View.ld x1 (Rect.unit ![8, 0, 0] ![1, 128, 1024] inb_S15x128x1024_S1x128x1024_8_0_0)) (View.ld x1 (Rect.unit ![7, 0, 0] ![1, 128, 1024] inb_S15x128x1024_S1x128x1024_7_0_0)) (View.ld x1 (Rect.unit ![6, 0, 0] ![1, 128, 1024] inb_S15x128x1024_S1x128x1024_6_0_0)) (View.ld x1 (Rect.unit ![5, 0, 0] ![1, 128, 1024] inb_S15x128x1024_S1x128x1024_5_0_0)) (View.ld x1 (Rect.unit ![4, 0, 0] ![1, 128, 1024] inb_S15x128x1024_S1x128x1024_4_0_0)) (View.ld x1 (Rect.unit ![3, 0, 0] ![1, 128, 1024] inb_S15x128x1024_S1x128x1024_3_0_0)) (View.ld x1 (Rect.unit ![2, 0, 0] ![1, 128, 1024] inb_S15x128x1024_S1x128x1024_2_0_0)) (View.ld x1 (Rect.unit ![1, 0, 0] ![1, 128, 1024] inb_S15x128x1024_S1x128x1024_1_0_0)))
    (View.ld x1 (Rect.unit ![0, 0, 0] ![1, 128, 1024] inb_S15x128x1024_S1x128x1024_0_0_0)) (View.ld x6 (Rect.unit ![0, 0, 0] ![1, 256, 256] inb_S4x256x256_S1x256x256_0_0_0)) (View.ld x6 (Rect.unit ![1, 0, 0] ![1, 256, 256] inb_S4x256x256_S1x256x256_1_0_0)) (View.ld x6 (Rect.unit ![2, 0, 0] ![1, 256, 256] inb_S4x256x256_S1x256x256_2_0_0)) (View.ld x6 (Rect.unit ![3, 0, 0] ![1, 256, 256] inb_S4x256x256_S1x256x256_3_0_0))

/-- The mixer's rows at an index. -/
theorem mixT_at (x0 : Vec Ideal S128x1024 .f32) (x1 : Vec Ideal S15x128x1024 .f32) (x2 : Vec Ideal S1x1024 .f32) (x3 x4 : Vec Ideal S128x1024 .f32)
    (x6 : Vec Ideal S4x256x256 .bf16) (z : Fin 1024 → EReal) (st : Fin 15 → Fin 1024 → EReal) (P : Fin 4 → Fin 256 → Fin 256 → EReal) (r : Fin 128)
    (hz : ∀ j, k0_pay3 x0 x2 x3 x4 (ix2 r j) = z j) (hst : ∀ n j, x1 (ix3 n r j) = st n j) (hP : ∀ g c d, x6 (ix3 g c d) = P g c d) (k : Fin 1024) :
    mixT x0 x1 x2 x3 x4 x6 (ix2 r k) = pooledS z st P k := by
  have key : ∀ g' d, k = lane g' d → mixT x0 x1 x2 x3 x4 x6 (ix2 r k) = grpS g' z st P d := by
    intro g' d hk
    have hv : k.val = g'.val * 256 + d.val := congrArg Fin.val hk
    have hd := d.isLt
    pointwise [mixT, k0_pay12, k0_pay5, k0_pay7, k0_pay10, k0_pay11, k0_pay4, k0_pay6, k0_pay8, k0_pay9]
    simp only [hz, hst, hP]
    fin_cases g'
    · have hv0 : k.val = 0 + d.val := by simpa using hv
      rw [dif_pos (by omega)]
      refine Finset.sum_congr rfl fun c _ => ?_
      have hl : ∀ h : c.val < 1024, (⟨c.val, h⟩ : Fin 1024) = lane 0 c := fun h => Fin.ext (by simp [lane])
      have hd' : ∀ h : k.val < 256, (⟨k.val, h⟩ : Fin 256) = d := fun h => Fin.ext (by show k.val = d.val; omega)
      simp only [hl, hd']
      rw [(inv_word _).1]
      refine congrArg (fun q => (Ideal.div q _ - z (lane 0 c)) * P 0 c d) ?_
      show _ = ∑ i ∈ Finset.range 2, extS z st (15 - i) (lane 0 c)
      simp only [Finset.sum_range_succ, Finset.sum_range_zero, zero_add]
      rfl
    · have hv0 : k.val = 256 + d.val := by simpa using hv
      rw [dif_neg (by omega), dif_pos (by omega)]
      refine Finset.sum_congr rfl fun c _ => ?_
      have hl : ∀ h : 256 + c.val < 1024, (⟨256 + c.val, h⟩ : Fin 1024) = lane 1 c := fun h => Fin.ext (by simp [lane])
      have hd' : ∀ h : k.val - 256 < 256, (⟨k.val - 256, h⟩ : Fin 256) = d := fun h => Fin.ext (by show k.val - 256 = d.val; omega)
      simp only [hl, hd']
      rw [(inv_word _).2.1]
      refine congrArg (fun q => (Ideal.div q _ - z (lane 1 c)) * P 1 c d) ?_
      show _ = ∑ i ∈ Finset.range 4, extS z st (15 - i) (lane 1 c)
      simp only [Finset.sum_range_succ, Finset.sum_range_zero, zero_add]
      rfl
    · have hv0 : k.val = 512 + d.val := by simpa using hv
      rw [dif_neg (by omega), dif_neg (by omega), dif_pos (by omega)]
      refine Finset.sum_congr rfl fun c _ => ?_
      have hl : ∀ h : 512 + c.val < 1024, (⟨512 + c.val, h⟩ : Fin 1024) = lane 2 c := fun h => Fin.ext (by simp [lane])
      have hd' : ∀ h : k.val - 256 - 256 < 256, (⟨k.val - 256 - 256, h⟩ : Fin 256) = d := fun h => Fin.ext (by show k.val - 256 - 256 = d.val; omega)
      simp only [hl, hd']
      rw [(inv_word _).2.2.1]
      refine congrArg (fun q => (Ideal.div q _ - z (lane 2 c)) * P 2 c d) ?_
      show _ = ∑ i ∈ Finset.range 8, extS z st (15 - i) (lane 2 c)
      simp only [Finset.sum_range_succ, Finset.sum_range_zero, zero_add]
      rfl
    · have hv0 : k.val = 768 + d.val := by simpa using hv
      rw [dif_neg (by omega), dif_neg (by omega), dif_neg (by omega)]
      refine Finset.sum_congr rfl fun c _ => ?_
      have hl : ∀ h : 768 + c.val < 1024, (⟨768 + c.val, h⟩ : Fin 1024) = lane 3 c := fun h => Fin.ext (by simp [lane])
      have hd' : ∀ h : k.val - 256 - 256 - 256 < 256, (⟨k.val - 256 - 256 - 256, h⟩ : Fin 256) = d := fun h => Fin.ext (by show k.val - 256 - 256 - 256 = d.val; omega)
      simp only [hl, hd']
      rw [(inv_word _).2.2.2]
      refine congrArg (fun q => (Ideal.div q _ - z (lane 3 c)) * P 3 c d) ?_
      show _ = ∑ i ∈ Finset.range 16, extS z st (15 - i) (lane 3 c)
      simp only [Finset.sum_range_succ, Finset.sum_range_zero, zero_add]
      rfl
  obtain ⟨g', d, hk⟩ := exists_lane k
  rw [key g' d hk, hk, pooledS_lane]

/-- The call's row from the mixed row. -/
theorem out_at (x0 V : FVec Ideal S128x1024 .f32) (x5 : Vec Ideal S128x1024 .f32) (x7 x8 : Vec Ideal S1x1024 .f32) (x9 x10 x11 : Vec Ideal S128x1024 .f32)
    (x12 x13 : Vec Ideal S1024x2816 .bf16) (x14 : Vec Ideal S2816x1024 .bf16) (r : Fin 128) (k : Fin 1024)
    (y : Fin 1024 → EReal) (hy : ∀ j, k0_pay13 x0 V x7 x5 (ix2 r j) = y j) :
    k0_pay1 (k0_pay13 x0 V x7 x5) x11 (k0_pay14 x0 V x7 x5 x8 x9 x10) k0_pay15
        (k0_pay16 x0 V x7 x5 x8 x9 x10 (View.ld x12 (Rect.unit ![0, 0] ![1024, 1408] inb_S1024x2816_S1024x1408_0_0))
          (View.ld x13 (Rect.unit ![0, 0] ![1024, 1408] inb_S1024x2816_S1024x1408_0_0)))
        (View.ld x14 (Rect.unit ![0, 0] ![1408, 1024] inb_S2816x1024_S1408x1024_0_0))
        (View.ld x12 (Rect.unit ![0, 1408] ![1024, 1408] inb_S1024x2816_S1024x1408_0_1408))
        (View.ld x13 (Rect.unit ![0, 1408] ![1024, 1408] inb_S1024x2816_S1024x1408_0_1408))
        (View.ld x14 (Rect.unit ![1408, 0] ![1408, 1024] inb_S2816x1024_S1408x1024_1408_0)) (ix2 r k)
      = y k + x11 (ix2 r k) *
        swiglu (pre y (fun j => x8 (ix2 0 j)) (fun j => x10 (ix2 r j)) (fun j => x9 (ix2 r j)))
          (fun j f => x12 (ix2 j f)) (fun j f => x13 (ix2 j f)) (fun f j => x14 (ix2 f j)) k := by
  rw [swiglu_halves]
  pointwise [k0_pay1, k0_pay14, k0_pay15, k0_pay16]
  simp only [hy]
  rfl

/-- The latest store's rows, read back. -/
theorem canon_hit {o n : ℕ} (inb : ∀ a, (![o, 0, 0] : Fin 3 → ℕ) a + (![n, 128, 1024] : Fin 3 → ℕ) a ≤ S15x128x1024.size a)
    (w : Vec Ideal (Rect.unit (s := S15x128x1024) ![o, 0, 0] ![n, 128, 1024] inb).shape .f32) (L : List (View.Piece (Elt Ideal) S15x128x1024 .f32))
    (q : Fin 15) (r : Fin 128) (j : Fin 1024) (x : (Rect.unit (s := S15x128x1024) ![o, 0, 0] ![n, 128, 1024] inb).shape.Idx)
    (h0 : q.val = o + (x 0).val) (h1 : r.val = (x 1).val) (h2 : j.val = (x 2).val) :
    (View.canon (⟨Rect.unit ![o, 0, 0] ![n, 128, 1024] inb, w⟩ :: L) : Vec Ideal S15x128x1024 .f32) (ix3 q r j) = w x := by
  refine (View.read_writes_junk_apply_eq_canon (View.whole main_arg1) _ _).symm.trans ?_
  refine View.read_writes_cons_unit_of_mem _ _ inb w L _ x rfl ?_
  intro a
  fin_cases a
  · exact h0
  · show r.val = 0 + (x 1).val
    omega
  · show j.val = 0 + (x 2).val
    omega

/-- Rows the latest store does not reach come from the stores before it. -/
theorem canon_miss {o n : ℕ} (inb : ∀ a, (![o, 0, 0] : Fin 3 → ℕ) a + (![n, 128, 1024] : Fin 3 → ℕ) a ≤ S15x128x1024.size a)
    (w : Vec Ideal (Rect.unit (s := S15x128x1024) ![o, 0, 0] ![n, 128, 1024] inb).shape .f32) (L : List (View.Piece (Elt Ideal) S15x128x1024 .f32))
    (q : Fin 15) (r : Fin 128) (j : Fin 1024) (h : q.val < o ∨ o + n ≤ q.val) :
    (View.canon (⟨Rect.unit ![o, 0, 0] ![n, 128, 1024] inb, w⟩ :: L) : Vec Ideal S15x128x1024 .f32) (ix3 q r j)
      = (View.canon L : Vec Ideal S15x128x1024 .f32) (ix3 q r j) := by
  refine (View.read_writes_junk_apply_eq_canon (View.whole main_arg1) _ _).symm.trans ?_
  refine (View.read_writes_cons_unit_of_not_mem _ _ inb w L _ rfl 0 h).trans ?_
  exact View.read_writes_junk_apply_eq_canon (View.whole main_arg1) _ _

variable (m : (ℓ : Loc nD τ sig) → Buf (Elt Ideal) ℓ)

/-- The windows' block indices at the one grid point. -/
theorem idx : ∀ t : Fin cfg0.N, win0_0.index t = ![0, 0] ∧ win0_1.index t = ![0, 0, 0]
    ∧ win0_2.index t = ![0, 0] ∧ win0_3.index t = ![0, 0] ∧ win0_4.index t = ![0, 1]
    ∧ win0_5.index t = ![0, 2] ∧ win0_6.index t = ![0, 0, 0] ∧ win0_7.index t = ![0, 0]
    ∧ win0_8.index t = ![0, 0] ∧ win0_9.index t = ![0, 3] ∧ win0_10.index t = ![0, 4] ∧ win0_11.index t = ![0, 5]
    ∧ win0_12.index t = ![0, 0] ∧ win0_13.index t = ![0, 0] ∧ win0_14.index t = ![0, 0] ∧ win0_15.index t = ![0, 0]
    ∧ win0_16.index t = ![0, 0, 0] :=
  (by decide +kernel : ∀ t : Fin grid0.N, _)

/-- The rows as staged. -/
theorem read0 (c : Dev nD) (t : Fin cfg0.N) (r : Fin 128) (j : Fin 1024) : (iblk m c 0 t : Vec Ideal S128x1024 .f32) (ix2 r j)
    = m ((c : Thread nD τ).loc main_arg0) (ix2 r j) := by
  blk_ext! [iblk, V, idx t]

/-- The state as staged. -/
theorem read1 (c : Dev nD) (t : Fin cfg0.N) (n : Fin 15) (r : Fin 128) (j : Fin 1024) : (iblk m c 1 t : Vec Ideal S15x128x1024 .f32) (ix3 n r j)
    = m ((c : Thread nD τ).loc main_arg1) (ix3 n r j) := by
  blk_ext! [iblk, V, idx t]

/-- The first gain as staged. -/
theorem read2 (c : Dev nD) (t : Fin cfg0.N) (j : Fin 1024) : (iblk m c 2 t : Vec Ideal S1x1024 .f32) (ix2 0 j)
    = m ((c : Thread nD τ).loc main_arg2) (ix2 0 j) := by
  blk_ext! [iblk, V, idx t]

/-- The first shift as staged. -/
theorem read3 (c : Dev nD) (t : Fin cfg0.N) (r : Fin 128) (j : Fin 1024) : (iblk m c 3 t : Vec Ideal S128x1024 .f32) (ix2 r j)
    = m ((c : Thread nD τ).loc main_arg6) (ix2 r ⟨j.val, by omega⟩) := by
  blk_ext! [iblk, V, idx t]

/-- The first scale as staged. -/
theorem read4 (c : Dev nD) (t : Fin cfg0.N) (r : Fin 128) (j : Fin 1024) : (iblk m c 4 t : Vec Ideal S128x1024 .f32) (ix2 r j)
    = m ((c : Thread nD τ).loc main_arg6) (ix2 r ⟨1024 + j.val, by omega⟩) := by
  blk_ext! [iblk, V, idx t]

/-- The first gate as staged. -/
theorem read5 (c : Dev nD) (t : Fin cfg0.N) (r : Fin 128) (j : Fin 1024) : (iblk m c 5 t : Vec Ideal S128x1024 .f32) (ix2 r j)
    = m ((c : Thread nD τ).loc main_arg6) (ix2 r ⟨2048 + j.val, by omega⟩) := by
  blk_ext! [iblk, V, idx t]

/-- The group matrices as staged. -/
theorem read6 (c : Dev nD) (t : Fin cfg0.N) (n : Fin 4) (r : Fin 256) (j : Fin 256) : (iblk m c 6 t : Vec Ideal S4x256x256 .bf16) (ix3 n r j)
    = m ((c : Thread nD τ).loc main_arg3) (ix3 n r j) := by
  blk_ext! [iblk, V, idx t]

/-- The pooling scale as staged. -/
theorem read7 (c : Dev nD) (t : Fin cfg0.N) (j : Fin 1024) : (iblk m c 7 t : Vec Ideal S1x1024 .f32) (ix2 0 j)
    = m ((c : Thread nD τ).loc main_arg4) (ix2 0 j) := by
  blk_ext! [iblk, V, idx t]

/-- The second gain as staged. -/
theorem read8 (c : Dev nD) (t : Fin cfg0.N) (j : Fin 1024) : (iblk m c 8 t : Vec Ideal S1x1024 .f32) (ix2 0 j)
    = m ((c : Thread nD τ).loc main_arg5) (ix2 0 j) := by
  blk_ext! [iblk, V, idx t]

/-- The second shift as staged. -/
theorem read9 (c : Dev nD) (t : Fin cfg0.N) (r : Fin 128) (j : Fin 1024) : (iblk m c 9 t : Vec Ideal S128x1024 .f32) (ix2 r j)
    = m ((c : Thread nD τ).loc main_arg6) (ix2 r ⟨3072 + j.val, by omega⟩) := by
  blk_ext! [iblk, V, idx t]

/-- The second scale as staged. -/
theorem read10 (c : Dev nD) (t : Fin cfg0.N) (r : Fin 128) (j : Fin 1024) : (iblk m c 10 t : Vec Ideal S128x1024 .f32) (ix2 r j)
    = m ((c : Thread nD τ).loc main_arg6) (ix2 r ⟨4096 + j.val, by omega⟩) := by
  blk_ext! [iblk, V, idx t]

/-- The second gate as staged. -/
theorem read11 (c : Dev nD) (t : Fin cfg0.N) (r : Fin 128) (j : Fin 1024) : (iblk m c 11 t : Vec Ideal S128x1024 .f32) (ix2 r j)
    = m ((c : Thread nD τ).loc main_arg6) (ix2 r ⟨5120 + j.val, by omega⟩) := by
  blk_ext! [iblk, V, idx t]

/-- The gate weights as staged. -/
theorem read12 (c : Dev nD) (t : Fin cfg0.N) (r : Fin 1024) (j : Fin 2816) : (iblk m c 12 t : Vec Ideal S1024x2816 .bf16) (ix2 r j)
    = m ((c : Thread nD τ).loc main_arg7) (ix2 r j) := by
  blk_ext! [iblk, V, idx t]

/-- The up weights as staged. -/
theorem read13 (c : Dev nD) (t : Fin cfg0.N) (r : Fin 1024) (j : Fin 2816) : (iblk m c 13 t : Vec Ideal S1024x2816 .bf16) (ix2 r j)
    = m ((c : Thread nD τ).loc main_arg8) (ix2 r j) := by
  blk_ext! [iblk, V, idx t]

/-- The down weights as staged. -/
theorem read14 (c : Dev nD) (t : Fin cfg0.N) (r : Fin 2816) (j : Fin 1024) : (iblk m c 14 t : Vec Ideal S2816x1024 .bf16) (ix2 r j)
    = m ((c : Thread nD τ).loc main_arg9) (ix2 r j) := by
  blk_ext! [iblk, V, idx t]

/-- Where the first result window puts a block's element. -/
theorem place15 (t : Fin cfg0.N) (r : Fin 128) (k : Fin 1024) : ((cfg0.win 15).blk t).view.emb (ix2 r k) = ix2 r k := by
  blk_ext [idx t]

/-- Where the second result window puts a block's element. -/
theorem place16 (t : Fin cfg0.N) (n : Fin 15) (r : Fin 128) (k : Fin 1024) : ((cfg0.win 16).blk t).view.emb (ix3 n r k) = ix3 n r k := by
  blk_ext [idx t]

/-- The first result array after the run. -/
theorem finalOut (c : Dev nD) : (dats m 0 c).arrAt 15 (cfgs 0).N = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 15 _ (by decide +kernel) fun t _ y => ?_
  blk_simp
  rw [after0_15]
  obtain ⟨r, k, rfl⟩ : ∃ (r : Fin 128) (k : Fin 1024), y = ix2 r k := ⟨y 0, y 1, eq_ix2 y⟩
  refine Eq.trans ?_ (congrArg (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (place15 t r k)).symm
  unfold outsAt0
  frame_out
  have hz : ∀ j, k0_pay3 (iblk m c 0 t) (iblk m c 2 t) (iblk m c 3 t) (iblk m c 4 t) (ix2 r j) = rowS (m ((c : Thread nD τ).loc main_arg0)) (m ((c : Thread nD τ).loc main_arg2)) (m ((c : Thread nD τ).loc main_arg6)) r j := by
    intro j
    rw [pay3_at]
    simp only [read0, read2, read3, read4]
    rfl
  have hy : ∀ j, k0_pay13 (iblk m c 0 t) (mixT (iblk m c 0 t) (iblk m c 1 t) (iblk m c 2 t) (iblk m c 3 t) (iblk m c 4 t) (iblk m c 6 t)) (iblk m c 7 t) (iblk m c 5 t) (ix2 r j)
      = mixedS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) r j := by
    intro j
    pointwise [k0_pay13]
    rw [mixT_at _ _ _ _ _ _ _ _ _ r hz (fun n q => read1 m c t n r q) (fun g c' d => read6 m c t g c' d) j]
    simp only [read0, read5, read7]
    rfl
  refine (out_at _ _ _ _ _ _ _ _ _ _ _ r k _ hy).trans ?_
  simp only [read8, read9, read10, read11, read12, read13, read14]
  rfl

/-- The second result array after the run. -/
theorem finalState (c : Dev nD) : (dats m 0 c).arrAt 16 (cfgs 0).N = stateArr (m ((c : Thread nD τ).loc main_arg0)) (m ((c : Thread nD τ).loc main_arg1)) (m ((c : Thread nD τ).loc main_arg2)) (m ((c : Thread nD τ).loc main_arg6)) := by
  refine (dats m 0 c).arrAt_eq_of_covers 16 _ (by decide +kernel) fun t _ y => ?_
  blk_simp
  rw [after0_16]
  obtain ⟨n, r, k, rfl⟩ : ∃ (n : Fin 15) (r : Fin 128) (k : Fin 1024), y = ix3 n r k := ⟨y 0, y 1, y 2, eq_ix3 y⟩
  refine Eq.trans ?_ (congrArg (stateArr (m ((c : Thread nD τ).loc main_arg0)) (m ((c : Thread nD τ).loc main_arg1)) (m ((c : Thread nD τ).loc main_arg2)) (m ((c : Thread nD τ).loc main_arg6))) (place16 t n r k)).symm
  unfold outsAt0
  frame_out
  have hn := n.isLt
  by_cases h : n.val = 14
  · refine (canon_hit _ _ _ n r k (ix3 (0 : Fin 1) r k) (by show n.val = 14 + 0; omega) rfl rfl).trans ?_
    pointwise [k0_pay2]
    rw [pay3_at]
    simp only [read0, read2, read3, read4]
    show _ = extS _ _ (n.val + 1) k
    rw [extS, dif_neg (by omega)]
    rfl
  · refine (canon_miss _ _ _ n r k (Or.inl (by omega))).trans ?_
    refine (canon_hit _ _ _ n r k (ix3 (⟨n.val, by omega⟩ : Fin 14) r k) (by show n.val = 0 + n.val; omega) rfl rfl).trans ?_
    show _ = extS _ _ (n.val + 1) k
    rw [extS, dif_pos (by omega)]
    pointwise []
    rw [read1]
    exact congrArg (fun q => (m ((c : Thread nD τ).loc main_arg1)) (ix3 q r k)) (Fin.ext (Nat.add_comm _ _))

end Cert.PoolSampleIdeal.Tail
-- ==== Proof.PoolSampleRef.lean ====
module

public import proofs.«01_k».proof.Proof.Gen.PoolSampleReferenceIdeal.Run
public import proofs.«01_k».proof.Proof.PoolSample

/-!
The sample batch's pooling reference, stage by stage, and what each stage is at an index: the sixteen rows, the means of their last
rows, the groups' maps and the feed-forward map.
-/

set_option maxRecDepth 16384
@[expose] public section
noncomputable section
open Idealize.ShloMosaic Idealize.ShloMosaic.TcCoe Idealize.SL.Sem

namespace Cert.PoolSampleReferenceIdeal.Tail
open Cert.PoolSampleReferenceIdeal Cert.PoolSampleReferenceIdeal.Gen Cert.Rows Cert.Pool
open PoolSampleIdeal.Tail (extS devS grpS pooledS rowS mixedS outArr stateArr)

/-- The rows with a sequence axis of one, as the reference's term. -/
def rows3 (X : FVec Ideal S128x1024 .f32) : FVec Ideal S128x1x1024 .f32 :=
  broadcastInDim S128x1x1024 ![0, 2] bcast_S128x1024_S128x1x1024_0_2 X

/-- The first normalised rows, as the reference's term. -/
def preT (X : FVec Ideal S128x1x1024 .f32) (N : FVec Ideal S1x1024 .f32) (M : FVec Ideal S128x6144 .f32) : FVec Ideal S128x1x1024 .f32 :=
  addf (mulf (mulf (mulf X (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf X X) (constant (F := Ideal) S_ .f32 0x00000000#32) reducesTo_S128x1x1024_S128x1_d2 h_S_)) (broadcastInDim S128x1x1 ![] bcast_S_S128x1x1 (constant (F := Ideal) S_ .f32 0x44800000#32))) (broadcastInDim S128x1x1 ![] bcast_S_S128x1x1 (constant (F := Ideal) S_ .f32 0x358637BD#32)))))) (broadcastInDim S128x1x1024 ![0, 1, 2] bcast_S1x1x1024_S128x1x1024_0_1_2 (broadcastInDim S1x1x1024 ![2] bcast_S1024_S1x1x1024_2 (shapeCast S1024 N shapeCasts_S1x1024_S1024)))) (addf (broadcastInDim S128x1x1024 ![] bcast_S_S128x1x1024 (constant (F := Ideal) S_ .f32 0x3F800000#32)) (broadcastInDim S128x1x1024 ![0, 2] bcast_S128x1024_S128x1x1024_0_2 (extractStridedSlice S128x1024 ![0, 1024] M slices_S128x6144_S128x1024_0_1024)))) (broadcastInDim S128x1x1024 ![0, 2] bcast_S128x1024_S128x1x1024_0_2 (extractStridedSlice S128x1024 ![0, 0] M slices_S128x6144_S128x1024_0_0))

/-- The state's rows and the new row, as the reference's term. -/
def extT (Z : FVec Ideal S128x1x1024 .f32) (ST : FVec Ideal S15x128x1024 .f32) : FVec Ideal S128x16x1024 .f32 :=
  concatenate S128x16x1024 1 [⟨S128x15x1024, (transpose S128x15x1024 [1, 0, 2] ST transposes_S15x128x1024_S128x15x1024_1_0_2)⟩, ⟨S128x1x1024, Z⟩] concatenates_S128x15x1024_S128x1x1024_S128x16x1024_d1

/-- Group 0: the mean of the last two rows, as the reference's term. -/
def part0T (E : FVec Ideal S128x16x1024 .f32) : FVec Ideal S128x1x256 .f32 :=
  Host.divf (broadcastInDim S128x1x256 ![0, 2] bcast_S128x256_S128x1x256_0_2 (Host.reduceAdd (extractStridedSlice S128x2x256 ![0, 14, 0] E slices_S128x16x1024_S128x2x256_0_14_0) (constant (F := Ideal) S_ .f32 0x00000000#32) reducesTo_S128x2x256_S128x256_d1 h_S_)) (broadcastInDim S128x1x256 ![] bcast_S_S128x1x256 (constant (F := Ideal) S_ .f32 0x40000000#32))

/-- Group 1: the mean of the last four rows, as the reference's term. -/
def part1T (E : FVec Ideal S128x16x1024 .f32) : FVec Ideal S128x1x256 .f32 :=
  Host.divf (broadcastInDim S128x1x256 ![0, 2] bcast_S128x256_S128x1x256_0_2 (Host.reduceAdd (extractStridedSlice S128x4x256 ![0, 12, 256] E slices_S128x16x1024_S128x4x256_0_12_256) (constant (F := Ideal) S_ .f32 0x00000000#32) reducesTo_S128x4x256_S128x256_d1 h_S_)) (broadcastInDim S128x1x256 ![] bcast_S_S128x1x256 (constant (F := Ideal) S_ .f32 0x40800000#32))

/-- Group 2: the mean of the last eight rows, as the reference's term. -/
def part2T (E : FVec Ideal S128x16x1024 .f32) : FVec Ideal S128x1x256 .f32 :=
  Host.divf (broadcastInDim S128x1x256 ![0, 2] bcast_S128x256_S128x1x256_0_2 (Host.reduceAdd (extractStridedSlice S128x8x256 ![0, 8, 512] E slices_S128x16x1024_S128x8x256_0_8_512) (constant (F := Ideal) S_ .f32 0x00000000#32) reducesTo_S128x8x256_S128x256_d1 h_S_)) (broadcastInDim S128x1x256 ![] bcast_S_S128x1x256 (constant (F := Ideal) S_ .f32 0x41000000#32))

/-- Group 3: the mean of the last sixteen rows, as the reference's term. -/
def part3T (E : FVec Ideal S128x16x1024 .f32) : FVec Ideal S128x1x256 .f32 :=
  Host.divf (broadcastInDim S128x1x256 ![0, 2] bcast_S128x256_S128x1x256_0_2 (Host.reduceAdd (extractStridedSlice S128x16x256 ![0, 0, 768] E slices_S128x16x1024_S128x16x256_0_0_768) (constant (F := Ideal) S_ .f32 0x00000000#32) reducesTo_S128x16x256_S128x256_d1 h_S_)) (broadcastInDim S128x1x256 ![] bcast_S_S128x1x256 (constant (F := Ideal) S_ .f32 0x41800000#32))

/-- The groups' means side by side, less the rows, as the reference's term. -/
def devT (G0 G1 G2 G3 : FVec Ideal S128x1x256 .f32) (Z : FVec Ideal S128x1x1024 .f32) : FVec Ideal S128x1x1024 .f32 :=
  subf ((concatenate S128x1x1024 2 [⟨S128x1x256, G0⟩, ⟨S128x1x256, G1⟩, ⟨S128x1x256, G2⟩, ⟨S128x1x256, G3⟩] concatenates_S128x1x256_S128x1x256_S128x1x256_S128x1x256_S128x1x1024_d2 : (⟨S128x1x1024, .f32⟩ : BufTy).Contents (Elt Ideal))) Z

/-- The gated and scaled group maps of the deviations, as the reference's term. -/
def mixT (V : FVec Ideal S128x1x1024 .f32) (PW : FVec Ideal S4x256x256 .bf16) (PS : FVec Ideal S1x1024 .f32) (M : FVec Ideal S128x6144 .f32) : FVec Ideal S128x1x1024 .f32 :=
  mulf (broadcastInDim S128x1x1024 ![0, 2] bcast_S128x1024_S128x1x1024_0_2 (extractStridedSlice S128x1024 ![0, 2048] M slices_S128x6144_S128x1024_0_2048)) (mulf (shapeCast S128x1x1024 (transpose S128x1x4x256 [2, 3, 0, 1] (Host.dotGeneral dot_S4x256x256_S128x1x4x256_S4x256x128x1_1_3_2_01_0_2 none (extf .f32 PW bitsLt_bf16_f32) (shapeCast S128x1x4x256 V shapeCasts_S128x1x1024_S128x1x4x256)) transposes_S4x256x128x1_S128x1x4x256_2_3_0_1) shapeCasts_S128x1x4x256_S128x1x1024) (broadcastInDim S128x1x1024 ![0, 1, 2] bcast_S1x1x1024_S128x1x1024_0_1_2 (broadcastInDim S1x1x1024 ![2] bcast_S1024_S1x1x1024_2 (shapeCast S1024 PS shapeCasts_S1x1024_S1024))))

/-- The second normalised rows, as the reference's term. -/
def pre2T (X : FVec Ideal S128x1x1024 .f32) (N : FVec Ideal S1x1024 .f32) (M : FVec Ideal S128x6144 .f32) : FVec Ideal S128x1x1024 .f32 :=
  addf (mulf (mulf (mulf X (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf X X) (constant (F := Ideal) S_ .f32 0x00000000#32) reducesTo_S128x1x1024_S128x1_d2 h_S_)) (broadcastInDim S128x1x1 ![] bcast_S_S128x1x1 (constant (F := Ideal) S_ .f32 0x44800000#32))) (broadcastInDim S128x1x1 ![] bcast_S_S128x1x1 (constant (F := Ideal) S_ .f32 0x358637BD#32)))))) (broadcastInDim S128x1x1024 ![0, 1, 2] bcast_S1x1x1024_S128x1x1024_0_1_2 (broadcastInDim S1x1x1024 ![2] bcast_S1024_S1x1x1024_2 (shapeCast S1024 N shapeCasts_S1x1024_S1024)))) (addf (broadcastInDim S128x1x1024 ![] bcast_S_S128x1x1024 (constant (F := Ideal) S_ .f32 0x3F800000#32)) (broadcastInDim S128x1x1024 ![0, 2] bcast_S128x1024_S128x1x1024_0_2 (extractStridedSlice S128x1024 ![0, 4096] M slices_S128x6144_S128x1024_0_4096)))) (broadcastInDim S128x1x1024 ![0, 2] bcast_S128x1024_S128x1x1024_0_2 (extractStridedSlice S128x1024 ![0, 3072] M slices_S128x6144_S128x1024_0_3072))

/-- The gated product of hidden activations, as the reference's term. -/
def hiddenT (H : FVec Ideal S128x1x1024 .f32) (WG WU : FVec Ideal S1024x2816 .bf16) : FVec Ideal S128x1x2816 .f32 :=
  mulf (mulf (Host.dotGeneral dot_S128x1x1024_S1024x2816_S128x1x2816_2_0_01_1_n_n none H (extf .f32 WG bitsLt_bf16_f32)) (Host.divf (broadcastInDim S128x1x2816 ![] bcast_S_S128x1x2816 (constant (F := Ideal) S_ .f32 0x3F800000#32)) (addf (broadcastInDim S128x1x2816 ![] bcast_S_S128x1x2816 (constant (F := Ideal) S_ .f32 0x3F800000#32)) (Host.exp (Host.negf (Host.dotGeneral dot_S128x1x1024_S1024x2816_S128x1x2816_2_0_01_1_n_n none H (extf .f32 WG bitsLt_bf16_f32))))))) (Host.dotGeneral dot_S128x1x1024_S1024x2816_S128x1x2816_2_0_01_1_n_n none H (extf .f32 WU bitsLt_bf16_f32))

/-- The gated feed-forward map added to the rows, as the reference's term. -/
def outT (Y : FVec Ideal S128x1x1024 .f32) (A : FVec Ideal S128x1x2816 .f32) (M : FVec Ideal S128x6144 .f32) (WD : FVec Ideal S2816x1024 .bf16) : FVec Ideal S128x1024 .f32 :=
  shapeCast S128x1024 (addf Y (mulf (broadcastInDim S128x1x1024 ![0, 2] bcast_S128x1024_S128x1x1024_0_2 (extractStridedSlice S128x1024 ![0, 5120] M slices_S128x6144_S128x1024_0_5120)) (Host.dotGeneral dot_S128x1x2816_S2816x1024_S128x1x1024_2_0_01_1_n_n none A (extf .f32 WD bitsLt_bf16_f32)))) shapeCasts_S128x1x1024_S128x1024

/-- The state one row on, as the reference's term. -/
def stateT (E : FVec Ideal S128x16x1024 .f32) : FVec Ideal S15x128x1024 .f32 :=
  transpose S15x128x1024 [1, 0, 2] (extractStridedSlice S128x15x1024 ![0, 1, 0] E slices_S128x16x1024_S128x15x1024_0_1_0) transposes_S128x15x1024_S15x128x1024_1_0_2

/-- The rows after the pooling mix, as the reference's term. -/
def mixedT (X : FVec Ideal S128x1024 .f32) (ST : FVec Ideal S15x128x1024 .f32) (N : FVec Ideal S1x1024 .f32) (PW : FVec Ideal S4x256x256 .bf16)
    (PS : FVec Ideal S1x1024 .f32) (M : FVec Ideal S128x6144 .f32) : FVec Ideal S128x1x1024 .f32 :=
  addf (rows3 X) (mixT (devT (part0T (extT (preT (rows3 X) N M) ST)) (part1T (extT (preT (rows3 X) N M) ST)) (part2T (extT (preT (rows3 X) N M) ST)) (part3T (extT (preT (rows3 X) N M) ST)) (preT (rows3 X) N M)) PW PS M)

/-- The first normalised rows at an index. -/
theorem preT_at (X : FVec Ideal S128x1024 .f32) (N : FVec Ideal S1x1024 .f32) (M : FVec Ideal S128x6144 .f32) (b : Fin 128) (k : Fin 1024) :
    preT (rows3 X) N M (ix3 b 0 k) = rowS X N M b k := by
  pointwise [preT, rows3]
  rfl

/-- The second normalised rows at an index. -/
theorem pre2T_at (X : FVec Ideal S128x1x1024 .f32) (N : FVec Ideal S1x1024 .f32) (M : FVec Ideal S128x6144 .f32) (b : Fin 128) (k : Fin 1024) :
    pre2T X N M (ix3 b 0 k) = pre (fun j => X (ix3 b 0 j)) (fun j => N (ix2 0 j)) (fun j => M (ix2 b ⟨4096 + j.val, by omega⟩))
        (fun j => M (ix2 b ⟨3072 + j.val, by omega⟩)) k := by
  pointwise [pre2T]
  rfl

/-- The sixteen rows at an index. -/
theorem extT_at (Z : FVec Ideal S128x1x1024 .f32) (ST : FVec Ideal S15x128x1024 .f32) (b : Fin 128) (n : Fin 16) (k : Fin 1024) :
    extT Z ST (ix3 b n k) = extS (fun j => Z (ix3 b 0 j)) (fun n j => ST (ix3 n b j)) n.val k := by
  pointwise [extT]
  unfold extS
  by_cases h : n.val < 15
  · rw [dif_pos h, dif_pos h]
  · rw [dif_neg h, dif_neg h]
    exact congrArg (fun q => Z (ix3 b q k)) (Subsingleton.elim _ _)

/-- The last `w` of sixteen values, summed from either end. -/
theorem win_sum (f : ℕ → EReal) (w : ℕ) (hw : w ≤ 16) :
    ∑ i : Fin w, f (16 - w + i.val) = ∑ i ∈ Finset.range w, f (15 - i) := by
  rw [Fin.sum_univ_eq_sum_range (fun i => f (16 - w + i)) w, ← Finset.sum_range_reflect]
  refine Finset.sum_congr rfl fun i hi => ?_
  have h := Finset.mem_range.1 hi
  exact congrArg f (by omega)

/-- The word of the count 2. -/
theorem word0 : Ideal.ofBits .f32 0x40000000#32 = ((2 ^ (((0 : Fin 4).val) + 1) : ℝ) : EReal) := by
  show Ideal.ieee 8 23 0x40000000#32 = _
  unfold Ideal.ieee
  rw [if_neg (by decide), if_neg (by decide)]
  refine congrArg _ ?_
  rw [if_neg (by decide)]
  norm_num
  rw [show ((1073741824 : ℤ) >>> (23 : ℕ)) % 256 = 128 by decide]
  norm_num

/-- Group 0's mean at an index. -/
theorem part0T_at (E : FVec Ideal S128x16x1024 .f32) (z : Fin 1024 → EReal) (st : Fin 15 → Fin 1024 → EReal) (b : Fin 128)
    (hE : ∀ (n : Fin 16) k, E (ix3 b n k) = extS z st n.val k) (c : Fin 256) :
    part0T E (ix3 b 0 c) = Ideal.div (∑ i ∈ Finset.range (2 ^ (((0 : Fin 4).val) + 1)), extS z st (15 - i) (lane 0 c))
      ((2 ^ (((0 : Fin 4).val) + 1) : ℝ) : EReal) := by
  have hl : ∀ h : c.val < 1024, (⟨c.val, h⟩ : Fin 1024) = lane 0 c := fun h => Fin.ext (by simp [lane])
  have hs := win_sum (fun i => extS z st i (lane 0 c)) 2 (by decide)
  rw [← word0]
  pointwise [part0T]
  simp only [hE, hl]
  exact congrArg (fun q => Ideal.div q _) hs

/-- The word of the count 4. -/
theorem word1 : Ideal.ofBits .f32 0x40800000#32 = ((2 ^ (((1 : Fin 4).val) + 1) : ℝ) : EReal) := by
  show Ideal.ieee 8 23 0x40800000#32 = _
  unfold Ideal.ieee
  rw [if_neg (by decide), if_neg (by decide)]
  refine congrArg _ ?_
  rw [if_neg (by decide)]
  norm_num
  rw [show ((1082130432 : ℤ) >>> (23 : ℕ)) % 256 = 129 by decide]
  norm_num

/-- Group 1's mean at an index. -/
theorem part1T_at (E : FVec Ideal S128x16x1024 .f32) (z : Fin 1024 → EReal) (st : Fin 15 → Fin 1024 → EReal) (b : Fin 128)
    (hE : ∀ (n : Fin 16) k, E (ix3 b n k) = extS z st n.val k) (c : Fin 256) :
    part1T E (ix3 b 0 c) = Ideal.div (∑ i ∈ Finset.range (2 ^ (((1 : Fin 4).val) + 1)), extS z st (15 - i) (lane 1 c))
      ((2 ^ (((1 : Fin 4).val) + 1) : ℝ) : EReal) := by
  have hl : ∀ h : 256 + c.val < 1024, (⟨256 + c.val, h⟩ : Fin 1024) = lane 1 c := fun h => Fin.ext (by simp [lane])
  have hs := win_sum (fun i => extS z st i (lane 1 c)) 4 (by decide)
  rw [← word1]
  pointwise [part1T]
  simp only [hE, hl]
  exact congrArg (fun q => Ideal.div q _) hs

/-- The word of the count 8. -/
theorem word2 : Ideal.ofBits .f32 0x41000000#32 = ((2 ^ (((2 : Fin 4).val) + 1) : ℝ) : EReal) := by
  show Ideal.ieee 8 23 0x41000000#32 = _
  unfold Ideal.ieee
  rw [if_neg (by decide), if_neg (by decide)]
  refine congrArg _ ?_
  rw [if_neg (by decide)]
  norm_num
  rw [show ((1090519040 : ℤ) >>> (23 : ℕ)) % 256 = 130 by decide]
  norm_num

/-- Group 2's mean at an index. -/
theorem part2T_at (E : FVec Ideal S128x16x1024 .f32) (z : Fin 1024 → EReal) (st : Fin 15 → Fin 1024 → EReal) (b : Fin 128)
    (hE : ∀ (n : Fin 16) k, E (ix3 b n k) = extS z st n.val k) (c : Fin 256) :
    part2T E (ix3 b 0 c) = Ideal.div (∑ i ∈ Finset.range (2 ^ (((2 : Fin 4).val) + 1)), extS z st (15 - i) (lane 2 c))
      ((2 ^ (((2 : Fin 4).val) + 1) : ℝ) : EReal) := by
  have hl : ∀ h : 512 + c.val < 1024, (⟨512 + c.val, h⟩ : Fin 1024) = lane 2 c := fun h => Fin.ext (by simp [lane])
  have hs := win_sum (fun i => extS z st i (lane 2 c)) 8 (by decide)
  rw [← word2]
  pointwise [part2T]
  simp only [hE, hl]
  exact congrArg (fun q => Ideal.div q _) hs

/-- The word of the count 16. -/
theorem word3 : Ideal.ofBits .f32 0x41800000#32 = ((2 ^ (((3 : Fin 4).val) + 1) : ℝ) : EReal) := by
  show Ideal.ieee 8 23 0x41800000#32 = _
  unfold Ideal.ieee
  rw [if_neg (by decide), if_neg (by decide)]
  refine congrArg _ ?_
  rw [if_neg (by decide)]
  norm_num
  rw [show ((1098907648 : ℤ) >>> (23 : ℕ)) % 256 = 131 by decide]
  norm_num

/-- Group 3's mean at an index. -/
theorem part3T_at (E : FVec Ideal S128x16x1024 .f32) (z : Fin 1024 → EReal) (st : Fin 15 → Fin 1024 → EReal) (b : Fin 128)
    (hE : ∀ (n : Fin 16) k, E (ix3 b n k) = extS z st n.val k) (c : Fin 256) :
    part3T E (ix3 b 0 c) = Ideal.div (∑ i ∈ Finset.range (2 ^ (((3 : Fin 4).val) + 1)), extS z st (15 - i) (lane 3 c))
      ((2 ^ (((3 : Fin 4).val) + 1) : ℝ) : EReal) := by
  have hl : ∀ h : 768 + c.val < 1024, (⟨768 + c.val, h⟩ : Fin 1024) = lane 3 c := fun h => Fin.ext (by simp [lane])
  have hs := win_sum (fun i => extS z st i (lane 3 c)) 16 (by decide)
  rw [← word3]
  pointwise [part3T]
  simp only [hE, hl]
  exact congrArg (fun q => Ideal.div q _) hs

/-- The deviations at a group's lane. -/
theorem devT_at (G0 G1 G2 G3 : FVec Ideal S128x1x256 .f32) (Z : FVec Ideal S128x1x1024 .f32) (b : Fin 128) (g : Fin 4) (c : Fin 256) :
    devT G0 G1 G2 G3 Z (ix3 b 0 (lane g c)) = (![G0, G1, G2, G3] g) (ix3 b 0 c) - Z (ix3 b 0 (lane g c)) := by
  have hv : (lane g c).val = g.val * 256 + c.val := rfl
  pointwise [devT]
  refine congrArg (· - Z (ix3 b 0 (lane g c))) ?_
  fin_cases g
  · rw [dif_pos (by simp [lane] <;> omega)]
    exact congrArg (fun q => G0 (ix3 b 0 q)) (Fin.ext (by simp [lane] ))
  · rw [dif_neg (by show ¬ _; simp [lane] <;> omega), dif_pos (by simp [lane] <;> omega)]
    exact congrArg (fun q => G1 (ix3 b 0 q)) (Fin.ext (by simp [lane] ))
  · rw [dif_neg (by show ¬ _; simp [lane] <;> omega), dif_neg (by show ¬ _; simp [lane] <;> omega), dif_pos (by simp [lane] <;> omega)]
    exact congrArg (fun q => G2 (ix3 b 0 q)) (Fin.ext (by simp [lane] <;> omega))
  · rw [dif_neg (by show ¬ _; simp [lane] <;> omega), dif_neg (by show ¬ _; simp [lane] <;> omega), dif_neg (by show ¬ _; simp [lane] <;> omega)]
    exact congrArg (fun q => G3 (ix3 b 0 q)) (Fin.ext (by simp [lane] <;> omega))

/-- The gated mix at a lane. -/
theorem mixT_at (V : FVec Ideal S128x1x1024 .f32) (PW : FVec Ideal S4x256x256 .bf16) (PS : FVec Ideal S1x1024 .f32) (M : FVec Ideal S128x6144 .f32) (b : Fin 128) (k : Fin 1024) :
    mixT V PW PS M (ix3 b 0 k) = M (ix2 b ⟨2048 + k.val, by omega⟩) *
      ((∑ c : Fin 256, V (ix3 b 0 (lane ⟨k.val / 256, by omega⟩ c)) * PW (ix3 ⟨k.val / 256, by omega⟩ c ⟨k.val % 256, by omega⟩)) * PS (ix2 0 k)) := by
  pointwise [mixT]
  refine congrArg (fun q => M (ix2 b ⟨2048 + k.val, by omega⟩) * (q * PS (ix2 0 k))) ?_
  exact Finset.sum_congr rfl fun c _ => mul_comm _ _

/-- The mixed rows at an index. -/
theorem mixedT_at (X : FVec Ideal S128x1024 .f32) (ST : FVec Ideal S15x128x1024 .f32) (N : FVec Ideal S1x1024 .f32) (PW : FVec Ideal S4x256x256 .bf16)
    (PS : FVec Ideal S1x1024 .f32) (M : FVec Ideal S128x6144 .f32)
    (b : Fin 128) (k : Fin 1024) : mixedT X ST N PW PS M (ix3 b 0 k) = mixedS X ST N PW PS M b k := by
  have hE : ∀ (n : Fin 16) j, extT (preT (rows3 X) N M) ST (ix3 b n j) = extS (rowS X N M b) (fun n j => ST (ix3 n b j)) n.val j := by
    intro n j
    rw [extT_at]
    simp only [preT_at]
  have hd : ∀ (g : Fin 4) (c : Fin 256), devT (part0T (extT (preT (rows3 X) N M) ST)) (part1T (extT (preT (rows3 X) N M) ST)) (part2T (extT (preT (rows3 X) N M) ST)) (part3T (extT (preT (rows3 X) N M) ST)) (preT (rows3 X) N M) (ix3 b 0 (lane g c))
      = devS g (rowS X N M b) (fun n j => ST (ix3 n b j)) (lane g c) := by
    intro g c
    have hp : (![part0T (extT (preT (rows3 X) N M) ST), part1T (extT (preT (rows3 X) N M) ST), part2T (extT (preT (rows3 X) N M) ST), part3T (extT (preT (rows3 X) N M) ST)] g) (ix3 b 0 c)
        = Ideal.div (∑ i ∈ Finset.range (2 ^ (g.val + 1)), extS (rowS X N M b) (fun n j => ST (ix3 n b j)) (15 - i) (lane g c)) ((2 ^ (g.val + 1) : ℝ) : EReal) := by
      fin_cases g
      · exact part0T_at _ _ _ b hE c
      · exact part1T_at _ _ _ b hE c
      · exact part2T_at _ _ _ b hE c
      · exact part3T_at _ _ _ b hE c
    rw [devT_at, hp, preT_at]
    rfl
  have h1 : mixedT X ST N PW PS M (ix3 b 0 k) = X (ix2 b k) + mixT (devT (part0T (extT (preT (rows3 X) N M) ST)) (part1T (extT (preT (rows3 X) N M) ST)) (part2T (extT (preT (rows3 X) N M) ST)) (part3T (extT (preT (rows3 X) N M) ST)) (preT (rows3 X) N M)) PW PS M (ix3 b 0 k) := by
    pointwise [mixedT, rows3]
  rw [h1, mixT_at]
  simp only [hd]
  rfl

/-- The reference's first result, in the names of its arguments. -/
def resT (X : FVec Ideal S128x1024 .f32) (ST : FVec Ideal S15x128x1024 .f32) (N : FVec Ideal S1x1024 .f32) (PW : FVec Ideal S4x256x256 .bf16)
    (PS N2 : FVec Ideal S1x1024 .f32) (M : FVec Ideal S128x6144 .f32) (WG WU : FVec Ideal S1024x2816 .bf16) (WD : FVec Ideal S2816x1024 .bf16) : FVec Ideal S128x1024 .f32 :=
  outT (mixedT X ST N PW PS M) (hiddenT (pre2T (mixedT X ST N PW PS M) N2 M) WG WU) M WD

/-- The reference's second result is the state one row on. -/
theorem stateT_eq (X : FVec Ideal S128x1024 .f32) (ST : FVec Ideal S15x128x1024 .f32) (N : FVec Ideal S1x1024 .f32) (M : FVec Ideal S128x6144 .f32) :
    stateT (extT (preT (rows3 X) N M) ST) = stateArr X ST N M := by
  funext i
  obtain ⟨n, b, k, rfl⟩ : ∃ (n : Fin 15) (b : Fin 128) (k : Fin 1024), i = ix3 n b k := ⟨i 0, i 1, i 2, eq_ix3 i⟩
  pointwise [stateT]
  rw [extT_at]
  simp only [preT_at]
  exact congrArg (fun q => extS _ _ q k) (Nat.add_comm 1 n.val)

/-- The reference's first result is the row formula at every index. -/
theorem resT_eq (X : FVec Ideal S128x1024 .f32) (ST : FVec Ideal S15x128x1024 .f32) (N : FVec Ideal S1x1024 .f32) (PW : FVec Ideal S4x256x256 .bf16)
    (PS N2 : FVec Ideal S1x1024 .f32) (M : FVec Ideal S128x6144 .f32) (WG WU : FVec Ideal S1024x2816 .bf16) (WD : FVec Ideal S2816x1024 .bf16) :
    resT X ST N PW PS N2 M WG WU WD = outArr X ST N PW PS N2 M WG WU WD := by
  have h1 : ∀ b k, mixedT X ST N PW PS M (ix3 b 0 k) = mixedS X ST N PW PS M b k := mixedT_at X ST N PW PS M
  have h2 : ∀ b k, pre2T (mixedT X ST N PW PS M) N2 M (ix3 b 0 k)
      = pre (mixedS X ST N PW PS M b) (fun j => N2 (ix2 0 j)) (fun j => M (ix2 b ⟨4096 + j.val, by omega⟩))
        (fun j => M (ix2 b ⟨3072 + j.val, by omega⟩)) k := by
    intro b k
    rw [pre2T_at]
    simp only [h1]
  have h3 : ∀ b f, hiddenT (pre2T (mixedT X ST N PW PS M) N2 M) WG WU (ix3 b 0 f)
      = hiddenUnit (pre (mixedS X ST N PW PS M b) (fun j => N2 (ix2 0 j)) (fun j => M (ix2 b ⟨4096 + j.val, by omega⟩))
        (fun j => M (ix2 b ⟨3072 + j.val, by omega⟩))) (fun j f => WG (ix2 j f)) (fun j f => WU (ix2 j f)) f := by
    intro b f
    pointwise [hiddenT]
    simp only [h2]
    rfl
  funext i
  obtain ⟨b, k, rfl⟩ : ∃ (b : Fin 128) (k : Fin 1024), i = ix2 b k := ⟨i 0, i 1, eq_ix2 i⟩
  pointwise [resT, outT]
  simp only [h1, h3]
  rfl

set_option maxHeartbeats 4000000 in
/-- The reference runs, its results are the row formula and the state one row on, and its arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v94) = outArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v96) = stateArr (m ((c.tc : Thread nD τ).loc main_arg0)) (m ((c.tc : Thread nD τ).loc main_arg1)) (m ((c.tc : Thread nD τ).loc main_arg2)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (resT_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))),
      (h c).2.1.trans (stateT_eq (m ((c.tc : Thread nD τ).loc main_arg0)) (m ((c.tc : Thread nD τ).loc main_arg1)) (m ((c.tc : Thread nD τ).loc main_arg2)) (m ((c.tc : Thread nD τ).loc main_arg6))),
      (h c).2.2⟩) (Value.run m ρ)

end Cert.PoolSampleReferenceIdeal.Tail
-- ==== Proof.lean ====
module

public import proofs.«01_k».proof.Defs
public import proofs.«01_k».proof.Proof.Gen.GlaDecode
public import proofs.«01_k».proof.Proof.Gen.GlaDecode.Frame
public import proofs.«01_k».proof.Proof.Gen.GlaDecodeIdeal
public import proofs.«01_k».proof.Proof.Gen.GlaDecodeIdeal.Frame
public import proofs.«01_k».proof.Proof.Gen.GlaDecodeIdeal.Value
public import proofs.«01_k».proof.Proof.Gen.GlaDecodeReferenceIdeal
public import proofs.«01_k».proof.Proof.Gen.GlaDecodeReferenceIdeal.Run
public import proofs.«01_k».proof.Proof.Gen.OutFfn
public import proofs.«01_k».proof.Proof.Gen.OutFfn.Frame
public import proofs.«01_k».proof.Proof.Gen.OutFfnIdeal
public import proofs.«01_k».proof.Proof.Gen.OutFfnIdeal.Frame
public import proofs.«01_k».proof.Proof.Gen.OutFfnIdeal.Value
public import proofs.«01_k».proof.Proof.Gen.OutFfnReferenceIdeal
public import proofs.«01_k».proof.Proof.Gen.OutFfnReferenceIdeal.Run
public import proofs.«01_k».proof.Proof.Gen.OutFfnSample
public import proofs.«01_k».proof.Proof.Gen.OutFfnSample.Frame
public import proofs.«01_k».proof.Proof.Gen.OutFfnSampleIdeal
public import proofs.«01_k».proof.Proof.Gen.OutFfnSampleIdeal.Frame
public import proofs.«01_k».proof.Proof.Gen.OutFfnSampleIdeal.Value
public import proofs.«01_k».proof.Proof.Gen.OutFfnSampleReferenceIdeal
public import proofs.«01_k».proof.Proof.Gen.OutFfnSampleReferenceIdeal.Run
public import proofs.«01_k».proof.Proof.Gen.GlaProj
public import proofs.«01_k».proof.Proof.Gen.GlaProj.Frame
public import proofs.«01_k».proof.Proof.Gen.GlaProjIdeal
public import proofs.«01_k».proof.Proof.Gen.GlaProjIdeal.Frame
public import proofs.«01_k».proof.Proof.Gen.GlaProjIdeal.Value
public import proofs.«01_k».proof.Proof.Gen.GlaProjReferenceIdeal
public import proofs.«01_k».proof.Proof.Gen.GlaProjReferenceIdeal.Run
public import proofs.«01_k».proof.Proof.Gen.FoxProj
public import proofs.«01_k».proof.Proof.Gen.FoxProj.Frame
public import proofs.«01_k».proof.Proof.Gen.FoxProjIdeal
public import proofs.«01_k».proof.Proof.Gen.FoxProjIdeal.Frame
public import proofs.«01_k».proof.Proof.Gen.FoxProjIdeal.Value
public import proofs.«01_k».proof.Proof.Gen.FoxProjReferenceIdeal
public import proofs.«01_k».proof.Proof.Gen.FoxProjReferenceIdeal.Run
public import proofs.«01_k».proof.Proof.Gen.FoxProjSample
public import proofs.«01_k».proof.Proof.Gen.FoxProjSample.Frame
public import proofs.«01_k».proof.Proof.Gen.FoxProjSampleIdeal
public import proofs.«01_k».proof.Proof.Gen.FoxProjSampleIdeal.Frame
public import proofs.«01_k».proof.Proof.Gen.FoxProjSampleIdeal.Value
public import proofs.«01_k».proof.Proof.Gen.FoxProjSampleReferenceIdeal
public import proofs.«01_k».proof.Proof.Gen.FoxProjSampleReferenceIdeal.Run
public import proofs.«01_k».proof.Proof.Gen.PoolFfn
public import proofs.«01_k».proof.Proof.Gen.PoolFfn.Frame
public import proofs.«01_k».proof.Proof.Gen.PoolFfnIdeal
public import proofs.«01_k».proof.Proof.Gen.PoolFfnIdeal.Frame
public import proofs.«01_k».proof.Proof.Gen.PoolFfnIdeal.Value
public import proofs.«01_k».proof.Proof.Gen.PoolFfnReferenceIdeal
public import proofs.«01_k».proof.Proof.Gen.PoolFfnReferenceIdeal.Run
public import proofs.«01_k».proof.Proof.Gen.PoolSample
public import proofs.«01_k».proof.Proof.Gen.PoolSample.Frame
public import proofs.«01_k».proof.Proof.Gen.PoolSampleIdeal
public import proofs.«01_k».proof.Proof.Gen.PoolSampleIdeal.Frame
public import proofs.«01_k».proof.Proof.Gen.PoolSampleIdeal.Value
public import proofs.«01_k».proof.Proof.Gen.PoolSampleReferenceIdeal
public import proofs.«01_k».proof.Proof.Gen.PoolSampleReferenceIdeal.Run
public import proofs.«01_k».proof.Proof.Gen.Pre_finite_qkg
public import proofs.«01_k».proof.Proof.Gen.Pre_finite_gains
public import proofs.«01_k».proof.Proof.GlaDecodeArr
public import proofs.«01_k».proof.Proof.OutFfn
public import proofs.«01_k».proof.Proof.OutFfnSample
public import proofs.«01_k».proof.Proof.GlaProj
public import proofs.«01_k».proof.Proof.FoxProjSample
public import proofs.«01_k».proof.Proof.FoxProj
public import proofs.«01_k».proof.Proof.FoxProjRef
public import proofs.«01_k».proof.Proof.PoolFfn
public import proofs.«01_k».proof.Proof.PoolRef
public import proofs.«01_k».proof.Proof.PoolSampleRef
public import Idealize.ShloMosaic.Lib.Claim
public import Idealize.ShloMosaic.Adequacy
public import Idealize.ShloMosaic.Init
@[expose] public section

noncomputable section

namespace Cert.Proof

open Idealize.ShloMosaic Idealize.SL.Sem

/-- The attention step of the sample batch equals its reference, on finite queries, keys and gates. -/
theorem gla_decode_value : @Cert.algebraic_GlaDecodeIdeal_GlaDecodeReferenceIdeal_pre_finite_qkg
    Cert.GlaDecodeIdeal.Gen.facts
    Cert.GlaDecodeReferenceIdeal.Gen.facts
    Cert.Pre_finite_qkg.Gen.facts := by
  pair_intro
  · run_from Cert.GlaDecodeIdeal.Gen.run_main m g
  · run_from Cert.GlaDecodeReferenceIdeal.Value.run m' g'
    · obtain ⟨h0, h1, h2⟩ := Cert.Pre_finite_qkg.Tail.finite_of _ _ _ _ _ _ _ (hpre c)
      rw [Cert.GlaDecodeIdeal.Tail.final7 m c h0 h1 h2, Cert.GlaDecodeReferenceIdeal.Tail.res_eq]
      rw [Cert.GlaDecodeReferenceIdeal.Tail.yT_eq]
      simp only [hagree c]
    · obtain ⟨h0, h1, h2⟩ := Cert.Pre_finite_qkg.Tail.finite_of _ _ _ _ _ _ _ (hpre c)
      rw [Cert.GlaDecodeIdeal.Tail.final8 m c h0 h1 h2]
      exact Cert.GlaDecodeReferenceIdeal.Tail.stateT_eq _ _ _ _

/-- The output projection with its feed-forward layer equals its reference. -/
theorem out_ffn_value : @Cert.algebraic_OutFfnIdeal_OutFfnReferenceIdeal
    Cert.OutFfnIdeal.Gen.facts
    Cert.OutFfnReferenceIdeal.Gen.facts := by
  pair_intro
  · run_from Cert.OutFfnIdeal.Gen.run_main m g
  · run_from Cert.OutFfnReferenceIdeal.Value.run m' g'
    rw [Cert.OutFfnIdeal.Tail.final m c, Cert.OutFfnReferenceIdeal.Tail.res_eq, Cert.OutFfnReferenceIdeal.Tail.resultT_eq]
    simp only [hagree c]

set_option maxHeartbeats 4000000 in
/-- The same output projection and feed-forward layer, as the sample batch calls it, equals its reference. -/
theorem out_ffn_sample_value : @Cert.algebraic_OutFfnSampleIdeal_OutFfnSampleReferenceIdeal
    Cert.OutFfnSampleIdeal.Gen.facts
    Cert.OutFfnSampleReferenceIdeal.Gen.facts := by
  pair_intro
  · run_from Cert.OutFfnSampleIdeal.Gen.run_main m g
  · run_from Cert.OutFfnSampleReferenceIdeal.Tail.run m' g'
    exact (Cert.OutFfnSampleIdeal.Tail.final m c).symm

set_option maxHeartbeats 4000000 in
/-- The five projections of the linear-attention layer equal their references. -/
theorem gla_proj_value : @Cert.algebraic_GlaProjIdeal_GlaProjReferenceIdeal
    Cert.GlaProjIdeal.Gen.facts
    Cert.GlaProjReferenceIdeal.Gen.facts := by
  pair_intro
  · run_from Cert.GlaProjIdeal.Gen.run_main m g
  · run_from Cert.GlaProjReferenceIdeal.Tail.run m' g'
    · exact (Cert.GlaProjIdeal.Tail.final11 m c).symm
    · exact (Cert.GlaProjIdeal.Tail.final12 m c).symm
    · exact (Cert.GlaProjIdeal.Tail.final13 m c).symm
    · exact (Cert.GlaProjIdeal.Tail.final14 m c).symm
    · exact (Cert.GlaProjIdeal.Tail.final15 m c).symm

set_option maxHeartbeats 4000000 in
/-- The projections of the forgetting-attention layer for the prompt (queries and keys with their extra lanes, keys, values, log forget gates) equal their references. -/
theorem fox_proj_value : @Cert.algebraic_FoxProjIdeal_FoxProjReferenceIdeal
    Cert.FoxProjIdeal.Gen.facts
    Cert.FoxProjReferenceIdeal.Gen.facts := by
  pair_intro
  · run_from Cert.FoxProjIdeal.Gen.run_main m g
    · exact hc.1 16
    · exact Cert.FoxProjIdeal.Gen.V_main_arg2 m c
  · run_from Cert.FoxProjReferenceIdeal.Tail.run m' g'
    · exact (Cert.FoxProjIdeal.Tail.final12 m c).symm
    · exact (Cert.FoxProjIdeal.Tail.final13 m c).symm
    · exact (Cert.FoxProjIdeal.Tail.final14 m c).symm
    · exact (Cert.FoxProjIdeal.Tail.final15 m c).symm
    · exact (Cert.FoxProjIdeal.Tail.final16 m c).symm

set_option maxHeartbeats 4000000 in
/-- The projections of the forgetting-attention layer for the sample batch (normed queries and keys, values, log forget gates) equal their references. -/
theorem fox_proj_sample_value : @Cert.algebraic_FoxProjSampleIdeal_FoxProjSampleReferenceIdeal
    Cert.FoxProjSampleIdeal.Gen.facts
    Cert.FoxProjSampleReferenceIdeal.Gen.facts := by
  pair_intro
  · run_from Cert.FoxProjSampleIdeal.Gen.run_main m g
  · run_from Cert.FoxProjSampleReferenceIdeal.Tail.run m' g'
    · exact (Cert.FoxProjSampleIdeal.Tail.final12 m c).symm
    · exact (Cert.FoxProjSampleIdeal.Tail.final13 m c).symm
    · exact (Cert.FoxProjSampleIdeal.Tail.final14 m c).symm
    · exact (Cert.FoxProjSampleIdeal.Tail.final15 m c).symm

set_option maxHeartbeats 4000000 in
/-- The pooling mixer with its feed-forward layer equals its reference, where the first gain and the first scale are finite. -/
theorem pool_ffn_value : @Cert.algebraic_PoolFfnIdeal_PoolFfnReferenceIdeal_pre_finite_gains
    Cert.PoolFfnIdeal.Gen.facts
    Cert.PoolFfnReferenceIdeal.Gen.facts
    Cert.Pre_finite_gains.Gen.facts := by
  pair_intro
  · run_from Cert.PoolFfnIdeal.Gen.run_main m g
  · run_from Cert.PoolFfnReferenceIdeal.Tail.run m' g'
    · obtain ⟨h0, h1⟩ := Cert.Pre_finite_gains.Tail.finite_of _ _ _ _ _ _ _ _ _ (hpre c)
      rw [Cert.PoolFfnIdeal.Tail.finalOut m c]
      exact Cert.PoolFfnReferenceIdeal.Tail.resT_eq _ _ _ _ _ _ _ _ _ h0 h1
    · exact (Cert.PoolFfnIdeal.Tail.finalTail m c).symm

set_option maxHeartbeats 4000000 in
/-- The pooling mixer with its feed-forward layer and its window state, as the sample batch calls it, equals its reference. -/
theorem pool_sample_value : @Cert.algebraic_PoolSampleIdeal_PoolSampleReferenceIdeal
    Cert.PoolSampleIdeal.Gen.facts
    Cert.PoolSampleReferenceIdeal.Gen.facts := by
  pair_intro
  · run_from Cert.PoolSampleIdeal.Gen.run_main m g
    · exact hc.1 16
  · run_from Cert.PoolSampleReferenceIdeal.Tail.run m' g'
    · exact (Cert.PoolSampleIdeal.Tail.finalOut m c).symm
    · exact (Cert.PoolSampleIdeal.Tail.finalState m c).symm

/-- The reference program `GlaDecodeReferenceIdeal` runs to its end, with every semaphore at zero. -/
theorem frame_GlaDecodeReferenceIdeal : @Cert.quiescent_GlaDecodeReferenceIdeal Cert.GlaDecodeReferenceIdeal.Gen.facts := by
  intro m g _
  run_from Cert.GlaDecodeReferenceIdeal.Value.run m g
  · exact fun _ => by trivial
  · exact sem_eq_zero_of_no_sems rfl _

/-- The reference program `GlaDecodeReferenceIdeal` runs to its end under the precondition, with every semaphore at zero. -/
theorem frame_GlaDecodeReferenceIdeal_pre_finite_qkg : @Cert.quiescent_GlaDecodeReferenceIdeal_pre_finite_qkg Cert.GlaDecodeReferenceIdeal.Gen.facts Cert.Pre_finite_qkg.Gen.facts := by
  intro m g _
  run_from Cert.GlaDecodeReferenceIdeal.Value.run m g
  · exact fun _ => by trivial
  · exact sem_eq_zero_of_no_sems rfl _

/-- The reference program `OutFfnReferenceIdeal` runs to its end, with every semaphore at zero. -/
theorem frame_OutFfnReferenceIdeal : @Cert.quiescent_OutFfnReferenceIdeal Cert.OutFfnReferenceIdeal.Gen.facts := by
  intro m g _
  run_from Cert.OutFfnReferenceIdeal.Value.run m g
  · exact fun _ => by trivial
  · exact sem_eq_zero_of_no_sems rfl _

/-- The reference program `OutFfnSampleReferenceIdeal` runs to its end, with every semaphore at zero. -/
theorem frame_OutFfnSampleReferenceIdeal : @Cert.quiescent_OutFfnSampleReferenceIdeal Cert.OutFfnSampleReferenceIdeal.Gen.facts := by
  intro m g _
  run_from Cert.OutFfnSampleReferenceIdeal.Value.run m g
  · exact fun _ => by trivial
  · exact sem_eq_zero_of_no_sems rfl _

/-- The reference program `GlaProjReferenceIdeal` runs to its end, with every semaphore at zero. -/
theorem frame_GlaProjReferenceIdeal : @Cert.quiescent_GlaProjReferenceIdeal Cert.GlaProjReferenceIdeal.Gen.facts := by
  intro m g _
  run_from Cert.GlaProjReferenceIdeal.Value.run m g
  · exact fun _ => by trivial
  · exact sem_eq_zero_of_no_sems rfl _

/-- The reference program `FoxProjReferenceIdeal` runs to its end, with every semaphore at zero. -/
theorem frame_FoxProjReferenceIdeal : @Cert.quiescent_FoxProjReferenceIdeal Cert.FoxProjReferenceIdeal.Gen.facts := by
  intro m g _
  run_from Cert.FoxProjReferenceIdeal.Value.run m g
  · exact fun _ => by trivial
  · exact sem_eq_zero_of_no_sems rfl _

/-- The reference program `FoxProjSampleReferenceIdeal` runs to its end, with every semaphore at zero. -/
theorem frame_FoxProjSampleReferenceIdeal : @Cert.quiescent_FoxProjSampleReferenceIdeal Cert.FoxProjSampleReferenceIdeal.Gen.facts := by
  intro m g _
  run_from Cert.FoxProjSampleReferenceIdeal.Value.run m g
  · exact fun _ => by trivial
  · exact sem_eq_zero_of_no_sems rfl _

/-- The reference program `PoolFfnReferenceIdeal` runs to its end, with every semaphore at zero. -/
theorem frame_PoolFfnReferenceIdeal : @Cert.quiescent_PoolFfnReferenceIdeal Cert.PoolFfnReferenceIdeal.Gen.facts := by
  intro m g _
  run_from Cert.PoolFfnReferenceIdeal.Value.run m g
  · exact fun _ => by trivial
  · exact sem_eq_zero_of_no_sems rfl _

/-- The reference program `PoolFfnReferenceIdeal` runs to its end under the precondition, with every semaphore at zero. -/
theorem frame_PoolFfnReferenceIdeal_pre_finite_gains : @Cert.quiescent_PoolFfnReferenceIdeal_pre_finite_gains Cert.PoolFfnReferenceIdeal.Gen.facts Cert.Pre_finite_gains.Gen.facts := by
  intro m g _
  run_from Cert.PoolFfnReferenceIdeal.Value.run m g
  · exact fun _ => by trivial
  · exact sem_eq_zero_of_no_sems rfl _

/-- The reference program `PoolSampleReferenceIdeal` runs to its end, with every semaphore at zero. -/
theorem frame_PoolSampleReferenceIdeal : @Cert.quiescent_PoolSampleReferenceIdeal Cert.PoolSampleReferenceIdeal.Gen.facts := by
  intro m g _
  run_from Cert.PoolSampleReferenceIdeal.Value.run m g
  · exact fun _ => by trivial
  · exact sem_eq_zero_of_no_sems rfl _

/-- All claims together. -/
theorem claim : Cert.Claim :=
  ⟨Cert.GlaDecode.Gen.facts, Cert.GlaDecodeIdeal.Gen.facts, Cert.GlaDecodeReferenceIdeal.Gen.facts, Cert.OutFfn.Gen.facts, Cert.OutFfnIdeal.Gen.facts, Cert.OutFfnReferenceIdeal.Gen.facts, Cert.OutFfnSample.Gen.facts, Cert.OutFfnSampleIdeal.Gen.facts, Cert.OutFfnSampleReferenceIdeal.Gen.facts, Cert.GlaProj.Gen.facts, Cert.GlaProjIdeal.Gen.facts, Cert.GlaProjReferenceIdeal.Gen.facts, Cert.FoxProj.Gen.facts, Cert.FoxProjIdeal.Gen.facts, Cert.FoxProjReferenceIdeal.Gen.facts, Cert.FoxProjSample.Gen.facts, Cert.FoxProjSampleIdeal.Gen.facts, Cert.FoxProjSampleReferenceIdeal.Gen.facts, Cert.PoolFfn.Gen.facts, Cert.PoolFfnIdeal.Gen.facts, Cert.PoolFfnReferenceIdeal.Gen.facts, Cert.PoolSample.Gen.facts, Cert.PoolSampleIdeal.Gen.facts, Cert.PoolSampleReferenceIdeal.Gen.facts, Cert.Pre_finite_qkg.Gen.facts, Cert.Pre_finite_gains.Gen.facts,
    fun m ρ _ => Cert.GlaDecode.Gen.frame m ρ,
    fun m ρ _ => Cert.GlaDecodeIdeal.Gen.frame m ρ,
    fun m ρ _ => Cert.GlaDecodeIdeal.Gen.frame m ρ,
    frame_GlaDecodeReferenceIdeal,
    frame_GlaDecodeReferenceIdeal_pre_finite_qkg,
    fun m ρ _ => Cert.OutFfn.Gen.frame m ρ,
    fun m ρ _ => Cert.OutFfnIdeal.Gen.frame m ρ,
    frame_OutFfnReferenceIdeal,
    fun m ρ _ => Cert.OutFfnSample.Gen.frame m ρ,
    fun m ρ _ => Cert.OutFfnSampleIdeal.Gen.frame m ρ,
    frame_OutFfnSampleReferenceIdeal,
    fun m ρ _ => Cert.GlaProj.Gen.frame m ρ,
    fun m ρ _ => Cert.GlaProjIdeal.Gen.frame m ρ,
    frame_GlaProjReferenceIdeal,
    fun m ρ _ => Cert.FoxProj.Gen.frame m ρ,
    fun m ρ _ => Cert.FoxProjIdeal.Gen.frame m ρ,
    frame_FoxProjReferenceIdeal,
    fun m ρ _ => Cert.FoxProjSample.Gen.frame m ρ,
    fun m ρ _ => Cert.FoxProjSampleIdeal.Gen.frame m ρ,
    frame_FoxProjSampleReferenceIdeal,
    fun m ρ _ => Cert.PoolFfn.Gen.frame m ρ,
    fun m ρ _ => Cert.PoolFfnIdeal.Gen.frame m ρ,
    fun m ρ _ => Cert.PoolFfnIdeal.Gen.frame m ρ,
    frame_PoolFfnReferenceIdeal,
    frame_PoolFfnReferenceIdeal_pre_finite_gains,
    fun m ρ _ => Cert.PoolSample.Gen.frame m ρ,
    fun m ρ _ => Cert.PoolSampleIdeal.Gen.frame m ρ,
    frame_PoolSampleReferenceIdeal,
    trivial,
    gla_decode_value,
    trivial,
    out_ffn_value,
    trivial,
    out_ffn_sample_value,
    trivial,
    gla_proj_value,
    trivial,
    fox_proj_value,
    trivial,
    fox_proj_sample_value,
    trivial,
    pool_ffn_value,
    trivial,
    pool_sample_value⟩

end Cert.Proof

end
